-- ==== Defs.lean ====
def Pre_DA (m : (ℓ : Loc Cert.DA.nD Cert.DA.τ Cert.DA.sig) → Buf (Elt Bits) ℓ) : Prop :=
  True

def Pre_DAIdeal (m : (ℓ : Loc Cert.DAIdeal.nD Cert.DAIdeal.τ Cert.DAIdeal.sig) → Buf (Elt Ideal) ℓ) : Prop :=
  True

def Pre_DAIdeal_finite [hPre_finite : Cert.Pre_finite.Facts] (m : (ℓ : Loc Cert.DAIdeal.nD Cert.DAIdeal.τ Cert.DAIdeal.sig) → Buf (Elt Ideal) ℓ) : Prop :=
  ∀ c : Dev Cert.DAIdeal.nD,
    (Cert.Pre_finite.fn (F := Ideal) (m ((c.tc : Thread Cert.DAIdeal.nD Cert.DAIdeal.τ).loc Cert.DAIdeal.main_arg0)) (m ((c.tc : Thread Cert.DAIdeal.nD Cert.DAIdeal.τ).loc Cert.DAIdeal.main_arg1)) (m ((c.tc : Thread Cert.DAIdeal.nD Cert.DAIdeal.τ).loc Cert.DAIdeal.main_arg2)) (m ((c.tc : Thread Cert.DAIdeal.nD Cert.DAIdeal.τ).loc Cert.DAIdeal.main_arg3)) (m ((c.tc : Thread Cert.DAIdeal.nD Cert.DAIdeal.τ).loc Cert.DAIdeal.main_arg4)) (m ((c.tc : Thread Cert.DAIdeal.nD Cert.DAIdeal.τ).loc Cert.DAIdeal.main_arg5)) (m ((c.tc : Thread Cert.DAIdeal.nD Cert.DAIdeal.τ).loc Cert.DAIdeal.main_arg6)) (m ((c.tc : Thread Cert.DAIdeal.nD Cert.DAIdeal.τ).loc Cert.DAIdeal.main_arg7)) (m ((c.tc : Thread Cert.DAIdeal.nD Cert.DAIdeal.τ).loc Cert.DAIdeal.main_arg8)) (m ((c.tc : Thread Cert.DAIdeal.nD Cert.DAIdeal.τ).loc Cert.DAIdeal.main_arg9))) = (fun _ => 1#1)

def Pre_DARefIdeal (m : (ℓ : Loc Cert.DARefIdeal.nD Cert.DARefIdeal.τ Cert.DARefIdeal.sig) → Buf (Elt Ideal) ℓ) : Prop :=
  True

def Pre_DARefIdeal_finite [hPre_finite : Cert.Pre_finite.Facts] (m : (ℓ : Loc Cert.DARefIdeal.nD Cert.DARefIdeal.τ Cert.DARefIdeal.sig) → Buf (Elt Ideal) ℓ) : Prop :=
  ∀ c : Dev Cert.DARefIdeal.nD,
    (Cert.Pre_finite.fn (F := Ideal) (m ((c.tc : Thread Cert.DARefIdeal.nD Cert.DARefIdeal.τ).loc Cert.DARefIdeal.main_arg0)) (m ((c.tc : Thread Cert.DARefIdeal.nD Cert.DARefIdeal.τ).loc Cert.DARefIdeal.main_arg1)) (m ((c.tc : Thread Cert.DARefIdeal.nD Cert.DARefIdeal.τ).loc Cert.DARefIdeal.main_arg2)) (m ((c.tc : Thread Cert.DARefIdeal.nD Cert.DARefIdeal.τ).loc Cert.DARefIdeal.main_arg3)) (m ((c.tc : Thread Cert.DARefIdeal.nD Cert.DARefIdeal.τ).loc Cert.DARefIdeal.main_arg4)) (m ((c.tc : Thread Cert.DARefIdeal.nD Cert.DARefIdeal.τ).loc Cert.DARefIdeal.main_arg5)) (m ((c.tc : Thread Cert.DARefIdeal.nD Cert.DARefIdeal.τ).loc Cert.DARefIdeal.main_arg6)) (m ((c.tc : Thread Cert.DARefIdeal.nD Cert.DARefIdeal.τ).loc Cert.DARefIdeal.main_arg7)) (m ((c.tc : Thread Cert.DARefIdeal.nD Cert.DARefIdeal.τ).loc Cert.DARefIdeal.main_arg8)) (m ((c.tc : Thread Cert.DARefIdeal.nD Cert.DARefIdeal.τ).loc Cert.DARefIdeal.main_arg9))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Offn (m : (ℓ : Loc Cert.Offn.nD Cert.Offn.τ Cert.Offn.sig) → Buf (Elt Bits) ℓ) : Prop :=
  True

def Pre_OffnIdeal (m : (ℓ : Loc Cert.OffnIdeal.nD Cert.OffnIdeal.τ Cert.OffnIdeal.sig) → Buf (Elt Ideal) ℓ) : Prop :=
  True

def Pre_OffnRefIdeal (m : (ℓ : Loc Cert.OffnRefIdeal.nD Cert.OffnRefIdeal.τ Cert.OffnRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_DA [hDA : Cert.DA.Facts] : Prop :=
  ∀ (m : (ℓ : Loc Cert.DA.nD Cert.DA.τ Cert.DA.sig) → Buf (Elt Bits) ℓ) (g : Dev Cert.DA.nD → PrngReg), Pre_DA m →
    θ_run (Cert.DA.defs (F := Bits)) (onTc (τ := Cert.DA.τ) (Cert.DA.main (F := Bits))) ⟨m, fun _ => 0, g⟩ (fun r => (∀ c : Dev Cert.DA.nD,
      r.2.mem ((c.tc : Thread Cert.DA.nD Cert.DA.τ).loc Cert.DA.main_arg0) = m ((c.tc : Thread Cert.DA.nD Cert.DA.τ).loc Cert.DA.main_arg0)
      ∧ r.2.mem ((c.tc : Thread Cert.DA.nD Cert.DA.τ).loc Cert.DA.main_arg1) = m ((c.tc : Thread Cert.DA.nD Cert.DA.τ).loc Cert.DA.main_arg1)
      ∧ r.2.mem ((c.tc : Thread Cert.DA.nD Cert.DA.τ).loc Cert.DA.main_arg2) = m ((c.tc : Thread Cert.DA.nD Cert.DA.τ).loc Cert.DA.main_arg2)
      ∧ r.2.mem ((c.tc : Thread Cert.DA.nD Cert.DA.τ).loc Cert.DA.main_arg3) = m ((c.tc : Thread Cert.DA.nD Cert.DA.τ).loc Cert.DA.main_arg3)
      ∧ r.2.mem ((c.tc : Thread Cert.DA.nD Cert.DA.τ).loc Cert.DA.main_arg4) = m ((c.tc : Thread Cert.DA.nD Cert.DA.τ).loc Cert.DA.main_arg4)
      ∧ r.2.mem ((c.tc : Thread Cert.DA.nD Cert.DA.τ).loc Cert.DA.main_arg5) = m ((c.tc : Thread Cert.DA.nD Cert.DA.τ).loc Cert.DA.main_arg5)
      ∧ r.2.mem ((c.tc : Thread Cert.DA.nD Cert.DA.τ).loc Cert.DA.main_arg6) = m ((c.tc : Thread Cert.DA.nD Cert.DA.τ).loc Cert.DA.main_arg6)
      ∧ r.2.mem ((c.tc : Thread Cert.DA.nD Cert.DA.τ).loc Cert.DA.main_arg7) = m ((c.tc : Thread Cert.DA.nD Cert.DA.τ).loc Cert.DA.main_arg7)
      ∧ r.2.mem ((c.tc : Thread Cert.DA.nD Cert.DA.τ).loc Cert.DA.main_arg8) = m ((c.tc : Thread Cert.DA.nD Cert.DA.τ).loc Cert.DA.main_arg8)
      ∧ r.2.mem ((c.tc : Thread Cert.DA.nD Cert.DA.τ).loc Cert.DA.main_arg9) = m ((c.tc : Thread Cert.DA.nD Cert.DA.τ).loc Cert.DA.main_arg9))
      ∧ r.2.sem = fun _ => 0)

def quiescent_DAIdeal [hDAIdeal : Cert.DAIdeal.Facts] : Prop :=
  ∀ (m : (ℓ : Loc Cert.DAIdeal.nD Cert.DAIdeal.τ Cert.DAIdeal.sig) → Buf (Elt Ideal) ℓ) (g : Dev Cert.DAIdeal.nD → PrngReg), Pre_DAIdeal m →
    θ_run (Cert.DAIdeal.defs (F := Ideal)) (onTc (τ := Cert.DAIdeal.τ) (Cert.DAIdeal.main (F := Ideal))) ⟨m, fun _ => 0, g⟩ (fun r => (∀ c : Dev Cert.DAIdeal.nD,
      r.2.mem ((c.tc : Thread Cert.DAIdeal.nD Cert.DAIdeal.τ).loc Cert.DAIdeal.main_arg0) = m ((c.tc : Thread Cert.DAIdeal.nD Cert.DAIdeal.τ).loc Cert.DAIdeal.main_arg0)
      ∧ r.2.mem ((c.tc : Thread Cert.DAIdeal.nD Cert.DAIdeal.τ).loc Cert.DAIdeal.main_arg1) = m ((c.tc : Thread Cert.DAIdeal.nD Cert.DAIdeal.τ).loc Cert.DAIdeal.main_arg1)
      ∧ r.2.mem ((c.tc : Thread Cert.DAIdeal.nD Cert.DAIdeal.τ).loc Cert.DAIdeal.main_arg2) = m ((c.tc : Thread Cert.DAIdeal.nD Cert.DAIdeal.τ).loc Cert.DAIdeal.main_arg2)
      ∧ r.2.mem ((c.tc : Thread Cert.DAIdeal.nD Cert.DAIdeal.τ).loc Cert.DAIdeal.main_arg3) = m ((c.tc : Thread Cert.DAIdeal.nD Cert.DAIdeal.τ).loc Cert.DAIdeal.main_arg3)
      ∧ r.2.mem ((c.tc : Thread Cert.DAIdeal.nD Cert.DAIdeal.τ).loc Cert.DAIdeal.main_arg4) = m ((c.tc : Thread Cert.DAIdeal.nD Cert.DAIdeal.τ).loc Cert.DAIdeal.main_arg4)
      ∧ r.2.mem ((c.tc : Thread Cert.DAIdeal.nD Cert.DAIdeal.τ).loc Cert.DAIdeal.main_arg5) = m ((c.tc : Thread Cert.DAIdeal.nD Cert.DAIdeal.τ).loc Cert.DAIdeal.main_arg5)
      ∧ r.2.mem ((c.tc : Thread Cert.DAIdeal.nD Cert.DAIdeal.τ).loc Cert.DAIdeal.main_arg6) = m ((c.tc : Thread Cert.DAIdeal.nD Cert.DAIdeal.τ).loc Cert.DAIdeal.main_arg6)
      ∧ r.2.mem ((c.tc : Thread Cert.DAIdeal.nD Cert.DAIdeal.τ).loc Cert.DAIdeal.main_arg7) = m ((c.tc : Thread Cert.DAIdeal.nD Cert.DAIdeal.τ).loc Cert.DAIdeal.main_arg7)
      ∧ r.2.mem ((c.tc : Thread Cert.DAIdeal.nD Cert.DAIdeal.τ).loc Cert.DAIdeal.main_arg8) = m ((c.tc : Thread Cert.DAIdeal.nD Cert.DAIdeal.τ).loc Cert.DAIdeal.main_arg8)
      ∧ r.2.mem ((c.tc : Thread Cert.DAIdeal.nD Cert.DAIdeal.τ).loc Cert.DAIdeal.main_arg9) = m ((c.tc : Thread Cert.DAIdeal.nD Cert.DAIdeal.τ).loc Cert.DAIdeal.main_arg9))
      ∧ r.2.sem = fun _ => 0)

def quiescent_DAIdeal_pre_finite [hDAIdeal : Cert.DAIdeal.Facts] [hPre_finite : Cert.Pre_finite.Facts] : Prop :=
  ∀ (m : (ℓ : Loc Cert.DAIdeal.nD Cert.DAIdeal.τ Cert.DAIdeal.sig) → Buf (Elt Ideal) ℓ) (g : Dev Cert.DAIdeal.nD → PrngReg), Pre_DAIdeal_finite m →
    θ_run (Cert.DAIdeal.defs (F := Ideal)) (onTc (τ := Cert.DAIdeal.τ) (Cert.DAIdeal.main (F := Ideal))) ⟨m, fun _ => 0, g⟩ (fun r => (∀ c : Dev Cert.DAIdeal.nD,
      r.2.mem ((c.tc : Thread Cert.DAIdeal.nD Cert.DAIdeal.τ).loc Cert.DAIdeal.main_arg0) = m ((c.tc : Thread Cert.DAIdeal.nD Cert.DAIdeal.τ).loc Cert.DAIdeal.main_arg0)
      ∧ r.2.mem ((c.tc : Thread Cert.DAIdeal.nD Cert.DAIdeal.τ).loc Cert.DAIdeal.main_arg1) = m ((c.tc : Thread Cert.DAIdeal.nD Cert.DAIdeal.τ).loc Cert.DAIdeal.main_arg1)
      ∧ r.2.mem ((c.tc : Thread Cert.DAIdeal.nD Cert.DAIdeal.τ).loc Cert.DAIdeal.main_arg2) = m ((c.tc : Thread Cert.DAIdeal.nD Cert.DAIdeal.τ).loc Cert.DAIdeal.main_arg2)
      ∧ r.2.mem ((c.tc : Thread Cert.DAIdeal.nD Cert.DAIdeal.τ).loc Cert.DAIdeal.main_arg3) = m ((c.tc : Thread Cert.DAIdeal.nD Cert.DAIdeal.τ).loc Cert.DAIdeal.main_arg3)
      ∧ r.2.mem ((c.tc : Thread Cert.DAIdeal.nD Cert.DAIdeal.τ).loc Cert.DAIdeal.main_arg4) = m ((c.tc : Thread Cert.DAIdeal.nD Cert.DAIdeal.τ).loc Cert.DAIdeal.main_arg4)
      ∧ r.2.mem ((c.tc : Thread Cert.DAIdeal.nD Cert.DAIdeal.τ).loc Cert.DAIdeal.main_arg5) = m ((c.tc : Thread Cert.DAIdeal.nD Cert.DAIdeal.τ).loc Cert.DAIdeal.main_arg5)
      ∧ r.2.mem ((c.tc : Thread Cert.DAIdeal.nD Cert.DAIdeal.τ).loc Cert.DAIdeal.main_arg6) = m ((c.tc : Thread Cert.DAIdeal.nD Cert.DAIdeal.τ).loc Cert.DAIdeal.main_arg6)
      ∧ r.2.mem ((c.tc : Thread Cert.DAIdeal.nD Cert.DAIdeal.τ).loc Cert.DAIdeal.main_arg7) = m ((c.tc : Thread Cert.DAIdeal.nD Cert.DAIdeal.τ).loc Cert.DAIdeal.main_arg7)
      ∧ r.2.mem ((c.tc : Thread Cert.DAIdeal.nD Cert.DAIdeal.τ).loc Cert.DAIdeal.main_arg8) = m ((c.tc : Thread Cert.DAIdeal.nD Cert.DAIdeal.τ).loc Cert.DAIdeal.main_arg8)
      ∧ r.2.mem ((c.tc : Thread Cert.DAIdeal.nD Cert.DAIdeal.τ).loc Cert.DAIdeal.main_arg9) = m ((c.tc : Thread Cert.DAIdeal.nD Cert.DAIdeal.τ).loc Cert.DAIdeal.main_arg9))
      ∧ r.2.sem = fun _ => 0)

def quiescent_DARefIdeal [hDARefIdeal : Cert.DARefIdeal.Facts] : Prop :=
  ∀ (m : (ℓ : Loc Cert.DARefIdeal.nD Cert.DARefIdeal.τ Cert.DARefIdeal.sig) → Buf (Elt Ideal) ℓ) (g : Dev Cert.DARefIdeal.nD → PrngReg), Pre_DARefIdeal m →
    θ_run (Cert.DARefIdeal.defs (F := Ideal)) (onTc (τ := Cert.DARefIdeal.τ) (Cert.DARefIdeal.main (F := Ideal))) ⟨m, fun _ => 0, g⟩ (fun r => (∀ c : Dev Cert.DARefIdeal.nD,
      r.2.mem ((c.tc : Thread Cert.DARefIdeal.nD Cert.DARefIdeal.τ).loc Cert.DARefIdeal.main_arg0) = m ((c.tc : Thread Cert.DARefIdeal.nD Cert.DARefIdeal.τ).loc Cert.DARefIdeal.main_arg0)
      ∧ r.2.mem ((c.tc : Thread Cert.DARefIdeal.nD Cert.DARefIdeal.τ).loc Cert.DARefIdeal.main_arg1) = m ((c.tc : Thread Cert.DARefIdeal.nD Cert.DARefIdeal.τ).loc Cert.DARefIdeal.main_arg1)
      ∧ r.2.mem ((c.tc : Thread Cert.DARefIdeal.nD Cert.DARefIdeal.τ).loc Cert.DARefIdeal.main_arg2) = m ((c.tc : Thread Cert.DARefIdeal.nD Cert.DARefIdeal.τ).loc Cert.DARefIdeal.main_arg2)
      ∧ r.2.mem ((c.tc : Thread Cert.DARefIdeal.nD Cert.DARefIdeal.τ).loc Cert.DARefIdeal.main_arg3) = m ((c.tc : Thread Cert.DARefIdeal.nD Cert.DARefIdeal.τ).loc Cert.DARefIdeal.main_arg3)
      ∧ r.2.mem ((c.tc : Thread Cert.DARefIdeal.nD Cert.DARefIdeal.τ).loc Cert.DARefIdeal.main_arg4) = m ((c.tc : Thread Cert.DARefIdeal.nD Cert.DARefIdeal.τ).loc Cert.DARefIdeal.main_arg4)
      ∧ r.2.mem ((c.tc : Thread Cert.DARefIdeal.nD Cert.DARefIdeal.τ).loc Cert.DARefIdeal.main_arg5) = m ((c.tc : Thread Cert.DARefIdeal.nD Cert.DARefIdeal.τ).loc Cert.DARefIdeal.main_arg5)
      ∧ r.2.mem ((c.tc : Thread Cert.DARefIdeal.nD Cert.DARefIdeal.τ).loc Cert.DARefIdeal.main_arg6) = m ((c.tc : Thread Cert.DARefIdeal.nD Cert.DARefIdeal.τ).loc Cert.DARefIdeal.main_arg6)
      ∧ r.2.mem ((c.tc : Thread Cert.DARefIdeal.nD Cert.DARefIdeal.τ).loc Cert.DARefIdeal.main_arg7) = m ((c.tc : Thread Cert.DARefIdeal.nD Cert.DARefIdeal.τ).loc Cert.DARefIdeal.main_arg7)
      ∧ r.2.mem ((c.tc : Thread Cert.DARefIdeal.nD Cert.DARefIdeal.τ).loc Cert.DARefIdeal.main_arg8) = m ((c.tc : Thread Cert.DARefIdeal.nD Cert.DARefIdeal.τ).loc Cert.DARefIdeal.main_arg8)
      ∧ r.2.mem ((c.tc : Thread Cert.DARefIdeal.nD Cert.DARefIdeal.τ).loc Cert.DARefIdeal.main_arg9) = m ((c.tc : Thread Cert.DARefIdeal.nD Cert.DARefIdeal.τ).loc Cert.DARefIdeal.main_arg9))
      ∧ r.2.sem = fun _ => 0)

def quiescent_DARefIdeal_pre_finite [hDARefIdeal : Cert.DARefIdeal.Facts] [hPre_finite : Cert.Pre_finite.Facts] : Prop :=
  ∀ (m : (ℓ : Loc Cert.DARefIdeal.nD Cert.DARefIdeal.τ Cert.DARefIdeal.sig) → Buf (Elt Ideal) ℓ) (g : Dev Cert.DARefIdeal.nD → PrngReg), Pre_DARefIdeal_finite m →
    θ_run (Cert.DARefIdeal.defs (F := Ideal)) (onTc (τ := Cert.DARefIdeal.τ) (Cert.DARefIdeal.main (F := Ideal))) ⟨m, fun _ => 0, g⟩ (fun r => (∀ c : Dev Cert.DARefIdeal.nD,
      r.2.mem ((c.tc : Thread Cert.DARefIdeal.nD Cert.DARefIdeal.τ).loc Cert.DARefIdeal.main_arg0) = m ((c.tc : Thread Cert.DARefIdeal.nD Cert.DARefIdeal.τ).loc Cert.DARefIdeal.main_arg0)
      ∧ r.2.mem ((c.tc : Thread Cert.DARefIdeal.nD Cert.DARefIdeal.τ).loc Cert.DARefIdeal.main_arg1) = m ((c.tc : Thread Cert.DARefIdeal.nD Cert.DARefIdeal.τ).loc Cert.DARefIdeal.main_arg1)
      ∧ r.2.mem ((c.tc : Thread Cert.DARefIdeal.nD Cert.DARefIdeal.τ).loc Cert.DARefIdeal.main_arg2) = m ((c.tc : Thread Cert.DARefIdeal.nD Cert.DARefIdeal.τ).loc Cert.DARefIdeal.main_arg2)
      ∧ r.2.mem ((c.tc : Thread Cert.DARefIdeal.nD Cert.DARefIdeal.τ).loc Cert.DARefIdeal.main_arg3) = m ((c.tc : Thread Cert.DARefIdeal.nD Cert.DARefIdeal.τ).loc Cert.DARefIdeal.main_arg3)
      ∧ r.2.mem ((c.tc : Thread Cert.DARefIdeal.nD Cert.DARefIdeal.τ).loc Cert.DARefIdeal.main_arg4) = m ((c.tc : Thread Cert.DARefIdeal.nD Cert.DARefIdeal.τ).loc Cert.DARefIdeal.main_arg4)
      ∧ r.2.mem ((c.tc : Thread Cert.DARefIdeal.nD Cert.DARefIdeal.τ).loc Cert.DARefIdeal.main_arg5) = m ((c.tc : Thread Cert.DARefIdeal.nD Cert.DARefIdeal.τ).loc Cert.DARefIdeal.main_arg5)
      ∧ r.2.mem ((c.tc : Thread Cert.DARefIdeal.nD Cert.DARefIdeal.τ).loc Cert.DARefIdeal.main_arg6) = m ((c.tc : Thread Cert.DARefIdeal.nD Cert.DARefIdeal.τ).loc Cert.DARefIdeal.main_arg6)
      ∧ r.2.mem ((c.tc : Thread Cert.DARefIdeal.nD Cert.DARefIdeal.τ).loc Cert.DARefIdeal.main_arg7) = m ((c.tc : Thread Cert.DARefIdeal.nD Cert.DARefIdeal.τ).loc Cert.DARefIdeal.main_arg7)
      ∧ r.2.mem ((c.tc : Thread Cert.DARefIdeal.nD Cert.DARefIdeal.τ).loc Cert.DARefIdeal.main_arg8) = m ((c.tc : Thread Cert.DARefIdeal.nD Cert.DARefIdeal.τ).loc Cert.DARefIdeal.main_arg8)
      ∧ r.2.mem ((c.tc : Thread Cert.DARefIdeal.nD Cert.DARefIdeal.τ).loc Cert.DARefIdeal.main_arg9) = m ((c.tc : Thread Cert.DARefIdeal.nD Cert.DARefIdeal.τ).loc Cert.DARefIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Offn [hOffn : Cert.Offn.Facts] : Prop :=
  ∀ (m : (ℓ : Loc Cert.Offn.nD Cert.Offn.τ Cert.Offn.sig) → Buf (Elt Bits) ℓ) (g : Dev Cert.Offn.nD → PrngReg), Pre_Offn m →
    θ_run (Cert.Offn.defs (F := Bits)) (onTc (τ := Cert.Offn.τ) (Cert.Offn.main (F := Bits))) ⟨m, fun _ => 0, g⟩ (fun r => (∀ c : Dev Cert.Offn.nD,
      r.2.mem ((c.tc : Thread Cert.Offn.nD Cert.Offn.τ).loc Cert.Offn.main_arg0) = m ((c.tc : Thread Cert.Offn.nD Cert.Offn.τ).loc Cert.Offn.main_arg0)
      ∧ r.2.mem ((c.tc : Thread Cert.Offn.nD Cert.Offn.τ).loc Cert.Offn.main_arg1) = m ((c.tc : Thread Cert.Offn.nD Cert.Offn.τ).loc Cert.Offn.main_arg1)
      ∧ r.2.mem ((c.tc : Thread Cert.Offn.nD Cert.Offn.τ).loc Cert.Offn.main_arg2) = m ((c.tc : Thread Cert.Offn.nD Cert.Offn.τ).loc Cert.Offn.main_arg2)
      ∧ r.2.mem ((c.tc : Thread Cert.Offn.nD Cert.Offn.τ).loc Cert.Offn.main_arg3) = m ((c.tc : Thread Cert.Offn.nD Cert.Offn.τ).loc Cert.Offn.main_arg3)
      ∧ r.2.mem ((c.tc : Thread Cert.Offn.nD Cert.Offn.τ).loc Cert.Offn.main_arg4) = m ((c.tc : Thread Cert.Offn.nD Cert.Offn.τ).loc Cert.Offn.main_arg4)
      ∧ r.2.mem ((c.tc : Thread Cert.Offn.nD Cert.Offn.τ).loc Cert.Offn.main_arg5) = m ((c.tc : Thread Cert.Offn.nD Cert.Offn.τ).loc Cert.Offn.main_arg5)
      ∧ r.2.mem ((c.tc : Thread Cert.Offn.nD Cert.Offn.τ).loc Cert.Offn.main_arg6) = m ((c.tc : Thread Cert.Offn.nD Cert.Offn.τ).loc Cert.Offn.main_arg6)
      ∧ r.2.mem ((c.tc : Thread Cert.Offn.nD Cert.Offn.τ).loc Cert.Offn.main_arg7) = m ((c.tc : Thread Cert.Offn.nD Cert.Offn.τ).loc Cert.Offn.main_arg7)
      ∧ r.2.mem ((c.tc : Thread Cert.Offn.nD Cert.Offn.τ).loc Cert.Offn.main_arg8) = m ((c.tc : Thread Cert.Offn.nD Cert.Offn.τ).loc Cert.Offn.main_arg8))
      ∧ r.2.sem = fun _ => 0)

def quiescent_OffnIdeal [hOffnIdeal : Cert.OffnIdeal.Facts] : Prop :=
  ∀ (m : (ℓ : Loc Cert.OffnIdeal.nD Cert.OffnIdeal.τ Cert.OffnIdeal.sig) → Buf (Elt Ideal) ℓ) (g : Dev Cert.OffnIdeal.nD → PrngReg), Pre_OffnIdeal m →
    θ_run (Cert.OffnIdeal.defs (F := Ideal)) (onTc (τ := Cert.OffnIdeal.τ) (Cert.OffnIdeal.main (F := Ideal))) ⟨m, fun _ => 0, g⟩ (fun r => (∀ c : Dev Cert.OffnIdeal.nD,
      r.2.mem ((c.tc : Thread Cert.OffnIdeal.nD Cert.OffnIdeal.τ).loc Cert.OffnIdeal.main_arg0) = m ((c.tc : Thread Cert.OffnIdeal.nD Cert.OffnIdeal.τ).loc Cert.OffnIdeal.main_arg0)
      ∧ r.2.mem ((c.tc : Thread Cert.OffnIdeal.nD Cert.OffnIdeal.τ).loc Cert.OffnIdeal.main_arg1) = m ((c.tc : Thread Cert.OffnIdeal.nD Cert.OffnIdeal.τ).loc Cert.OffnIdeal.main_arg1)
      ∧ r.2.mem ((c.tc : Thread Cert.OffnIdeal.nD Cert.OffnIdeal.τ).loc Cert.OffnIdeal.main_arg2) = m ((c.tc : Thread Cert.OffnIdeal.nD Cert.OffnIdeal.τ).loc Cert.OffnIdeal.main_arg2)
      ∧ r.2.mem ((c.tc : Thread Cert.OffnIdeal.nD Cert.OffnIdeal.τ).loc Cert.OffnIdeal.main_arg3) = m ((c.tc : Thread Cert.OffnIdeal.nD Cert.OffnIdeal.τ).loc Cert.OffnIdeal.main_arg3)
      ∧ r.2.mem ((c.tc : Thread Cert.OffnIdeal.nD Cert.OffnIdeal.τ).loc Cert.OffnIdeal.main_arg4) = m ((c.tc : Thread Cert.OffnIdeal.nD Cert.OffnIdeal.τ).loc Cert.OffnIdeal.main_arg4)
      ∧ r.2.mem ((c.tc : Thread Cert.OffnIdeal.nD Cert.OffnIdeal.τ).loc Cert.OffnIdeal.main_arg5) = m ((c.tc : Thread Cert.OffnIdeal.nD Cert.OffnIdeal.τ).loc Cert.OffnIdeal.main_arg5)
      ∧ r.2.mem ((c.tc : Thread Cert.OffnIdeal.nD Cert.OffnIdeal.τ).loc Cert.OffnIdeal.main_arg6) = m ((c.tc : Thread Cert.OffnIdeal.nD Cert.OffnIdeal.τ).loc Cert.OffnIdeal.main_arg6)
      ∧ r.2.mem ((c.tc : Thread Cert.OffnIdeal.nD Cert.OffnIdeal.τ).loc Cert.OffnIdeal.main_arg7) = m ((c.tc : Thread Cert.OffnIdeal.nD Cert.OffnIdeal.τ).loc Cert.OffnIdeal.main_arg7)
      ∧ r.2.mem ((c.tc : Thread Cert.OffnIdeal.nD Cert.OffnIdeal.τ).loc Cert.OffnIdeal.main_arg8) = m ((c.tc : Thread Cert.OffnIdeal.nD Cert.OffnIdeal.τ).loc Cert.OffnIdeal.main_arg8))
      ∧ r.2.sem = fun _ => 0)

def quiescent_OffnRefIdeal [hOffnRefIdeal : Cert.OffnRefIdeal.Facts] : Prop :=
  ∀ (m : (ℓ : Loc Cert.OffnRefIdeal.nD Cert.OffnRefIdeal.τ Cert.OffnRefIdeal.sig) → Buf (Elt Ideal) ℓ) (g : Dev Cert.OffnRefIdeal.nD → PrngReg), Pre_OffnRefIdeal m →
    θ_run (Cert.OffnRefIdeal.defs (F := Ideal)) (onTc (τ := Cert.OffnRefIdeal.τ) (Cert.OffnRefIdeal.main (F := Ideal))) ⟨m, fun _ => 0, g⟩ (fun r => (∀ c : Dev Cert.OffnRefIdeal.nD,
      r.2.mem ((c.tc : Thread Cert.OffnRefIdeal.nD Cert.OffnRefIdeal.τ).loc Cert.OffnRefIdeal.main_arg0) = m ((c.tc : Thread Cert.OffnRefIdeal.nD Cert.OffnRefIdeal.τ).loc Cert.OffnRefIdeal.main_arg0)
      ∧ r.2.mem ((c.tc : Thread Cert.OffnRefIdeal.nD Cert.OffnRefIdeal.τ).loc Cert.OffnRefIdeal.main_arg1) = m ((c.tc : Thread Cert.OffnRefIdeal.nD Cert.OffnRefIdeal.τ).loc Cert.OffnRefIdeal.main_arg1)
      ∧ r.2.mem ((c.tc : Thread Cert.OffnRefIdeal.nD Cert.OffnRefIdeal.τ).loc Cert.OffnRefIdeal.main_arg2) = m ((c.tc : Thread Cert.OffnRefIdeal.nD Cert.OffnRefIdeal.τ).loc Cert.OffnRefIdeal.main_arg2)
      ∧ r.2.mem ((c.tc : Thread Cert.OffnRefIdeal.nD Cert.OffnRefIdeal.τ).loc Cert.OffnRefIdeal.main_arg3) = m ((c.tc : Thread Cert.OffnRefIdeal.nD Cert.OffnRefIdeal.τ).loc Cert.OffnRefIdeal.main_arg3)
      ∧ r.2.mem ((c.tc : Thread Cert.OffnRefIdeal.nD Cert.OffnRefIdeal.τ).loc Cert.OffnRefIdeal.main_arg4) = m ((c.tc : Thread Cert.OffnRefIdeal.nD Cert.OffnRefIdeal.τ).loc Cert.OffnRefIdeal.main_arg4)
      ∧ r.2.mem ((c.tc : Thread Cert.OffnRefIdeal.nD Cert.OffnRefIdeal.τ).loc Cert.OffnRefIdeal.main_arg5) = m ((c.tc : Thread Cert.OffnRefIdeal.nD Cert.OffnRefIdeal.τ).loc Cert.OffnRefIdeal.main_arg5)
      ∧ r.2.mem ((c.tc : Thread Cert.OffnRefIdeal.nD Cert.OffnRefIdeal.τ).loc Cert.OffnRefIdeal.main_arg6) = m ((c.tc : Thread Cert.OffnRefIdeal.nD Cert.OffnRefIdeal.τ).loc Cert.OffnRefIdeal.main_arg6)
      ∧ r.2.mem ((c.tc : Thread Cert.OffnRefIdeal.nD Cert.OffnRefIdeal.τ).loc Cert.OffnRefIdeal.main_arg7) = m ((c.tc : Thread Cert.OffnRefIdeal.nD Cert.OffnRefIdeal.τ).loc Cert.OffnRefIdeal.main_arg7)
      ∧ r.2.mem ((c.tc : Thread Cert.OffnRefIdeal.nD Cert.OffnRefIdeal.τ).loc Cert.OffnRefIdeal.main_arg8) = m ((c.tc : Thread Cert.OffnRefIdeal.nD Cert.OffnRefIdeal.τ).loc Cert.OffnRefIdeal.main_arg8))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7))
      ∧ r.2.sem = fun _ => 0)

def preserves_DA_DAIdeal : Prop :=
  True

def algebraic_DAIdeal_DARefIdeal_pre_finite [hDAIdeal : Cert.DAIdeal.Facts] [hDARefIdeal : Cert.DARefIdeal.Facts] [hPre_finite : Cert.Pre_finite.Facts] : Prop :=
  ∀ (m : (ℓ : Loc Cert.DAIdeal.nD Cert.DAIdeal.τ Cert.DAIdeal.sig) → Buf (Elt Ideal) ℓ) (g : Dev Cert.DAIdeal.nD → PrngReg)
    (m' : (ℓ : Loc Cert.DARefIdeal.nD Cert.DARefIdeal.τ Cert.DARefIdeal.sig) → Buf (Elt Ideal) ℓ) (g' : Dev Cert.DARefIdeal.nD → PrngReg), Pre_DAIdeal_finite m →
    (∀ c : Dev Cert.DAIdeal.nD,
      m' ((c.tc : Thread Cert.DARefIdeal.nD Cert.DARefIdeal.τ).loc Cert.DARefIdeal.main_arg0) = m ((c.tc : Thread Cert.DAIdeal.nD Cert.DAIdeal.τ).loc Cert.DAIdeal.main_arg0)
      ∧ m' ((c.tc : Thread Cert.DARefIdeal.nD Cert.DARefIdeal.τ).loc Cert.DARefIdeal.main_arg1) = m ((c.tc : Thread Cert.DAIdeal.nD Cert.DAIdeal.τ).loc Cert.DAIdeal.main_arg1)
      ∧ m' ((c.tc : Thread Cert.DARefIdeal.nD Cert.DARefIdeal.τ).loc Cert.DARefIdeal.main_arg2) = m ((c.tc : Thread Cert.DAIdeal.nD Cert.DAIdeal.τ).loc Cert.DAIdeal.main_arg2)
      ∧ m' ((c.tc : Thread Cert.DARefIdeal.nD Cert.DARefIdeal.τ).loc Cert.DARefIdeal.main_arg3) = m ((c.tc : Thread Cert.DAIdeal.nD Cert.DAIdeal.τ).loc Cert.DAIdeal.main_arg3)
      ∧ m' ((c.tc : Thread Cert.DARefIdeal.nD Cert.DARefIdeal.τ).loc Cert.DARefIdeal.main_arg4) = m ((c.tc : Thread Cert.DAIdeal.nD Cert.DAIdeal.τ).loc Cert.DAIdeal.main_arg4)
      ∧ m' ((c.tc : Thread Cert.DARefIdeal.nD Cert.DARefIdeal.τ).loc Cert.DARefIdeal.main_arg5) = m ((c.tc : Thread Cert.DAIdeal.nD Cert.DAIdeal.τ).loc Cert.DAIdeal.main_arg5)
      ∧ m' ((c.tc : Thread Cert.DARefIdeal.nD Cert.DARefIdeal.τ).loc Cert.DARefIdeal.main_arg6) = m ((c.tc : Thread Cert.DAIdeal.nD Cert.DAIdeal.τ).loc Cert.DAIdeal.main_arg6)
      ∧ m' ((c.tc : Thread Cert.DARefIdeal.nD Cert.DARefIdeal.τ).loc Cert.DARefIdeal.main_arg7) = m ((c.tc : Thread Cert.DAIdeal.nD Cert.DAIdeal.τ).loc Cert.DAIdeal.main_arg7)
      ∧ m' ((c.tc : Thread Cert.DARefIdeal.nD Cert.DARefIdeal.τ).loc Cert.DARefIdeal.main_arg8) = m ((c.tc : Thread Cert.DAIdeal.nD Cert.DAIdeal.τ).loc Cert.DAIdeal.main_arg8)
      ∧ m' ((c.tc : Thread Cert.DARefIdeal.nD Cert.DARefIdeal.τ).loc Cert.DARefIdeal.main_arg9) = m ((c.tc : Thread Cert.DAIdeal.nD Cert.DAIdeal.τ).loc Cert.DAIdeal.main_arg9)) →
    ∃ (v0 : (c : Dev Cert.DAIdeal.nD) → Buf (Elt Ideal) ((c.tc : Thread Cert.DAIdeal.nD Cert.DAIdeal.τ).loc Cert.DAIdeal.main_v27)),
      θ_run (Cert.DAIdeal.defs (F := Ideal)) (onTc (τ := Cert.DAIdeal.τ) (Cert.DAIdeal.main (F := Ideal))) ⟨m, fun _ => 0, g⟩ (fun r => ∀ c : Dev Cert.DAIdeal.nD,
          r.2.mem ((c.tc : Thread Cert.DAIdeal.nD Cert.DAIdeal.τ).loc Cert.DAIdeal.main_v27) = v0 c
          ∧ r.2.mem ((c.tc : Thread Cert.DAIdeal.nD Cert.DAIdeal.τ).loc Cert.DAIdeal.main_arg0) = m ((c.tc : Thread Cert.DAIdeal.nD Cert.DAIdeal.τ).loc Cert.DAIdeal.main_arg0)
          ∧ r.2.mem ((c.tc : Thread Cert.DAIdeal.nD Cert.DAIdeal.τ).loc Cert.DAIdeal.main_arg1) = m ((c.tc : Thread Cert.DAIdeal.nD Cert.DAIdeal.τ).loc Cert.DAIdeal.main_arg1)
          ∧ r.2.mem ((c.tc : Thread Cert.DAIdeal.nD Cert.DAIdeal.τ).loc Cert.DAIdeal.main_arg2) = m ((c.tc : Thread Cert.DAIdeal.nD Cert.DAIdeal.τ).loc Cert.DAIdeal.main_arg2)
          ∧ r.2.mem ((c.tc : Thread Cert.DAIdeal.nD Cert.DAIdeal.τ).loc Cert.DAIdeal.main_arg3) = m ((c.tc : Thread Cert.DAIdeal.nD Cert.DAIdeal.τ).loc Cert.DAIdeal.main_arg3)
          ∧ r.2.mem ((c.tc : Thread Cert.DAIdeal.nD Cert.DAIdeal.τ).loc Cert.DAIdeal.main_arg4) = m ((c.tc : Thread Cert.DAIdeal.nD Cert.DAIdeal.τ).loc Cert.DAIdeal.main_arg4)
          ∧ r.2.mem ((c.tc : Thread Cert.DAIdeal.nD Cert.DAIdeal.τ).loc Cert.DAIdeal.main_arg5) = m ((c.tc : Thread Cert.DAIdeal.nD Cert.DAIdeal.τ).loc Cert.DAIdeal.main_arg5)
          ∧ r.2.mem ((c.tc : Thread Cert.DAIdeal.nD Cert.DAIdeal.τ).loc Cert.DAIdeal.main_arg6) = m ((c.tc : Thread Cert.DAIdeal.nD Cert.DAIdeal.τ).loc Cert.DAIdeal.main_arg6)
          ∧ r.2.mem ((c.tc : Thread Cert.DAIdeal.nD Cert.DAIdeal.τ).loc Cert.DAIdeal.main_arg7) = m ((c.tc : Thread Cert.DAIdeal.nD Cert.DAIdeal.τ).loc Cert.DAIdeal.main_arg7)
          ∧ r.2.mem ((c.tc : Thread Cert.DAIdeal.nD Cert.DAIdeal.τ).loc Cert.DAIdeal.main_arg8) = m ((c.tc : Thread Cert.DAIdeal.nD Cert.DAIdeal.τ).loc Cert.DAIdeal.main_arg8)
          ∧ r.2.mem ((c.tc : Thread Cert.DAIdeal.nD Cert.DAIdeal.τ).loc Cert.DAIdeal.main_arg9) = m ((c.tc : Thread Cert.DAIdeal.nD Cert.DAIdeal.τ).loc Cert.DAIdeal.main_arg9))
      ∧ θ_run (Cert.DARefIdeal.defs (F := Ideal)) (onTc (τ := Cert.DARefIdeal.τ) (Cert.DARefIdeal.main (F := Ideal))) ⟨m', fun _ => 0, g'⟩ (fun r => ∀ c : Dev Cert.DARefIdeal.nD,
          r.2.mem ((c.tc : Thread Cert.DARefIdeal.nD Cert.DARefIdeal.τ).loc Cert.DARefIdeal.main_v49) = v0 c
          ∧ r.2.mem ((c.tc : Thread Cert.DARefIdeal.nD Cert.DARefIdeal.τ).loc Cert.DARefIdeal.main_arg0) = m' ((c.tc : Thread Cert.DARefIdeal.nD Cert.DARefIdeal.τ).loc Cert.DARefIdeal.main_arg0)
          ∧ r.2.mem ((c.tc : Thread Cert.DARefIdeal.nD Cert.DARefIdeal.τ).loc Cert.DARefIdeal.main_arg1) = m' ((c.tc : Thread Cert.DARefIdeal.nD Cert.DARefIdeal.τ).loc Cert.DARefIdeal.main_arg1)
          ∧ r.2.mem ((c.tc : Thread Cert.DARefIdeal.nD Cert.DARefIdeal.τ).loc Cert.DARefIdeal.main_arg2) = m' ((c.tc : Thread Cert.DARefIdeal.nD Cert.DARefIdeal.τ).loc Cert.DARefIdeal.main_arg2)
          ∧ r.2.mem ((c.tc : Thread Cert.DARefIdeal.nD Cert.DARefIdeal.τ).loc Cert.DARefIdeal.main_arg3) = m' ((c.tc : Thread Cert.DARefIdeal.nD Cert.DARefIdeal.τ).loc Cert.DARefIdeal.main_arg3)
          ∧ r.2.mem ((c.tc : Thread Cert.DARefIdeal.nD Cert.DARefIdeal.τ).loc Cert.DARefIdeal.main_arg4) = m' ((c.tc : Thread Cert.DARefIdeal.nD Cert.DARefIdeal.τ).loc Cert.DARefIdeal.main_arg4)
          ∧ r.2.mem ((c.tc : Thread Cert.DARefIdeal.nD Cert.DARefIdeal.τ).loc Cert.DARefIdeal.main_arg5) = m' ((c.tc : Thread Cert.DARefIdeal.nD Cert.DARefIdeal.τ).loc Cert.DARefIdeal.main_arg5)
          ∧ r.2.mem ((c.tc : Thread Cert.DARefIdeal.nD Cert.DARefIdeal.τ).loc Cert.DARefIdeal.main_arg6) = m' ((c.tc : Thread Cert.DARefIdeal.nD Cert.DARefIdeal.τ).loc Cert.DARefIdeal.main_arg6)
          ∧ r.2.mem ((c.tc : Thread Cert.DARefIdeal.nD Cert.DARefIdeal.τ).loc Cert.DARefIdeal.main_arg7) = m' ((c.tc : Thread Cert.DARefIdeal.nD Cert.DARefIdeal.τ).loc Cert.DARefIdeal.main_arg7)
          ∧ r.2.mem ((c.tc : Thread Cert.DARefIdeal.nD Cert.DARefIdeal.τ).loc Cert.DARefIdeal.main_arg8) = m' ((c.tc : Thread Cert.DARefIdeal.nD Cert.DARefIdeal.τ).loc Cert.DARefIdeal.main_arg8)
          ∧ r.2.mem ((c.tc : Thread Cert.DARefIdeal.nD Cert.DARefIdeal.τ).loc Cert.DARefIdeal.main_arg9) = m' ((c.tc : Thread Cert.DARefIdeal.nD Cert.DARefIdeal.τ).loc Cert.DARefIdeal.main_arg9))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v63) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Offn_OffnIdeal : Prop :=
  True

def algebraic_OffnIdeal_OffnRefIdeal [hOffnIdeal : Cert.OffnIdeal.Facts] [hOffnRefIdeal : Cert.OffnRefIdeal.Facts] : Prop :=
  ∀ (m : (ℓ : Loc Cert.OffnIdeal.nD Cert.OffnIdeal.τ Cert.OffnIdeal.sig) → Buf (Elt Ideal) ℓ) (g : Dev Cert.OffnIdeal.nD → PrngReg)
    (m' : (ℓ : Loc Cert.OffnRefIdeal.nD Cert.OffnRefIdeal.τ Cert.OffnRefIdeal.sig) → Buf (Elt Ideal) ℓ) (g' : Dev Cert.OffnRefIdeal.nD → PrngReg), Pre_OffnIdeal m →
    (∀ c : Dev Cert.OffnIdeal.nD,
      m' ((c.tc : Thread Cert.OffnRefIdeal.nD Cert.OffnRefIdeal.τ).loc Cert.OffnRefIdeal.main_arg0) = m ((c.tc : Thread Cert.OffnIdeal.nD Cert.OffnIdeal.τ).loc Cert.OffnIdeal.main_arg0)
      ∧ m' ((c.tc : Thread Cert.OffnRefIdeal.nD Cert.OffnRefIdeal.τ).loc Cert.OffnRefIdeal.main_arg1) = m ((c.tc : Thread Cert.OffnIdeal.nD Cert.OffnIdeal.τ).loc Cert.OffnIdeal.main_arg1)
      ∧ m' ((c.tc : Thread Cert.OffnRefIdeal.nD Cert.OffnRefIdeal.τ).loc Cert.OffnRefIdeal.main_arg2) = m ((c.tc : Thread Cert.OffnIdeal.nD Cert.OffnIdeal.τ).loc Cert.OffnIdeal.main_arg2)
      ∧ m' ((c.tc : Thread Cert.OffnRefIdeal.nD Cert.OffnRefIdeal.τ).loc Cert.OffnRefIdeal.main_arg3) = m ((c.tc : Thread Cert.OffnIdeal.nD Cert.OffnIdeal.τ).loc Cert.OffnIdeal.main_arg3)
      ∧ m' ((c.tc : Thread Cert.OffnRefIdeal.nD Cert.OffnRefIdeal.τ).loc Cert.OffnRefIdeal.main_arg4) = m ((c.tc : Thread Cert.OffnIdeal.nD Cert.OffnIdeal.τ).loc Cert.OffnIdeal.main_arg4)
      ∧ m' ((c.tc : Thread Cert.OffnRefIdeal.nD Cert.OffnRefIdeal.τ).loc Cert.OffnRefIdeal.main_arg5) = m ((c.tc : Thread Cert.OffnIdeal.nD Cert.OffnIdeal.τ).loc Cert.OffnIdeal.main_arg5)
      ∧ m' ((c.tc : Thread Cert.OffnRefIdeal.nD Cert.OffnRefIdeal.τ).loc Cert.OffnRefIdeal.main_arg6) = m ((c.tc : Thread Cert.OffnIdeal.nD Cert.OffnIdeal.τ).loc Cert.OffnIdeal.main_arg6)
      ∧ m' ((c.tc : Thread Cert.OffnRefIdeal.nD Cert.OffnRefIdeal.τ).loc Cert.OffnRefIdeal.main_arg7) = m ((c.tc : Thread Cert.OffnIdeal.nD Cert.OffnIdeal.τ).loc Cert.OffnIdeal.main_arg7)
      ∧ m' ((c.tc : Thread Cert.OffnRefIdeal.nD Cert.OffnRefIdeal.τ).loc Cert.OffnRefIdeal.main_arg8) = m ((c.tc : Thread Cert.OffnIdeal.nD Cert.OffnIdeal.τ).loc Cert.OffnIdeal.main_arg8)) →
    ∃ (v0 : (c : Dev Cert.OffnIdeal.nD) → Buf (Elt Ideal) ((c.tc : Thread Cert.OffnIdeal.nD Cert.OffnIdeal.τ).loc Cert.OffnIdeal.main_v6)),
      θ_run (Cert.OffnIdeal.defs (F := Ideal)) (onTc (τ := Cert.OffnIdeal.τ) (Cert.OffnIdeal.main (F := Ideal))) ⟨m, fun _ => 0, g⟩ (fun r => ∀ c : Dev Cert.OffnIdeal.nD,
          r.2.mem ((c.tc : Thread Cert.OffnIdeal.nD Cert.OffnIdeal.τ).loc Cert.OffnIdeal.main_v6) = v0 c
          ∧ r.2.mem ((c.tc : Thread Cert.OffnIdeal.nD Cert.OffnIdeal.τ).loc Cert.OffnIdeal.main_arg0) = m ((c.tc : Thread Cert.OffnIdeal.nD Cert.OffnIdeal.τ).loc Cert.OffnIdeal.main_arg0)
          ∧ r.2.mem ((c.tc : Thread Cert.OffnIdeal.nD Cert.OffnIdeal.τ).loc Cert.OffnIdeal.main_arg1) = m ((c.tc : Thread Cert.OffnIdeal.nD Cert.OffnIdeal.τ).loc Cert.OffnIdeal.main_arg1)
          ∧ r.2.mem ((c.tc : Thread Cert.OffnIdeal.nD Cert.OffnIdeal.τ).loc Cert.OffnIdeal.main_arg2) = m ((c.tc : Thread Cert.OffnIdeal.nD Cert.OffnIdeal.τ).loc Cert.OffnIdeal.main_arg2)
          ∧ r.2.mem ((c.tc : Thread Cert.OffnIdeal.nD Cert.OffnIdeal.τ).loc Cert.OffnIdeal.main_arg3) = m ((c.tc : Thread Cert.OffnIdeal.nD Cert.OffnIdeal.τ).loc Cert.OffnIdeal.main_arg3)
          ∧ r.2.mem ((c.tc : Thread Cert.OffnIdeal.nD Cert.OffnIdeal.τ).loc Cert.OffnIdeal.main_arg4) = m ((c.tc : Thread Cert.OffnIdeal.nD Cert.OffnIdeal.τ).loc Cert.OffnIdeal.main_arg4)
          ∧ r.2.mem ((c.tc : Thread Cert.OffnIdeal.nD Cert.OffnIdeal.τ).loc Cert.OffnIdeal.main_arg5) = m ((c.tc : Thread Cert.OffnIdeal.nD Cert.OffnIdeal.τ).loc Cert.OffnIdeal.main_arg5)
          ∧ r.2.mem ((c.tc : Thread Cert.OffnIdeal.nD Cert.OffnIdeal.τ).loc Cert.OffnIdeal.main_arg6) = m ((c.tc : Thread Cert.OffnIdeal.nD Cert.OffnIdeal.τ).loc Cert.OffnIdeal.main_arg6)
          ∧ r.2.mem ((c.tc : Thread Cert.OffnIdeal.nD Cert.OffnIdeal.τ).loc Cert.OffnIdeal.main_arg7) = m ((c.tc : Thread Cert.OffnIdeal.nD Cert.OffnIdeal.τ).loc Cert.OffnIdeal.main_arg7)
          ∧ r.2.mem ((c.tc : Thread Cert.OffnIdeal.nD Cert.OffnIdeal.τ).loc Cert.OffnIdeal.main_arg8) = m ((c.tc : Thread Cert.OffnIdeal.nD Cert.OffnIdeal.τ).loc Cert.OffnIdeal.main_arg8))
      ∧ θ_run (Cert.OffnRefIdeal.defs (F := Ideal)) (onTc (τ := Cert.OffnRefIdeal.τ) (Cert.OffnRefIdeal.main (F := Ideal))) ⟨m', fun _ => 0, g'⟩ (fun r => ∀ c : Dev Cert.OffnRefIdeal.nD,
          r.2.mem ((c.tc : Thread Cert.OffnRefIdeal.nD Cert.OffnRefIdeal.τ).loc Cert.OffnRefIdeal.main_v68) = v0 c
          ∧ r.2.mem ((c.tc : Thread Cert.OffnRefIdeal.nD Cert.OffnRefIdeal.τ).loc Cert.OffnRefIdeal.main_arg0) = m' ((c.tc : Thread Cert.OffnRefIdeal.nD Cert.OffnRefIdeal.τ).loc Cert.OffnRefIdeal.main_arg0)
          ∧ r.2.mem ((c.tc : Thread Cert.OffnRefIdeal.nD Cert.OffnRefIdeal.τ).loc Cert.OffnRefIdeal.main_arg1) = m' ((c.tc : Thread Cert.OffnRefIdeal.nD Cert.OffnRefIdeal.τ).loc Cert.OffnRefIdeal.main_arg1)
          ∧ r.2.mem ((c.tc : Thread Cert.OffnRefIdeal.nD Cert.OffnRefIdeal.τ).loc Cert.OffnRefIdeal.main_arg2) = m' ((c.tc : Thread Cert.OffnRefIdeal.nD Cert.OffnRefIdeal.τ).loc Cert.OffnRefIdeal.main_arg2)
          ∧ r.2.mem ((c.tc : Thread Cert.OffnRefIdeal.nD Cert.OffnRefIdeal.τ).loc Cert.OffnRefIdeal.main_arg3) = m' ((c.tc : Thread Cert.OffnRefIdeal.nD Cert.OffnRefIdeal.τ).loc Cert.OffnRefIdeal.main_arg3)
          ∧ r.2.mem ((c.tc : Thread Cert.OffnRefIdeal.nD Cert.OffnRefIdeal.τ).loc Cert.OffnRefIdeal.main_arg4) = m' ((c.tc : Thread Cert.OffnRefIdeal.nD Cert.OffnRefIdeal.τ).loc Cert.OffnRefIdeal.main_arg4)
          ∧ r.2.mem ((c.tc : Thread Cert.OffnRefIdeal.nD Cert.OffnRefIdeal.τ).loc Cert.OffnRefIdeal.main_arg5) = m' ((c.tc : Thread Cert.OffnRefIdeal.nD Cert.OffnRefIdeal.τ).loc Cert.OffnRefIdeal.main_arg5)
          ∧ r.2.mem ((c.tc : Thread Cert.OffnRefIdeal.nD Cert.OffnRefIdeal.τ).loc Cert.OffnRefIdeal.main_arg6) = m' ((c.tc : Thread Cert.OffnRefIdeal.nD Cert.OffnRefIdeal.τ).loc Cert.OffnRefIdeal.main_arg6)
          ∧ r.2.mem ((c.tc : Thread Cert.OffnRefIdeal.nD Cert.OffnRefIdeal.τ).loc Cert.OffnRefIdeal.main_arg7) = m' ((c.tc : Thread Cert.OffnRefIdeal.nD Cert.OffnRefIdeal.τ).loc Cert.OffnRefIdeal.main_arg7)
          ∧ r.2.mem ((c.tc : Thread Cert.OffnRefIdeal.nD Cert.OffnRefIdeal.τ).loc Cert.OffnRefIdeal.main_arg8) = m' ((c.tc : Thread Cert.OffnRefIdeal.nD Cert.OffnRefIdeal.τ).loc Cert.OffnRefIdeal.main_arg8))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v4)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v4) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v61) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v6)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v6) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v7) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)) →
    ∃ (v0 : (c : Dev Cert.QkvIdeal.nD) → Buf (Elt Ideal) ((c.tc : Thread Cert.QkvIdeal.nD Cert.QkvIdeal.τ).loc Cert.QkvIdeal.main_v45_0)) (v1 : (c : Dev Cert.QkvIdeal.nD) → Buf (Elt Ideal) ((c.tc : Thread Cert.QkvIdeal.nD Cert.QkvIdeal.τ).loc Cert.QkvIdeal.main_v45_1)) (v2 : (c : Dev Cert.QkvIdeal.nD) → Buf (Elt Ideal) ((c.tc : Thread Cert.QkvIdeal.nD Cert.QkvIdeal.τ).loc Cert.QkvIdeal.main_v45_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v45_0) = v0 c
          ∧ r.2.mem ((c.tc : Thread Cert.QkvIdeal.nD Cert.QkvIdeal.τ).loc Cert.QkvIdeal.main_v45_1) = v1 c
          ∧ r.2.mem ((c.tc : Thread Cert.QkvIdeal.nD Cert.QkvIdeal.τ).loc Cert.QkvIdeal.main_v45_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v114) = v0 c
          ∧ r.2.mem ((c.tc : Thread Cert.QkvRefIdeal.nD Cert.QkvRefIdeal.τ).loc Cert.QkvRefIdeal.main_v117) = v1 c
          ∧ r.2.mem ((c.tc : Thread Cert.QkvRefIdeal.nD Cert.QkvRefIdeal.τ).loc Cert.QkvRefIdeal.main_v118) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7))

def Claim : Prop :=
  ∃ (hDA : Cert.DA.Facts) (hDAIdeal : Cert.DAIdeal.Facts) (hDARefIdeal : Cert.DARefIdeal.Facts) (hFfn : Cert.Ffn.Facts) (hFfnIdeal : Cert.FfnIdeal.Facts) (hFfnRefIdeal : Cert.FfnRefIdeal.Facts) (hOffn : Cert.Offn.Facts) (hOffnIdeal : Cert.OffnIdeal.Facts) (hOffnRefIdeal : Cert.OffnRefIdeal.Facts) (hConv : Cert.Conv.Facts) (hConvIdeal : Cert.ConvIdeal.Facts) (hConvRefIdeal : Cert.ConvRefIdeal.Facts) (hAda : Cert.Ada.Facts) (hAdaIdeal : Cert.AdaIdeal.Facts) (hAdaRefIdeal : Cert.AdaRefIdeal.Facts) (hQkv : Cert.Qkv.Facts) (hQkvIdeal : Cert.QkvIdeal.Facts) (hQkvRefIdeal : Cert.QkvRefIdeal.Facts) (hPre_finite : Cert.Pre_finite.Facts),
    quiescent_DA (hDA := hDA)
    ∧ quiescent_DAIdeal (hDAIdeal := hDAIdeal)
    ∧ quiescent_DAIdeal_pre_finite (hDAIdeal := hDAIdeal) (hPre_finite := hPre_finite)
    ∧ quiescent_DARefIdeal (hDARefIdeal := hDARefIdeal)
    ∧ quiescent_DARefIdeal_pre_finite (hDARefIdeal := hDARefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Offn (hOffn := hOffn)
    ∧ quiescent_OffnIdeal (hOffnIdeal := hOffnIdeal)
    ∧ quiescent_OffnRefIdeal (hOffnRefIdeal := hOffnRefIdeal)
    ∧ quiescent_Conv (hConv := hConv)
    ∧ quiescent_ConvIdeal (hConvIdeal := hConvIdeal)
    ∧ quiescent_ConvRefIdeal (hConvRefIdeal := hConvRefIdeal)
    ∧ quiescent_Ada (hAda := hAda)
    ∧ quiescent_AdaIdeal (hAdaIdeal := hAdaIdeal)
    ∧ quiescent_AdaRefIdeal (hAdaRefIdeal := hAdaRefIdeal)
    ∧ quiescent_Qkv (hQkv := hQkv)
    ∧ quiescent_QkvIdeal (hQkvIdeal := hQkvIdeal)
    ∧ quiescent_QkvRefIdeal (hQkvRefIdeal := hQkvRefIdeal)
    ∧ preserves_DA_DAIdeal
    ∧ algebraic_DAIdeal_DARefIdeal_pre_finite (hDAIdeal := hDAIdeal) (hDARefIdeal := hDARefIdeal) (hPre_finite := hPre_finite)
    ∧ preserves_Ffn_FfnIdeal
    ∧ algebraic_FfnIdeal_FfnRefIdeal (hFfnIdeal := hFfnIdeal) (hFfnRefIdeal := hFfnRefIdeal)
    ∧ preserves_Offn_OffnIdeal
    ∧ algebraic_OffnIdeal_OffnRefIdeal (hOffnIdeal := hOffnIdeal) (hOffnRefIdeal := hOffnRefIdeal)
    ∧ preserves_Conv_ConvIdeal
    ∧ algebraic_ConvIdeal_ConvRefIdeal (hConvIdeal := hConvIdeal) (hConvRefIdeal := hConvRefIdeal)
    ∧ preserves_Ada_AdaIdeal
    ∧ algebraic_AdaIdeal_AdaRefIdeal (hAdaIdeal := hAdaIdeal) (hAdaRefIdeal := hAdaRefIdeal)
    ∧ preserves_Qkv_QkvIdeal
    ∧ algebraic_QkvIdeal_QkvRefIdeal (hQkvIdeal := hQkvIdeal) (hQkvRefIdeal := hQkvRefIdeal)
-- ==== Pre_finite.lean ====
abbrev S64 : Shape := ⟨1, ![64]⟩
abbrev S128 : Shape := ⟨1, ![128]⟩
abbrev S16x4096x8x2x64 : Shape := ⟨5, ![16, 4096, 8, 2, 64]⟩
abbrev S16x4096x8x128 : Shape := ⟨4, ![16, 4096, 8, 128]⟩
abbrev S16x256x8x2x64 : Shape := ⟨5, ![16, 256, 8, 2, 64]⟩
abbrev S16x256x8x128 : Shape := ⟨4, ![16, 256, 8, 128]⟩
abbrev S_ : Shape := ⟨0, ![]⟩

class Facts : Prop where
  bcast_S_S16x4096x8x2x64 : S_.BroadcastsInDim S16x4096x8x2x64 (![] : Fin 0 → Fin S16x4096x8x2x64.rank)
  reducesTo_S16x4096x8x2x64_S_d0_1_2_3_4 : S16x4096x8x2x64.ReducesTo [0, 1, 2, 3, 4] S_
  h_S_ : 0 < S_.numel
  bcast_S_S16x4096x8x128 : S_.BroadcastsInDim S16x4096x8x128 (![] : Fin 0 → Fin S16x4096x8x128.rank)
  reducesTo_S16x4096x8x128_S_d0_1_2_3 : S16x4096x8x128.ReducesTo [0, 1, 2, 3] S_
  bcast_S_S16x256x8x2x64 : S_.BroadcastsInDim S16x256x8x2x64 (![] : Fin 0 → Fin S16x256x8x2x64.rank)
  reducesTo_S16x256x8x2x64_S_d0_1_2_3_4 : S16x256x8x2x64.ReducesTo [0, 1, 2, 3, 4] S_
  bcast_S_S16x256x8x128 : S_.BroadcastsInDim S16x256x8x128 (![] : Fin 0 → Fin S16x256x8x128.rank)
  reducesTo_S16x256x8x128_S_d0_1_2_3 : S16x256x8x128.ReducesTo [0, 1, 2, 3] S_
  bcast_S_S64 : S_.BroadcastsInDim S64 (![] : Fin 0 → Fin S64.rank)
  reducesTo_S64_S_d0 : S64.ReducesTo [0] S_

variable [Facts]

def fn_part2 {F : FTy → Type} [FloatOps F] (main_arg2 : FVec F S64 .f32) (main_arg3 : FVec F S64 .f32) (main_v33 : IVec S_ 1) : IVec S_ 1 :=
  let main_v34 : FVec F S64 .f32 := Host.absf main_arg2
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg3
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg0 : FVec F S64 .f32) (main_arg1 : FVec F S64 .f32) (main_arg2 : FVec F S64 .f32) (main_arg3 : FVec F S64 .f32) (main_arg9 : FVec F S16x256x8x128 .f32) (main_v13 : IVec S_ 1) (main_v16 : IVec S16x256x8x2x64 1) : IVec S_ 1 :=
  let main_c_5 : IVec S_ 1 := constantI S_ 1 1#1
  let main_v17 : IVec S_ 1 := (fun x v => Host.reduce IntOp.andi x v reducesTo_S16x256x8x2x64_S_d0_1_2_3_4 h_S_) main_v16 main_c_5
  let main_v18 : IVec S_ 1 := andi main_v13 main_v17
  let main_v19 : FVec F S16x256x8x128 .f32 := Host.absf main_arg9
  let main_cst_6 : FVec F S_ .f32 := constant S_ .f32 0x7F800000#32
  let main_v20 : FVec F S16x256x8x128 .f32 := broadcastInDim S16x256x8x128 ![] bcast_S_S16x256x8x128 main_cst_6
  let main_v21 : IVec S16x256x8x128 1 := cmpf .olt main_v19 main_v20
  let main_c_7 : IVec S_ 1 := constantI S_ 1 1#1
  let main_v22 : IVec S_ 1 := (fun x v => Host.reduce IntOp.andi x v reducesTo_S16x256x8x128_S_d0_1_2_3 h_S_) main_v21 main_c_7
  let main_v23 : IVec S_ 1 := andi main_v18 main_v22
  let main_v24 : FVec F S64 .f32 := Host.absf main_arg0
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg1
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg2 main_arg3 main_v33

def fn {F : FTy → Type} [FloatOps F] (main_arg0 : FVec F S64 .f32) (main_arg1 : FVec F S64 .f32) (main_arg2 : FVec F S64 .f32) (main_arg3 : FVec F S64 .f32) (main_arg4 : FVec F S128 .f32) (main_arg5 : FVec F S16x4096x8x2x64 .f32) (main_arg6 : FVec F S16x4096x8x2x64 .f32) (main_arg7 : FVec F S16x4096x8x128 .f32) (main_arg8 : FVec F S16x256x8x2x64 .f32) (main_arg9 : FVec F S16x256x8x128 .f32) : IVec S_ 1 :=
  let main_v0 : FVec F S16x4096x8x2x64 .f32 := Host.absf main_arg5
  let main_cst : FVec F S_ .f32 := constant S_ .f32 0x7F800000#32
  let main_v1 : FVec F S16x4096x8x2x64 .f32 := broadcastInDim S16x4096x8x2x64 ![] bcast_S_S16x4096x8x2x64 main_cst
  let main_v2 : IVec S16x4096x8x2x64 1 := cmpf .olt main_v0 main_v1
  let main_c : IVec S_ 1 := constantI S_ 1 1#1
  let main_v3 : IVec S_ 1 := (fun x v => Host.reduce IntOp.andi x v reducesTo_S16x4096x8x2x64_S_d0_1_2_3_4 h_S_) main_v2 main_c
  let main_v4 : FVec F S16x4096x8x2x64 .f32 := Host.absf main_arg6
  let main_cst_0 : FVec F S_ .f32 := constant S_ .f32 0x7F800000#32
  let main_v5 : FVec F S16x4096x8x2x64 .f32 := broadcastInDim S16x4096x8x2x64 ![] bcast_S_S16x4096x8x2x64 main_cst_0
  let main_v6 : IVec S16x4096x8x2x64 1 := cmpf .olt main_v4 main_v5
  let main_c_1 : IVec S_ 1 := constantI S_ 1 1#1
  let main_v7 : IVec S_ 1 := (fun x v => Host.reduce IntOp.andi x v reducesTo_S16x4096x8x2x64_S_d0_1_2_3_4 h_S_) main_v6 main_c_1
  let main_v8 : IVec S_ 1 := andi main_v3 main_v7
  let main_v9 : FVec F S16x4096x8x128 .f32 := Host.absf main_arg7
  let main_cst_2 : FVec F S_ .f32 := constant S_ .f32 0x7F800000#32
  let main_v10 : FVec F S16x4096x8x128 .f32 := broadcastInDim S16x4096x8x128 ![] bcast_S_S16x4096x8x128 main_cst_2
  let main_v11 : IVec S16x4096x8x128 1 := cmpf .olt main_v9 main_v10
  let main_c_3 : IVec S_ 1 := constantI S_ 1 1#1
  let main_v12 : IVec S_ 1 := (fun x v => Host.reduce IntOp.andi x v reducesTo_S16x4096x8x128_S_d0_1_2_3 h_S_) main_v11 main_c_3
  let main_v13 : IVec S_ 1 := andi main_v8 main_v12
  let main_v14 : FVec F S16x256x8x2x64 .f32 := Host.absf main_arg8
  let main_cst_4 : FVec F S_ .f32 := constant S_ .f32 0x7F800000#32
  let main_v15 : FVec F S16x256x8x2x64 .f32 := broadcastInDim S16x256x8x2x64 ![] bcast_S_S16x256x8x2x64 main_cst_4
  let main_v16 : IVec S16x256x8x2x64 1 := cmpf .olt main_v14 main_v15
  fn_part1 (F := F) main_arg0 main_arg1 main_arg2 main_arg3 main_arg9 main_v13 main_v16
-- ==== DA.lean ====
abbrev S64 : Shape := ⟨1, ![64]⟩
abbrev S128 : Shape := ⟨1, ![128]⟩
abbrev S16x4096x8x2x64 : Shape := ⟨5, ![16, 4096, 8, 2, 64]⟩
abbrev S16x4096x8x128 : Shape := ⟨4, ![16, 4096, 8, 128]⟩
abbrev S16x256x8x2x64 : Shape := ⟨5, ![16, 256, 8, 2, 64]⟩
abbrev S16x256x8x128 : Shape := ⟨4, ![16, 256, 8, 128]⟩
abbrev S_ : Shape := ⟨0, ![]⟩
abbrev S8x128 : Shape := ⟨2, ![8, 128]⟩
abbrev S1x64 : Shape := ⟨2, ![1, 64]⟩
abbrev S4x64 : Shape := ⟨2, ![4, 64]⟩
abbrev S1 : Shape := ⟨1, ![1]⟩
abbrev S2 : Shape := ⟨1, ![2]⟩
abbrev S16x4096x1024 : Shape := ⟨3, ![16, 4096, 1024]⟩
abbrev S16x1024x4096 : Shape := ⟨3, ![16, 1024, 4096]⟩
abbrev S16x256x1024 : Shape := ⟨3, ![16, 256, 1024]⟩
abbrev S16x1024x256 : Shape := ⟨3, ![16, 1024, 256]⟩
abbrev S1x128 : Shape := ⟨2, ![1, 128]⟩
abbrev S1x1024x128 : Shape := ⟨3, ![1, 1024, 128]⟩
abbrev S1x128x4096 : Shape := ⟨3, ![1, 128, 4096]⟩
abbrev S1x4096x128 : Shape := ⟨3, ![1, 4096, 128]⟩
abbrev S1x128x256 : Shape := ⟨3, ![1, 128, 256]⟩
abbrev S1x256x128 : Shape := ⟨3, ![1, 256, 128]⟩
abbrev S2048x4352 : Shape := ⟨2, ![2048, 4352]⟩
abbrev S1024x128 : Shape := ⟨2, ![1024, 128]⟩
abbrev S2048x128 : Shape := ⟨2, ![2048, 128]⟩
abbrev S1x128x512 : Shape := ⟨3, ![1, 128, 512]⟩
abbrev S128x512 : Shape := ⟨2, ![128, 512]⟩
abbrev S2048x512 : Shape := ⟨2, ![2048, 512]⟩
abbrev S128x256 : Shape := ⟨2, ![128, 256]⟩
abbrev S2048x256 : Shape := ⟨2, ![2048, 256]⟩
abbrev S2048 : Shape := ⟨1, ![2048]⟩
abbrev S2048x1 : Shape := ⟨2, ![2048, 1]⟩
abbrev S1024x256 : Shape := ⟨2, ![1024, 256]⟩
abbrev S1x512x128 : Shape := ⟨3, ![1, 512, 128]⟩
abbrev S512x128 : Shape := ⟨2, ![512, 128]⟩
abbrev S512x256 : Shape := ⟨2, ![512, 256]⟩
abbrev S1024x512 : Shape := ⟨2, ![1024, 512]⟩
abbrev S1024x1 : Shape := ⟨2, ![1024, 1]⟩
abbrev S256x128 : Shape := ⟨2, ![256, 128]⟩
abbrev S256x256 : Shape := ⟨2, ![256, 256]⟩
abbrev S1x1 : Shape := ⟨2, ![1, 1]⟩
abbrev S1024 : Shape := ⟨1, ![1024]⟩

abbrev nBuf : Space → Nat
  | .hbm => 43
  | .vmem => 15
  | .smem => 0
  | _ => 0

abbrev bufTy : (tb : Table) → Fin (tcTables nBuf tb) → BufTy
  | .hbm, ⟨0, _⟩ => ⟨S64, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S128, .f32⟩
  | .hbm, ⟨5, _⟩ => ⟨S16x4096x8x2x64, .f32⟩
  | .hbm, ⟨6, _⟩ => ⟨S16x4096x8x2x64, .f32⟩
  | .hbm, ⟨7, _⟩ => ⟨S16x4096x8x128, .f32⟩
  | .hbm, ⟨8, _⟩ => ⟨S16x256x8x2x64, .f32⟩
  | .hbm, ⟨9, _⟩ => ⟨S16x256x8x128, .f32⟩
  | .hbm, ⟨10, _⟩ => ⟨S_, .f32⟩
  | .hbm, ⟨11, _⟩ => ⟨S8x128, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S4x64, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S8x128, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S16x4096x8x2x64, .f32⟩
  | .hbm, ⟨28, _⟩ => ⟨S16x4096x8x2x64, .f32⟩
  | .hbm, ⟨29, _⟩ => ⟨S16x4096x1024, .f32⟩
  | .hbm, ⟨30, _⟩ => ⟨S16x4096x1024, .bf16⟩
  | .hbm, ⟨31, _⟩ => ⟨S16x4096x1024, .f32⟩
  | .hbm, ⟨32, _⟩ => ⟨S16x4096x1024, .bf16⟩
  | .hbm, ⟨33, _⟩ => ⟨S16x1024x4096, .bf16⟩
  | .hbm, ⟨34, _⟩ => ⟨S16x256x1024, .f32⟩
  | .hbm, ⟨35, _⟩ => ⟨S16x256x1024, .bf16⟩
  | .hbm, ⟨36, _⟩ => ⟨S16x1024x256, .bf16⟩
  | .hbm, ⟨37, _⟩ => ⟨S16x4096x1024, .f32⟩
  | .hbm, ⟨38, _⟩ => ⟨S16x4096x1024, .bf16⟩
  | .hbm, ⟨39, _⟩ => ⟨S16x256x1024, .f32⟩
  | .hbm, ⟨40, _⟩ => ⟨S16x256x1024, .bf16⟩
  | .hbm, ⟨41, _⟩ => ⟨S1x128, .f32⟩
  | .hbm, ⟨42, _⟩ => ⟨S16x4096x1024, .bf16⟩
  | .local _ .vmem, ⟨0, _⟩ => ⟨S8x128, .f32⟩
  | .local _ .vmem, ⟨1, _⟩ => ⟨S1x128, .f32⟩
  | .local _ .vmem, ⟨2, _⟩ => ⟨S1x1024x128, .bf16⟩
  | .local _ .vmem, ⟨3, _⟩ => ⟨S1x1024x128, .bf16⟩
  | .local _ .vmem, ⟨4, _⟩ => ⟨S1x128x4096, .bf16⟩
  | .local _ .vmem, ⟨5, _⟩ => ⟨S1x128x4096, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x128x256, .bf16⟩
  | .local _ .vmem, ⟨9, _⟩ => ⟨S1x128x256, .bf16⟩
  | .local _ .vmem, ⟨10, _⟩ => ⟨S1x256x128, .bf16⟩
  | .local _ .vmem, ⟨11, _⟩ => ⟨S1x256x128, .bf16⟩
  | .local _ .vmem, ⟨12, _⟩ => ⟨S1x1024x128, .bf16⟩
  | .local _ .vmem, ⟨13, _⟩ => ⟨S1x1024x128, .bf16⟩
  | .local _ .vmem, ⟨14, _⟩ => ⟨S2048x4352, .f32⟩
  | _, _ => ⟨S64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![16, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== DARefIdeal.lean ====
abbrev S64 : Shape := ⟨1, ![64]⟩
abbrev S128 : Shape := ⟨1, ![128]⟩
abbrev S16x4096x8x2x64 : Shape := ⟨5, ![16, 4096, 8, 2, 64]⟩
abbrev S16x4096x8x128 : Shape := ⟨4, ![16, 4096, 8, 128]⟩
abbrev S16x256x8x2x64 : Shape := ⟨5, ![16, 256, 8, 2, 64]⟩
abbrev S16x256x8x128 : Shape := ⟨4, ![16, 256, 8, 128]⟩
abbrev S_ : Shape := ⟨0, ![]⟩
abbrev S16x4352x8x2x64 : Shape := ⟨5, ![16, 4352, 8, 2, 64]⟩
abbrev S16x4352x8x128 : Shape := ⟨4, ![16, 4352, 8, 128]⟩
abbrev S16x8x2x4096x4352 : Shape := ⟨5, ![16, 8, 2, 4096, 4352]⟩
abbrev S16x8x2x4096 : Shape := ⟨4, ![16, 8, 2, 4096]⟩
abbrev S16x8x2x4096x1 : Shape := ⟨5, ![16, 8, 2, 4096, 1]⟩
abbrev S16x8x1x4096x4352 : Shape := ⟨5, ![16, 8, 1, 4096, 4352]⟩
abbrev S16x8x4096x4352 : Shape := ⟨4, ![16, 8, 4096, 4352]⟩
abbrev S16x8x128x4096 : Shape := ⟨4, ![16, 8, 128, 4096]⟩
abbrev S16x4096x8 : Shape := ⟨3, ![16, 4096, 8]⟩
abbrev S16x4096x8x1 : Shape := ⟨4, ![16, 4096, 8, 1]⟩
abbrev S1x1x1x128 : Shape := ⟨4, ![1, 1, 1, 128]⟩
abbrev S16x4096x1024 : Shape := ⟨3, ![16, 4096, 1024]⟩

abbrev nBuf : Space → Nat
  | .hbm => 71
  | .vmem => 0
  | .smem => 0
  | _ => 0

abbrev bufTy : (tb : Table) → Fin (tcTables nBuf tb) → BufTy
  | .hbm, ⟨0, _⟩ => ⟨S64, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S128, .f32⟩
  | .hbm, ⟨5, _⟩ => ⟨S16x4096x8x2x64, .f32⟩
  | .hbm, ⟨6, _⟩ => ⟨S16x4096x8x2x64, .f32⟩
  | .hbm, ⟨7, _⟩ => ⟨S16x4096x8x128, .f32⟩
  | .hbm, ⟨8, _⟩ => ⟨S16x256x8x2x64, .f32⟩
  | .hbm, ⟨9, _⟩ => ⟨S16x256x8x128, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S16x4352x8x2x64, .f32⟩
  | .hbm, ⟨22, _⟩ => ⟨S16x4352x8x128, .f32⟩
  | .hbm, ⟨23, _⟩ => ⟨S16x8x2x4096x4352, .f32⟩
  | .hbm, ⟨24, _⟩ => ⟨S_, .f32⟩
  | .hbm, ⟨25, _⟩ => ⟨S16x8x2x4096x4352, .f32⟩
  | .hbm, ⟨26, _⟩ => ⟨S16x8x2x4096x4352, .f32⟩
  | .hbm, ⟨27, _⟩ => ⟨S_, .f32⟩
  | .hbm, ⟨28, _⟩ => ⟨S16x8x2x4096, .f32⟩
  | .hbm, ⟨29, _⟩ => ⟨S_, .f32⟩
  | .hbm, ⟨30, _⟩ => ⟨S16x8x2x4096, .f32⟩
  | .hbm, ⟨31, _⟩ => ⟨S16x8x2x4096, .f32⟩
  | .hbm, ⟨32, _⟩ => ⟨S16x8x2x4096x1, .f32⟩
  | .hbm, ⟨33, _⟩ => ⟨S16x8x2x4096x4352, .f32⟩
  | .hbm, ⟨34, _⟩ => ⟨S16x8x2x4096x4352, .f32⟩
  | .hbm, ⟨35, _⟩ => ⟨S16x8x2x4096x4352, .f32⟩
  | .hbm, ⟨36, _⟩ => ⟨S_, .f32⟩
  | .hbm, ⟨37, _⟩ => ⟨S16x8x2x4096, .f32⟩
  | .hbm, ⟨38, _⟩ => ⟨S16x8x2x4096x1, .f32⟩
  | .hbm, ⟨39, _⟩ => ⟨S16x8x2x4096x4352, .f32⟩
  | .hbm, ⟨40, _⟩ => ⟨S16x8x2x4096x4352, .f32⟩
  | .hbm, ⟨41, _⟩ => ⟨S16x8x1x4096x4352, .f32⟩
  | .hbm, ⟨42, _⟩ => ⟨S16x8x4096x4352, .f32⟩
  | .hbm, ⟨43, _⟩ => ⟨S16x8x1x4096x4352, .f32⟩
  | .hbm, ⟨44, _⟩ => ⟨S16x8x4096x4352, .f32⟩
  | .hbm, ⟨45, _⟩ => ⟨S16x8x4096x4352, .f32⟩
  | .hbm, ⟨46, _⟩ => ⟨S16x8x4096x4352, .f32⟩
  | .hbm, ⟨47, _⟩ => ⟨S16x8x4096x4352, .f32⟩
  | .hbm, ⟨48, _⟩ => ⟨S16x8x128x4096, .f32⟩
  | .hbm, ⟨49, _⟩ => ⟨S16x4096x8x128, .f32⟩
  | .hbm, ⟨50, _⟩ => ⟨S16x4096x8x128, .f32⟩
  | .hbm, ⟨51, _⟩ => ⟨S_, .f32⟩
  | .hbm, ⟨52, _⟩ => ⟨S16x4096x8, .f32⟩
  | .hbm, ⟨53, _⟩ => ⟨S16x4096x8x1, .f32⟩
  | .hbm, ⟨54, _⟩ => ⟨S_, .f32⟩
  | .hbm, ⟨55, _⟩ => ⟨S16x4096x8x1, .f32⟩
  | .hbm, ⟨56, _⟩ => ⟨S16x4096x8x1, .f32⟩
  | .hbm, ⟨57, _⟩ => ⟨S_, .f32⟩
  | .hbm, ⟨58, _⟩ => ⟨S16x4096x8x1, .f32⟩
  | .hbm, ⟨59, _⟩ => ⟨S16x4096x8x1, .f32⟩
  | .hbm, ⟨60, _⟩ => ⟨S16x4096x8x1, .f32⟩
  | .hbm, ⟨61, _⟩ => ⟨S16x4096x8x128, .f32⟩
  | .hbm, ⟨62, _⟩ => ⟨S16x4096x8x128, .f32⟩
  | .hbm, ⟨63, _⟩ => ⟨S1x1x1x128, .f32⟩
  | .hbm, ⟨64, _⟩ => ⟨S16x4096x8x128, .f32⟩
  | .hbm, ⟨65, _⟩ => ⟨S16x4096x8x128, .f32⟩
  | .hbm, ⟨66, _⟩ => ⟨S_, .f32⟩
  | .hbm, ⟨67, _⟩ => ⟨S16x4096x8x128, .f32⟩
  | .hbm, ⟨68, _⟩ => ⟨S16x4096x8x128, .f32⟩
  | .hbm, ⟨69, _⟩ => ⟨S16x4096x1024, .f32⟩
  | .hbm, ⟨70, _⟩ => ⟨S16x4096x1024, .bf16⟩
  | _, _ => ⟨S64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]
-- ==== Ffn.lean ====
abbrev S16x4096x1024 : Shape := ⟨3, ![16, 4096, 1024]⟩
abbrev S16x6144 : Shape := ⟨2, ![16, 6144]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S16x6x1024 : Shape := ⟨3, ![16, 6, 1024]⟩
abbrev S1x1024 : Shape := ⟨2, ![1, 1024]⟩
abbrev S1x2816 : Shape := ⟨2, ![1, 2816]⟩
abbrev S1x512x1024 : Shape := ⟨3, ![1, 512, 1024]⟩
abbrev S1x8x1024 : Shape := ⟨3, ![1, 8, 1024]⟩
abbrev S1x6x1024 : Shape := ⟨3, ![1, 6, 1024]⟩
abbrev S528x2816 : Shape := ⟨2, ![528, 2816]⟩
abbrev S512x1024 : Shape := ⟨2, ![512, 1024]⟩
abbrev S8x1024 : Shape := ⟨2, ![8, 1024]⟩
abbrev S1x1x1024 : Shape := ⟨3, ![1, 1, 1024]⟩
abbrev S528x1024 : Shape := ⟨2, ![528, 1024]⟩
abbrev S528 : Shape := ⟨1, ![528]⟩
abbrev S528x1 : Shape := ⟨2, ![528, 1]⟩
abbrev S1024x2816 : Shape := ⟨2, ![1024, 2816]⟩
abbrev S512x2816 : Shape := ⟨2, ![512, 2816]⟩
abbrev S8x2816 : Shape := ⟨2, ![8, 2816]⟩

abbrev nBuf : Space → Nat
  | .hbm => 13
  | .vmem => 16
  | .smem => 0
  | _ => 0

abbrev bufTy : (tb : Table) → Fin (tcTables nBuf tb) → BufTy
  | .hbm, ⟨0, _⟩ => ⟨S16x4096x1024, .f32⟩
  | .hbm, ⟨1, _⟩ => ⟨S16x6144, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S16x6x1024, .f32⟩
  | .hbm, ⟨8, _⟩ => ⟨S1024x5632, .bf16⟩
  | .hbm, ⟨9, _⟩ => ⟨S2816x1024, .bf16⟩
  | .hbm, ⟨10, _⟩ => ⟨S1x1024, .f32⟩
  | .hbm, ⟨11, _⟩ => ⟨S1x2816, .f32⟩
  | .hbm, ⟨12, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x5632, .bf16⟩
  | .local _ .vmem, ⟨10, _⟩ => ⟨S3x2816, .f32⟩
  | .local _ .vmem, ⟨11, _⟩ => ⟨S1x2816, .f32⟩
  | .local _ .vmem, ⟨12, _⟩ => ⟨S2816x1024, .bf16⟩
  | .local _ .vmem, ⟨13, _⟩ => ⟨S1x512x1024, .f32⟩
  | .local _ .vmem, ⟨14, _⟩ => ⟨S1x512x1024, .f32⟩
  | .local _ .vmem, ⟨15, _⟩ => ⟨S528x2816, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnRefIdeal.lean ====
abbrev S16x4096x1024 : Shape := ⟨3, ![16, 4096, 1024]⟩
abbrev S16x6144 : Shape := ⟨2, ![16, 6144]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S16x1024 : Shape := ⟨2, ![16, 1024]⟩
abbrev S16x1x1024 : Shape := ⟨3, ![16, 1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5632 : Shape := ⟨3, ![16, 4096, 5632]⟩
abbrev S16x4096x2816 : Shape := ⟨3, ![16, 4096, 2816]⟩
abbrev S16x4098x2816 : Shape := ⟨3, ![16, 4098, 2816]⟩
abbrev S1x2816 : Shape := ⟨2, ![1, 2816]⟩
abbrev S1x1x2816 : Shape := ⟨3, ![1, 1, 2816]⟩

abbrev nBuf : Space → Nat
  | .hbm => 85
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x6144, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x1x1024, .f32⟩
  | .hbm, ⟨14, _⟩ => ⟨S16x1x1024, .f32⟩
  | .hbm, ⟨15, _⟩ => ⟨S16x1x1024, .f32⟩
  | .hbm, ⟨16, _⟩ => ⟨S16x1x1024, .f32⟩
  | .hbm, ⟨17, _⟩ => ⟨S16x1x1024, .f32⟩
  | .hbm, ⟨18, _⟩ => ⟨S16x1x1024, .f32⟩
  | .hbm, ⟨19, _⟩ => ⟨S16x4096x1024, .f32⟩
  | .hbm, ⟨20, _⟩ => ⟨S_, .f32⟩
  | .hbm, ⟨21, _⟩ => ⟨S16x4096, .f32⟩
  | .hbm, ⟨22, _⟩ => ⟨S16x4096x1, .f32⟩
  | .hbm, ⟨23, _⟩ => ⟨S_, .f32⟩
  | .hbm, ⟨24, _⟩ => ⟨S16x4096x1, .f32⟩
  | .hbm, ⟨25, _⟩ => ⟨S16x4096x1, .f32⟩
  | .hbm, ⟨26, _⟩ => ⟨S_, .f32⟩
  | .hbm, ⟨27, _⟩ => ⟨S16x4096x1, .f32⟩
  | .hbm, ⟨28, _⟩ => ⟨S16x4096x1, .f32⟩
  | .hbm, ⟨29, _⟩ => ⟨S16x4096x1, .f32⟩
  | .hbm, ⟨30, _⟩ => ⟨S16x4096x1024, .f32⟩
  | .hbm, ⟨31, _⟩ => ⟨S16x4096x1024, .f32⟩
  | .hbm, ⟨32, _⟩ => ⟨S1x1x1024, .f32⟩
  | .hbm, ⟨33, _⟩ => ⟨S16x4096x1024, .f32⟩
  | .hbm, ⟨34, _⟩ => ⟨S16x4096x1024, .f32⟩
  | .hbm, ⟨35, _⟩ => ⟨S_, .f32⟩
  | .hbm, ⟨36, _⟩ => ⟨S16x1x1024, .f32⟩
  | .hbm, ⟨37, _⟩ => ⟨S16x1x1024, .f32⟩
  | .hbm, ⟨38, _⟩ => ⟨S16x4096x1024, .f32⟩
  | .hbm, ⟨39, _⟩ => ⟨S16x4096x1024, .f32⟩
  | .hbm, ⟨40, _⟩ => ⟨S16x4096x1024, .f32⟩
  | .hbm, ⟨41, _⟩ => ⟨S16x4096x1024, .f32⟩
  | .hbm, ⟨42, _⟩ => ⟨S16x4096x5632, .f32⟩
  | .hbm, ⟨43, _⟩ => ⟨S16x4096x2816, .f32⟩
  | .hbm, ⟨44, _⟩ => ⟨S16x4096x2816, .f32⟩
  | .hbm, ⟨45, _⟩ => ⟨S_, .i32⟩
  | .hbm, ⟨46, _⟩ => ⟨S_, .f32⟩
  | .hbm, ⟨47, _⟩ => ⟨S16x4098x2816, .f32⟩
  | .hbm, ⟨48, _⟩ => ⟨S1x2816, .f32⟩
  | .hbm, ⟨49, _⟩ => ⟨S2816, .f32⟩
  | .hbm, ⟨50, _⟩ => ⟨S16x4096x2816, .f32⟩
  | .hbm, ⟨51, _⟩ => ⟨S1x1x2816, .f32⟩
  | .hbm, ⟨52, _⟩ => ⟨S16x4096x2816, .f32⟩
  | .hbm, ⟨53, _⟩ => ⟨S16x4096x2816, .f32⟩
  | .hbm, ⟨54, _⟩ => ⟨S1x2816, .f32⟩
  | .hbm, ⟨55, _⟩ => ⟨S2816, .f32⟩
  | .hbm, ⟨56, _⟩ => ⟨S16x4096x2816, .f32⟩
  | .hbm, ⟨57, _⟩ => ⟨S1x1x2816, .f32⟩
  | .hbm, ⟨58, _⟩ => ⟨S16x4096x2816, .f32⟩
  | .hbm, ⟨59, _⟩ => ⟨S16x4096x2816, .f32⟩
  | .hbm, ⟨60, _⟩ => ⟨S16x4096x2816, .f32⟩
  | .hbm, ⟨61, _⟩ => ⟨S1x2816, .f32⟩
  | .hbm, ⟨62, _⟩ => ⟨S2816, .f32⟩
  | .hbm, ⟨63, _⟩ => ⟨S16x4096x2816, .f32⟩
  | .hbm, ⟨64, _⟩ => ⟨S1x1x2816, .f32⟩
  | .hbm, ⟨65, _⟩ => ⟨S16x4096x2816, .f32⟩
  | .hbm, ⟨66, _⟩ => ⟨S16x4096x2816, .f32⟩
  | .hbm, ⟨67, _⟩ => ⟨S16x4096x2816, .f32⟩
  | .hbm, ⟨68, _⟩ => ⟨S1x1x2816, .f32⟩
  | .hbm, ⟨69, _⟩ => ⟨S16x4096x2816, .f32⟩
  | .hbm, ⟨70, _⟩ => ⟨S16x4096x2816, .f32⟩
  | .hbm, ⟨71, _⟩ => ⟨S16x4096x2816, .f32⟩
  | .hbm, ⟨72, _⟩ => ⟨S16x4096x2816, .f32⟩
  | .hbm, ⟨73, _⟩ => ⟨S_, .f32⟩
  | .hbm, ⟨74, _⟩ => ⟨S16x4096x2816, .f32⟩
  | .hbm, ⟨75, _⟩ => ⟨S16x4096x2816, .f32⟩
  | .hbm, ⟨76, _⟩ => ⟨S_, .f32⟩
  | .hbm, ⟨77, _⟩ => ⟨S16x4096x2816, .f32⟩
  | .hbm, ⟨78, _⟩ => ⟨S16x4096x2816, .f32⟩
  | .hbm, ⟨79, _⟩ => ⟨S16x4096x2816, .f32⟩
  | .hbm, ⟨80, _⟩ => ⟨S16x4096x2816, .f32⟩
  | .hbm, ⟨81, _⟩ => ⟨S16x4096x1024, .f32⟩
  | .hbm, ⟨82, _⟩ => ⟨S16x4096x1024, .f32⟩
  | .hbm, ⟨83, _⟩ => ⟨S16x4096x1024, .f32⟩
  | .hbm, ⟨84, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c : Ref sig .tc := ⟨.hbm, 45, rfl⟩
abbrev main_call0_v0 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_call1_v5 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩

abbrev nD : Nat := 1
abbrev τ : Topo := Topo.v7x

variable {F : FTy → Type} [FloatOps F]
-- ==== Offn.lean ====
abbrev S16x4096x1024 : Shape := ⟨3, ![16, 4096, 1024]⟩
abbrev S1024x1024 : Shape := ⟨2, ![1024, 1024]⟩
abbrev S16x6144 : Shape := ⟨2, ![16, 6144]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S16x6x1024 : Shape := ⟨3, ![16, 6, 1024]⟩
abbrev S1x1024 : Shape := ⟨2, ![1, 1024]⟩
abbrev S1x2816 : Shape := ⟨2, ![1, 2816]⟩
abbrev S1x512x1024 : Shape := ⟨3, ![1, 512, 1024]⟩
abbrev S1x8x1024 : Shape := ⟨3, ![1, 8, 1024]⟩
abbrev S1x16x1024 : Shape := ⟨3, ![1, 16, 1024]⟩
abbrev S1x6x1024 : Shape := ⟨3, ![1, 6, 1024]⟩
abbrev S528x2816 : Shape := ⟨2, ![528, 2816]⟩
abbrev S512x1024 : Shape := ⟨2, ![512, 1024]⟩
abbrev S8x1024 : Shape := ⟨2, ![8, 1024]⟩
abbrev S16x1024 : Shape := ⟨2, ![16, 1024]⟩
abbrev S544x1024 : Shape := ⟨2, ![544, 1024]⟩
abbrev S1x1x1024 : Shape := ⟨3, ![1, 1, 1024]⟩
abbrev S528x1024 : Shape := ⟨2, ![528, 1024]⟩
abbrev S528 : Shape := ⟨1, ![528]⟩
abbrev S528x1 : Shape := ⟨2, ![528, 1]⟩
abbrev S1024x2816 : Shape := ⟨2, ![1024, 2816]⟩
abbrev S512x2816 : Shape := ⟨2, ![512, 2816]⟩
abbrev S8x2816 : Shape := ⟨2, ![8, 2816]⟩

abbrev nBuf : Space → Nat
  | .hbm => 16
  | .vmem => 23
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .bf16⟩
  | .hbm, ⟨2, _⟩ => ⟨S1024x1024, .f32⟩
  | .hbm, ⟨3, _⟩ => ⟨S16x6144, .f32⟩
  | .hbm, ⟨4, _⟩ => ⟨S1024, .f32⟩
  | .hbm, ⟨5, _⟩ => ⟨S1024x5632, .f32⟩
  | .hbm, ⟨6, _⟩ => ⟨S3x2816, .f32⟩
  | .hbm, ⟨7, _⟩ => ⟨S2816, .f32⟩
  | .hbm, ⟨8, _⟩ => ⟨S2816x1024, .f32⟩
  | .hbm, ⟨9, _⟩ => ⟨S16x6x1024, .f32⟩
  | .hbm, ⟨10, _⟩ => ⟨S1024x5632, .bf16⟩
  | .hbm, ⟨11, _⟩ => ⟨S2816x1024, .bf16⟩
  | .hbm, ⟨12, _⟩ => ⟨S1x1024, .f32⟩
  | .hbm, ⟨13, _⟩ => ⟨S1x2816, .f32⟩
  | .hbm, ⟨14, _⟩ => ⟨S1024x1024, .bf16⟩
  | .hbm, ⟨15, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S1x16x1024, .bf16⟩
  | .local _ .vmem, ⟨9, _⟩ => ⟨S1x16x1024, .bf16⟩
  | .local _ .vmem, ⟨10, _⟩ => ⟨S1x16x1024, .bf16⟩
  | .local _ .vmem, ⟨11, _⟩ => ⟨S1x16x1024, .bf16⟩
  | .local _ .vmem, ⟨12, _⟩ => ⟨S1024x1024, .bf16⟩
  | .local _ .vmem, ⟨13, _⟩ => ⟨S1x6x1024, .f32⟩
  | .local _ .vmem, ⟨14, _⟩ => ⟨S1x6x1024, .f32⟩
  | .local _ .vmem, ⟨15, _⟩ => ⟨S1x1024, .f32⟩
  | .local _ .vmem, ⟨16, _⟩ => ⟨S1024x5632, .bf16⟩
  | .local _ .vmem, ⟨17, _⟩ => ⟨S3x2816, .f32⟩
  | .local _ .vmem, ⟨18, _⟩ => ⟨S1x2816, .f32⟩
  | .local _ .vmem, ⟨19, _⟩ => ⟨S2816x1024, .bf16⟩
  | .local _ .vmem, ⟨20, _⟩ => ⟨S1x512x1024, .f32⟩
  | .local _ .vmem, ⟨21, _⟩ => ⟨S1x512x1024, .f32⟩
  | .local _ .vmem, ⟨22, _⟩ => ⟨S528x2816, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x6x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== OffnRefIdeal.lean ====
abbrev S16x4096x1024 : Shape := ⟨3, ![16, 4096, 1024]⟩
abbrev S1024x1024 : Shape := ⟨2, ![1024, 1024]⟩
abbrev S16x6144 : Shape := ⟨2, ![16, 6144]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S16x1024 : Shape := ⟨2, ![16, 1024]⟩
abbrev S16x1x1024 : Shape := ⟨3, ![16, 1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5632 : Shape := ⟨3, ![16, 4096, 5632]⟩
abbrev S16x4096x2816 : Shape := ⟨3, ![16, 4096, 2816]⟩
abbrev S16x4098x2816 : Shape := ⟨3, ![16, 4098, 2816]⟩
abbrev S1x2816 : Shape := ⟨2, ![1, 2816]⟩
abbrev S1x1x2816 : Shape := ⟨3, ![1, 1, 2816]⟩

abbrev nBuf : Space → Nat
  | .hbm => 92
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .bf16⟩
  | .hbm, ⟨2, _⟩ => ⟨S1024x1024, .f32⟩
  | .hbm, ⟨3, _⟩ => ⟨S16x6144, .f32⟩
  | .hbm, ⟨4, _⟩ => ⟨S1024, .f32⟩
  | .hbm, ⟨5, _⟩ => ⟨S1024x5632, .f32⟩
  | .hbm, ⟨6, _⟩ => ⟨S3x2816, .f32⟩
  | .hbm, ⟨7, _⟩ => ⟨S2816, .f32⟩
  | .hbm, ⟨8, _⟩ => ⟨S2816x1024, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S16x1x1024, .f32⟩
  | .hbm, ⟨16, _⟩ => ⟨S16x1x1024, .f32⟩
  | .hbm, ⟨17, _⟩ => ⟨S16x1x1024, .f32⟩
  | .hbm, ⟨18, _⟩ => ⟨S16x1x1024, .f32⟩
  | .hbm, ⟨19, _⟩ => ⟨S16x1x1024, .f32⟩
  | .hbm, ⟨20, _⟩ => ⟨S16x1x1024, .f32⟩
  | .hbm, ⟨21, _⟩ => ⟨S16x4096x1024, .f32⟩
  | .hbm, ⟨22, _⟩ => ⟨S16x4096x1024, .f32⟩
  | .hbm, ⟨23, _⟩ => ⟨S16x4096x1024, .f32⟩
  | .hbm, ⟨24, _⟩ => ⟨S16x4096x1024, .f32⟩
  | .hbm, ⟨25, _⟩ => ⟨S16x4096x1024, .f32⟩
  | .hbm, ⟨26, _⟩ => ⟨S16x4096x1024, .f32⟩
  | .hbm, ⟨27, _⟩ => ⟨S_, .f32⟩
  | .hbm, ⟨28, _⟩ => ⟨S16x4096, .f32⟩
  | .hbm, ⟨29, _⟩ => ⟨S16x4096x1, .f32⟩
  | .hbm, ⟨30, _⟩ => ⟨S_, .f32⟩
  | .hbm, ⟨31, _⟩ => ⟨S16x4096x1, .f32⟩
  | .hbm, ⟨32, _⟩ => ⟨S16x4096x1, .f32⟩
  | .hbm, ⟨33, _⟩ => ⟨S_, .f32⟩
  | .hbm, ⟨34, _⟩ => ⟨S16x4096x1, .f32⟩
  | .hbm, ⟨35, _⟩ => ⟨S16x4096x1, .f32⟩
  | .hbm, ⟨36, _⟩ => ⟨S16x4096x1, .f32⟩
  | .hbm, ⟨37, _⟩ => ⟨S16x4096x1024, .f32⟩
  | .hbm, ⟨38, _⟩ => ⟨S16x4096x1024, .f32⟩
  | .hbm, ⟨39, _⟩ => ⟨S1x1x1024, .f32⟩
  | .hbm, ⟨40, _⟩ => ⟨S16x4096x1024, .f32⟩
  | .hbm, ⟨41, _⟩ => ⟨S16x4096x1024, .f32⟩
  | .hbm, ⟨42, _⟩ => ⟨S_, .f32⟩
  | .hbm, ⟨43, _⟩ => ⟨S16x1x1024, .f32⟩
  | .hbm, ⟨44, _⟩ => ⟨S16x1x1024, .f32⟩
  | .hbm, ⟨45, _⟩ => ⟨S16x4096x1024, .f32⟩
  | .hbm, ⟨46, _⟩ => ⟨S16x4096x1024, .f32⟩
  | .hbm, ⟨47, _⟩ => ⟨S16x4096x1024, .f32⟩
  | .hbm, ⟨48, _⟩ => ⟨S16x4096x1024, .f32⟩
  | .hbm, ⟨49, _⟩ => ⟨S16x4096x5632, .f32⟩
  | .hbm, ⟨50, _⟩ => ⟨S16x4096x2816, .f32⟩
  | .hbm, ⟨51, _⟩ => ⟨S16x4096x2816, .f32⟩
  | .hbm, ⟨52, _⟩ => ⟨S_, .i32⟩
  | .hbm, ⟨53, _⟩ => ⟨S_, .f32⟩
  | .hbm, ⟨54, _⟩ => ⟨S16x4098x2816, .f32⟩
  | .hbm, ⟨55, _⟩ => ⟨S1x2816, .f32⟩
  | .hbm, ⟨56, _⟩ => ⟨S2816, .f32⟩
  | .hbm, ⟨57, _⟩ => ⟨S16x4096x2816, .f32⟩
  | .hbm, ⟨58, _⟩ => ⟨S1x1x2816, .f32⟩
  | .hbm, ⟨59, _⟩ => ⟨S16x4096x2816, .f32⟩
  | .hbm, ⟨60, _⟩ => ⟨S16x4096x2816, .f32⟩
  | .hbm, ⟨61, _⟩ => ⟨S1x2816, .f32⟩
  | .hbm, ⟨62, _⟩ => ⟨S2816, .f32⟩
  | .hbm, ⟨63, _⟩ => ⟨S16x4096x2816, .f32⟩
  | .hbm, ⟨64, _⟩ => ⟨S1x1x2816, .f32⟩
  | .hbm, ⟨65, _⟩ => ⟨S16x4096x2816, .f32⟩
  | .hbm, ⟨66, _⟩ => ⟨S16x4096x2816, .f32⟩
  | .hbm, ⟨67, _⟩ => ⟨S16x4096x2816, .f32⟩
  | .hbm, ⟨68, _⟩ => ⟨S1x2816, .f32⟩
  | .hbm, ⟨69, _⟩ => ⟨S2816, .f32⟩
  | .hbm, ⟨70, _⟩ => ⟨S16x4096x2816, .f32⟩
  | .hbm, ⟨71, _⟩ => ⟨S1x1x2816, .f32⟩
  | .hbm, ⟨72, _⟩ => ⟨S16x4096x2816, .f32⟩
  | .hbm, ⟨73, _⟩ => ⟨S16x4096x2816, .f32⟩
  | .hbm, ⟨74, _⟩ => ⟨S16x4096x2816, .f32⟩
  | .hbm, ⟨75, _⟩ => ⟨S1x1x2816, .f32⟩
  | .hbm, ⟨76, _⟩ => ⟨S16x4096x2816, .f32⟩
  | .hbm, ⟨77, _⟩ => ⟨S16x4096x2816, .f32⟩
  | .hbm, ⟨78, _⟩ => ⟨S16x4096x2816, .f32⟩
  | .hbm, ⟨79, _⟩ => ⟨S16x4096x2816, .f32⟩
  | .hbm, ⟨80, _⟩ => ⟨S_, .f32⟩
  | .hbm, ⟨81, _⟩ => ⟨S16x4096x2816, .f32⟩
  | .hbm, ⟨82, _⟩ => ⟨S16x4096x2816, .f32⟩
  | .hbm, ⟨83, _⟩ => ⟨S_, .f32⟩
  | .hbm, ⟨84, _⟩ => ⟨S16x4096x2816, .f32⟩
  | .hbm, ⟨85, _⟩ => ⟨S16x4096x2816, .f32⟩
  | .hbm, ⟨86, _⟩ => ⟨S16x4096x2816, .f32⟩
  | .hbm, ⟨87, _⟩ => ⟨S16x4096x2816, .f32⟩
  | .hbm, ⟨88, _⟩ => ⟨S16x4096x1024, .f32⟩
  | .hbm, ⟨89, _⟩ => ⟨S16x4096x1024, .f32⟩
  | .hbm, ⟨90, _⟩ => ⟨S16x4096x1024, .f32⟩
  | .hbm, ⟨91, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c : Ref sig .tc := ⟨.hbm, 52, rfl⟩
abbrev main_call0_v0 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_call1_v0 : Ref sig .tc := ⟨.hbm, 78, rfl⟩
abbrev main_call1_v1 : Ref sig .tc := ⟨.hbm, 79, rfl⟩
abbrev main_call1_cst : Ref sig .tc := ⟨.hbm, 80, rfl⟩
abbrev main_call1_v2 : Ref sig .tc := ⟨.hbm, 81, rfl⟩
abbrev main_call1_v3 : Ref sig .tc := ⟨.hbm, 82, rfl⟩
abbrev main_call1_cst_0 : Ref sig .tc := ⟨.hbm, 83, rfl⟩
abbrev main_call1_v4 : Ref sig .tc := ⟨.hbm, 84, rfl⟩
abbrev main_call1_v5 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩

abbrev nD : Nat := 1
abbrev τ : Topo := Topo.v7x

variable {F : FTy → Type} [FloatOps F]
-- ==== Conv.lean ====
abbrev S16x4096x1024 : Shape := ⟨3, ![16, 4096, 1024]⟩
abbrev S16x6144 : Shape := ⟨2, ![16, 6144]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S16x6x1024 : Shape := ⟨3, ![16, 6, 1024]⟩
abbrev S1x1024 : Shape := ⟨2, ![1, 1024]⟩
abbrev S1x512x1024 : Shape := ⟨3, ![1, 512, 1024]⟩
abbrev S1x8x1024 : Shape := ⟨3, ![1, 8, 1024]⟩
abbrev S1x6x1024 : Shape := ⟨3, ![1, 6, 1024]⟩
abbrev S528x1024 : Shape := ⟨2, ![528, 1024]⟩
abbrev S512x1024 : Shape := ⟨2, ![512, 1024]⟩
abbrev S1x1x1024 : Shape := ⟨3, ![1, 1, 1024]⟩
abbrev S8x1024 : Shape := ⟨2, ![8, 1024]⟩
abbrev S528 : Shape := ⟨1, ![528]⟩
abbrev S528x1 : Shape := ⟨2, ![528, 1]⟩

abbrev nBuf : Space → Nat
  | .hbm => 11
  | .vmem => 15
  | .smem => 0
  | _ => 0

abbrev bufTy : (tb : Table) → Fin (tcTables nBuf tb) → BufTy
  | .hbm, ⟨0, _⟩ => ⟨S16x4096x1024, .f32⟩
  | .hbm, ⟨1, _⟩ => ⟨S16x6144, .f32⟩
  | .hbm, ⟨2, _⟩ => ⟨S1024, .f32⟩
  | .hbm, ⟨3, _⟩ => ⟨S1024x3072, .f32⟩
  | .hbm, ⟨4, _⟩ => ⟨S3x1024, .f32⟩
  | .hbm, ⟨5, _⟩ => ⟨S1024x1024, .f32⟩
  | .hbm, ⟨6, _⟩ => ⟨S16x6x1024, .f32⟩
  | .hbm, ⟨7, _⟩ => ⟨S1x1024, .f32⟩
  | .hbm, ⟨8, _⟩ => ⟨S1024x3072, .bf16⟩
  | .hbm, ⟨9, _⟩ => ⟨S1024x1024, .bf16⟩
  | .hbm, ⟨10, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x3072, .bf16⟩
  | .local _ .vmem, ⟨10, _⟩ => ⟨S3x1024, .f32⟩
  | .local _ .vmem, ⟨11, _⟩ => ⟨S1024x1024, .bf16⟩
  | .local _ .vmem, ⟨12, _⟩ => ⟨S1x512x1024, .f32⟩
  | .local _ .vmem, ⟨13, _⟩ => ⟨S1x512x1024, .f32⟩
  | .local _ .vmem, ⟨14, _⟩ => ⟨S528x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ConvRefIdeal.lean ====
abbrev S16x4096x1024 : Shape := ⟨3, ![16, 4096, 1024]⟩
abbrev S16x6144 : Shape := ⟨2, ![16, 6144]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S16x1024 : Shape := ⟨2, ![16, 1024]⟩
abbrev S16x1x1024 : Shape := ⟨3, ![16, 1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x3072 : Shape := ⟨3, ![16, 4096, 3072]⟩
abbrev S16x4098x1024 : Shape := ⟨3, ![16, 4098, 1024]⟩
abbrev S1x1024 : Shape := ⟨2, ![1, 1024]⟩

abbrev nBuf : Space → Nat
  | .hbm => 74
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x6144, .f32⟩
  | .hbm, ⟨2, _⟩ => ⟨S1024, .f32⟩
  | .hbm, ⟨3, _⟩ => ⟨S1024x3072, .f32⟩
  | .hbm, ⟨4, _⟩ => ⟨S3x1024, .f32⟩
  | .hbm, ⟨5, _⟩ => ⟨S1024x1024, .f32⟩
  | .hbm, ⟨6, _⟩ => ⟨S16x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S16x1x1024, .f32⟩
  | .hbm, ⟨16, _⟩ => ⟨S16x1x1024, .f32⟩
  | .hbm, ⟨17, _⟩ => ⟨S16x1x1024, .f32⟩
  | .hbm, ⟨18, _⟩ => ⟨S16x4096x1024, .f32⟩
  | .hbm, ⟨19, _⟩ => ⟨S_, .f32⟩
  | .hbm, ⟨20, _⟩ => ⟨S16x4096, .f32⟩
  | .hbm, ⟨21, _⟩ => ⟨S16x4096x1, .f32⟩
  | .hbm, ⟨22, _⟩ => ⟨S_, .f32⟩
  | .hbm, ⟨23, _⟩ => ⟨S16x4096x1, .f32⟩
  | .hbm, ⟨24, _⟩ => ⟨S16x4096x1, .f32⟩
  | .hbm, ⟨25, _⟩ => ⟨S_, .f32⟩
  | .hbm, ⟨26, _⟩ => ⟨S16x4096x1, .f32⟩
  | .hbm, ⟨27, _⟩ => ⟨S16x4096x1, .f32⟩
  | .hbm, ⟨28, _⟩ => ⟨S16x4096x1, .f32⟩
  | .hbm, ⟨29, _⟩ => ⟨S16x4096x1024, .f32⟩
  | .hbm, ⟨30, _⟩ => ⟨S16x4096x1024, .f32⟩
  | .hbm, ⟨31, _⟩ => ⟨S1x1x1024, .f32⟩
  | .hbm, ⟨32, _⟩ => ⟨S16x4096x1024, .f32⟩
  | .hbm, ⟨33, _⟩ => ⟨S16x4096x1024, .f32⟩
  | .hbm, ⟨34, _⟩ => ⟨S_, .f32⟩
  | .hbm, ⟨35, _⟩ => ⟨S16x1x1024, .f32⟩
  | .hbm, ⟨36, _⟩ => ⟨S16x1x1024, .f32⟩
  | .hbm, ⟨37, _⟩ => ⟨S16x4096x1024, .f32⟩
  | .hbm, ⟨38, _⟩ => ⟨S16x4096x1024, .f32⟩
  | .hbm, ⟨39, _⟩ => ⟨S16x4096x1024, .f32⟩
  | .hbm, ⟨40, _⟩ => ⟨S16x4096x1024, .f32⟩
  | .hbm, ⟨41, _⟩ => ⟨S16x4096x3072, .f32⟩
  | .hbm, ⟨42, _⟩ => ⟨S16x4096x1024, .f32⟩
  | .hbm, ⟨43, _⟩ => ⟨S16x4096x1024, .f32⟩
  | .hbm, ⟨44, _⟩ => ⟨S16x4096x1024, .f32⟩
  | .hbm, ⟨45, _⟩ => ⟨S16x4096x1024, .f32⟩
  | .hbm, ⟨46, _⟩ => ⟨S_, .i32⟩
  | .hbm, ⟨47, _⟩ => ⟨S_, .f32⟩
  | .hbm, ⟨48, _⟩ => ⟨S16x4098x1024, .f32⟩
  | .hbm, ⟨49, _⟩ => ⟨S1x1024, .f32⟩
  | .hbm, ⟨50, _⟩ => ⟨S1024, .f32⟩
  | .hbm, ⟨51, _⟩ => ⟨S16x4096x1024, .f32⟩
  | .hbm, ⟨52, _⟩ => ⟨S1x1x1024, .f32⟩
  | .hbm, ⟨53, _⟩ => ⟨S16x4096x1024, .f32⟩
  | .hbm, ⟨54, _⟩ => ⟨S16x4096x1024, .f32⟩
  | .hbm, ⟨55, _⟩ => ⟨S1x1024, .f32⟩
  | .hbm, ⟨56, _⟩ => ⟨S1024, .f32⟩
  | .hbm, ⟨57, _⟩ => ⟨S16x4096x1024, .f32⟩
  | .hbm, ⟨58, _⟩ => ⟨S1x1x1024, .f32⟩
  | .hbm, ⟨59, _⟩ => ⟨S16x4096x1024, .f32⟩
  | .hbm, ⟨60, _⟩ => ⟨S16x4096x1024, .f32⟩
  | .hbm, ⟨61, _⟩ => ⟨S16x4096x1024, .f32⟩
  | .hbm, ⟨62, _⟩ => ⟨S1x1024, .f32⟩
  | .hbm, ⟨63, _⟩ => ⟨S1024, .f32⟩
  | .hbm, ⟨64, _⟩ => ⟨S16x4096x1024, .f32⟩
  | .hbm, ⟨65, _⟩ => ⟨S1x1x1024, .f32⟩
  | .hbm, ⟨66, _⟩ => ⟨S16x4096x1024, .f32⟩
  | .hbm, ⟨67, _⟩ => ⟨S16x4096x1024, .f32⟩
  | .hbm, ⟨68, _⟩ => ⟨S16x4096x1024, .f32⟩
  | .hbm, ⟨69, _⟩ => ⟨S16x4096x1024, .f32⟩
  | .hbm, ⟨70, _⟩ => ⟨S16x4096x1024, .f32⟩
  | .hbm, ⟨71, _⟩ => ⟨S16x4096x1024, .f32⟩
  | .hbm, ⟨72, _⟩ => ⟨S16x4096x1024, .f32⟩
  | .hbm, ⟨73, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c : Ref sig .tc := ⟨.hbm, 46, rfl⟩
abbrev main_call0_v0 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩

abbrev nD : Nat := 1
abbrev τ : Topo := Topo.v7x

variable {F : FTy → Type} [FloatOps F]
-- ==== Ada.lean ====
abbrev S16x1024 : Shape := ⟨2, ![16, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S24x1024 : Shape := ⟨2, ![24, 1024]⟩
abbrev S1 : Shape := ⟨1, ![1]⟩
abbrev S1x6144 : Shape := ⟨2, ![1, 6144]⟩
abbrev S24x6144 : Shape := ⟨2, ![24, 6144]⟩
abbrev S1024x1536 : Shape := ⟨2, ![1024, 1536]⟩
abbrev S1x1536 : Shape := ⟨2, ![1, 1536]⟩
abbrev S24x1536 : Shape := ⟨2, ![24, 1536]⟩

abbrev nBuf : Space → Nat
  | .hbm => 14
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S_, .f32⟩
  | .hbm, ⟨5, _⟩ => ⟨S24x1024, .f32⟩
  | .hbm, ⟨6, _⟩ => ⟨S_, .i32⟩
  | .hbm, ⟨7, _⟩ => ⟨S1, .i32⟩
  | .hbm, ⟨8, _⟩ => ⟨S24x1024, .f32⟩
  | .hbm, ⟨9, _⟩ => ⟨S_, .i32⟩
  | .hbm, ⟨10, _⟩ => ⟨S1, .i32⟩
  | .hbm, ⟨11, _⟩ => ⟨S24x1024, .f32⟩
  | .hbm, ⟨12, _⟩ => ⟨S1x6144, .f32⟩
  | .hbm, ⟨13, _⟩ => ⟨S24x6144, .f32⟩
  | .local _ .vmem, ⟨0, _⟩ => ⟨S24x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S24x1536, .f32⟩
  | .local _ .vmem, ⟨6, _⟩ => ⟨S24x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S16x1024 : Shape := ⟨2, ![16, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S_ : Shape := ⟨0, ![]⟩
abbrev S7x1024 : Shape := ⟨2, ![7, 1024]⟩
abbrev S24x1024 : Shape := ⟨2, ![24, 1024]⟩
abbrev S24x6144 : Shape := ⟨2, ![24, 6144]⟩
abbrev S1x6144 : Shape := ⟨2, ![1, 6144]⟩

abbrev nBuf : Space → Nat
  | .hbm => 21
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S24x1024, .f32⟩
  | .hbm, ⟨8, _⟩ => ⟨S24x1024, .f32⟩
  | .hbm, ⟨9, _⟩ => ⟨S24x1024, .f32⟩
  | .hbm, ⟨10, _⟩ => ⟨S_, .f32⟩
  | .hbm, ⟨11, _⟩ => ⟨S24x1024, .f32⟩
  | .hbm, ⟨12, _⟩ => ⟨S24x1024, .f32⟩
  | .hbm, ⟨13, _⟩ => ⟨S_, .f32⟩
  | .hbm, ⟨14, _⟩ => ⟨S24x1024, .f32⟩
  | .hbm, ⟨15, _⟩ => ⟨S24x1024, .f32⟩
  | .hbm, ⟨16, _⟩ => ⟨S24x1024, .f32⟩
  | .hbm, ⟨17, _⟩ => ⟨S24x6144, .f32⟩
  | .hbm, ⟨18, _⟩ => ⟨S1x6144, .f32⟩
  | .hbm, ⟨19, _⟩ => ⟨S24x6144, .f32⟩
  | .hbm, ⟨20, _⟩ => ⟨S24x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Qkv.lean ====
abbrev S16x4096x1024 : Shape := ⟨3, ![16, 4096, 1024]⟩
abbrev S16x6144 : Shape := ⟨2, ![16, 6144]⟩
abbrev S1024 : Shape := ⟨1, ![1024]⟩
abbrev S1024x3072 : Shape := ⟨2, ![1024, 3072]⟩
abbrev S64 : Shape := ⟨1, ![64]⟩
abbrev S4096x2x16 : Shape := ⟨3, ![4096, 2, 16]⟩
abbrev S16x6x1024 : Shape := ⟨3, ![16, 6, 1024]⟩
abbrev S1x64 : Shape := ⟨2, ![1, 64]⟩
abbrev S16x64 : Shape := ⟨2, ![16, 64]⟩
abbrev S2048 : Shape := ⟨1, ![2048]⟩
abbrev S1x2048 : Shape := ⟨2, ![1, 2048]⟩
abbrev S1x1024 : Shape := ⟨2, ![1, 1024]⟩
abbrev S4096x1x16 : Shape := ⟨3, ![4096, 1, 16]⟩
abbrev S4096x16 : Shape := ⟨2, ![4096, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S16x1024x4096 : Shape := ⟨3, ![16, 1024, 4096]⟩
abbrev S1x512x1024 : Shape := ⟨3, ![1, 512, 1024]⟩
abbrev S1x6x1024 : Shape := ⟨3, ![1, 6, 1024]⟩
abbrev S512x128 : Shape := ⟨2, ![512, 128]⟩
abbrev S1x1024x512 : Shape := ⟨3, ![1, 1024, 512]⟩
abbrev S1x1x1024 : Shape := ⟨3, ![1, 1, 1024]⟩
abbrev S1x128 : Shape := ⟨2, ![1, 128]⟩
abbrev S1x128x1024 : Shape := ⟨3, ![1, 128, 1024]⟩
abbrev S128x1024 : Shape := ⟨2, ![128, 1024]⟩
abbrev S128 : Shape := ⟨1, ![128]⟩
abbrev S128x1 : Shape := ⟨2, ![128, 1]⟩
abbrev S128x3072 : Shape := ⟨2, ![128, 3072]⟩
abbrev S128x128 : Shape := ⟨2, ![128, 128]⟩
abbrev S128x256 : Shape := ⟨2, ![128, 256]⟩
abbrev S1x128x128 : Shape := ⟨3, ![1, 128, 128]⟩

abbrev nBuf : Space → Nat
  | .hbm => 73
  | .vmem => 18
  | .smem => 0
  | _ => 0

abbrev bufTy : (tb : Table) → Fin (tcTables nBuf tb) → BufTy
  | .hbm, ⟨0, _⟩ => ⟨S16x4096x1024, .f32⟩
  | .hbm, ⟨1, _⟩ => ⟨S16x6144, .f32⟩
  | .hbm, ⟨2, _⟩ => ⟨S1024, .f32⟩
  | .hbm, ⟨3, _⟩ => ⟨S1024x3072, .f32⟩
  | .hbm, ⟨4, _⟩ => ⟨S64, .f32⟩
  | .hbm, ⟨5, _⟩ => ⟨S64, .f32⟩
  | .hbm, ⟨6, _⟩ => ⟨S4096x2x16, .f32⟩
  | .hbm, ⟨7, _⟩ => ⟨S4096x2x16, .f32⟩
  | .hbm, ⟨8, _⟩ => ⟨S16x6x1024, .f32⟩
  | .hbm, ⟨9, _⟩ => ⟨S1x64, .f32⟩
  | .hbm, ⟨10, _⟩ => ⟨S16x64, .f32⟩
  | .hbm, ⟨11, _⟩ => ⟨S1024, .f32⟩
  | .hbm, ⟨12, _⟩ => ⟨S1x64, .f32⟩
  | .hbm, ⟨13, _⟩ => ⟨S16x64, .f32⟩
  | .hbm, ⟨14, _⟩ => ⟨S1024, .f32⟩
  | .hbm, ⟨15, _⟩ => ⟨S2048, .f32⟩
  | .hbm, ⟨16, _⟩ => ⟨S1x2048, .f32⟩
  | .hbm, ⟨17, _⟩ => ⟨S1x1024, .f32⟩
  | .hbm, ⟨18, _⟩ => ⟨S1024x3072, .bf16⟩
  | .hbm, ⟨19, _⟩ => ⟨S4096x1x16, .f32⟩
  | .hbm, ⟨20, _⟩ => ⟨S4096x16, .f32⟩
  | .hbm, ⟨21, _⟩ => ⟨S4096x1x16, .f32⟩
  | .hbm, ⟨22, _⟩ => ⟨S4096x16, .f32⟩
  | .hbm, ⟨23, _⟩ => ⟨S4096x1x16, .f32⟩
  | .hbm, ⟨24, _⟩ => ⟨S4096x16, .f32⟩
  | .hbm, ⟨25, _⟩ => ⟨S4096x1x16, .f32⟩
  | .hbm, ⟨26, _⟩ => ⟨S4096x16, .f32⟩
  | .hbm, ⟨27, _⟩ => ⟨S4096x64, .f32⟩
  | .hbm, ⟨28, _⟩ => ⟨S4096x1x16, .f32⟩
  | .hbm, ⟨29, _⟩ => ⟨S4096x16, .f32⟩
  | .hbm, ⟨30, _⟩ => ⟨S4096x16, .f32⟩
  | .hbm, ⟨31, _⟩ => ⟨S4096x1x16, .f32⟩
  | .hbm, ⟨32, _⟩ => ⟨S4096x16, .f32⟩
  | .hbm, ⟨33, _⟩ => ⟨S4096x1x16, .f32⟩
  | .hbm, ⟨34, _⟩ => ⟨S4096x16, .f32⟩
  | .hbm, ⟨35, _⟩ => ⟨S4096x16, .f32⟩
  | .hbm, ⟨36, _⟩ => ⟨S4096x1x16, .f32⟩
  | .hbm, ⟨37, _⟩ => ⟨S4096x16, .f32⟩
  | .hbm, ⟨38, _⟩ => ⟨S4096x64, .f32⟩
  | .hbm, ⟨39, _⟩ => ⟨S1x4096x1x64, .f32⟩
  | .hbm, ⟨40, _⟩ => ⟨S1x4096x2x64, .f32⟩
  | .hbm, ⟨41, _⟩ => ⟨S4096x128, .f32⟩
  | .hbm, ⟨42, _⟩ => ⟨S1x4096x1x64, .f32⟩
  | .hbm, ⟨43, _⟩ => ⟨S1x4096x2x64, .f32⟩
  | .hbm, ⟨44, _⟩ => ⟨S4096x128, .f32⟩
  | .hbm, ⟨45, _⟩ => ⟨S256, .i32⟩
  | .hbm, ⟨46, _⟩ => ⟨S_, .i32⟩
  | .hbm, ⟨47, _⟩ => ⟨S_, .i32⟩
  | .hbm, ⟨48, _⟩ => ⟨S256, .i32⟩
  | .hbm, ⟨49, _⟩ => ⟨S256, .i32⟩
  | .hbm, ⟨50, _⟩ => ⟨S256, .i32⟩
  | .hbm, ⟨51, _⟩ => ⟨S_, .i32⟩
  | .hbm, ⟨52, _⟩ => ⟨S256, .i32⟩
  | .hbm, ⟨53, _⟩ => ⟨S256, .i1⟩
  | .hbm, ⟨54, _⟩ => ⟨S256, .i32⟩
  | .hbm, ⟨55, _⟩ => ⟨S256, .i32⟩
  | .hbm, ⟨56, _⟩ => ⟨S_, .i32⟩
  | .hbm, ⟨57, _⟩ => ⟨S256, .i32⟩
  | .hbm, ⟨58, _⟩ => ⟨S256, .i1⟩
  | .hbm, ⟨59, _⟩ => ⟨S256, .i1⟩
  | .hbm, ⟨60, _⟩ => ⟨S_, .i32⟩
  | .hbm, ⟨61, _⟩ => ⟨S256, .i32⟩
  | .hbm, ⟨62, _⟩ => ⟨S256, .i32⟩
  | .hbm, ⟨63, _⟩ => ⟨S256, .i32⟩
  | .hbm, ⟨64, _⟩ => ⟨S256x1, .i32⟩
  | .hbm, ⟨65, _⟩ => ⟨S1x256, .i32⟩
  | .hbm, ⟨66, _⟩ => ⟨S256x256, .i32⟩
  | .hbm, ⟨67, _⟩ => ⟨S256x256, .i32⟩
  | .hbm, ⟨68, _⟩ => ⟨S256x256, .i1⟩
  | .hbm, ⟨69, _⟩ => ⟨S256x256, .bf16⟩
  | .hbm, ⟨70, _⟩ => ⟨S16x4096x1024, .bf16⟩
  | .hbm, ⟨71, _⟩ => ⟨S16x1024x4096, .bf16⟩
  | .hbm, ⟨72, _⟩ => ⟨S16x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3072, .bf16⟩
  | .local _ .vmem, ⟨6, _⟩ => ⟨S256x256, .bf16⟩
  | .local _ .vmem, ⟨7, _⟩ => ⟨S1x2048, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x512x1024, .bf16⟩
  | .local _ .vmem, ⟨13, _⟩ => ⟨S1x512x1024, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x512x1024, .bf16⟩
  | .local _ .vmem, ⟨17, _⟩ => ⟨S1x512x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_c : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_c : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_c_0 : Ref sig .tc := ⟨.hbm, 60, rfl⟩
abbrev main_call0_v12 : Ref sig .tc := ⟨.hbm, 61, rfl⟩
abbrev main_call0_v13 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45_0 : Ref sig .tc := ⟨.hbm, 70, rfl⟩
abbrev main_v45_1 : Ref sig .tc := ⟨.hbm, 71, rfl⟩
abbrev main_v45_2 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== QkvRefIdeal.lean ====
abbrev S16x4096x1024 : Shape := ⟨3, ![16, 4096, 1024]⟩
abbrev S16x6144 : Shape := ⟨2, ![16, 6144]⟩
abbrev S1024 : Shape := ⟨1, ![1024]⟩
abbrev S1024x3072 : Shape := ⟨2, ![1024, 3072]⟩
abbrev S64 : Shape := ⟨1, ![64]⟩
abbrev S4096x2x16 : Shape := ⟨3, ![4096, 2, 16]⟩
abbrev S16x1024 : Shape := ⟨2, ![16, 1024]⟩
abbrev S16x1x1024 : Shape := ⟨3, ![16, 1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x3072 : Shape := ⟨3, ![16, 4096, 3072]⟩
abbrev S16x4096x16x64 : Shape := ⟨4, ![16, 4096, 16, 64]⟩
abbrev S16x4096x16 : Shape := ⟨3, ![16, 4096, 16]⟩
abbrev S16x4096x16x1 : Shape := ⟨4, ![16, 4096, 16, 1]⟩
abbrev S1x1x1x64 : Shape := ⟨4, ![1, 1, 1, 64]⟩
abbrev S4096x1x2x16 : Shape := ⟨4, ![4096, 1, 2, 16]⟩
abbrev S16x4096x16x2x2x16 : Shape := ⟨6, ![16, 4096, 16, 2, 2, 16]⟩
abbrev S16x4096x16x2x1x16 : Shape := ⟨6, ![16, 4096, 16, 2, 1, 16]⟩
abbrev S16x4096x16x2x16 : Shape := ⟨5, ![16, 4096, 16, 2, 16]⟩
abbrev S1x4096x1x2x16 : Shape := ⟨5, ![1, 4096, 1, 2, 16]⟩
abbrev S16x1024x4096 : Shape := ⟨3, ![16, 1024, 4096]⟩

abbrev nBuf : Space → Nat
  | .hbm => 137
  | .vmem => 0
  | .smem => 0
  | _ => 0

abbrev hbmTy0_0 (i : Nat) : BufTy := match i % 128 with
  | 0 => ⟨S16x4096x1024, .f32⟩
  | 1 => ⟨S16x6144, .f32⟩
  | 2 => ⟨S1024, .f32⟩
  | 3 => ⟨S1024x3072, .f32⟩
  | 4 => ⟨S64, .f32⟩
  | 5 => ⟨S64, .f32⟩
  | 6 => ⟨S4096x2x16, .f32⟩
  | 7 => ⟨S4096x2x16, .f32⟩
  | 8 => ⟨S16x1024, .f32⟩
  | 9 => ⟨S16x1024, .f32⟩
  | 10 => ⟨S16x1024, .f32⟩
  | 11 => ⟨S16x1024, .f32⟩
  | 12 => ⟨S16x1024, .f32⟩
  | 13 => ⟨S16x1024, .f32⟩
  | 14 => ⟨S16x1x1024, .f32⟩
  | 15 => ⟨S16x1x1024, .f32⟩
  | 16 => ⟨S16x1x1024, .f32⟩
  | 17 => ⟨S16x1x1024, .f32⟩
  | 18 => ⟨S16x1x1024, .f32⟩
  | 19 => ⟨S16x1x1024, .f32⟩
  | 20 => ⟨S16x4096x1024, .f32⟩
  | 21 => ⟨S_, .f32⟩
  | 22 => ⟨S16x4096, .f32⟩
  | 23 => ⟨S16x4096x1, .f32⟩
  | 24 => ⟨S_, .f32⟩
  | 25 => ⟨S16x4096x1, .f32⟩
  | 26 => ⟨S16x4096x1, .f32⟩
  | 27 => ⟨S_, .f32⟩
  | 28 => ⟨S16x4096x1, .f32⟩
  | 29 => ⟨S16x4096x1, .f32⟩
  | 30 => ⟨S16x4096x1, .f32⟩
  | 31 => ⟨S16x4096x1024, .f32⟩
  | 32 => ⟨S16x4096x1024, .f32⟩
  | 33 => ⟨S1x1x1024, .f32⟩
  | 34 => ⟨S16x4096x1024, .f32⟩
  | 35 => ⟨S16x4096x1024, .f32⟩
  | 36 => ⟨S_, .f32⟩
  | 37 => ⟨S16x1x1024, .f32⟩
  | 38 => ⟨S16x1x1024, .f32⟩
  | 39 => ⟨S16x4096x1024, .f32⟩
  | 40 => ⟨S16x4096x1024, .f32⟩
  | 41 => ⟨S16x4096x1024, .f32⟩
  | 42 => ⟨S16x4096x1024, .f32⟩
  | 43 => ⟨S16x4096x3072, .f32⟩
  | 44 => ⟨S16x4096x1024, .f32⟩
  | 45 => ⟨S16x4096x1024, .f32⟩
  | 46 => ⟨S16x4096x1024, .f32⟩
  | 47 => ⟨S16x4096x16x64, .f32⟩
  | 48 => ⟨S16x4096x16x64, .f32⟩
  | 49 => ⟨S_, .f32⟩
  | 50 => ⟨S16x4096x16, .f32⟩
  | 51 => ⟨S16x4096x16x1, .f32⟩
  | 52 => ⟨S_, .f32⟩
  | 53 => ⟨S16x4096x16x1, .f32⟩
  | 54 => ⟨S16x4096x16x1, .f32⟩
  | 55 => ⟨S_, .f32⟩
  | 56 => ⟨S16x4096x16x1, .f32⟩
  | 57 => ⟨S16x4096x16x1, .f32⟩
  | 58 => ⟨S16x4096x16x1, .f32⟩
  | 59 => ⟨S16x4096x16x64, .f32⟩
  | 60 => ⟨S16x4096x16x64, .f32⟩
  | 61 => ⟨S1x1x1x64, .f32⟩
  | 62 => ⟨S16x4096x16x64, .f32⟩
  | 63 => ⟨S16x4096x16x64, .f32⟩
  | 64 => ⟨S16x4096x16x64, .f32⟩
  | 65 => ⟨S16x4096x16x64, .f32⟩
  | 66 => ⟨S_, .f32⟩
  | 67 => ⟨S16x4096x16, .f32⟩
  | 68 => ⟨S16x4096x16x1, .f32⟩
  | 69 => ⟨S_, .f32⟩
  | 70 => ⟨S16x4096x16x1, .f32⟩
  | 71 => ⟨S16x4096x16x1, .f32⟩
  | 72 => ⟨S_, .f32⟩
  | 73 => ⟨S16x4096x16x1, .f32⟩
  | 74 => ⟨S16x4096x16x1, .f32⟩
  | 75 => ⟨S16x4096x16x1, .f32⟩
  | 76 => ⟨S16x4096x16x64, .f32⟩
  | 77 => ⟨S16x4096x16x64, .f32⟩
  | 78 => ⟨S1x1x1x64, .f32⟩
  | 79 => ⟨S16x4096x16x64, .f32⟩
  | 80 => ⟨S16x4096x16x64, .f32⟩
  | 81 => ⟨S4096x1x2x16, .f32⟩
  | 82 => ⟨S4096x1x2x16, .f32⟩
  | 83 => ⟨S16x4096x16x2x2x16, .f32⟩
  | 84 => ⟨S16x4096x16x2x1x16, .f32⟩
  | 85 => ⟨S16x4096x16x2x16, .f32⟩
  | 86 => ⟨S16x4096x16x2x1x16, .f32⟩
  | 87 => ⟨S16x4096x16x2x16, .f32⟩
  | 88 => ⟨S1x4096x1x2x16, .f32⟩
  | 89 => ⟨S16x4096x16x2x16, .f32⟩
  | 90 => ⟨S16x4096x16x2x16, .f32⟩
  | 91 => ⟨S1x4096x1x2x16, .f32⟩
  | 92 => ⟨S16x4096x16x2x16, .f32⟩
  | 93 => ⟨S16x4096x16x2x16, .f32⟩
  | 94 => ⟨S16x4096x16x2x16, .f32⟩
  | 95 => ⟨S1x4096x1x2x16, .f32⟩
  | 96 => ⟨S16x4096x16x2x16, .f32⟩
  | 97 => ⟨S16x4096x16x2x16, .f32⟩
  | 98 => ⟨S1x4096x1x2x16, .f32⟩
  | 99 => ⟨S16x4096x16x2x16, .f32⟩
  | 100 => ⟨S16x4096x16x2x16, .f32⟩
  | 101 => ⟨S16x4096x16x2x16, .f32⟩
  | 102 => ⟨S16x4096x16x2x1x16, .f32⟩
  | 103 => ⟨S16x4096x16x2x1x16, .f32⟩
  | 104 => ⟨S16x4096x16x2x2x16, .f32⟩
  | 105 => ⟨S16x4096x16x64, .f32⟩
  | 106 => ⟨S4096x1x2x16, .f32⟩
  | 107 => ⟨S4096x1x2x16, .f32⟩
  | 108 => ⟨S16x4096x16x2x2x16, .f32⟩
  | 109 => ⟨S16x4096x16x2x1x16, .f32⟩
  | 110 => ⟨S16x4096x16x2x16, .f32⟩
  | 111 => ⟨S16x4096x16x2x1x16, .f32⟩
  | 112 => ⟨S16x4096x16x2x16, .f32⟩
  | 113 => ⟨S1x4096x1x2x16, .f32⟩
  | 114 => ⟨S16x4096x16x2x16, .f32⟩
  | 115 => ⟨S16x4096x16x2x16, .f32⟩
  | 116 => ⟨S1x4096x1x2x16, .f32⟩
  | 117 => ⟨S16x4096x16x2x16, .f32⟩
  | 118 => ⟨S16x4096x16x2x16, .f32⟩
  | 119 => ⟨S16x4096x16x2x16, .f32⟩
  | 120 => ⟨S1x4096x1x2x16, .f32⟩
  | 121 => ⟨S16x4096x16x2x16, .f32⟩
  | 122 => ⟨S16x4096x16x2x16, .f32⟩
  | 123 => ⟨S1x4096x1x2x16, .f32⟩
  | 124 => ⟨S16x4096x16x2x16, .f32⟩
  | 125 => ⟨S16x4096x16x2x16, .f32⟩
  | 126 => ⟨S16x4096x16x2x16, .f32⟩
  | 127 => ⟨S16x4096x16x2x1x16, .f32⟩
  | _ => ⟨S16x4096x1024, .f32⟩

abbrev hbmTy0_1 (i : Nat) : BufTy := match i % 128 with
  | 0 => ⟨S16x4096x16x2x1x16, .f32⟩
  | 1 => ⟨S16x4096x16x2x2x16, .f32⟩
  | 2 => ⟨S16x4096x16x64, .f32⟩
  | 3 => ⟨S16x4096x1024, .f32⟩
  | 4 => ⟨S16x4096x1024, .bf16⟩
  | 5 => ⟨S16x4096x1024, .f32⟩
  | 6 => ⟨S16x1024x4096, .f32⟩
  | 7 => ⟨S16x1024x4096, .bf16⟩
  | 8 => ⟨S16x4096x1024, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_cst_8 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩

abbrev nD : Nat := 1
abbrev τ : Topo := Topo.v7x

variable {F : FTy → Type} [FloatOps F]
-- ==== Proof.DAMath.lean ====
module

public import Idealize.ShloMosaic.Lib.Pointwise
public import Mathlib.Analysis.SpecialFunctions.Pow.Real
public import Mathlib.Tactic.FieldSimp

@[expose] public section

noncomputable section

namespace DAMath

open Idealize.ShloMosaic

/-- A value of the extended reals that is a real number. -/
def IsR (x : EReal) : Prop := ∃ r : ℝ, x = (r : EReal)

theorem IsR.coe (r : ℝ) : IsR (r : EReal) := ⟨r, rfl⟩
theorem IsR.zero : IsR (0 : EReal) := ⟨0, rfl⟩
theorem IsR.one : IsR (1 : EReal) := ⟨1, rfl⟩

theorem IsR.add {x y : EReal} : IsR x → IsR y → IsR (x + y) := by
  rintro ⟨a, rfl⟩ ⟨b, rfl⟩; exact ⟨a + b, (EReal.coe_add a b).symm⟩

theorem IsR.sub {x y : EReal} : IsR x → IsR y → IsR (x - y) := by
  rintro ⟨a, rfl⟩ ⟨b, rfl⟩; exact ⟨a - b, (EReal.coe_sub a b).symm⟩

theorem IsR.mul {x y : EReal} : IsR x → IsR y → IsR (x * y) := by
  rintro ⟨a, rfl⟩ ⟨b, rfl⟩; exact ⟨a * b, (EReal.coe_mul a b).symm⟩

theorem IsR.max {x y : EReal} (hx : IsR x) (hy : IsR y) : IsR (max x y) := by
  rcases max_choice x y with h | h <;> rw [h] <;> assumption

theorem IsR.exp {x : EReal} : IsR x → IsR (Ideal.exp x) := by
  rintro ⟨a, rfl⟩; exact ⟨_, Ideal.exp_coe a⟩

theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem IsR.sum {ι : Type*} (s : Finset ι) (f : ι → EReal) (h : ∀ i, IsR (f i)) : IsR (∑ i ∈ s, f i) := by
  choose g hg using h
  exact ⟨∑ i ∈ s, g i, by rw [← coe_sum]; exact Finset.sum_congr rfl fun i _ => hg i⟩

/-- The running maximum, from below everything, of finitely many (at least one) reals is a real. -/
theorem IsR.fold_max {n : ℕ} (f : Fin (n + 1) → EReal) (h : ∀ i, IsR (f i)) : IsR (Finset.univ.fold Max.max ⊥ f) := by
  classical
  have key : ∀ s : Finset (Fin (n + 1)), s.Nonempty → IsR (s.fold Max.max ⊥ f) := by
    intro s hs
    induction hs using Finset.Nonempty.cons_induction with
    | singleton a => simpa using h a
    | cons a s ha hs ih => rw [Finset.fold_cons]; exact (h a).max ih
  exact key _ Finset.univ_nonempty

theorem div_real (x y : ℝ) (h : y ≠ 0) : Ideal.div (x : EReal) (y : EReal) = ((x / y : ℝ) : EReal) := by
  rw [Ideal.div_coe h, ← EReal.coe_mul]; congr 1; ring

theorem exp2_sub (s m : ℝ) : Ideal.exp2 ((s : EReal) - (m : EReal)) = (((2 : ℝ) ^ (s - m) : ℝ) : EReal) := by
  rw [← EReal.coe_sub, Ideal.exp2_coe]; rfl

theorem exp_sub (s m : ℝ) : Ideal.exp ((s : EReal) - (m : EReal)) = ((Real.exp (s - m) : ℝ) : EReal) := by
  rw [← EReal.coe_sub, Ideal.exp_coe]

/-- The softmax weight of entry `j` of the real scores `r`. -/
def wt {n : ℕ} (r : Fin n → ℝ) (j : Fin n) : ℝ := Real.exp (r j) / ∑ i, Real.exp (r i)

theorem sum_exp_pos {n : ℕ} (r : Fin (n + 1) → ℝ) : 0 < ∑ i, Real.exp (r i) :=
  Finset.sum_pos (fun i _ => Real.exp_pos _) Finset.univ_nonempty

/-- The quotient of the kernel: powers of two of the scores over `log 2` less any real, weighted and divided by their sum,
    are the softmax weights' sum. -/
theorem ratio2 {n : ℕ} (r v : Fin (n + 1) → ℝ) (m : ℝ) :
    Ideal.div (∑ j, Ideal.exp2 (((r j / Real.log 2 : ℝ) : EReal) - (m : EReal)) * (v j : EReal))
      (∑ j, Ideal.exp2 (((r j / Real.log 2 : ℝ) : EReal) - (m : EReal)) * 1)
      = ((∑ j, wt r j * v j : ℝ) : EReal) := by
  have hl : Real.log 2 ≠ 0 := (Real.log_pos (by norm_num)).ne'
  have hp : ∀ j, (2 : ℝ) ^ (r j / Real.log 2 - m) = Real.exp (r j) * (2 : ℝ) ^ (-m) := by
    intro j
    rw [sub_eq_add_neg, Real.rpow_add (by norm_num), Real.rpow_def_of_pos (by norm_num)]
    congr 2; field_simp
  have hc : (0 : ℝ) < (2 : ℝ) ^ (-m) := Real.rpow_pos_of_pos (by norm_num) _
  simp only [exp2_sub, mul_one, ← EReal.coe_mul, coe_sum, hp]
  have hd : ∑ j, Real.exp (r j) * (2 : ℝ) ^ (-m) = (∑ j, Real.exp (r j)) * (2 : ℝ) ^ (-m) := by rw [Finset.sum_mul]
  rw [div_real _ _ (by rw [hd]; exact (mul_pos (sum_exp_pos r) hc).ne'), hd]
  congr 1
  have : ∑ j, Real.exp (r j) * (2 : ℝ) ^ (-m) * v j = (∑ j, Real.exp (r j) * v j) * (2 : ℝ) ^ (-m) := by
    rw [Finset.sum_mul]; exact Finset.sum_congr rfl fun j _ => by ring
  rw [this, mul_div_mul_right _ _ hc.ne', Finset.sum_div]
  exact Finset.sum_congr rfl fun j _ => by rw [wt]; ring

/-- The reference's softmax entry is the weight. -/
theorem softmax {n : ℕ} (r : Fin (n + 1) → ℝ) (m : ℝ) (j : Fin (n + 1)) :
    Ideal.div (Ideal.exp ((r j : EReal) - (m : EReal))) (∑ i, Ideal.exp ((r i : EReal) - (m : EReal)))
      = ((wt r j : ℝ) : EReal) := by
  have hp : ∀ j, Real.exp (r j - m) = Real.exp (r j) * Real.exp (-m) := fun j => by
    rw [sub_eq_add_neg, Real.exp_add]
  simp only [exp_sub, coe_sum, hp, ← Finset.sum_mul]
  rw [div_real _ _ (mul_pos (sum_exp_pos r) (Real.exp_pos _)).ne', mul_div_mul_right _ _ (Real.exp_pos _).ne', wt]

/-- The difference of the two weighted sums is the weighted sum of the differences. -/
theorem diff_sum {n : ℕ} (w0 w1 v : Fin n → ℝ) (l : ℝ) :
    ((∑ j, w0 j * v j : ℝ) : EReal) - (l : EReal) * ((∑ j, w1 j * v j : ℝ) : EReal)
      = ∑ j, (((w0 j : ℝ) : EReal) - (l : EReal) * ((w1 j : ℝ) : EReal)) * (v j : EReal) := by
  simp only [← EReal.coe_mul, ← EReal.coe_sub, coe_sum]
  congr 1
  rw [Finset.mul_sum, ← Finset.sum_sub_distrib]
  exact Finset.sum_congr rfl fun j _ => by ring

/-- The scores: the kernel scales the query by `(1/8)/log 2` before the product, the reference scales the product by `1/8`. -/
theorem score {n : ℕ} (q k : Fin n → ℝ) (c : ℝ) :
    ∑ d, (q d : EReal) * ((c / Real.log 2 : ℝ) : EReal) * (k d : EReal)
      = ((((∑ d, q d * k d) * c) / Real.log 2 : ℝ) : EReal) := by
  simp only [← EReal.coe_mul, coe_sum]
  congr 1
  rw [Finset.sum_mul, Finset.sum_div]
  exact Finset.sum_congr rfl fun j _ => by ring

theorem log_two : Ideal.log ((2 : ℝ) : EReal) = ((Real.log 2 : ℝ) : EReal) := by
  show (if (2 : ℝ) ≤ 0 then (⊥ : EReal) else _) = _
  rw [if_neg (by norm_num)]

/-- A sum over 128 lanes of which the second 64 do not count. -/
theorem sum_lo (f : Fin 128 → EReal) (h : ∀ d : Fin 128, 64 ≤ d.val → f d = 0) :
    ∑ d, f d = ∑ d : Fin 64, f ⟨d.val, by omega⟩ := by
  rw [show (∑ d, f d) = ∑ d : Fin (64 + 64), f d from rfl, Fin.sum_univ_add]
  have e : (∑ i : Fin 64, f (Fin.natAdd 64 i)) = 0 := Finset.sum_eq_zero fun d _ => h _ (by simp)
  refine (congrArg (_ + ·) e).trans ((add_zero _).trans rfl)

/-- A sum over 128 lanes of which the first 64 do not count. -/
theorem sum_hi (f : Fin 128 → EReal) (h : ∀ d : Fin 128, d.val < 64 → f d = 0) :
    ∑ d, f d = ∑ d : Fin 64, f ⟨64 + d.val, by omega⟩ := by
  rw [show (∑ d, f d) = ∑ d : Fin (64 + 64), f d from rfl, Fin.sum_univ_add]
  have e : (∑ i : Fin 64, f (Fin.castAdd 64 i)) = 0 := Finset.sum_eq_zero fun d _ => h _ (by simp)
  refine (congrArg (· + _) e).trans ((zero_add _).trans rfl)

/-- A sum over the 4352 keys, in the nine chunks of the kernel. -/
theorem sum_chunks (f : Fin 4352 → EReal) :
    ∑ j, f j = (∑ n : Fin 512, f ⟨n.val, by omega⟩) + (∑ n : Fin 512, f ⟨512 + n.val, by omega⟩)
      + (∑ n : Fin 512, f ⟨1024 + n.val, by omega⟩) + (∑ n : Fin 512, f ⟨1536 + n.val, by omega⟩)
      + (∑ n : Fin 512, f ⟨2048 + n.val, by omega⟩) + (∑ n : Fin 512, f ⟨2560 + n.val, by omega⟩)
      + (∑ n : Fin 512, f ⟨3072 + n.val, by omega⟩) + (∑ n : Fin 512, f ⟨3584 + n.val, by omega⟩)
      + ∑ n : Fin 256, f ⟨4096 + n.val, by omega⟩ := by
  have e : (∑ j, f j) = ∑ j : Fin (512 + 512 + 512 + 512 + 512 + 512 + 512 + 512 + 256), f j := rfl
  rw [e]
  simp only [Fin.sum_univ_add]
  rfl

end DAMath

end
-- ==== Proof.DAPay.lean ====
module

public import proofs.«01_k».proof.Proof.Gen.DAIdeal.Skeleton
public import proofs.«01_k».proof.Proof.DAMath
public import Idealize.ShloMosaic.Lib.Pointwise

@[expose] public section

set_option maxRecDepth 16384

noncomputable section

/-! The payloads of the attention kernel's body, read at an index. -/

namespace Cert.DAIdeal.Hand

open Cert.DAIdeal Cert.DAIdeal.Gen Idealize.ShloMosaic Idealize.ShloMosaic.TcCoe Idealize.SL.Sem
open DAMath

/-- Lane `d` of 128 is in the first half. -/
theorem lane_lt (d : Fin 128) : IntOp.cmpi .slt (BitVec.ofNat 32 d.val) 64#32 = BitVec.ofBool (decide (d.val < 64)) := by
  revert d; decide

/-- The stacked query: rows below 1024 hold the first component's lanes, rows above the second's, the other lanes are zero. -/
theorem pay2_apply (x : Vec Ideal S1x1024x128 .bf16) (r : Fin 2048) (d : Fin 128) :
    k0_pay2 (F := Ideal) x (ix2 r d) = if h : r.val < 1024 then (if d.val < 64 then x (ix3 0 ⟨r.val, h⟩ d) else (0 : EReal))
      else (if d.val < 64 then (0 : EReal) else x (ix3 0 ⟨r.val - 1024, by omega⟩ d)) := by
  pointwise [k0_pay2]
  rw [lane_lt]
  by_cases h : d.val < 64 <;> simp [h, Scalar.select]

/-- A chunk of scores: each is the product of a stacked query row and a key column. -/
theorem pay4_apply (x : Vec Ideal S1x1024x128 .bf16) (k : Vec Ideal S1x128x512 .bf16) (r : Fin 2048) (n : Fin 512) :
    k0_pay4 (F := Ideal) x k (ix2 r n) = ∑ d : Fin 128, k0_pay2 (F := Ideal) x (ix2 r d) * k (ix3 0 d n) := by
  pointwise [k0_pay4, k0_pay3]

/-- A chunk of scores: each is the product of a stacked query row and a key column. -/
theorem pay6_apply (x : Vec Ideal S1x1024x128 .bf16) (k : Vec Ideal S1x128x512 .bf16) (r : Fin 2048) (n : Fin 512) :
    k0_pay6 (F := Ideal) x k (ix2 r n) = ∑ d : Fin 128, k0_pay2 (F := Ideal) x (ix2 r d) * k (ix3 0 d n) := by
  pointwise [k0_pay6]

/-- A chunk of scores: each is the product of a stacked query row and a key column. -/
theorem pay9_apply (q : FVec Ideal S2048x128 .bf16) (k : Vec Ideal S1x128x512 .bf16) (r : Fin 2048) (n : Fin 512) :
    k0_pay9 (F := Ideal) q k (ix2 r n) = ∑ d : Fin 128, q (ix2 r d) * k (ix3 0 d n) := by
  pointwise [k0_pay9, k0_pay8]

/-- A chunk of scores: each is the product of a stacked query row and a key column. -/
theorem pay11_apply (q : FVec Ideal S2048x128 .bf16) (k : Vec Ideal S1x128x512 .bf16) (r : Fin 2048) (n : Fin 512) :
    k0_pay11 (F := Ideal) q k (ix2 r n) = ∑ d : Fin 128, q (ix2 r d) * k (ix3 0 d n) := by
  pointwise [k0_pay11, k0_pay10]

/-- A chunk of scores: each is the product of a stacked query row and a key column. -/
theorem pay13_apply (q : FVec Ideal S2048x128 .bf16) (k : Vec Ideal S1x128x512 .bf16) (r : Fin 2048) (n : Fin 512) :
    k0_pay13 (F := Ideal) q k (ix2 r n) = ∑ d : Fin 128, q (ix2 r d) * k (ix3 0 d n) := by
  pointwise [k0_pay13]

/-- A chunk of scores: each is the product of a stacked query row and a key column. -/
theorem pay16_apply (q : FVec Ideal S2048x128 .bf16) (k : Vec Ideal S1x128x512 .bf16) (r : Fin 2048) (n : Fin 512) :
    k0_pay16 (F := Ideal) q k (ix2 r n) = ∑ d : Fin 128, q (ix2 r d) * k (ix3 0 d n) := by
  pointwise [k0_pay16, k0_pay15]

/-- A chunk of scores: each is the product of a stacked query row and a key column. -/
theorem pay18_apply (q : FVec Ideal S2048x128 .bf16) (k : Vec Ideal S1x128x512 .bf16) (r : Fin 2048) (n : Fin 512) :
    k0_pay18 (F := Ideal) q k (ix2 r n) = ∑ d : Fin 128, q (ix2 r d) * k (ix3 0 d n) := by
  pointwise [k0_pay18, k0_pay17]

/-- A chunk of scores: each is the product of a stacked query row and a key column. -/
theorem pay24_apply (q : FVec Ideal S2048x128 .bf16) (k : Vec Ideal S1x128x256 .bf16) (r : Fin 2048) (n : Fin 256) :
    k0_pay24 (F := Ideal) q k (ix2 r n) = ∑ d : Fin 128, q (ix2 r d) * k (ix3 0 d n) := by
  pointwise [k0_pay24, k0_pay23]

/-- Storing a chunk keeps it. -/
theorem pay7_apply (s : FVec Ideal S2048x512 .f32) (r : Fin 2048) (n : Fin 512) : k0_pay7 (F := Ideal) s (ix2 r n) = s (ix2 r n) := by
  pointwise [k0_pay7]

/-- Storing a chunk keeps it. -/
theorem pay14_apply (s : FVec Ideal S2048x512 .f32) (r : Fin 2048) (n : Fin 512) : k0_pay14 (F := Ideal) s (ix2 r n) = s (ix2 r n) := by
  pointwise [k0_pay14]

/-- The eighth chunk of scores. -/
theorem pay22_apply (q : FVec Ideal S2048x128 .bf16) (k : Vec Ideal S1x128x512 .bf16) (r : Fin 2048) (n : Fin 512) :
    k0_pay22 (F := Ideal) q (k0_pay20 (F := Ideal) k) (ix2 r n) = ∑ d : Fin 128, q (ix2 r d) * k (ix3 0 d n) := by
  pointwise [k0_pay22, k0_pay21, k0_pay20]

/-- A chunk of values with 128 lanes of ones beside it. -/
theorem pay27_apply (v : Vec Ideal S1x512x128 .bf16) (n : Fin 512) (e : Fin 256) :
    k0_pay27 (F := Ideal) v (ix2 n e) = if h : e.val < 128 then v (ix3 0 n ⟨e.val, h⟩) else (1 : EReal) := by
  pointwise [k0_pay27]

/-- A chunk of values with 128 lanes of ones beside it. -/
theorem pay29_apply (v : Vec Ideal S1x512x128 .bf16) (n : Fin 512) (e : Fin 256) :
    k0_pay29 (F := Ideal) v (ix2 n e) = if h : e.val < 128 then v (ix3 0 n ⟨e.val, h⟩) else (1 : EReal) := by
  pointwise [k0_pay29]

/-- A chunk of values with 128 lanes of ones beside it. -/
theorem pay31_apply (v : Vec Ideal S1x512x128 .bf16) (n : Fin 512) (e : Fin 256) :
    k0_pay31 (F := Ideal) v (ix2 n e) = if h : e.val < 128 then v (ix3 0 n ⟨e.val, h⟩) else (1 : EReal) := by
  pointwise [k0_pay31]

/-- A chunk of values with 128 lanes of ones beside it. -/
theorem pay33_apply (v : Vec Ideal S1x512x128 .bf16) (n : Fin 512) (e : Fin 256) :
    k0_pay33 (F := Ideal) v (ix2 n e) = if h : e.val < 128 then v (ix3 0 n ⟨e.val, h⟩) else (1 : EReal) := by
  pointwise [k0_pay33]

/-- A chunk of values with 128 lanes of ones beside it. -/
theorem pay35_apply (v : Vec Ideal S1x512x128 .bf16) (n : Fin 512) (e : Fin 256) :
    k0_pay35 (F := Ideal) v (ix2 n e) = if h : e.val < 128 then v (ix3 0 n ⟨e.val, h⟩) else (1 : EReal) := by
  pointwise [k0_pay35]

/-- A chunk of values with 128 lanes of ones beside it. -/
theorem pay37_apply (v : Vec Ideal S1x512x128 .bf16) (n : Fin 512) (e : Fin 256) :
    k0_pay37 (F := Ideal) v (ix2 n e) = if h : e.val < 128 then v (ix3 0 n ⟨e.val, h⟩) else (1 : EReal) := by
  pointwise [k0_pay37]

/-- A chunk of values with 128 lanes of ones beside it. -/
theorem pay39_apply (v : Vec Ideal S1x512x128 .bf16) (n : Fin 512) (e : Fin 256) :
    k0_pay39 (F := Ideal) v (ix2 n e) = if h : e.val < 128 then v (ix3 0 n ⟨e.val, h⟩) else (1 : EReal) := by
  pointwise [k0_pay39]

/-- A chunk of values with 128 lanes of ones beside it. -/
theorem pay41_apply (v : Vec Ideal S1x512x128 .bf16) (n : Fin 512) (e : Fin 256) :
    k0_pay41 (F := Ideal) v (ix2 n e) = if h : e.val < 128 then v (ix3 0 n ⟨e.val, h⟩) else (1 : EReal) := by
  pointwise [k0_pay41]

/-- A chunk of values with 128 lanes of ones beside it. -/
theorem pay43_apply (v : Vec Ideal S1x256x128 .bf16) (n : Fin 256) (e : Fin 256) :
    k0_pay43 (F := Ideal) v (ix2 n e) = if h : e.val < 128 then v (ix3 0 n ⟨e.val, h⟩) else (1 : EReal) := by
  pointwise [k0_pay43]

end Cert.DAIdeal.Hand

end
-- ==== Proof.DAAcc.lean ====
module

public import proofs.«01_k».proof.Proof.Gen.DAIdeal.Value
public import proofs.«01_k».proof.Proof.DAPay
public import Idealize.ShloMosaic.Lib.Pointwise
public import Idealize.ShloMosaic.Lib.Pipeline.ValueKit
public import Idealize.ShloMosaic.Lib.Pipeline.ReadBack

@[expose] public section

set_option maxRecDepth 16384

noncomputable section

/-! What one grid point of the attention kernel writes: the scores kept in scratch, the row maximum, the two accumulators,
    and the combined, normalised result. -/

namespace Cert.DAIdeal.Hand

open Cert.DAIdeal Cert.DAIdeal.Gen Idealize.ShloMosaic Idealize.ShloMosaic.TcCoe Idealize.SL.Sem
open Idealize.ShloMosaic.Pipeline (Dat)
open DAMath

/-- The rows of the first component of a chunk of scores. -/
def lo (s : FVec Ideal S2048x512 .f32) : FVec Ideal S1024x512 .f32 := fun j => s (ix2 ⟨(j 0).val, by have := (j 0).isLt; change _ < 1024 at this; omega⟩ (j 1))

theorem lo_apply (s : FVec Ideal S2048x512 .f32) (r : Fin 1024) (n : Fin 512) : lo s (ix2 r n) = s (ix2 ⟨r.val, by omega⟩ n) := rfl

/-- A load of the first component's rows of the chunk stored last reads them. -/
theorem scr_lo {c0 : ℕ} (h : ∀ a, (![0, c0] : Fin 2 → ℕ) a + (![2048, 512] : Fin 2 → ℕ) a ≤ S2048x4352.size a)
    (h' : ∀ a, (![0, c0] : Fin 2 → ℕ) a + (![1024, 512] : Fin 2 → ℕ) a ≤ S2048x4352.size a)
    (s : FVec Ideal S2048x512 .f32) (L : List (View.Piece (Elt Ideal) S2048x4352 .f32)) :
    (View.whole cc0_scratch0).readCov ((⟨Rect.unit (s := S2048x4352) ![0, c0] ![2048, 512] h, s⟩ : View.Piece (Elt Ideal) S2048x4352 .f32) :: L)
      (Rect.unit (s := S2048x4352) ![0, c0] ![1024, 512] h').toLoadRect = lo s := by
  rw [View.readCov_eq_canon']
  funext j
  have e : (Rect.unit (s := S2048x4352) ![0, c0] ![1024, 512] h').toLoadRect.idx j
      = (Rect.unit (s := S2048x4352) ![0, c0] ![2048, 512] h).emb
          (ix2 ⟨(j 0).val, by have := (j 0).isLt; change _ < 1024 at this; omega⟩ (j 1)) := by
    funext a
    match a with
    | ⟨0, _⟩ => apply Fin.ext; show 0 + 1 * (j 0).val = 0 + 1 * ((j 0).val); omega
    | ⟨1, _⟩ => apply Fin.ext; rfl
  rw [e, View.canon_cons_emb]
  rfl

/-- The rows of the first component of a chunk of scores. -/
def lo' (s : FVec Ideal S2048x256 .f32) : FVec Ideal S1024x256 .f32 := fun j => s (ix2 ⟨(j 0).val, by have := (j 0).isLt; change _ < 1024 at this; omega⟩ (j 1))

theorem lo'_apply (s : FVec Ideal S2048x256 .f32) (r : Fin 1024) (n : Fin 256) : lo' s (ix2 r n) = s (ix2 ⟨r.val, by omega⟩ n) := rfl

/-- A load of the first component's rows of the chunk stored last reads them. -/
theorem scr_lo' {c0 : ℕ} (h : ∀ a, (![0, c0] : Fin 2 → ℕ) a + (![2048, 256] : Fin 2 → ℕ) a ≤ S2048x4352.size a)
    (h' : ∀ a, (![0, c0] : Fin 2 → ℕ) a + (![1024, 256] : Fin 2 → ℕ) a ≤ S2048x4352.size a)
    (s : FVec Ideal S2048x256 .f32) (L : List (View.Piece (Elt Ideal) S2048x4352 .f32)) :
    (View.whole cc0_scratch0).readCov ((⟨Rect.unit (s := S2048x4352) ![0, c0] ![2048, 256] h, s⟩ : View.Piece (Elt Ideal) S2048x4352 .f32) :: L)
      (Rect.unit (s := S2048x4352) ![0, c0] ![1024, 256] h').toLoadRect = lo' s := by
  rw [View.readCov_eq_canon']
  funext j
  have e : (Rect.unit (s := S2048x4352) ![0, c0] ![1024, 256] h').toLoadRect.idx j
      = (Rect.unit (s := S2048x4352) ![0, c0] ![2048, 256] h).emb
          (ix2 ⟨(j 0).val, by have := (j 0).isLt; change _ < 1024 at this; omega⟩ (j 1)) := by
    funext a
    match a with
    | ⟨0, _⟩ => apply Fin.ext; show 0 + 1 * (j 0).val = 0 + 1 * ((j 0).val); omega
    | ⟨1, _⟩ => apply Fin.ext; rfl
  rw [e, View.canon_cons_emb]
  rfl

/-- The rows of the second component of a chunk of scores. -/
def hi (s : FVec Ideal S2048x512 .f32) : FVec Ideal S1024x512 .f32 := fun j => s (ix2 ⟨1024 + (j 0).val, by have := (j 0).isLt; change _ < 1024 at this; omega⟩ (j 1))

theorem hi_apply (s : FVec Ideal S2048x512 .f32) (r : Fin 1024) (n : Fin 512) : hi s (ix2 r n) = s (ix2 ⟨1024 + r.val, by omega⟩ n) := rfl

/-- A load of the second component's rows of the chunk stored last reads them. -/
theorem scr_hi {c0 : ℕ} (h : ∀ a, (![0, c0] : Fin 2 → ℕ) a + (![2048, 512] : Fin 2 → ℕ) a ≤ S2048x4352.size a)
    (h' : ∀ a, (![1024, c0] : Fin 2 → ℕ) a + (![1024, 512] : Fin 2 → ℕ) a ≤ S2048x4352.size a)
    (s : FVec Ideal S2048x512 .f32) (L : List (View.Piece (Elt Ideal) S2048x4352 .f32)) :
    (View.whole cc0_scratch0).readCov ((⟨Rect.unit (s := S2048x4352) ![0, c0] ![2048, 512] h, s⟩ : View.Piece (Elt Ideal) S2048x4352 .f32) :: L)
      (Rect.unit (s := S2048x4352) ![1024, c0] ![1024, 512] h').toLoadRect = hi s := by
  rw [View.readCov_eq_canon']
  funext j
  have e : (Rect.unit (s := S2048x4352) ![1024, c0] ![1024, 512] h').toLoadRect.idx j
      = (Rect.unit (s := S2048x4352) ![0, c0] ![2048, 512] h).emb
          (ix2 ⟨1024 + (j 0).val, by have := (j 0).isLt; change _ < 1024 at this; omega⟩ (j 1)) := by
    funext a
    match a with
    | ⟨0, _⟩ => apply Fin.ext; show 1024 + 1 * (j 0).val = 0 + 1 * (1024 + (j 0).val); omega
    | ⟨1, _⟩ => apply Fin.ext; rfl
  rw [e, View.canon_cons_emb]
  rfl

/-- The rows of the second component of a chunk of scores. -/
def hi' (s : FVec Ideal S2048x256 .f32) : FVec Ideal S1024x256 .f32 := fun j => s (ix2 ⟨1024 + (j 0).val, by have := (j 0).isLt; change _ < 1024 at this; omega⟩ (j 1))

theorem hi'_apply (s : FVec Ideal S2048x256 .f32) (r : Fin 1024) (n : Fin 256) : hi' s (ix2 r n) = s (ix2 ⟨1024 + r.val, by omega⟩ n) := rfl

/-- A load of the second component's rows of the chunk stored last reads them. -/
theorem scr_hi' {c0 : ℕ} (h : ∀ a, (![0, c0] : Fin 2 → ℕ) a + (![2048, 256] : Fin 2 → ℕ) a ≤ S2048x4352.size a)
    (h' : ∀ a, (![1024, c0] : Fin 2 → ℕ) a + (![1024, 256] : Fin 2 → ℕ) a ≤ S2048x4352.size a)
    (s : FVec Ideal S2048x256 .f32) (L : List (View.Piece (Elt Ideal) S2048x4352 .f32)) :
    (View.whole cc0_scratch0).readCov ((⟨Rect.unit (s := S2048x4352) ![0, c0] ![2048, 256] h, s⟩ : View.Piece (Elt Ideal) S2048x4352 .f32) :: L)
      (Rect.unit (s := S2048x4352) ![1024, c0] ![1024, 256] h').toLoadRect = hi' s := by
  rw [View.readCov_eq_canon']
  funext j
  have e : (Rect.unit (s := S2048x4352) ![1024, c0] ![1024, 256] h').toLoadRect.idx j
      = (Rect.unit (s := S2048x4352) ![0, c0] ![2048, 256] h).emb
          (ix2 ⟨1024 + (j 0).val, by have := (j 0).isLt; change _ < 1024 at this; omega⟩ (j 1)) := by
    funext a
    match a with
    | ⟨0, _⟩ => apply Fin.ext; show 1024 + 1 * (j 0).val = 0 + 1 * (1024 + (j 0).val); omega
    | ⟨1, _⟩ => apply Fin.ext; rfl
  rw [e, View.canon_cons_emb]
  rfl

/-- The row maximum the kernel subtracts. -/
def rmax (x : Vec Ideal S1x1024x128 .bf16) (k0 k1 k2 k3 k4 k5 k6 k7 : Vec Ideal S1x128x512 .bf16) (k8 : Vec Ideal S1x128x256 .bf16) : FVec Ideal S2048x1 .f32 :=
  k0_pay25 (F := Ideal) (k0_pay2 (F := Ideal) x) (k0_pay19 (F := Ideal) (k0_pay2 (F := Ideal) x) (k0_pay12 (F := Ideal) (k0_pay2 (F := Ideal) x) (k0_pay5 (F := Ideal) x k0) (k0_pay6 (F := Ideal) x k1) k2 k3)
    (k0_pay13 (F := Ideal) (k0_pay2 (F := Ideal) x) k4) k5 k6) (k0_pay20 (F := Ideal) k7) k8

/-- The accumulator of the first component. -/
def acc0 (x : Vec Ideal S1x1024x128 .bf16) (k0 k1 k2 k3 k4 k5 k6 k7 : Vec Ideal S1x128x512 .bf16) (k8 : Vec Ideal S1x128x256 .bf16) (v0 v1 v2 v3 v4 v5 v6 v7 : Vec Ideal S1x512x128 .bf16) (v8 : Vec Ideal S1x256x128 .bf16) : FVec Ideal S1024x256 .f32 :=
  k0_pay44 (F := Ideal) (rmax x k0 k1 k2 k3 k4 k5 k6 k7 k8) (k0_pay40 (F := Ideal) (rmax x k0 k1 k2 k3 k4 k5 k6 k7 k8) (k0_pay36 (F := Ideal) (rmax x k0 k1 k2 k3 k4 k5 k6 k7 k8) (k0_pay32 (F := Ideal) (rmax x k0 k1 k2 k3 k4 k5 k6 k7 k8)
    (k0_pay28 (F := Ideal) (k0_pay2 (F := Ideal) x) (k0_pay19 (F := Ideal) (k0_pay2 (F := Ideal) x) (k0_pay12 (F := Ideal) (k0_pay2 (F := Ideal) x) (k0_pay5 (F := Ideal) x k0) (k0_pay6 (F := Ideal) x k1) k2 k3)
      (k0_pay13 (F := Ideal) (k0_pay2 (F := Ideal) x) k4) k5 k6) (k0_pay20 (F := Ideal) k7) k8 v0 (lo (k0_pay4 (F := Ideal) x k0)))
    v1 (lo (k0_pay7 (F := Ideal) (k0_pay6 (F := Ideal) x k1))) v2 (lo (k0_pay9 (F := Ideal) (k0_pay2 (F := Ideal) x) k2))) v3 (lo (k0_pay11 (F := Ideal) (k0_pay2 (F := Ideal) x) k3)) v4 (lo (k0_pay14 (F := Ideal) (k0_pay13 (F := Ideal) (k0_pay2 (F := Ideal) x) k4)))) v5 (lo (k0_pay16 (F := Ideal) (k0_pay2 (F := Ideal) x) k5)) v6 (lo (k0_pay18 (F := Ideal) (k0_pay2 (F := Ideal) x) k6))) v7 (lo (k0_pay22 (F := Ideal) (k0_pay2 (F := Ideal) x) (k0_pay20 (F := Ideal) k7))) v8 (lo' (k0_pay24 (F := Ideal) (k0_pay2 (F := Ideal) x) k8))

/-- The accumulator of the second component, before its last chunk. -/
def acc1 (x : Vec Ideal S1x1024x128 .bf16) (k0 k1 k2 k3 k4 k5 k6 k7 : Vec Ideal S1x128x512 .bf16) (k8 : Vec Ideal S1x128x256 .bf16) (v0 v1 v2 v3 v4 v5 v6 v7 : Vec Ideal S1x512x128 .bf16) (v8 : Vec Ideal S1x256x128 .bf16) : FVec Ideal S1024x256 .f32 :=
  k0_pay42 (F := Ideal) (rmax x k0 k1 k2 k3 k4 k5 k6 k7 k8) (k0_pay38 (F := Ideal) (rmax x k0 k1 k2 k3 k4 k5 k6 k7 k8) (k0_pay34 (F := Ideal) (rmax x k0 k1 k2 k3 k4 k5 k6 k7 k8) (k0_pay30 (F := Ideal) (rmax x k0 k1 k2 k3 k4 k5 k6 k7 k8) (k0_pay26 (F := Ideal))
    (k0_pay27 (F := Ideal) v0) (hi (k0_pay4 (F := Ideal) x k0)) v1 (hi (k0_pay7 (F := Ideal) (k0_pay6 (F := Ideal) x k1)))) (k0_pay31 (F := Ideal) v2) (hi (k0_pay9 (F := Ideal) (k0_pay2 (F := Ideal) x) k2)) v3 (hi (k0_pay11 (F := Ideal) (k0_pay2 (F := Ideal) x) k3)))
    (k0_pay35 (F := Ideal) v4) (hi (k0_pay14 (F := Ideal) (k0_pay13 (F := Ideal) (k0_pay2 (F := Ideal) x) k4))) v5 (hi (k0_pay16 (F := Ideal) (k0_pay2 (F := Ideal) x) k5))) (k0_pay39 (F := Ideal) v6) (hi (k0_pay18 (F := Ideal) (k0_pay2 (F := Ideal) x) k6)) v7 (hi (k0_pay22 (F := Ideal) (k0_pay2 (F := Ideal) x) (k0_pay20 (F := Ideal) k7)))

/-- The block a grid point writes, from its input blocks. -/
def blk (x : Vec Ideal S1x1024x128 .bf16) (k0 k1 k2 k3 k4 k5 k6 k7 : Vec Ideal S1x128x512 .bf16) (k8 : Vec Ideal S1x128x256 .bf16) (v0 v1 v2 v3 v4 v5 v6 v7 : Vec Ideal S1x512x128 .bf16) (v8 : Vec Ideal S1x256x128 .bf16) (l0 l1 l2 l3 g : FVec Ideal S1x128 .f32) : FVec Ideal S1x1024x128 .bf16 :=
  k0_pay1 (F := Ideal)
    (k0_pay45 (F := Ideal) (rmax x k0 k1 k2 k3 k4 k5 k6 k7 k8) (acc1 x k0 k1 k2 k3 k4 k5 k6 k7 k8 v0 v1 v2 v3 v4 v5 v6 v7 v8) (k0_pay43 (F := Ideal) v8) (acc0 x k0 k1 k2 k3 k4 k5 k6 k7 k8 v0 v1 v2 v3 v4 v5 v6 v7 v8) (hi' (k0_pay24 (F := Ideal) (k0_pay2 (F := Ideal) x) k8)) l0 l1 l2 l3)
    (k0_pay46 (F := Ideal) (rmax x k0 k1 k2 k3 k4 k5 k6 k7 k8) (acc1 x k0 k1 k2 k3 k4 k5 k6 k7 k8 v0 v1 v2 v3 v4 v5 v6 v7 v8) (k0_pay43 (F := Ideal) v8) (acc0 x k0 k1 k2 k3 k4 k5 k6 k7 k8 v0 v1 v2 v3 v4 v5 v6 v7 v8) (hi' (k0_pay24 (F := Ideal) (k0_pay2 (F := Ideal) x) k8)) l0 l1 l2 l3) g

variable (m : (ℓ : Loc nD τ sig) → Buf (Elt Ideal) ℓ)

/-- What grid point `t` leaves in the output window: `blk` of its input blocks. -/
theorem after_eq (c : Dev nD) (t : Fin cfg0.N) :
    (dats m 0 c).after 7 t = blk (iblk m c 2 t) (View.ld (iblk m c 3 t) (Rect.unit ![0, 0, 0] ![1, 128, 512] inb_S1x128x4096_S1x128x512_0_0_0)) (View.ld (iblk m c 3 t) (Rect.unit ![0, 0, 512] ![1, 128, 512] inb_S1x128x4096_S1x128x512_0_0_512)) (View.ld (iblk m c 3 t) (Rect.unit ![0, 0, 1024] ![1, 128, 512] inb_S1x128x4096_S1x128x512_0_0_1024)) (View.ld (iblk m c 3 t) (Rect.unit ![0, 0, 1536] ![1, 128, 512] inb_S1x128x4096_S1x128x512_0_0_1536)) (View.ld (iblk m c 3 t) (Rect.unit ![0, 0, 2048] ![1, 128, 512] inb_S1x128x4096_S1x128x512_0_0_2048)) (View.ld (iblk m c 3 t) (Rect.unit ![0, 0, 2560] ![1, 128, 512] inb_S1x128x4096_S1x128x512_0_0_2560)) (View.ld (iblk m c 3 t) (Rect.unit ![0, 0, 3072] ![1, 128, 512] inb_S1x128x4096_S1x128x512_0_0_3072)) (View.ld (iblk m c 3 t) (Rect.unit ![0, 0, 3584] ![1, 128, 512] inb_S1x128x4096_S1x128x512_0_0_3584)) (iblk m c 5 t)
      (View.ld (iblk m c 4 t) (Rect.unit ![0, 0, 0] ![1, 512, 128] inb_S1x4096x128_S1x512x128_0_0_0)) (View.ld (iblk m c 4 t) (Rect.unit ![0, 512, 0] ![1, 512, 128] inb_S1x4096x128_S1x512x128_0_512_0)) (View.ld (iblk m c 4 t) (Rect.unit ![0, 1024, 0] ![1, 512, 128] inb_S1x4096x128_S1x512x128_0_1024_0)) (View.ld (iblk m c 4 t) (Rect.unit ![0, 1536, 0] ![1, 512, 128] inb_S1x4096x128_S1x512x128_0_1536_0)) (View.ld (iblk m c 4 t) (Rect.unit ![0, 2048, 0] ![1, 512, 128] inb_S1x4096x128_S1x512x128_0_2048_0)) (View.ld (iblk m c 4 t) (Rect.unit ![0, 2560, 0] ![1, 512, 128] inb_S1x4096x128_S1x512x128_0_2560_0)) (View.ld (iblk m c 4 t) (Rect.unit ![0, 3072, 0] ![1, 512, 128] inb_S1x4096x128_S1x512x128_0_3072_0)) (View.ld (iblk m c 4 t) (Rect.unit ![0, 3584, 0] ![1, 512, 128] inb_S1x4096x128_S1x512x128_0_3584_0)) (iblk m c 6 t)
      (View.ld (iblk m c 0 t) (Rect.unit ![0, 0] ![1, 128] inb_S8x128_S1x128_0_0)) (View.ld (iblk m c 0 t) (Rect.unit ![1, 0] ![1, 128] inb_S8x128_S1x128_1_0)) (View.ld (iblk m c 0 t) (Rect.unit ![2, 0] ![1, 128] inb_S8x128_S1x128_2_0)) (View.ld (iblk m c 0 t) (Rect.unit ![3, 0] ![1, 128] inb_S8x128_S1x128_3_0)) (iblk m c 1 t) := by
  rw [after0_7]; simp only [outsAt0]
  frame_open
  simp (disch := decide) only [↓ View.readCov_skip, ↓ View.readCov_cons_toLoadRect, ↓ View.readCov_fill]
  frame_out
  repeat rw [scr_lo]
  repeat rw [scr_hi]
  rw [scr_lo', scr_hi']
  rfl

end Cert.DAIdeal.Hand

end
-- ==== Proof.DASum.lean ====
module

public import proofs.«01_k».proof.Proof.DAAcc

@[expose] public section

set_option maxRecDepth 16384

noncomputable section

/-! The block of a grid point of the attention kernel as sums over the keys. -/

namespace Cert.DAIdeal.Hand

open Cert.DAIdeal Cert.DAIdeal.Gen Idealize.ShloMosaic Idealize.ShloMosaic.TcCoe Idealize.SL.Sem
open DAMath

/-- The score of stacked row `r` and key column `j`: the column from the latent block below 4096, from the context block above. -/
def sc (q : FVec Ideal S2048x128 .bf16) (K : Fin 128 → Fin 4352 → EReal) (r : Fin 2048) (j : Fin 4352) : EReal :=
  ∑ d : Fin 128, q (ix2 r d) * K d j

/-- The value of key `j` in lane `e`; the lanes from 128 on hold ones. -/
def va (V : Fin 4352 → Fin 128 → EReal) (j : Fin 4352) (e : Fin 256) : EReal := if h : e.val < 128 then V j ⟨e.val, h⟩ else 1

/-- A step of an accumulator, read at an index. -/
theorem pay32_step (M : FVec Ideal S2048x1 .f32) (a : FVec Ideal S1024x256 .f32) (v w : Vec Ideal S1x512x128 .bf16) (s t : FVec Ideal S1024x512 .f32) (r : Fin 1024) (e : Fin 256) :
    k0_pay32 (F := Ideal) M a v s w t (ix2 r e) = a (ix2 r e) + (∑ n : Fin 512, Ideal.exp2 (s (ix2 r n) - M (ix2 ⟨r.val, by omega⟩ 0)) * k0_pay29 (F := Ideal) v (ix2 n e)) + (∑ n : Fin 512, Ideal.exp2 (t (ix2 r n) - M (ix2 ⟨r.val, by omega⟩ 0)) * k0_pay31 (F := Ideal) w (ix2 n e)) := by
  pointwise [k0_pay32]
  rfl

/-- A step of an accumulator, read at an index. -/
theorem pay36_step (M : FVec Ideal S2048x1 .f32) (a : FVec Ideal S1024x256 .f32) (v w : Vec Ideal S1x512x128 .bf16) (s t : FVec Ideal S1024x512 .f32) (r : Fin 1024) (e : Fin 256) :
    k0_pay36 (F := Ideal) M a v s w t (ix2 r e) = a (ix2 r e) + (∑ n : Fin 512, Ideal.exp2 (s (ix2 r n) - M (ix2 ⟨r.val, by omega⟩ 0)) * k0_pay33 (F := Ideal) v (ix2 n e)) + (∑ n : Fin 512, Ideal.exp2 (t (ix2 r n) - M (ix2 ⟨r.val, by omega⟩ 0)) * k0_pay35 (F := Ideal) w (ix2 n e)) := by
  pointwise [k0_pay36]
  rfl

/-- A step of an accumulator, read at an index. -/
theorem pay40_step (M : FVec Ideal S2048x1 .f32) (a : FVec Ideal S1024x256 .f32) (v w : Vec Ideal S1x512x128 .bf16) (s t : FVec Ideal S1024x512 .f32) (r : Fin 1024) (e : Fin 256) :
    k0_pay40 (F := Ideal) M a v s w t (ix2 r e) = a (ix2 r e) + (∑ n : Fin 512, Ideal.exp2 (s (ix2 r n) - M (ix2 ⟨r.val, by omega⟩ 0)) * k0_pay37 (F := Ideal) v (ix2 n e)) + (∑ n : Fin 512, Ideal.exp2 (t (ix2 r n) - M (ix2 ⟨r.val, by omega⟩ 0)) * k0_pay39 (F := Ideal) w (ix2 n e)) := by
  pointwise [k0_pay40]
  rfl

/-- A step of an accumulator, read at an index. -/
theorem pay44_step (M : FVec Ideal S2048x1 .f32) (a : FVec Ideal S1024x256 .f32) (v : Vec Ideal S1x512x128 .bf16) (s : FVec Ideal S1024x512 .f32) (w : Vec Ideal S1x256x128 .bf16) (t : FVec Ideal S1024x256 .f32) (r : Fin 1024) (e : Fin 256) :
    k0_pay44 (F := Ideal) M a v s w t (ix2 r e) = a (ix2 r e) + (∑ n : Fin 512, Ideal.exp2 (s (ix2 r n) - M (ix2 ⟨r.val, by omega⟩ 0)) * k0_pay41 (F := Ideal) v (ix2 n e)) + (∑ n : Fin 256, Ideal.exp2 (t (ix2 r n) - M (ix2 ⟨r.val, by omega⟩ 0)) * k0_pay43 (F := Ideal) w (ix2 n e)) := by
  pointwise [k0_pay44]
  rfl

/-- A step of an accumulator, read at an index. -/
theorem pay30_step (M : FVec Ideal S2048x1 .f32) (a : FVec Ideal S1024x256 .f32) (v : FVec Ideal S512x256 .bf16) (s : FVec Ideal S1024x512 .f32) (w : Vec Ideal S1x512x128 .bf16) (t : FVec Ideal S1024x512 .f32) (r : Fin 1024) (e : Fin 256) :
    k0_pay30 (F := Ideal) M a v s w t (ix2 r e) = a (ix2 r e) + (∑ n : Fin 512, Ideal.exp2 (s (ix2 r n) - M (ix2 ⟨1024 + r.val, by omega⟩ 0)) * v (ix2 n e)) + (∑ n : Fin 512, Ideal.exp2 (t (ix2 r n) - M (ix2 ⟨1024 + r.val, by omega⟩ 0)) * k0_pay29 (F := Ideal) w (ix2 n e)) := by
  pointwise [k0_pay30]
  rfl

/-- A step of an accumulator, read at an index. -/
theorem pay34_step (M : FVec Ideal S2048x1 .f32) (a : FVec Ideal S1024x256 .f32) (v : FVec Ideal S512x256 .bf16) (s : FVec Ideal S1024x512 .f32) (w : Vec Ideal S1x512x128 .bf16) (t : FVec Ideal S1024x512 .f32) (r : Fin 1024) (e : Fin 256) :
    k0_pay34 (F := Ideal) M a v s w t (ix2 r e) = a (ix2 r e) + (∑ n : Fin 512, Ideal.exp2 (s (ix2 r n) - M (ix2 ⟨1024 + r.val, by omega⟩ 0)) * v (ix2 n e)) + (∑ n : Fin 512, Ideal.exp2 (t (ix2 r n) - M (ix2 ⟨1024 + r.val, by omega⟩ 0)) * k0_pay33 (F := Ideal) w (ix2 n e)) := by
  pointwise [k0_pay34]
  rfl

/-- A step of an accumulator, read at an index. -/
theorem pay38_step (M : FVec Ideal S2048x1 .f32) (a : FVec Ideal S1024x256 .f32) (v : FVec Ideal S512x256 .bf16) (s : FVec Ideal S1024x512 .f32) (w : Vec Ideal S1x512x128 .bf16) (t : FVec Ideal S1024x512 .f32) (r : Fin 1024) (e : Fin 256) :
    k0_pay38 (F := Ideal) M a v s w t (ix2 r e) = a (ix2 r e) + (∑ n : Fin 512, Ideal.exp2 (s (ix2 r n) - M (ix2 ⟨1024 + r.val, by omega⟩ 0)) * v (ix2 n e)) + (∑ n : Fin 512, Ideal.exp2 (t (ix2 r n) - M (ix2 ⟨1024 + r.val, by omega⟩ 0)) * k0_pay37 (F := Ideal) w (ix2 n e)) := by
  pointwise [k0_pay38]
  rfl

/-- A step of an accumulator, read at an index. -/
theorem pay42_step (M : FVec Ideal S2048x1 .f32) (a : FVec Ideal S1024x256 .f32) (v : FVec Ideal S512x256 .bf16) (s : FVec Ideal S1024x512 .f32) (w : Vec Ideal S1x512x128 .bf16) (t : FVec Ideal S1024x512 .f32) (r : Fin 1024) (e : Fin 256) :
    k0_pay42 (F := Ideal) M a v s w t (ix2 r e) = a (ix2 r e) + (∑ n : Fin 512, Ideal.exp2 (s (ix2 r n) - M (ix2 ⟨1024 + r.val, by omega⟩ 0)) * v (ix2 n e)) + (∑ n : Fin 512, Ideal.exp2 (t (ix2 r n) - M (ix2 ⟨1024 + r.val, by omega⟩ 0)) * k0_pay41 (F := Ideal) w (ix2 n e)) := by
  pointwise [k0_pay42]
  rfl

/-- The first step of the first component's accumulator. -/
theorem pay28_step (q : FVec Ideal S2048x128 .bf16) (a : FVec Ideal S2048x128 .f32) (b : FVec Ideal S128x512 .bf16) (c : Vec Ideal S1x128x256 .bf16)
    (v : Vec Ideal S1x512x128 .bf16) (s : FVec Ideal S1024x512 .f32) (r : Fin 1024) (e : Fin 256) :
    k0_pay28 (F := Ideal) q a b c v s (ix2 r e) = ∑ n : Fin 512, Ideal.exp2 (s (ix2 r n) - k0_pay25 (F := Ideal) q a b c (ix2 ⟨r.val, r.isLt.trans (by decide)⟩ 0)) * k0_pay27 (F := Ideal) v (ix2 n e) := by
  pointwise [k0_pay28]
  rfl

/-- The second component's accumulator starts at zero. -/
theorem pay26_step (r : Fin 1024) (e : Fin 256) : k0_pay26 (F := Ideal) (ix2 r e) = (0 : EReal) := by
  pointwise [k0_pay26]

section
variable {x : Vec Ideal S1x1024x128 .bf16} {k0 k1 k2 k3 k4 k5 k6 k7 : Vec Ideal S1x128x512 .bf16} {k8 : Vec Ideal S1x128x256 .bf16}
variable {v0 v1 v2 v3 v4 v5 v6 v7 : Vec Ideal S1x512x128 .bf16} {v8 : Vec Ideal S1x256x128 .bf16}
variable {K : Fin 128 → Fin 4352 → EReal} {V : Fin 4352 → Fin 128 → EReal}

/-- The first component's accumulator: the sum over all keys, in the kernel's nine chunks. -/
theorem acc0_apply
    (hk0 : ∀ d n, k0 (ix3 0 d n) = K d ⟨n.val, by omega⟩)
    (hk1 : ∀ d n, k1 (ix3 0 d n) = K d ⟨512 + n.val, by omega⟩)
    (hk2 : ∀ d n, k2 (ix3 0 d n) = K d ⟨1024 + n.val, by omega⟩)
    (hk3 : ∀ d n, k3 (ix3 0 d n) = K d ⟨1536 + n.val, by omega⟩)
    (hk4 : ∀ d n, k4 (ix3 0 d n) = K d ⟨2048 + n.val, by omega⟩)
    (hk5 : ∀ d n, k5 (ix3 0 d n) = K d ⟨2560 + n.val, by omega⟩)
    (hk6 : ∀ d n, k6 (ix3 0 d n) = K d ⟨3072 + n.val, by omega⟩)
    (hk7 : ∀ d n, k7 (ix3 0 d n) = K d ⟨3584 + n.val, by omega⟩)
    (hk8 : ∀ d n, k8 (ix3 0 d n) = K d ⟨4096 + n.val, by omega⟩)
    (hv0 : ∀ n e, v0 (ix3 0 n e) = V ⟨n.val, by omega⟩ e)
    (hv1 : ∀ n e, v1 (ix3 0 n e) = V ⟨512 + n.val, by omega⟩ e)
    (hv2 : ∀ n e, v2 (ix3 0 n e) = V ⟨1024 + n.val, by omega⟩ e)
    (hv3 : ∀ n e, v3 (ix3 0 n e) = V ⟨1536 + n.val, by omega⟩ e)
    (hv4 : ∀ n e, v4 (ix3 0 n e) = V ⟨2048 + n.val, by omega⟩ e)
    (hv5 : ∀ n e, v5 (ix3 0 n e) = V ⟨2560 + n.val, by omega⟩ e)
    (hv6 : ∀ n e, v6 (ix3 0 n e) = V ⟨3072 + n.val, by omega⟩ e)
    (hv7 : ∀ n e, v7 (ix3 0 n e) = V ⟨3584 + n.val, by omega⟩ e)
    (hv8 : ∀ n e, v8 (ix3 0 n e) = V ⟨4096 + n.val, by omega⟩ e) (r : Fin 1024) (e : Fin 256) :
    acc0 x k0 k1 k2 k3 k4 k5 k6 k7 k8 v0 v1 v2 v3 v4 v5 v6 v7 v8 (ix2 r e)
      = ∑ j, Ideal.exp2 (sc (k0_pay2 (F := Ideal) x) K ⟨r.val, r.isLt.trans (by decide)⟩ j - rmax x k0 k1 k2 k3 k4 k5 k6 k7 k8 (ix2 ⟨r.val, r.isLt.trans (by decide)⟩ 0)) * va V j e := by
  rw [sum_chunks]
  unfold acc0
  simp only [sc, va, pay44_step, pay40_step, pay36_step, pay32_step, pay28_step, lo_apply, lo'_apply, pay4_apply, pay7_apply, pay6_apply, pay9_apply, pay11_apply, pay14_apply, pay13_apply, pay16_apply, pay18_apply, pay22_apply, pay24_apply,
    pay27_apply, pay29_apply, pay31_apply, pay33_apply, pay35_apply, pay37_apply, pay39_apply, pay41_apply, pay43_apply, hk0, hk1, hk2, hk3, hk4, hk5, hk6, hk7, hk8, hv0, hv1, hv2, hv3, hv4, hv5, hv6, hv7, hv8]
  rfl

/-- The second component's accumulator, its last chunk added. -/
theorem acc1_apply
    (hk0 : ∀ d n, k0 (ix3 0 d n) = K d ⟨n.val, by omega⟩)
    (hk1 : ∀ d n, k1 (ix3 0 d n) = K d ⟨512 + n.val, by omega⟩)
    (hk2 : ∀ d n, k2 (ix3 0 d n) = K d ⟨1024 + n.val, by omega⟩)
    (hk3 : ∀ d n, k3 (ix3 0 d n) = K d ⟨1536 + n.val, by omega⟩)
    (hk4 : ∀ d n, k4 (ix3 0 d n) = K d ⟨2048 + n.val, by omega⟩)
    (hk5 : ∀ d n, k5 (ix3 0 d n) = K d ⟨2560 + n.val, by omega⟩)
    (hk6 : ∀ d n, k6 (ix3 0 d n) = K d ⟨3072 + n.val, by omega⟩)
    (hk7 : ∀ d n, k7 (ix3 0 d n) = K d ⟨3584 + n.val, by omega⟩)
    (hk8 : ∀ d n, k8 (ix3 0 d n) = K d ⟨4096 + n.val, by omega⟩)
    (hv0 : ∀ n e, v0 (ix3 0 n e) = V ⟨n.val, by omega⟩ e)
    (hv1 : ∀ n e, v1 (ix3 0 n e) = V ⟨512 + n.val, by omega⟩ e)
    (hv2 : ∀ n e, v2 (ix3 0 n e) = V ⟨1024 + n.val, by omega⟩ e)
    (hv3 : ∀ n e, v3 (ix3 0 n e) = V ⟨1536 + n.val, by omega⟩ e)
    (hv4 : ∀ n e, v4 (ix3 0 n e) = V ⟨2048 + n.val, by omega⟩ e)
    (hv5 : ∀ n e, v5 (ix3 0 n e) = V ⟨2560 + n.val, by omega⟩ e)
    (hv6 : ∀ n e, v6 (ix3 0 n e) = V ⟨3072 + n.val, by omega⟩ e)
    (hv7 : ∀ n e, v7 (ix3 0 n e) = V ⟨3584 + n.val, by omega⟩ e)
    (hv8 : ∀ n e, v8 (ix3 0 n e) = V ⟨4096 + n.val, by omega⟩ e) (r : Fin 1024) (e : Fin 256) :
    acc1 x k0 k1 k2 k3 k4 k5 k6 k7 k8 v0 v1 v2 v3 v4 v5 v6 v7 v8 (ix2 r e) + ∑ n : Fin 256, Ideal.exp2 (hi' (k0_pay24 (F := Ideal) (k0_pay2 (F := Ideal) x) k8) (ix2 r n) - rmax x k0 k1 k2 k3 k4 k5 k6 k7 k8 (ix2 ⟨1024 + r.val, Nat.add_lt_add_left r.isLt 1024⟩ 0)) * k0_pay43 (F := Ideal) v8 (ix2 n e)
      = ∑ j, Ideal.exp2 (sc (k0_pay2 (F := Ideal) x) K ⟨1024 + r.val, Nat.add_lt_add_left r.isLt 1024⟩ j - rmax x k0 k1 k2 k3 k4 k5 k6 k7 k8 (ix2 ⟨1024 + r.val, Nat.add_lt_add_left r.isLt 1024⟩ 0)) * va V j e := by
  rw [sum_chunks]
  unfold acc1
  simp only [sc, va, pay42_step, pay38_step, pay34_step, pay30_step, pay26_step, zero_add, hi_apply, hi'_apply, pay4_apply, pay7_apply, pay6_apply, pay9_apply, pay11_apply, pay14_apply, pay13_apply, pay16_apply, pay18_apply, pay22_apply, pay24_apply,
    pay27_apply, pay29_apply, pay31_apply, pay33_apply, pay35_apply, pay37_apply, pay39_apply, pay41_apply, pay43_apply, hk0, hk1, hk2, hk3, hk4, hk5, hk6, hk7, hk8, hv0, hv1, hv2, hv3, hv4, hv5, hv6, hv7, hv8]

end
end Cert.DAIdeal.Hand

end
-- ==== Proof.DABlk.lean ====
module

public import proofs.«01_k».proof.Proof.DASum

@[expose] public section

set_option maxRecDepth 16384

noncomputable section

/-! The block of a grid point of the attention kernel at an index, and its row maximum. -/

namespace Cert.DAIdeal.Hand

open Cert.DAIdeal Cert.DAIdeal.Gen Idealize.ShloMosaic Idealize.ShloMosaic.TcCoe Idealize.SL.Sem
open DAMath

section
variable {x : Vec Ideal S1x1024x128 .bf16} {k0 k1 k2 k3 k4 k5 k6 k7 : Vec Ideal S1x128x512 .bf16} {k8 : Vec Ideal S1x128x256 .bf16}
variable {v0 v1 v2 v3 v4 v5 v6 v7 : Vec Ideal S1x512x128 .bf16} {v8 : Vec Ideal S1x256x128 .bf16}
variable {K : Fin 128 → Fin 4352 → EReal} {V : Fin 4352 → Fin 128 → EReal}

/-- The combination before the norm: the first quotient less `lam` times the second. -/
def comb (a b a' b' l : EReal) : EReal := Ideal.div a b - l * Ideal.div a' b'

/-- `lam`, from the four rows of 128 lanes. -/
def lamOf (l0 l1 l2 l3 : FVec Ideal S1x128 .f32) : EReal :=
  Ideal.exp (∑ x : Fin 128, l0 (ix2 0 x) * l1 (ix2 0 x)) - Ideal.exp (∑ x : Fin 128, l2 (ix2 0 x) * l3 (ix2 0 x)) + Ideal.ofBits .f32 0x3EF1014C#32

/-- The norm's tail: entry `e` of the row `o`, normalised and scaled. -/
def tail (o : Fin 128 → EReal) (g : EReal) (e : Fin 128) : EReal :=
  o e * Ideal.rsqrt (Ideal.div (∑ x, o x * o x) (Ideal.ofBits .f32 0x43000000#32) + Ideal.ofBits .f32 0x358637BD#32) * g * Ideal.ofBits .f32 0x3F077F5A#32

theorem pay45_apply (M : FVec Ideal S2048x1 .f32) (a : FVec Ideal S1024x256 .f32) (v : FVec Ideal S256x256 .bf16) (b : FVec Ideal S1024x256 .f32) (s : FVec Ideal S1024x256 .f32)
    (l0 l1 l2 l3 : FVec Ideal S1x128 .f32) (r : Fin 1024) (e : Fin 128) :
    k0_pay45 (F := Ideal) M a v b s l0 l1 l2 l3 (ix2 r e)
      = comb (b (ix2 r ⟨e.val, by omega⟩)) (b (ix2 r ⟨128 + e.val, by omega⟩))
          (a (ix2 r ⟨e.val, by omega⟩) + ∑ n : Fin 256, Ideal.exp2 (s (ix2 r n) - M (ix2 ⟨1024 + r.val, Nat.add_lt_add_left r.isLt 1024⟩ 0)) * v (ix2 n ⟨e.val, by omega⟩))
          (a (ix2 r ⟨128 + e.val, by omega⟩) + ∑ n : Fin 256, Ideal.exp2 (s (ix2 r n) - M (ix2 ⟨1024 + r.val, Nat.add_lt_add_left r.isLt 1024⟩ 0)) * v (ix2 n ⟨128 + e.val, by omega⟩))
          (lamOf l0 l1 l2 l3) := by
  pointwise [k0_pay45]
  rfl

theorem pay46_apply (M : FVec Ideal S2048x1 .f32) (a : FVec Ideal S1024x256 .f32) (v : FVec Ideal S256x256 .bf16) (b : FVec Ideal S1024x256 .f32) (s : FVec Ideal S1024x256 .f32)
    (l0 l1 l2 l3 : FVec Ideal S1x128 .f32) (r : Fin 1024) (z : Fin 1) :
    k0_pay46 (F := Ideal) M a v b s l0 l1 l2 l3 (ix2 r z)
      = Ideal.rsqrt (Ideal.div (∑ x : Fin 128, k0_pay45 (F := Ideal) M a v b s l0 l1 l2 l3 (ix2 r x) * k0_pay45 (F := Ideal) M a v b s l0 l1 l2 l3 (ix2 r x))
          (Ideal.ofBits .f32 0x43000000#32) + Ideal.ofBits .f32 0x358637BD#32) := by
  pointwise [k0_pay46]

theorem pay1_apply (a : FVec Ideal S1024x128 .f32) (b : FVec Ideal S1024x1 .f32) (g : FVec Ideal S1x128 .f32) (z : Fin 1) (r : Fin 1024) (e : Fin 128) :
    k0_pay1 (F := Ideal) a b g (ix3 z r e) = a (ix2 r e) * b (ix2 r 0) * g (ix2 0 e) * Ideal.ofBits .f32 0x3F077F5A#32 := by
  pointwise [k0_pay1]

/-- The body's last operations, over accumulators read at row `r`. -/
theorem fin_apply (M : FVec Ideal S2048x1 .f32) (a : FVec Ideal S1024x256 .f32) (v : FVec Ideal S256x256 .bf16) (b : FVec Ideal S1024x256 .f32) (s : FVec Ideal S1024x256 .f32)
    (l0 l1 l2 l3 g : FVec Ideal S1x128 .f32) (r : Fin 1024) (X Y : Fin 256 → EReal) (hX : ∀ e, b (ix2 r e) = X e)
    (hY : ∀ e, a (ix2 r e) + ∑ n : Fin 256, Ideal.exp2 (s (ix2 r n) - M (ix2 ⟨1024 + r.val, Nat.add_lt_add_left r.isLt 1024⟩ 0)) * v (ix2 n e) = Y e) (z : Fin 1) (e : Fin 128) :
    k0_pay1 (F := Ideal) (k0_pay45 (F := Ideal) M a v b s l0 l1 l2 l3) (k0_pay46 (F := Ideal) M a v b s l0 l1 l2 l3) g (ix3 z r e)
      = tail (fun e => comb (X ⟨e.val, by omega⟩) (X ⟨128 + e.val, by omega⟩) (Y ⟨e.val, by omega⟩) (Y ⟨128 + e.val, by omega⟩) (lamOf l0 l1 l2 l3)) (g (ix2 0 e)) e := by
  simp only [pay1_apply, pay46_apply, pay45_apply, hX, hY]
  rfl

/-- The written block at an index: the two components' quotients combined, then normalised. -/
theorem blk_apply
    (hk0 : ∀ d n, k0 (ix3 0 d n) = K d ⟨n.val, by omega⟩)
    (hk1 : ∀ d n, k1 (ix3 0 d n) = K d ⟨512 + n.val, by omega⟩)
    (hk2 : ∀ d n, k2 (ix3 0 d n) = K d ⟨1024 + n.val, by omega⟩)
    (hk3 : ∀ d n, k3 (ix3 0 d n) = K d ⟨1536 + n.val, by omega⟩)
    (hk4 : ∀ d n, k4 (ix3 0 d n) = K d ⟨2048 + n.val, by omega⟩)
    (hk5 : ∀ d n, k5 (ix3 0 d n) = K d ⟨2560 + n.val, by omega⟩)
    (hk6 : ∀ d n, k6 (ix3 0 d n) = K d ⟨3072 + n.val, by omega⟩)
    (hk7 : ∀ d n, k7 (ix3 0 d n) = K d ⟨3584 + n.val, by omega⟩)
    (hk8 : ∀ d n, k8 (ix3 0 d n) = K d ⟨4096 + n.val, by omega⟩)
    (hv0 : ∀ n e, v0 (ix3 0 n e) = V ⟨n.val, by omega⟩ e)
    (hv1 : ∀ n e, v1 (ix3 0 n e) = V ⟨512 + n.val, by omega⟩ e)
    (hv2 : ∀ n e, v2 (ix3 0 n e) = V ⟨1024 + n.val, by omega⟩ e)
    (hv3 : ∀ n e, v3 (ix3 0 n e) = V ⟨1536 + n.val, by omega⟩ e)
    (hv4 : ∀ n e, v4 (ix3 0 n e) = V ⟨2048 + n.val, by omega⟩ e)
    (hv5 : ∀ n e, v5 (ix3 0 n e) = V ⟨2560 + n.val, by omega⟩ e)
    (hv6 : ∀ n e, v6 (ix3 0 n e) = V ⟨3072 + n.val, by omega⟩ e)
    (hv7 : ∀ n e, v7 (ix3 0 n e) = V ⟨3584 + n.val, by omega⟩ e)
    (hv8 : ∀ n e, v8 (ix3 0 n e) = V ⟨4096 + n.val, by omega⟩ e) (l0 l1 l2 l3 g : FVec Ideal S1x128 .f32) (z : Fin 1) (r : Fin 1024) (e : Fin 128) :
    blk x k0 k1 k2 k3 k4 k5 k6 k7 k8 v0 v1 v2 v3 v4 v5 v6 v7 v8 l0 l1 l2 l3 g (ix3 z r e)
      = tail (fun e => comb
          (∑ j, Ideal.exp2 (sc (k0_pay2 (F := Ideal) x) K ⟨r.val, r.isLt.trans (by decide)⟩ j - rmax x k0 k1 k2 k3 k4 k5 k6 k7 k8 (ix2 ⟨r.val, r.isLt.trans (by decide)⟩ 0)) * V j e)
          (∑ j, Ideal.exp2 (sc (k0_pay2 (F := Ideal) x) K ⟨r.val, r.isLt.trans (by decide)⟩ j - rmax x k0 k1 k2 k3 k4 k5 k6 k7 k8 (ix2 ⟨r.val, r.isLt.trans (by decide)⟩ 0)) * 1)
          (∑ j, Ideal.exp2 (sc (k0_pay2 (F := Ideal) x) K ⟨1024 + r.val, Nat.add_lt_add_left r.isLt 1024⟩ j - rmax x k0 k1 k2 k3 k4 k5 k6 k7 k8 (ix2 ⟨1024 + r.val, Nat.add_lt_add_left r.isLt 1024⟩ 0)) * V j e)
          (∑ j, Ideal.exp2 (sc (k0_pay2 (F := Ideal) x) K ⟨1024 + r.val, Nat.add_lt_add_left r.isLt 1024⟩ j - rmax x k0 k1 k2 k3 k4 k5 k6 k7 k8 (ix2 ⟨1024 + r.val, Nat.add_lt_add_left r.isLt 1024⟩ 0)) * 1)
          (lamOf l0 l1 l2 l3)) (g (ix2 0 e)) e := by
  have hlo : ∀ (j : Fin 4352) (e : Fin 128), va V j ⟨e.val, by omega⟩ = V j e := fun j e => by unfold va; rw [dif_pos e.isLt]
  have hhi : ∀ (j : Fin 4352) (e : Fin 128), va V j ⟨128 + e.val, by omega⟩ = 1 := fun j e => by unfold va; rw [dif_neg (Nat.not_lt.mpr (Nat.le_add_right 128 e.val))]
  have h := fin_apply (rmax x k0 k1 k2 k3 k4 k5 k6 k7 k8) (acc1 x k0 k1 k2 k3 k4 k5 k6 k7 k8 v0 v1 v2 v3 v4 v5 v6 v7 v8) (k0_pay43 (F := Ideal) v8) (acc0 x k0 k1 k2 k3 k4 k5 k6 k7 k8 v0 v1 v2 v3 v4 v5 v6 v7 v8)
    (hi' (k0_pay24 (F := Ideal) (k0_pay2 (F := Ideal) x) k8)) l0 l1 l2 l3 g r _ _ (fun e => acc0_apply hk0 hk1 hk2 hk3 hk4 hk5 hk6 hk7 hk8 hv0 hv1 hv2 hv3 hv4 hv5 hv6 hv7 hv8 r e) (fun e => acc1_apply hk0 hk1 hk2 hk3 hk4 hk5 hk6 hk7 hk8 hv0 hv1 hv2 hv3 hv4 hv5 hv6 hv7 hv8 r e) z e
  simp only [hlo, hhi] at h
  exact h

/-- The maximum of real scores is a real. -/
theorem rmax_real (hx : ∀ r d, IsR (k0_pay2 (F := Ideal) x (ix2 r d)))
    (hk0 : ∀ d n, IsR (k0 (ix3 0 d n))) (hk1 : ∀ d n, IsR (k1 (ix3 0 d n))) (hk2 : ∀ d n, IsR (k2 (ix3 0 d n))) (hk3 : ∀ d n, IsR (k3 (ix3 0 d n)))
    (hk4 : ∀ d n, IsR (k4 (ix3 0 d n))) (hk5 : ∀ d n, IsR (k5 (ix3 0 d n))) (hk6 : ∀ d n, IsR (k6 (ix3 0 d n))) (hk7 : ∀ d n, IsR (k7 (ix3 0 d n)))
    (hk8 : ∀ d n, IsR (k8 (ix3 0 d n))) (r : Fin 2048) :
    IsR (rmax x k0 k1 k2 k3 k4 k5 k6 k7 k8 (ix2 r 0)) := by
  have h6 : ∀ n, IsR (k0_pay6 (F := Ideal) x k1 (ix2 r n)) := fun n => by
    rw [pay6_apply]; exact IsR.sum _ _ fun d => (hx r d).mul (hk1 d n)
  have h13 : ∀ n, IsR (k0_pay13 (F := Ideal) (k0_pay2 (F := Ideal) x) k4 (ix2 r n)) := fun n => by
    rw [pay13_apply]; exact IsR.sum _ _ fun d => (hx r d).mul (hk4 d n)
  have h5 : ∀ n, IsR (k0_pay5 (F := Ideal) x k0 (ix2 r n)) := fun n => by
    pointwise [k0_pay5, k0_pay3]
    repeat' apply IsR.max
    all_goals exact IsR.sum _ _ fun d => (hx r d).mul (hk0 d _)
  have h12 : ∀ n, IsR (k0_pay12 (F := Ideal) (k0_pay2 (F := Ideal) x) (k0_pay5 (F := Ideal) x k0) (k0_pay6 (F := Ideal) x k1) k2 k3 (ix2 r n)) := fun n => by
    generalize k0_pay2 (F := Ideal) x = q at *
    generalize k0_pay5 (F := Ideal) x k0 = a at *
    generalize k0_pay6 (F := Ideal) x k1 = b at *
    pointwise [k0_pay12, k0_pay8, k0_pay10]
    repeat' apply IsR.max
    all_goals first | exact h5 _ | exact h6 _ | exact IsR.sum _ _ fun d => (hx r d).mul (hk2 d _) | exact IsR.sum _ _ fun d => (hx r d).mul (hk3 d _)
  unfold rmax
  generalize k0_pay12 (F := Ideal) (k0_pay2 (F := Ideal) x) (k0_pay5 (F := Ideal) x k0) (k0_pay6 (F := Ideal) x k1) k2 k3 = p12 at *
  have h19 : ∀ n, IsR (k0_pay19 (F := Ideal) (k0_pay2 (F := Ideal) x) p12 (k0_pay13 (F := Ideal) (k0_pay2 (F := Ideal) x) k4) k5 k6 (ix2 r n)) := fun n => by
    generalize k0_pay13 (F := Ideal) (k0_pay2 (F := Ideal) x) k4 = b at *
    generalize k0_pay2 (F := Ideal) x = q at *
    pointwise [k0_pay19, k0_pay15, k0_pay17]
    repeat' apply IsR.max
    all_goals first | exact h12 _ | exact h13 _ | exact IsR.sum _ _ fun d => (hx r d).mul (hk5 d _) | exact IsR.sum _ _ fun d => (hx r d).mul (hk6 d _)
  generalize k0_pay19 (F := Ideal) (k0_pay2 (F := Ideal) x) p12 (k0_pay13 (F := Ideal) (k0_pay2 (F := Ideal) x) k4) k5 k6 = p19 at *
  generalize k0_pay2 (F := Ideal) x = q at *
  pointwise [k0_pay25, k0_pay21, k0_pay20, k0_pay23]
  have hb : Ideal.ofBits .f32 0xFF800000#32 = ⊥ := by simp [Ideal.ofBits, Ideal.ieee]
  rw [hb]
  refine IsR.fold_max (n := 127) _ fun n => ?_
  repeat' apply IsR.max
  all_goals first | exact h19 _ | exact IsR.sum _ _ fun d => (hx r d).mul (hk7 d _) | exact IsR.sum _ _ fun d => (hx r d).mul (hk8 d _)

end

end Cert.DAIdeal.Hand

end
-- ==== Proof.DAHost.lean ====
module

public import proofs.«01_k».proof.Proof.DABlk
public import Idealize.ShloMosaic.Lib.StableHlo.ReadAt
public import Idealize.ShloMosaic.Lib.Routing.OpsSet
public import Idealize.ShloMosaic.Lib.Routing.OpsPair

@[expose] public section

set_option maxRecDepth 16384

noncomputable section

/-! What the attention program's host code hands the kernel: each operand read at an index, in terms of the arguments. -/

namespace Cert.DAIdeal.Hand

open Cert.DAIdeal Cert.DAIdeal.Gen Idealize.ShloMosaic Idealize.ShloMosaic.TcCoe Idealize.SL.Sem
open DAMath

variable (m : (ℓ : Loc nD τ sig) → Buf (Elt Ideal) ℓ)

/-- The program's arguments as functions of an index: the four lambda vectors, the gain, query, keys, values, context keys, context values. -/
abbrev in0 (c : Dev nD) : S64.Idx → EReal := m ((c : Thread nD τ).loc main_arg0)
abbrev in1 (c : Dev nD) : S64.Idx → EReal := m ((c : Thread nD τ).loc main_arg1)
abbrev in2 (c : Dev nD) : S64.Idx → EReal := m ((c : Thread nD τ).loc main_arg2)
abbrev in3 (c : Dev nD) : S64.Idx → EReal := m ((c : Thread nD τ).loc main_arg3)
abbrev in4 (c : Dev nD) : S128.Idx → EReal := m ((c : Thread nD τ).loc main_arg4)
abbrev in5 (c : Dev nD) : S16x4096x8x2x64.Idx → EReal := m ((c : Thread nD τ).loc main_arg5)
abbrev in6 (c : Dev nD) : S16x4096x8x2x64.Idx → EReal := m ((c : Thread nD τ).loc main_arg6)
abbrev in7 (c : Dev nD) : S16x4096x8x128.Idx → EReal := m ((c : Thread nD τ).loc main_arg7)
abbrev in8 (c : Dev nD) : S16x256x8x2x64.Idx → EReal := m ((c : Thread nD τ).loc main_arg8)
abbrev in9 (c : Dev nD) : S16x256x8x128.Idx → EReal := m ((c : Thread nD τ).loc main_arg9)

/-- The query's scale: one eighth over the logarithm of two. -/
theorem scale_eq : Ideal.div (Ideal.ofBits .f32 0x3E000000#32) (Ideal.log (Ideal.ofBits .f32 0x40000000#32)) = (((1 / 8 : ℝ) / Real.log 2 : ℝ) : EReal) := by
  have h1 : Ideal.ofBits .f32 0x3E000000#32 = ((1 / 8 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  rw [h1, h2, log_two, div_real _ _ (Real.log_pos (by norm_num)).ne']

/-- The query operand. -/
theorem V_q (c : Dev nD) (b : Fin 16) (t : Fin 4096) (d : Fin 1024) :
    V m c main_v15 (ix3 b t d) = in5 m c (ix5 b t ⟨d.val / 128, by omega⟩ ⟨d.val / 64 % 2, by omega⟩ ⟨d.val % 64, by omega⟩)
      * Ideal.div (Ideal.ofBits .f32 0x3E000000#32) (Ideal.log (Ideal.ofBits .f32 0x40000000#32)) := by
  unfold V
  after_reads_at

/-- The latent keys, transposed. -/
theorem V_k (c : Dev nD) (b : Fin 16) (t : Fin 4096) (d : Fin 1024) :
    V m c main_v18 (ix3 b d t) = in6 m c (ix5 b t ⟨d.val / 128, by omega⟩ ⟨d.val / 64 % 2, by omega⟩ ⟨d.val % 64, by omega⟩) := by
  unfold V
  after_reads_at

/-- The context keys, transposed. -/
theorem V_kc (c : Dev nD) (b : Fin 16) (t : Fin 256) (d : Fin 1024) :
    V m c main_v21 (ix3 b d t) = in8 m c (ix5 b t ⟨d.val / 128, by omega⟩ ⟨d.val / 64 % 2, by omega⟩ ⟨d.val % 64, by omega⟩) := by
  unfold V
  after_reads_at

/-- The latent values. -/
theorem V_v (c : Dev nD) (b : Fin 16) (t : Fin 4096) (d : Fin 1024) :
    V m c main_v23 (ix3 b t d) = in7 m c (ix4 b t ⟨d.val / 128, by omega⟩ ⟨d.val % 128, by omega⟩) := by
  unfold V
  after_reads_at

/-- The context values. -/
theorem V_vc (c : Dev nD) (b : Fin 16) (t : Fin 256) (d : Fin 1024) :
    V m c main_v25 (ix3 b t d) = in9 m c (ix4 b t ⟨d.val / 128, by omega⟩ ⟨d.val % 128, by omega⟩) := by
  unfold V
  after_reads_at

/-- The gain's row. -/
theorem V_g (c : Dev nD) (z : Fin 1) (d : Fin 128) :
    V m c main_v26 (ix2 z d) = in4 m c (ix1 d) := by
  unfold V
  after_reads_at

theorem start_zero (k : S4x64.Idx) (idx : IVec S2 32) (h : ∀ i, idx i = 0#32) (a : Fin 2) :
    scatter_S8x128_S2_S4x64_01_n_01_0.start k idx a = 0 := by
  unfold ScatterDims.start
  simp [h]

theorem window_eq (k : S4x64.Idx) (a : Fin 2) :
    scatter_S8x128_S2_S4x64_01_n_01_0.window k a = (k a).val := by
  match a with
  | ⟨0, _⟩ => rfl
  | ⟨1, _⟩ => rfl

/-- Writing a `4 × 64` corner over an `8 × 128` array, read at an index. -/
theorem corner (x : S8x128.Idx → EReal) (idx : IVec S2 32) (h : ∀ i, idx i = 0#32) (u : S4x64.Idx → EReal) (z : Fin 8) (d : Fin 128) :
    Host.scatter scatter_S8x128_S2_S4x64_01_n_01_0 (fun _ b => b) x idx u (ix2 z d)
      = if g : z.val < 4 ∧ d.val < 64 then u (ix2 ⟨z.val, g.1⟩ ⟨d.val, g.2⟩) else x (ix2 z d) := by
  have key : ∀ k : S4x64.Idx, scatter_S8x128_S2_S4x64_01_n_01_0.resultIdx? k idx = some (ix2 z d) ↔ (k 0).val = z.val ∧ (k 1).val = d.val := by
    intro k
    rw [Routing.resultIdx?_eq_some]
    constructor
    · intro q
      have q0 := q 0; have q1 := q 1
      rw [start_zero k idx h, window_eq, zero_add] at q0 q1
      exact ⟨by exact_mod_cast q0, by exact_mod_cast q1⟩
    · rintro ⟨q0, q1⟩ a
      rw [start_zero k idx h, window_eq, zero_add]
      match a with
      | ⟨0, _⟩ => exact_mod_cast q0
      | ⟨1, _⟩ => exact_mod_cast q1
  by_cases g : z.val < 4 ∧ d.val < 64
  · rw [dif_pos g]
    refine Routing.scatter_set_hit _ x idx u _ _ (fun k hk => ?_) (ix2 ⟨z.val, g.1⟩ ⟨d.val, g.2⟩) ((key _).2 ⟨rfl, rfl⟩)
    obtain ⟨e0, e1⟩ := (key k).1 hk
    refine congrArg u (funext fun a => ?_)
    match a with
    | ⟨0, _⟩ => exact Fin.ext e0
    | ⟨1, _⟩ => exact Fin.ext e1
  · rw [dif_neg g]
    refine Routing.scatter_set_miss _ x idx u _ fun k hk => g ?_
    obtain ⟨e0, e1⟩ := (key k).1 hk
    have h0 := (k 0).isLt; have h1 := (k 1).isLt
    change _ < 4 at h0; change _ < 64 at h1
    omega

/-- The four lambda vectors, one row each, in the corner of the `8 × 128` operand. -/
theorem V_lam (c : Dev nD) (z : Fin 8) (d : Fin 128) :
    V m c main_v9 (ix2 z d) = if h : z.val < 4 ∧ d.val < 64 then
      (if z.val < 1 then in0 m c (ix1 ⟨d.val, h.2⟩) else if z.val - 1 < 1 then in1 m c (ix1 ⟨d.val, h.2⟩)
        else if z.val - 1 - 1 < 1 then in2 m c (ix1 ⟨d.val, h.2⟩) else in3 m c (ix1 ⟨d.val, h.2⟩)) else 0 := by
  unfold V
  after_reads_at
  rw [corner]
  · after_reads_at
    rfl
  · intro i
    pointwise
    split
    · generalize (ix1 _ : S1.Idx) = j
      after_reads_at
    · generalize (ix1 _ : S1.Idx) = j
      after_reads_at

/-- The numerator's coefficient: a difference of two exponentials of dot products, and a constant. -/
theorem lam_eq (c : Dev nD) (l0 l1 l2 l3 : S1x128.Idx → EReal)
    (h0 : ∀ d, l0 (ix2 0 d) = V m c main_v9 (ix2 0 d)) (h1 : ∀ d, l1 (ix2 0 d) = V m c main_v9 (ix2 1 d))
    (h2 : ∀ d, l2 (ix2 0 d) = V m c main_v9 (ix2 2 d)) (h3 : ∀ d, l3 (ix2 0 d) = V m c main_v9 (ix2 3 d)) :
    lamOf l0 l1 l2 l3 = Ideal.exp (∑ d : Fin 64, in0 m c (ix1 d) * in1 m c (ix1 d))
      - Ideal.exp (∑ d : Fin 64, in2 m c (ix1 d) * in3 m c (ix1 d)) + Ideal.ofBits .f32 0x3EF1014C#32 := by
  have z : ∀ (i : Fin 8) (d : Fin 128), 64 ≤ d.val → V m c main_v9 (ix2 i d) = (0 : EReal) := fun i d h => by
    rw [V_lam, dif_neg (by omega)]
  unfold lamOf
  rw [sum_lo (fun x => l0 (ix2 0 x) * l1 (ix2 0 x)) fun d h => by simp only [h0, z 0 d h, zero_mul],
    sum_lo (fun x => l2 (ix2 0 x) * l3 (ix2 0 x)) fun d h => by simp only [h2, z 2 d h, zero_mul]]
  have e0 : ∀ d : Fin 64, V m c main_v9 (ix2 0 ⟨d.val, d.isLt.trans (by decide)⟩) = in0 m c (ix1 d) := fun d => by
    rw [V_lam, dif_pos ⟨by decide, d.isLt⟩]; rfl
  have e1 : ∀ d : Fin 64, V m c main_v9 (ix2 1 ⟨d.val, d.isLt.trans (by decide)⟩) = in1 m c (ix1 d) := fun d => by
    rw [V_lam, dif_pos ⟨by decide, d.isLt⟩]; rfl
  have e2 : ∀ d : Fin 64, V m c main_v9 (ix2 2 ⟨d.val, d.isLt.trans (by decide)⟩) = in2 m c (ix1 d) := fun d => by
    rw [V_lam, dif_pos ⟨by decide, d.isLt⟩]; rfl
  have e3 : ∀ d : Fin 64, V m c main_v9 (ix2 3 ⟨d.val, d.isLt.trans (by decide)⟩) = in3 m c (ix1 d) := fun d => by
    rw [V_lam, dif_pos ⟨by decide, d.isLt⟩]; rfl
  simp only [h0, h1, h2, h3, e0, e1, e2, e3]

end Cert.DAIdeal.Hand

end
-- ==== Proof.DAWin.lean ====
module

public import proofs.«01_k».proof.Proof.DAHost
public import Idealize.ShloMosaic.Lib.Pipeline.ValueKit
public import Idealize.ShloMosaic.Lib.Pipeline.Covers

@[expose] public section

set_option maxRecDepth 16384

noncomputable section

namespace Cert.DAIdeal.Hand

open Cert.DAIdeal Cert.DAIdeal.Gen Idealize.ShloMosaic Idealize.ShloMosaic.TcCoe Idealize.SL.Sem
open Idealize.ShloMosaic.Pipeline (Dat)
open DAMath

variable (m : (ℓ : Loc nD τ sig) → Buf (Elt Ideal) ℓ)

/-- The grid's coordinates at a point: batch, head, query tile. -/
def bb (t : Fin cfg0.N) : Fin 16 := cfg0.grid.coords t 0
def hh (t : Fin cfg0.N) : Fin 8 := cfg0.grid.coords t 1
def qq (t : Fin cfg0.N) : Fin 4 := cfg0.grid.coords t 2

theorem word (n : ℕ) (h : n < 16) : (BitVec.ofNat 32 n).toNat = n := by
  rw [BitVec.toNat_ofNat]; omega

theorem w16 (i : Fin 16) : (BitVec.ofNat 32 i.val).toNat = i.val := word _ (by omega)
theorem w8 (i : Fin 8) : (BitVec.ofNat 32 i.val).toNat = i.val := word _ (by omega)
theorem w4 (i : Fin 4) : (BitVec.ofNat 32 i.val).toNat = i.val := word _ (by omega)

/-- A query block's entry. -/
theorem iblk2 (c : Dev nD) (t : Fin cfg0.N) (r : Fin 1024) (d : Fin 128) :
    iblk m c 2 t (ix3 0 r d) = V m c main_v15 (ix3 (bb t) ⟨(qq t).val * 1024 + r.val, by have := (qq t).isLt; omega⟩ ⟨(hh t).val * 128 + d.val, by have := (hh t).isLt; omega⟩) := by
  unfold iblk
  show V m c main_v15 (((cfg0.win 2).blk t).view.emb (ix3 0 r d)) = _
  refine congrArg (V m c main_v15) (funext fun a => Fin.ext ?_)
  match a with
  | ⟨0, _⟩ => blk_simp; exact (add_zero _).trans (w16 _)
  | ⟨1, _⟩ => blk_simp; exact congrArg (· * 1024 + r.val) (w4 (qq t))
  | ⟨2, _⟩ => blk_simp; exact congrArg (· * 128 + d.val) (w8 (hh t))

/-- A latent key block's entry. -/
theorem iblk3 (c : Dev nD) (t : Fin cfg0.N) (d : Fin 128) (n : Fin 4096) :
    iblk m c 3 t (ix3 0 d n) = V m c main_v18 (ix3 (bb t) ⟨(hh t).val * 128 + d.val, by have := (hh t).isLt; omega⟩ n) := by
  unfold iblk
  show V m c main_v18 (((cfg0.win 3).blk t).view.emb (ix3 0 d n)) = _
  refine congrArg (V m c main_v18) (funext fun a => Fin.ext ?_)
  match a with
  | ⟨0, _⟩ => blk_simp; exact (add_zero _).trans (w16 _)
  | ⟨1, _⟩ => blk_simp; exact congrArg (· * 128 + d.val) (w8 (hh t))
  | ⟨2, _⟩ => blk_simp; exact zero_add _

/-- A latent value block's entry. -/
theorem iblk4 (c : Dev nD) (t : Fin cfg0.N) (n : Fin 4096) (d : Fin 128) :
    iblk m c 4 t (ix3 0 n d) = V m c main_v23 (ix3 (bb t) n ⟨(hh t).val * 128 + d.val, by have := (hh t).isLt; omega⟩) := by
  unfold iblk
  show V m c main_v23 (((cfg0.win 4).blk t).view.emb (ix3 0 n d)) = _
  refine congrArg (V m c main_v23) (funext fun a => Fin.ext ?_)
  match a with
  | ⟨0, _⟩ => blk_simp; exact (add_zero _).trans (w16 _)
  | ⟨1, _⟩ => blk_simp; exact zero_add _
  | ⟨2, _⟩ => blk_simp; exact congrArg (· * 128 + d.val) (w8 (hh t))

/-- A context key block's entry. -/
theorem iblk5 (c : Dev nD) (t : Fin cfg0.N) (d : Fin 128) (n : Fin 256) :
    iblk m c 5 t (ix3 0 d n) = V m c main_v21 (ix3 (bb t) ⟨(hh t).val * 128 + d.val, by have := (hh t).isLt; omega⟩ n) := by
  unfold iblk
  show V m c main_v21 (((cfg0.win 5).blk t).view.emb (ix3 0 d n)) = _
  refine congrArg (V m c main_v21) (funext fun a => Fin.ext ?_)
  match a with
  | ⟨0, _⟩ => blk_simp; exact (add_zero _).trans (w16 _)
  | ⟨1, _⟩ => blk_simp; exact congrArg (· * 128 + d.val) (w8 (hh t))
  | ⟨2, _⟩ => blk_simp; exact zero_add _

/-- A context value block's entry. -/
theorem iblk6 (c : Dev nD) (t : Fin cfg0.N) (n : Fin 256) (d : Fin 128) :
    iblk m c 6 t (ix3 0 n d) = V m c main_v25 (ix3 (bb t) n ⟨(hh t).val * 128 + d.val, by have := (hh t).isLt; omega⟩) := by
  unfold iblk
  show V m c main_v25 (((cfg0.win 6).blk t).view.emb (ix3 0 n d)) = _
  refine congrArg (V m c main_v25) (funext fun a => Fin.ext ?_)
  match a with
  | ⟨0, _⟩ => blk_simp; exact (add_zero _).trans (w16 _)
  | ⟨1, _⟩ => blk_simp; exact zero_add _
  | ⟨2, _⟩ => blk_simp; exact congrArg (· * 128 + d.val) (w8 (hh t))

/-- The lambda rows' block is the whole operand. -/
theorem iblk0 (c : Dev nD) (t : Fin cfg0.N) (z : Fin 8) (d : Fin 128) :
    iblk m c 0 t (ix2 z d) = V m c main_v9 (ix2 z d) := by
  unfold iblk
  show V m c main_v9 (((cfg0.win 0).blk t).view.emb (ix2 z d)) = _
  refine congrArg (V m c main_v9) (funext fun a => Fin.ext ?_)
  match a with
  | ⟨0, _⟩ => blk_simp; exact zero_add _
  | ⟨1, _⟩ => blk_simp; exact zero_add _

/-- The gain's block is the whole row. -/
theorem iblk1 (c : Dev nD) (t : Fin cfg0.N) (z : Fin 1) (d : Fin 128) :
    iblk m c 1 t (ix2 z d) = V m c main_v26 (ix2 z d) := by
  unfold iblk
  show V m c main_v26 (((cfg0.win 1).blk t).view.emb (ix2 z d)) = _
  refine congrArg (V m c main_v26) (funext fun a => Fin.ext ?_)
  match a with
  | ⟨0, _⟩ => blk_simp; rfl
  | ⟨1, _⟩ => blk_simp; exact zero_add _

/-- Where the output block's entry lies. -/
theorem emb7 (t : Fin cfg0.N) (z : Fin 1) (r : Fin 1024) (d : Fin 128) :
    ((cfg0.win 7).blk t).view.emb (ix3 z r d)
      = ix3 (bb t) ⟨(qq t).val * 1024 + r.val, by have := (qq t).isLt; omega⟩ ⟨(hh t).val * 128 + d.val, by have := (hh t).isLt; omega⟩ := by
  funext a
  apply Fin.ext
  match a with
  | ⟨0, _⟩ => blk_simp; exact w16 (bb t)
  | ⟨1, _⟩ => blk_simp; exact congrArg (· * 1024 + r.val) (w4 (qq t))
  | ⟨2, _⟩ => blk_simp; exact congrArg (· * 128 + d.val) (w8 (hh t))

/-- The output blocks fill the array. -/
theorem covers7 : (cfg0.win 7).Covers := by
  refine (cfg0.win 7).covers_of_indexMap_surj rfl (by decide) fun β =>
    ⟨fun a => match a with | ⟨0, _⟩ => β 0 | ⟨1, _⟩ => β 2 | ⟨2, _⟩ => β 1, fun a => ?_⟩
  match a with
  | ⟨0, _⟩ => exact w16 (β 0)
  | ⟨1, _⟩ => exact w4 (β 1)
  | ⟨2, _⟩ => exact w8 (β 2)

/-- A load of 512 columns of the key block. -/
theorem ld_k (c : Dev nD) (t : Fin cfg0.N) (o : ℕ) (h : o + 512 ≤ 4096) (inb) (d : Fin 128) (n : Fin 512) :
    View.ld (iblk m c 3 t) (Rect.unit (s := S1x128x4096) ![0, 0, o] ![1, 128, 512] inb) (ix3 0 d n) = iblk m c 3 t (ix3 0 d ⟨o + n.val, by omega⟩) := by
  refine congrArg (iblk m c 3 t) (funext fun a => Fin.ext ?_)
  match a with
  | ⟨0, _⟩ => rfl
  | ⟨1, _⟩ => show 0 + 1 * d.val = d.val; omega
  | ⟨2, _⟩ => show o + 1 * n.val = o + n.val; omega

theorem ld_v (c : Dev nD) (t : Fin cfg0.N) (o : ℕ) (h : o + 512 ≤ 4096) (inb) (n : Fin 512) (d : Fin 128) :
    View.ld (iblk m c 4 t) (Rect.unit (s := S1x4096x128) ![0, o, 0] ![1, 512, 128] inb) (ix3 0 n d) = iblk m c 4 t (ix3 0 ⟨o + n.val, by omega⟩ d) := by
  refine congrArg (iblk m c 4 t) (funext fun a => Fin.ext ?_)
  match a with
  | ⟨0, _⟩ => rfl
  | ⟨1, _⟩ => show o + 1 * n.val = o + n.val; omega
  | ⟨2, _⟩ => show 0 + 1 * d.val = d.val; omega

theorem ld_l (c : Dev nD) (t : Fin cfg0.N) (o : ℕ) (h : o < 8) (inb) (z : Fin 1) (d : Fin 128) :
    View.ld (iblk m c 0 t) (Rect.unit (s := S8x128) ![o, 0] ![1, 128] inb) (ix2 z d) = iblk m c 0 t (ix2 ⟨o, h⟩ d) := by
  refine congrArg (iblk m c 0 t) (funext fun a => Fin.ext ?_)
  match a with
  | ⟨0, _⟩ => show o + 1 * z.val = o; omega
  | ⟨1, _⟩ => show 0 + 1 * d.val = d.val; omega

end Cert.DAIdeal.Hand

end
-- ==== Proof.DARef.lean ====
module

public import proofs.«01_k».proof.Proof.Gen.DARefIdeal.Read
public import proofs.«01_k».proof.Proof.DAMath
public import Idealize.ShloMosaic.Lib.Pointwise

@[expose] public section

set_option maxRecDepth 16384

noncomputable section

namespace Cert.DARefIdeal.Hand

open Cert.DARefIdeal Cert.DARefIdeal.Read Idealize.ShloMosaic Idealize.ShloMosaic.TcCoe Idealize.SL.Sem
open DAMath

variable (x0 x1 x2 x3 : S64.Idx → EReal) (x4 : S128.Idx → EReal) (x5 x6 : S16x4096x8x2x64.Idx → EReal)
  (x7 : S16x4096x8x128.Idx → EReal) (x8 : S16x256x8x2x64.Idx → EReal) (x9 : S16x256x8x128.Idx → EReal)

theorem lam_apply (i : S_.Idx) : val_main_v7 (F := Ideal) x0 x1 x2 x3 i
    = Ideal.exp (∑ d : Fin 64, x0 (ix1 d) * x1 (ix1 d)) - Ideal.exp (∑ d : Fin 64, x2 (ix1 d) * x3 (ix1 d)) + Ideal.ofBits .f32 0x3EF1014C#32 := by
  unfold val_main_v7 val_main_v6 val_main_v5 val_main_v4 val_main_v3 val_main_v2 val_main_v1 val_main_v0 val_main_cst val_main_cst_0 val_main_cst_1
  pointwise
  try simp only [Ideal.ofBits_zero_f32, zero_add]
  try rfl

theorem s_apply (b h c q k) : val_main_v12 (F := Ideal) x5 x6 x8 (ix5 b h c q k)
    = (∑ d : Fin 64, x5 (ix5 b q h c d) * (if g : k.val < 4096 then x6 (ix5 b ⟨k.val, g⟩ h c d) else x8 (ix5 b ⟨k.val - 4096, by omega⟩ h c d)))
      * Ideal.ofBits .f32 0x3E000000#32 := by
  unfold val_main_v12 val_main_v11 val_main_v10 val_main_v8 val_main_cst_2
  pointwise
  try rfl

/-- The maximum of real scores is real. -/
theorem m_real (b h c q) (hs : ∀ k, IsR (val_main_v12 (F := Ideal) x5 x6 x8 (ix5 b h c q k))) :
    IsR (val_main_v15 (F := Ideal) x5 x6 x8 (ix4 b h c q)) := by
  have bot : Ideal.ofBits .f32 0xFF800000#32 = ⊥ := by simp [Ideal.ofBits, Ideal.ieee]
  have hb : ∀ i, val_main_v14 (F := Ideal) i = ⊥ := fun i => bot
  have red : S16x8x2x4096x4352.Reduces [4] S16x8x2x4096 := by decide
  have h13 : IsR (val_main_v13 (F := Ideal) x5 x6 x8 (ix4 b h c q)) := by
    unfold val_main_v13
    have e : (FloatOps.maximumf (F := Ideal) (φ := .f32)) = (Max.max : EReal → EReal → EReal) := rfl
    rw [e, Host.reduce_eq_fold_single Max.max _ _ _ red]
    have ei : val_main_cst_3 (F := Ideal) (Shape.Idx.first Gen.h_S_) = ⊥ := bot
    rw [ei]
    refine IsR.fold_max (n := 4351) _ fun k => ?_
    have el : red.lift (ix4 b h c q) k = ix5 b h c q k := funext fun a => by
      match a with
      | ⟨0, _⟩ => rfl
      | ⟨1, _⟩ => rfl
      | ⟨2, _⟩ => rfl
      | ⟨3, _⟩ => rfl
      | ⟨4, _⟩ => rfl
    exact (congrArg (fun i => IsR (val_main_v12 (F := Ideal) x5 x6 x8 i)) el).mpr (hs k)
  have e15 : val_main_v15 (F := Ideal) x5 x6 x8 (ix4 b h c q) = Max.max ⊥ (val_main_v13 (F := Ideal) x5 x6 x8 (ix4 b h c q)) := by
    rw [val_main_v15_apply, hb]; rfl
  rw [e15, bot_sup_eq]
  exact h13

theorem e_apply (b h c q k) : val_main_v19 (F := Ideal) x5 x6 x8 (ix5 b h c q k)
    = Ideal.exp (val_main_v12 (F := Ideal) x5 x6 x8 (ix5 b h c q k) - val_main_v15 (F := Ideal) x5 x6 x8 (ix4 b h c q)) := by
  unfold val_main_v19 val_main_v18 val_main_v17 val_main_v16
  pointwise

theorem sum_apply (b h c q) : val_main_v20 (F := Ideal) x5 x6 x8 (ix4 b h c q)
    = ∑ k : Fin 4352, val_main_v19 (F := Ideal) x5 x6 x8 (ix5 b h c q k) := by
  rw [val_main_v20_apply]
  unfold val_main_cst_5
  refine (congrArg (· + _) (Ideal.ofBits_zero_f32 : _ = (0 : EReal))).trans ((zero_add _).trans ?_)
  refine Finset.sum_congr rfl fun k _ => congrArg _ (funext fun a => ?_)
  match a with
  | ⟨0, _⟩ => rfl
  | ⟨1, _⟩ => rfl
  | ⟨2, _⟩ => rfl
  | ⟨3, _⟩ => rfl
  | ⟨4, _⟩ => rfl

theorem p_apply (b h c q k) : val_main_v23 (F := Ideal) x5 x6 x8 (ix5 b h c q k)
    = Ideal.div (val_main_v19 (F := Ideal) x5 x6 x8 (ix5 b h c q k)) (val_main_v20 (F := Ideal) x5 x6 x8 (ix4 b h c q)) := by
  unfold val_main_v23 val_main_v22 val_main_v21
  pointwise

theorem a_apply (b h q k) : val_main_v30 (F := Ideal) x0 x1 x2 x3 x5 x6 x8 (ix4 b h q k)
    = val_main_v23 (F := Ideal) x5 x6 x8 (ix5 b h 0 q k) - val_main_v7 (F := Ideal) x0 x1 x2 x3 ix0 * val_main_v23 (F := Ideal) x5 x6 x8 (ix5 b h 1 q k) := by
  rw [val_main_v30_apply, val_main_v29_apply, val_main_v28_apply, val_main_v27_apply, val_main_v26_apply, val_main_v25_apply, val_main_v24_apply]
  have e0 : idx_main_v24 (idx_main_v25 (ix4 b h q k)) = ix5 b h 0 q k := funext fun a => by
    match a with
    | ⟨0, _⟩ => exact Fin.ext (by show _ = b.val; simp [idx_main_v24, idx_main_v25, ix4]; omega)
    | ⟨1, _⟩ => exact Fin.ext (by show _ = h.val; simp [idx_main_v24, idx_main_v25, ix4]; omega)
    | ⟨2, _⟩ => exact Fin.ext (by rfl)
    | ⟨3, _⟩ => exact Fin.ext (by show _ = q.val; simp [idx_main_v24, idx_main_v25, ix4]; omega)
    | ⟨4, _⟩ => exact Fin.ext (by show _ = k.val; simp [idx_main_v24, idx_main_v25, ix4])
  have e1 : idx_main_v26 (idx_main_v27 (ix4 b h q k)) = ix5 b h 1 q k := funext fun a => by
    match a with
    | ⟨0, _⟩ => exact Fin.ext (by show _ = b.val; simp [idx_main_v26, idx_main_v27, ix4]; omega)
    | ⟨1, _⟩ => exact Fin.ext (by show _ = h.val; simp [idx_main_v26, idx_main_v27, ix4]; omega)
    | ⟨2, _⟩ => exact Fin.ext (by rfl)
    | ⟨3, _⟩ => exact Fin.ext (by show _ = q.val; simp [idx_main_v26, idx_main_v27, ix4]; omega)
    | ⟨4, _⟩ => exact Fin.ext (by show _ = k.val; simp [idx_main_v26, idx_main_v27, ix4])
  rw [e0, e1]
  rfl

theorem v_apply (b k h e) : val_main_v9 (F := Ideal) x7 x9 (ix4 b k h e)
    = if g : k.val < 4096 then x7 (ix4 b ⟨k.val, g⟩ h e) else x9 (ix4 b ⟨k.val - 4096, by omega⟩ h e) := by
  unfold val_main_v9
  pointwise

theorem o_apply (b q h e) : val_main_v32 (F := Ideal) x0 x1 x2 x3 x5 x6 x7 x8 x9 (ix4 b q h e)
    = ∑ k : Fin 4352, val_main_v9 (F := Ideal) x7 x9 (ix4 b k h e) * val_main_v30 (F := Ideal) x0 x1 x2 x3 x5 x6 x8 (ix4 b h q k) := by
  rw [val_main_v32_apply, val_main_v31_apply]
  refine Finset.sum_congr rfl fun k _ => congrArg₂ (· * ·) (congrArg _ (funext fun a => ?_)) (congrArg _ (funext fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

/-- Head `h` of the result at row `t`, from the combined values of that head. -/
theorem out_apply (b t d) : val_main_v49 (F := Ideal) x0 x1 x2 x3 x4 x5 x6 x7 x8 x9 (ix3 b t d)
    = val_main_v32 (F := Ideal) x0 x1 x2 x3 x5 x6 x7 x8 x9 (ix4 b t ⟨d.val / 128, by omega⟩ ⟨d.val % 128, by omega⟩)
      * Ideal.rsqrt (Ideal.div (∑ e : Fin 128, val_main_v32 (F := Ideal) x0 x1 x2 x3 x5 x6 x7 x8 x9 (ix4 b t ⟨d.val / 128, by omega⟩ e)
          * val_main_v32 (F := Ideal) x0 x1 x2 x3 x5 x6 x7 x8 x9 (ix4 b t ⟨d.val / 128, by omega⟩ e)) (Ideal.ofBits .f32 0x43000000#32)
        + Ideal.ofBits .f32 0x358637BD#32)
      * x4 (ix1 ⟨d.val % 128, by omega⟩) * Ideal.ofBits .f32 0x3F077F5A#32 := by
  unfold val_main_v49 val_main_v48 val_main_v47 val_main_v46 val_main_v45 val_main_v44 val_main_v43 val_main_v42 val_main_v41 val_main_v40 val_main_v39 val_main_v38 val_main_v37 val_main_v36 val_main_v35 val_main_v34 val_main_v33 val_main_cst_6 val_main_cst_7 val_main_cst_8 val_main_cst_9
  pointwise
  try simp only [Ideal.ofBits_zero_f32, zero_add]
  try rfl

/-- The key and value entry `k` of the latents and the context together, over the reals. -/
def keyR (K : Fin 16 → Fin 4096 → Fin 8 → Fin 2 → Fin 64 → ℝ) (C : Fin 16 → Fin 256 → Fin 8 → Fin 2 → Fin 64 → ℝ)
    (b : Fin 16) (h : Fin 8) (c : Fin 2) (k : Fin 4352) (d : Fin 64) : ℝ :=
  if g : k.val < 4096 then K b ⟨k.val, g⟩ h c d else C b ⟨k.val - 4096, by omega⟩ h c d
def valR (V : Fin 16 → Fin 4096 → Fin 8 → Fin 128 → ℝ) (W : Fin 16 → Fin 256 → Fin 8 → Fin 128 → ℝ)
    (b : Fin 16) (h : Fin 8) (k : Fin 4352) (e : Fin 128) : ℝ :=
  if g : k.val < 4096 then V b ⟨k.val, g⟩ h e else W b ⟨k.val - 4096, by omega⟩ h e

/-- The score of key `k` for query `q` in component `c` of head `h`, over the reals. -/
def scoreR (Q K : Fin 16 → Fin 4096 → Fin 8 → Fin 2 → Fin 64 → ℝ) (C : Fin 16 → Fin 256 → Fin 8 → Fin 2 → Fin 64 → ℝ)
    (b : Fin 16) (h : Fin 8) (c : Fin 2) (q : Fin 4096) (k : Fin (4351 + 1)) : ℝ :=
  (∑ d : Fin 64, Q b q h c d * keyR K C b h c k d) * (1 / 8)

theorem eighth : Ideal.ofBits .f32 0x3E000000#32 = ((1 / 8 : ℝ) : EReal) := by
  simp [Ideal.ofBits, Ideal.ieee, -EReal.coe_mul]; norm_num

section Reals

variable {x5 x6 x7 x8 x9}
variable {Q K : Fin 16 → Fin 4096 → Fin 8 → Fin 2 → Fin 64 → ℝ} {C : Fin 16 → Fin 256 → Fin 8 → Fin 2 → Fin 64 → ℝ}
  {V : Fin 16 → Fin 4096 → Fin 8 → Fin 128 → ℝ} {W : Fin 16 → Fin 256 → Fin 8 → Fin 128 → ℝ}

/-- Real arguments give real scores … -/
theorem s_real (h5 : ∀ b q h c d, x5 (ix5 b q h c d) = ((Q b q h c d : ℝ) : EReal)) (h6 : ∀ b q h c d, x6 (ix5 b q h c d) = ((K b q h c d : ℝ) : EReal))
    (h8 : ∀ b q h c d, x8 (ix5 b q h c d) = ((C b q h c d : ℝ) : EReal)) (b h c q k) :
    val_main_v12 (F := Ideal) x5 x6 x8 (ix5 b h c q k) = ((scoreR Q K C b h c q k : ℝ) : EReal) := by
  rw [s_apply, eighth]
  unfold scoreR
  rw [EReal.coe_mul, ← coe_sum]
  refine congrArg₂ (fun a b : EReal => a * b) (Finset.sum_congr rfl fun d _ => ?_) rfl
  rw [h5, EReal.coe_mul]
  refine congrArg₂ (fun a b : EReal => a * b) rfl ?_
  unfold keyR
  split
  · exact h6 _ _ _ _ _
  · exact h8 _ _ _ _ _

/-- … real weights … -/
theorem p_real (h5 : ∀ b q h c d, x5 (ix5 b q h c d) = ((Q b q h c d : ℝ) : EReal)) (h6 : ∀ b q h c d, x6 (ix5 b q h c d) = ((K b q h c d : ℝ) : EReal))
    (h8 : ∀ b q h c d, x8 (ix5 b q h c d) = ((C b q h c d : ℝ) : EReal)) (b h c q k) :
    val_main_v23 (F := Ideal) x5 x6 x8 (ix5 b h c q k) = ((wt (scoreR Q K C b h c q) k : ℝ) : EReal) := by
  obtain ⟨M, hM⟩ := m_real x5 x6 x8 b h c q fun k => ⟨_, s_real h5 h6 h8 b h c q k⟩
  rw [p_apply, sum_apply]
  simp only [e_apply, s_real h5 h6 h8, hM]
  exact softmax (n := 4351) (scoreR Q K C b h c q) M k

/-- … and the combined values as the difference of two weighted sums. -/
theorem o_real (h5 : ∀ b q h c d, x5 (ix5 b q h c d) = ((Q b q h c d : ℝ) : EReal)) (h6 : ∀ b q h c d, x6 (ix5 b q h c d) = ((K b q h c d : ℝ) : EReal))
    (h7 : ∀ b q h e, x7 (ix4 b q h e) = ((V b q h e : ℝ) : EReal)) (h9 : ∀ b q h e, x9 (ix4 b q h e) = ((W b q h e : ℝ) : EReal))
    (h8 : ∀ b q h c d, x8 (ix5 b q h c d) = ((C b q h c d : ℝ) : EReal)) (L : ℝ) (hL : val_main_v7 (F := Ideal) x0 x1 x2 x3 ix0 = (L : EReal)) (b q h e) :
    val_main_v32 (F := Ideal) x0 x1 x2 x3 x5 x6 x7 x8 x9 (ix4 b q h e)
      = ((∑ k, wt (scoreR Q K C b h 0 q) k * valR V W b h k e : ℝ) : EReal) - (L : EReal) * ((∑ k, wt (scoreR Q K C b h 1 q) k * valR V W b h k e : ℝ) : EReal) := by
  rw [o_apply, diff_sum]
  refine Finset.sum_congr rfl fun k _ => ?_
  rw [a_apply, p_real h5 h6 h8, p_real h5 h6 h8, hL, v_apply, mul_comm]
  refine congrArg₂ (fun a b : EReal => a * b) rfl ?_
  unfold valR
  split
  · exact h7 _ _ _ _
  · exact h9 _ _ _ _

end Reals

/-- Real lambda vectors give a real coefficient. -/
theorem lam_real (h0 : ∀ d, IsR (x0 (ix1 d))) (h1 : ∀ d, IsR (x1 (ix1 d))) (h2 : ∀ d, IsR (x2 (ix1 d))) (h3 : ∀ d, IsR (x3 (ix1 d))) :
    IsR (val_main_v7 (F := Ideal) x0 x1 x2 x3 ix0) := by
  rw [lam_apply]
  refine IsR.add (IsR.sub (IsR.exp (IsR.sum _ _ fun d => (h0 d).mul (h1 d))) (IsR.exp (IsR.sum _ _ fun d => (h2 d).mul (h3 d)))) ?_
  simp only [Ideal.ofBits, Ideal.ieee]
  norm_num
  exact ⟨_, rfl⟩

end Cert.DARefIdeal.Hand

end
-- ==== Proof.DAVal.lean ====
module

public import proofs.«01_k».proof.Proof.DAWin
public import proofs.«01_k».proof.Proof.DARef

@[expose] public section

set_option maxRecDepth 16384

noncomputable section

/-! The attention kernel's result array is the reference's, on real arguments. -/

namespace Cert.DAIdeal.Hand

open Cert.DAIdeal Cert.DAIdeal.Gen Idealize.ShloMosaic Idealize.ShloMosaic.TcCoe Idealize.SL.Sem
open Idealize.ShloMosaic.Pipeline (Dat)
open Cert.DARefIdeal.Hand (keyR valR scoreR)
open DAMath

variable {m : (ℓ : Loc nD τ sig) → Buf (Elt Ideal) ℓ} {c : Dev nD}
variable {Q K : Fin 16 → Fin 4096 → Fin 8 → Fin 2 → Fin 64 → ℝ} {C : Fin 16 → Fin 256 → Fin 8 → Fin 2 → Fin 64 → ℝ}
  {V' : Fin 16 → Fin 4096 → Fin 8 → Fin 128 → ℝ} {W : Fin 16 → Fin 256 → Fin 8 → Fin 128 → ℝ}

/-- The keys of a head, both components in one column, latents then context; the values. -/
def KK (K : Fin 16 → Fin 4096 → Fin 8 → Fin 2 → Fin 64 → ℝ) (C : Fin 16 → Fin 256 → Fin 8 → Fin 2 → Fin 64 → ℝ)
    (b : Fin 16) (h : Fin 8) (d : Fin 128) (j : Fin 4352) : EReal :=
  ((keyR K C b h ⟨d.val / 64, Nat.div_lt_of_lt_mul d.isLt⟩ j ⟨d.val % 64, Nat.mod_lt _ (by decide)⟩ : ℝ) : EReal)
def VV (V' : Fin 16 → Fin 4096 → Fin 8 → Fin 128 → ℝ) (W : Fin 16 → Fin 256 → Fin 8 → Fin 128 → ℝ)
    (b : Fin 16) (h : Fin 8) (j : Fin 4352) (e : Fin 128) : EReal := ((valR V' W b h j e : ℝ) : EReal)

/-- The query block's entry. -/
theorem q_entry (h5 : ∀ b q h c' d, in5 m c (ix5 b q h c' d) = ((Q b q h c' d : ℝ) : EReal)) (t : Fin cfg0.N) (r : Fin 1024) (d : Fin 128) :
    iblk m c 2 t (ix3 0 r d) = ((Q (bb t) ⟨(qq t).val * 1024 + r.val, by have := (qq t).isLt; omega⟩ (hh t) ⟨d.val / 64, by omega⟩ ⟨d.val % 64, by omega⟩ : ℝ) : EReal)
      * (((1 / 8 : ℝ) / Real.log 2 : ℝ) : EReal) := by
  rw [iblk2, V_q, scale_eq, ← h5]
  have e1 : (⟨((hh t).val * 128 + d.val) / 128, by have := (hh t).isLt; omega⟩ : Fin 8) = hh t := Fin.ext (by show ((hh t).val * 128 + d.val) / 128 = (hh t).val; omega)
  have e2 : (⟨((hh t).val * 128 + d.val) / 64 % 2, by omega⟩ : Fin 2) = ⟨d.val / 64, by omega⟩ := Fin.ext (by show ((hh t).val * 128 + d.val) / 64 % 2 = d.val / 64; omega)
  have e3 : (⟨((hh t).val * 128 + d.val) % 64, by omega⟩ : Fin 64) = ⟨d.val % 64, by omega⟩ := Fin.ext (by show ((hh t).val * 128 + d.val) % 64 = d.val % 64; omega)
  rw [e1, e2, e3]

theorem k_entry (h6 : ∀ b q h c' d, in6 m c (ix5 b q h c' d) = ((K b q h c' d : ℝ) : EReal)) (t : Fin cfg0.N) (d : Fin 128) (n : Fin 4096) (j : Fin 4352) (hj : j.val = n.val) :
    iblk m c 3 t (ix3 0 d n) = KK K C (bb t) (hh t) d j := by
  rw [iblk3, V_k]
  have e1 : (⟨((hh t).val * 128 + d.val) / 128, by have := (hh t).isLt; omega⟩ : Fin 8) = hh t := Fin.ext (by show ((hh t).val * 128 + d.val) / 128 = (hh t).val; omega)
  have e2 : (⟨((hh t).val * 128 + d.val) / 64 % 2, by omega⟩ : Fin 2) = ⟨d.val / 64, by omega⟩ := Fin.ext (by show ((hh t).val * 128 + d.val) / 64 % 2 = d.val / 64; omega)
  have e3 : (⟨((hh t).val * 128 + d.val) % 64, by omega⟩ : Fin 64) = ⟨d.val % 64, by omega⟩ := Fin.ext (by show ((hh t).val * 128 + d.val) % 64 = d.val % 64; omega)
  rw [e1, e2, e3, h6]
  unfold KK keyR
  have g : j.val < 4096 := by omega
  rw [dif_pos g]
  have : (⟨j.val, g⟩ : Fin 4096) = n := Fin.ext hj
  rw [this]

theorem kc_entry (h8 : ∀ b q h c' d, in8 m c (ix5 b q h c' d) = ((C b q h c' d : ℝ) : EReal)) (t : Fin cfg0.N) (d : Fin 128) (n : Fin 256) (j : Fin 4352) (hj : j.val = 4096 + n.val) :
    iblk m c 5 t (ix3 0 d n) = KK K C (bb t) (hh t) d j := by
  rw [iblk5, V_kc]
  have e1 : (⟨((hh t).val * 128 + d.val) / 128, by have := (hh t).isLt; omega⟩ : Fin 8) = hh t := Fin.ext (by show ((hh t).val * 128 + d.val) / 128 = (hh t).val; omega)
  have e2 : (⟨((hh t).val * 128 + d.val) / 64 % 2, by omega⟩ : Fin 2) = ⟨d.val / 64, by omega⟩ := Fin.ext (by show ((hh t).val * 128 + d.val) / 64 % 2 = d.val / 64; omega)
  have e3 : (⟨((hh t).val * 128 + d.val) % 64, by omega⟩ : Fin 64) = ⟨d.val % 64, by omega⟩ := Fin.ext (by show ((hh t).val * 128 + d.val) % 64 = d.val % 64; omega)
  rw [e1, e2, e3, h8]
  unfold KK keyR
  have g : ¬ j.val < 4096 := by omega
  rw [dif_neg g]
  have : (⟨j.val - 4096, by omega⟩ : Fin 256) = n := Fin.ext (by show j.val - 4096 = n.val; omega)
  rw [this]

theorem v_entry (h7 : ∀ b q h e, in7 m c (ix4 b q h e) = ((V' b q h e : ℝ) : EReal)) (t : Fin cfg0.N) (n : Fin 4096) (d : Fin 128) (j : Fin 4352) (hj : j.val = n.val) :
    iblk m c 4 t (ix3 0 n d) = VV V' W (bb t) (hh t) j d := by
  rw [iblk4, V_v]
  have e1 : (⟨((hh t).val * 128 + d.val) / 128, by have := (hh t).isLt; omega⟩ : Fin 8) = hh t := Fin.ext (by show ((hh t).val * 128 + d.val) / 128 = (hh t).val; omega)
  have e3 : (⟨((hh t).val * 128 + d.val) % 128, by omega⟩ : Fin 128) = d := Fin.ext (by show ((hh t).val * 128 + d.val) % 128 = d.val; omega)
  rw [e1, e3, h7]
  unfold VV valR
  have g : j.val < 4096 := by omega
  rw [dif_pos g]
  have : (⟨j.val, g⟩ : Fin 4096) = n := Fin.ext hj
  rw [this]

theorem vc_entry (h9 : ∀ b q h e, in9 m c (ix4 b q h e) = ((W b q h e : ℝ) : EReal)) (t : Fin cfg0.N) (n : Fin 256) (d : Fin 128) (j : Fin 4352) (hj : j.val = 4096 + n.val) :
    iblk m c 6 t (ix3 0 n d) = VV V' W (bb t) (hh t) j d := by
  rw [iblk6, V_vc]
  have e1 : (⟨((hh t).val * 128 + d.val) / 128, by have := (hh t).isLt; omega⟩ : Fin 8) = hh t := Fin.ext (by show ((hh t).val * 128 + d.val) / 128 = (hh t).val; omega)
  have e3 : (⟨((hh t).val * 128 + d.val) % 128, by omega⟩ : Fin 128) = d := Fin.ext (by show ((hh t).val * 128 + d.val) % 128 = d.val; omega)
  rw [e1, e3, h9]
  unfold VV valR
  have g : ¬ j.val < 4096 := by omega
  rw [dif_neg g]
  have : (⟨j.val - 4096, by omega⟩ : Fin 256) = n := Fin.ext (by show j.val - 4096 = n.val; omega)
  rw [this]

/-- The upper half's scores are the first component's, over the logarithm of two. -/
theorem sc_lo (h5 : ∀ b q h c' d, in5 m c (ix5 b q h c' d) = ((Q b q h c' d : ℝ) : EReal)) (t : Fin cfg0.N) (r : Fin 1024) (hr) (j : Fin 4352) :
    sc (k0_pay2 (F := Ideal) (iblk m c 2 t)) (KK K C (bb t) (hh t)) ⟨r.val, hr⟩ j
      = ((scoreR Q K C (bb t) (hh t) 0 ⟨(qq t).val * 1024 + r.val, by have := (qq t).isLt; omega⟩ j / Real.log 2 : ℝ) : EReal) := by
  unfold sc scoreR
  rw [sum_lo _ fun d hd => by rw [pay2_apply, dif_pos r.isLt, if_neg (Nat.not_lt.mpr hd), zero_mul], ← score]
  refine Finset.sum_congr rfl fun d _ => ?_
  rw [pay2_apply, dif_pos r.isLt, if_pos d.isLt]
  refine congrArg₂ (fun a b : EReal => a * b) ?_ ?_
  · refine (q_entry h5 t ⟨r.val, r.isLt⟩ _).trans ?_
    have e2 : (⟨d.val / 64, by omega⟩ : Fin 2) = 0 := Fin.ext (by show d.val / 64 = 0; omega)
    have e3 : (⟨d.val % 64, by omega⟩ : Fin 64) = d := Fin.ext (by show d.val % 64 = d.val; omega)
    rw [e2, e3]
  · unfold KK
    have e2 : (⟨d.val / 64, by omega⟩ : Fin 2) = 0 := Fin.ext (by show d.val / 64 = 0; omega)
    have e3 : (⟨d.val % 64, by omega⟩ : Fin 64) = d := Fin.ext (by show d.val % 64 = d.val; omega)
    rw [e2, e3]

/-- The lower half's scores are the second component's. -/
theorem sc_hi (h5 : ∀ b q h c' d, in5 m c (ix5 b q h c' d) = ((Q b q h c' d : ℝ) : EReal)) (t : Fin cfg0.N) (r : Fin 1024) (hr) (j : Fin 4352) :
    sc (k0_pay2 (F := Ideal) (iblk m c 2 t)) (KK K C (bb t) (hh t)) ⟨1024 + r.val, hr⟩ j
      = ((scoreR Q K C (bb t) (hh t) 1 ⟨(qq t).val * 1024 + r.val, by have := (qq t).isLt; omega⟩ j / Real.log 2 : ℝ) : EReal) := by
  unfold sc scoreR
  have nr : ¬ (1024 + r.val < 1024) := by omega
  rw [sum_hi _ fun d hd => by rw [pay2_apply, dif_neg nr, if_pos hd, zero_mul], ← score]
  refine Finset.sum_congr rfl fun d _ => ?_
  have nd : ¬ (64 + d.val < 64) := by omega
  rw [pay2_apply, dif_neg nr, if_neg nd]
  have e2 : (⟨(64 + d.val) / 64, by omega⟩ : Fin 2) = 1 := Fin.ext (by show (64 + d.val) / 64 = 1; omega)
  have e3 : (⟨(64 + d.val) % 64, by omega⟩ : Fin 64) = d := Fin.ext (by show (64 + d.val) % 64 = d.val; omega)
  refine congrArg₂ (fun a b : EReal => a * b) ?_ ?_
  · refine (q_entry h5 t _ _).trans ?_
    have e4 : (⟨(qq t).val * 1024 + (1024 + r.val - 1024), by have := (qq t).isLt; omega⟩ : Fin 4096) = ⟨(qq t).val * 1024 + r.val, by have := (qq t).isLt; omega⟩ :=
      Fin.ext (by show (qq t).val * 1024 + (1024 + r.val - 1024) = (qq t).val * 1024 + r.val; omega)
    rw [e2, e3, e4]
  · unfold KK
    rw [e2, e3]

end Cert.DAIdeal.Hand

end
-- ==== Proof.DAFin.lean ====
module

public import proofs.«01_k».proof.Proof.DAVal
public import proofs.«01_k».proof.Proof.Gen.Pre_finite

@[expose] public section

set_option maxRecDepth 16384

noncomputable section

namespace Cert.DAIdeal.Hand

open Cert.DAIdeal Cert.DAIdeal.Gen Idealize.ShloMosaic Idealize.ShloMosaic.TcCoe Idealize.SL.Sem
open Idealize.ShloMosaic.Pipeline (Dat)
open Cert.DARefIdeal.Hand (keyR valR scoreR)
open DAMath

variable {m : (ℓ : Loc nD τ sig) → Buf (Elt Ideal) ℓ} {c : Dev nD}
variable {Q K : Fin 16 → Fin 4096 → Fin 8 → Fin 2 → Fin 64 → ℝ} {C : Fin 16 → Fin 256 → Fin 8 → Fin 2 → Fin 64 → ℝ}
  {V' : Fin 16 → Fin 4096 → Fin 8 → Fin 128 → ℝ} {W : Fin 16 → Fin 256 → Fin 8 → Fin 128 → ℝ}

/-- What the reference's stages give on this program's arguments. -/
abbrev refOut (m : (ℓ : Loc nD τ sig) → Buf (Elt Ideal) ℓ) (c : Dev nD) : S16x4096x1024.Idx → EReal :=
  Cert.DARefIdeal.Read.val_main_v49 (F := Ideal) (in0 m c) (in1 m c) (in2 m c) (in3 m c) (in4 m c) (in5 m c) (in6 m c) (in7 m c) (in8 m c) (in9 m c)

/-- The query rows the kernel multiplies, zero-padded per component, are real. -/
theorem pay2_real (h5 : ∀ b q h c' d, in5 m c (ix5 b q h c' d) = ((Q b q h c' d : ℝ) : EReal)) (t : Fin cfg0.N) (r d) :
    IsR (k0_pay2 (F := Ideal) (iblk m c 2 t) (ix2 r d)) := by
  rw [pay2_apply]
  split
  · split
    · rw [q_entry h5]; exact (IsR.coe _).mul (IsR.coe _)
    · exact IsR.zero
  · split
    · exact IsR.zero
    · rw [q_entry h5]; exact (IsR.coe _).mul (IsR.coe _)

/-- A point's block is the reference's block. -/
theorem point (h5 : ∀ b q h c' d, in5 m c (ix5 b q h c' d) = ((Q b q h c' d : ℝ) : EReal)) (h6 : ∀ b q h c' d, in6 m c (ix5 b q h c' d) = ((K b q h c' d : ℝ) : EReal))
    (h7 : ∀ b q h e, in7 m c (ix4 b q h e) = ((V' b q h e : ℝ) : EReal)) (h9 : ∀ b q h e, in9 m c (ix4 b q h e) = ((W b q h e : ℝ) : EReal))
    (h8 : ∀ b q h c' d, in8 m c (ix5 b q h c' d) = ((C b q h c' d : ℝ) : EReal))
    (L : ℝ) (hL : Cert.DARefIdeal.Read.val_main_v7 (F := Ideal) (in0 m c) (in1 m c) (in2 m c) (in3 m c) ix0 = (L : EReal))
    (t : Fin cfg0.N) (z : Fin 1) (r : Fin 1024) (e : Fin 128) :
    (dats m 0 c).after 7 t (ix3 z r e) = refOut m c
      (ix3 (bb t) ⟨(qq t).val * 1024 + r.val, by have := (qq t).isLt; omega⟩ ⟨(hh t).val * 128 + e.val, by have := (hh t).isLt; omega⟩) := by
  have hk : ∀ (o : ℕ) (h : o + 512 ≤ 4096) (inb) (d : Fin 128) (n : Fin 512) (j : Fin 4352) (hj : j.val = o + n.val),
      View.ld (iblk m c 3 t) (Rect.unit (s := S1x128x4096) ![0, 0, o] ![1, 128, 512] inb) (ix3 0 d n) = KK K C (bb t) (hh t) d j :=
    fun o h inb d n j hj => (ld_k m c t o h inb d n).trans (k_entry h6 t d _ j hj)
  have hv : ∀ (o : ℕ) (h : o + 512 ≤ 4096) (inb) (n : Fin 512) (d : Fin 128) (j : Fin 4352) (hj : j.val = o + n.val),
      View.ld (iblk m c 4 t) (Rect.unit (s := S1x4096x128) ![0, o, 0] ![1, 512, 128] inb) (ix3 0 n d) = VV V' W (bb t) (hh t) j d :=
    fun o h inb n d j hj => (ld_v m c t o h inb n d).trans (v_entry h7 t _ d j hj)
  have kr : ∀ (o : ℕ) (h : o + 512 ≤ 4096) (inb) (d : Fin 128) (n : Fin 512),
      IsR (View.ld (iblk m c 3 t) (Rect.unit (s := S1x128x4096) ![0, 0, o] ![1, 128, 512] inb) (ix3 0 d n)) :=
    fun o h inb d n => ⟨_, hk o h inb d n ⟨o + n.val, by omega⟩ rfl⟩
  rw [after_eq]
  have hm := rmax_real (pay2_real h5 t) (kr 0 (by decide) inb_S1x128x4096_S1x128x512_0_0_0) (kr 512 (by decide) inb_S1x128x4096_S1x128x512_0_0_512)
    (kr 1024 (by decide) inb_S1x128x4096_S1x128x512_0_0_1024) (kr 1536 (by decide) inb_S1x128x4096_S1x128x512_0_0_1536)
    (kr 2048 (by decide) inb_S1x128x4096_S1x128x512_0_0_2048) (kr 2560 (by decide) inb_S1x128x4096_S1x128x512_0_0_2560)
    (kr 3072 (by decide) inb_S1x128x4096_S1x128x512_0_0_3072) (kr 3584 (by decide) inb_S1x128x4096_S1x128x512_0_0_3584)
    (k8 := iblk m c 5 t) (fun d n => ⟨_, kc_entry (K := K) h8 t d n ⟨4096 + n.val, by omega⟩ rfl⟩)
  obtain ⟨M0, hM0⟩ := hm ⟨r.val, r.isLt.trans (by decide)⟩
  obtain ⟨M1, hM1⟩ := hm ⟨1024 + r.val, Nat.add_lt_add_left r.isLt 1024⟩
  rw [blk_apply (K := KK K C (bb t) (hh t)) (V := VV V' W (bb t) (hh t))
    (fun d n => hk 0 (by decide) _ d n _ (Nat.zero_add _).symm) (fun d n => hk 512 (by decide) _ d n _ rfl) (fun d n => hk 1024 (by decide) _ d n _ rfl) (fun d n => hk 1536 (by decide) _ d n _ rfl)
    (fun d n => hk 2048 (by decide) _ d n _ rfl) (fun d n => hk 2560 (by decide) _ d n _ rfl) (fun d n => hk 3072 (by decide) _ d n _ rfl) (fun d n => hk 3584 (by decide) _ d n _ rfl)
    (fun d n => kc_entry h8 t d n _ rfl)
    (fun n d => hv 0 (by decide) _ n d _ (Nat.zero_add _).symm) (fun n d => hv 512 (by decide) _ n d _ rfl) (fun n d => hv 1024 (by decide) _ n d _ rfl) (fun n d => hv 1536 (by decide) _ n d _ rfl)
    (fun n d => hv 2048 (by decide) _ n d _ rfl) (fun n d => hv 2560 (by decide) _ n d _ rfl) (fun n d => hv 3072 (by decide) _ n d _ rfl) (fun n d => hv 3584 (by decide) _ n d _ rfl)
    (fun n d => vc_entry h9 t n d _ rfl)]
  rw [hM0, hM1]
  have hlam := lam_eq m c _ _ _ _ (fun d => (ld_l m c t 0 (by decide) inb_S8x128_S1x128_0_0 0 d).trans (iblk0 m c t _ d))
    (fun d => (ld_l m c t 1 (by decide) inb_S8x128_S1x128_1_0 0 d).trans (iblk0 m c t _ d))
    (fun d => (ld_l m c t 2 (by decide) inb_S8x128_S1x128_2_0 0 d).trans (iblk0 m c t _ d))
    (fun d => (ld_l m c t 3 (by decide) inb_S8x128_S1x128_3_0 0 d).trans (iblk0 m c t _ d))
  rw [← Cert.DARefIdeal.Hand.lam_apply _ _ _ _ ix0, hL] at hlam
  rw [hlam]
  simp only [sc_lo h5, sc_hi h5]
  have ho : ∀ e' : Fin 128, comb
      (∑ j : Fin 4352, Ideal.exp2 (((scoreR Q K C (bb t) (hh t) 0 ⟨(qq t).val * 1024 + r.val, by have := (qq t).isLt; omega⟩ j / Real.log 2 : ℝ) : EReal) - (M0 : EReal)) * VV V' W (bb t) (hh t) j e')
      (∑ j : Fin 4352, Ideal.exp2 (((scoreR Q K C (bb t) (hh t) 0 ⟨(qq t).val * 1024 + r.val, by have := (qq t).isLt; omega⟩ j / Real.log 2 : ℝ) : EReal) - (M0 : EReal)) * 1)
      (∑ j : Fin 4352, Ideal.exp2 (((scoreR Q K C (bb t) (hh t) 1 ⟨(qq t).val * 1024 + r.val, by have := (qq t).isLt; omega⟩ j / Real.log 2 : ℝ) : EReal) - (M1 : EReal)) * VV V' W (bb t) (hh t) j e')
      (∑ j : Fin 4352, Ideal.exp2 (((scoreR Q K C (bb t) (hh t) 1 ⟨(qq t).val * 1024 + r.val, by have := (qq t).isLt; omega⟩ j / Real.log 2 : ℝ) : EReal) - (M1 : EReal)) * 1) (L : EReal)
      = Cert.DARefIdeal.Read.val_main_v32 (F := Ideal) (in0 m c) (in1 m c) (in2 m c) (in3 m c) (in5 m c) (in6 m c) (in7 m c) (in8 m c) (in9 m c)
          (ix4 (bb t) ⟨(qq t).val * 1024 + r.val, by have := (qq t).isLt; omega⟩ (hh t) e') := fun e' => by
    rw [Cert.DARefIdeal.Hand.o_real (in0 m c) (in1 m c) (in2 m c) (in3 m c) h5 h6 h7 h9 h8 L hL]
    unfold comb
    exact congrArg₂ (fun a b : EReal => a - (L : EReal) * b)
      (ratio2 (n := 4351) (scoreR Q K C (bb t) (hh t) 0 _) (fun j => valR V' W (bb t) (hh t) j e') M0)
      (ratio2 (n := 4351) (scoreR Q K C (bb t) (hh t) 1 _) (fun j => valR V' W (bb t) (hh t) j e') M1)
  simp only [ho]
  rw [iblk1, V_g]
  unfold refOut
  rw [Cert.DARefIdeal.Hand.out_apply]
  have e1 : (⟨((hh t).val * 128 + e.val) / 128, by have := (hh t).isLt; omega⟩ : Fin 8) = hh t := Fin.ext (by show ((hh t).val * 128 + e.val) / 128 = (hh t).val; omega)
  have e3 : (⟨((hh t).val * 128 + e.val) % 128, by omega⟩ : Fin 128) = e := Fin.ext (by show ((hh t).val * 128 + e.val) % 128 = e.val; omega)
  rw [e1, e3]
  rfl

/-- The kernel's result array. -/
theorem whole (h0 : ∀ d, IsR (in0 m c (ix1 d))) (h1 : ∀ d, IsR (in1 m c (ix1 d))) (h2 : ∀ d, IsR (in2 m c (ix1 d))) (h3 : ∀ d, IsR (in3 m c (ix1 d)))
    (h5 : ∀ b q h c' d, IsR (in5 m c (ix5 b q h c' d))) (h6 : ∀ b q h c' d, IsR (in6 m c (ix5 b q h c' d))) (h7 : ∀ b q h e, IsR (in7 m c (ix4 b q h e)))
    (h8 : ∀ b q h c' d, IsR (in8 m c (ix5 b q h c' d))) (h9 : ∀ b q h e, IsR (in9 m c (ix4 b q h e))) :
    (dats m 0 c).arrAt 7 cfg0.N = refOut m c := by
  obtain ⟨L, hL⟩ := Cert.DARefIdeal.Hand.lam_real (in0 m c) (in1 m c) (in2 m c) (in3 m c) h0 h1 h2 h3
  choose Q h5 using h5
  choose K h6 using h6
  choose V' h7 using h7
  choose C h8 using h8
  choose W h9 using h9
  refine (dats m 0 c).arrAt_eq_of_covers 7 _ covers7 fun t hf y => ?_
  obtain ⟨z, r, e, rfl⟩ : ∃ (z : Fin 1) (r : Fin 1024) (e : Fin 128), y = ix3 z r e := ⟨y 0, y 1, y 2, funext fun a => by
    match a with
    | ⟨0, _⟩ => rfl
    | ⟨1, _⟩ => rfl
    | ⟨2, _⟩ => rfl⟩
  rw [emb7]
  exact point h5 h6 h7 h9 h8 L hL t z r e

/-- A conjunction over a whole array holds only if it holds everywhere. -/
theorem all_of_reduce {s : Shape} {axes : List (Fin s.rank)} {t : Shape} {u : Shape} (x : IVec s 1) (v : IVec u 1) (h : s.ReducesTo axes t) (hu : 0 < u.numel)
    (j : t.Idx) (hj : ∀ i, h.drop i = j) (e : Host.reduce IntOp.andi x v h hu j = 1#1) (i : s.Idx) : x i = 1#1 := by
  have key : ∀ (l : List (Fin s.numel)) (a : BitVec 1), l.foldl (fun r n => IntOp.andi r (x (s.rowMajor.symm n))) a = 1#1 →
      a = 1#1 ∧ ∀ n ∈ l, x (s.rowMajor.symm n) = 1#1 := by
    intro l
    induction l with
    | nil => intro a ha; exact ⟨ha, fun n hn => absurd hn (List.not_mem_nil)⟩
    | cons n l ih =>
      intro a ha
      obtain ⟨h1, h2⟩ := ih _ ha
      have h3 : a = 1#1 ∧ x (s.rowMajor.symm n) = 1#1 := by
        have h4 : IntOp.andi a (x (s.rowMajor.symm n)) = 1#1 := h1
        clear ha h1 h2 ih
        generalize x (s.rowMajor.symm n) = y at h4 ⊢
        revert a y; decide
      exact ⟨h3.1, fun k hk => (List.mem_cons.mp hk).elim (fun q => q ▸ h3.2) (h2 k)⟩
  have := (key _ _ e).2 (s.rowMajor i) (List.mem_filter.mpr ⟨List.mem_finRange _, by simp [hj]⟩)
  simpa using this

/-- A number whose magnitude is below infinity is real. -/
theorem real_of_abs (x : EReal) (h : Ideal.cmp .olt (max x (-x)) (Ideal.ofBits .f32 0x7F800000#32) = 1#1) : IsR x := by
  have top : Ideal.ofBits .f32 0x7F800000#32 = ⊤ := by simp [Ideal.ofBits, Ideal.ieee]
  rw [top] at h
  induction x with
  | bot => simp [Ideal.cmp] at h
  | coe r => exact ⟨r, rfl⟩
  | top => simp [Ideal.cmp] at h

/-- The predicate makes every entry it reads real. -/
theorem reals (x0 x1 x2 x3 : S64.Idx → EReal) (x4 : S128.Idx → EReal) (x5 x6 : S16x4096x8x2x64.Idx → EReal)
    (x7 : S16x4096x8x128.Idx → EReal) (x8 : S16x256x8x2x64.Idx → EReal) (x9 : S16x256x8x128.Idx → EReal)
    (h : Cert.Pre_finite.fn (F := Ideal) x0 x1 x2 x3 x4 x5 x6 x7 x8 x9 = (fun _ => 1#1)) :
    (∀ i, IsR (x0 i)) ∧ (∀ i, IsR (x1 i)) ∧ (∀ i, IsR (x2 i)) ∧ (∀ i, IsR (x3 i)) ∧ (∀ i, IsR (x5 i)) ∧ (∀ i, IsR (x6 i)) ∧ (∀ i, IsR (x7 i)) ∧ (∀ i, IsR (x8 i)) ∧ (∀ i, IsR (x9 i)) := by
  have h' := congrFun h ix0
  unfold Cert.Pre_finite.fn Cert.Pre_finite.fn_part1 Cert.Pre_finite.fn_part2 at h'
  have andE : ∀ {a b : IVec Cert.Pre_finite.S_ 1}, andi a b ix0 = 1#1 → a ix0 = 1#1 ∧ b ix0 = 1#1 := fun {a b} e => by
    change IntOp.andi (a ix0) (b ix0) = 1#1 at e
    generalize a ix0 = p at e ⊢
    generalize b ix0 = q at e ⊢
    revert p q; decide
  obtain ⟨h', e3⟩ := andE h'
  obtain ⟨h', e2⟩ := andE h'
  obtain ⟨h', e1⟩ := andE h'
  obtain ⟨h', e0⟩ := andE h'
  obtain ⟨h', e9⟩ := andE h'
  obtain ⟨h', e8⟩ := andE h'
  obtain ⟨h', e7⟩ := andE h'
  obtain ⟨e5, e6⟩ := andE h'
  have sub : ∀ a b : Cert.Pre_finite.S_.Idx, a = b := fun a b => funext fun i => i.elim0
  refine ⟨fun i => real_of_abs _ ?_, fun i => real_of_abs _ ?_, fun i => real_of_abs _ ?_, fun i => real_of_abs _ ?_, fun i => real_of_abs _ ?_,
    fun i => real_of_abs _ ?_, fun i => real_of_abs _ ?_, fun i => real_of_abs _ ?_, fun i => real_of_abs _ ?_⟩
  · exact all_of_reduce _ _ _ _ _ (fun _ => sub _ _) e0 i
  · exact all_of_reduce _ _ _ _ _ (fun _ => sub _ _) e1 i
  · exact all_of_reduce _ _ _ _ _ (fun _ => sub _ _) e2 i
  · exact all_of_reduce _ _ _ _ _ (fun _ => sub _ _) e3 i
  · exact all_of_reduce _ _ _ _ _ (fun _ => sub _ _) e5 i
  · exact all_of_reduce _ _ _ _ _ (fun _ => sub _ _) e6 i
  · exact all_of_reduce _ _ _ _ _ (fun _ => sub _ _) e7 i
  · exact all_of_reduce _ _ _ _ _ (fun _ => sub _ _) e8 i
  · exact all_of_reduce _ _ _ _ _ (fun _ => sub _ _) e9 i

/-- The kernel's result array under the predicate. -/
theorem whole_of_pre (m : (ℓ : Loc nD τ sig) → Buf (Elt Ideal) ℓ) (c : Dev nD)
    (h : Cert.Pre_finite.fn (F := Ideal) (in0 m c) (in1 m c) (in2 m c) (in3 m c) (in4 m c) (in5 m c) (in6 m c) (in7 m c) (in8 m c) (in9 m c) = (fun _ => 1#1)) :
    (dats m 0 c).arrAt 7 cfg0.N = refOut m c := by
  obtain ⟨h0, h1, h2, h3, h5, h6, h7, h8, h9⟩ := reals _ _ _ _ _ _ _ _ _ _ h
  exact whole (fun _ => h0 _) (fun _ => h1 _) (fun _ => h2 _) (fun _ => h3 _) (fun _ _ _ _ _ => h5 _) (fun _ _ _ _ _ => h6 _) (fun _ _ _ _ => h7 _) (fun _ _ _ _ _ => h8 _) (fun _ _ _ _ => h9 _)

end Cert.DAIdeal.Hand

end
-- ==== Proof.RowMath.lean ====
module

public import proofs.«01_k».proof.Proof.DAMath
public import Idealize.ShloMosaic.Lib.Pointwise

@[expose] public section

noncomputable section

open Idealize.ShloMosaic

/-! What one row of the blocks computes: the normalised and modulated row, a row times a matrix, the width-3 convolution's sum, the gated unit. -/

namespace RowMath

/-- The row over its root mean square, times the gain, modulated by the scale and the shift. -/
def nrm (g sc sh x : Fin 1024 → EReal) (d : Fin 1024) : EReal :=
  x d * Ideal.rsqrt (Ideal.div (∑ k : Fin 1024, x k * x k) (Ideal.ofBits .f32 0x44800000#32) + Ideal.ofBits .f32 0x358637BD#32) * g d
    * (1 + sc d) + sh d

/-- A row times a matrix. -/
def rowDot {n k : ℕ} (x : Fin n → EReal) (w : Fin n → Fin k → EReal) (f : Fin k) : EReal := ∑ d : Fin n, x d * w d f

/-- The convolution's three products. -/
def mix3 (w0 w1 w2 p c n : EReal) : EReal := w0 * p + w1 * c + w2 * n

/-- `q` times its logistic, times `a`. -/
def glu (q a : EReal) : EReal :=
  q * Ideal.div 1 (1 + Ideal.exp (0 - q)) * a

/-- A row of positions: the row before `p`, or zero before the first. -/
def before {k : ℕ} (G : Fin 4096 → Fin k → EReal) (p : Fin 4096) (f : Fin k) : EReal :=
  if h : 0 < p.val then G ⟨p.val - 1, by omega⟩ f else 0

/-- The row after `p`, or zero after the last. -/
def behind {k : ℕ} (G : Fin 4096 → Fin k → EReal) (p : Fin 4096) (f : Fin k) : EReal :=
  if h : p.val + 1 < 4096 then G ⟨p.val + 1, h⟩ f else 0

/-- The gated convolution feed-forward on the rows of one batch entry. -/
def ffn (H : Fin 4096 → Fin 1024 → EReal) (g sc sh gt : Fin 1024 → EReal) (up : Fin 1024 → Fin 5632 → EReal) (cw : Fin 3 → Fin 2816 → EReal) (cb : Fin 2816 → EReal)
    (dn : Fin 2816 → Fin 1024 → EReal) (p : Fin 4096) (d : Fin 1024) : EReal :=
  H p d + gt d * rowDot (fun f => glu (mix3 (cw 0 f) (cw 1 f) (cw 2 f)
      (before (fun q f => rowDot (nrm g sc sh (H q)) (fun d f => up d ⟨2816 + f.val, by omega⟩) f) p f)
      (rowDot (nrm g sc sh (H p)) (fun d (f : Fin 2816) => up d ⟨2816 + f.val, by omega⟩) f)
      (behind (fun q f => rowDot (nrm g sc sh (H q)) (fun d f => up d ⟨2816 + f.val, by omega⟩) f) p f) + cb f)
    (rowDot (nrm g sc sh (H p)) (fun d (f : Fin 2816) => up d ⟨f.val, by omega⟩) f)) dn d

/-- The gated rows the short convolution runs over. -/
def gates (X : Fin 4096 → Fin 1024 → EReal) (g sc sh : Fin 1024 → EReal) (wi : Fin 1024 → Fin 3072 → EReal) (q : Fin 4096) (f : Fin 1024) : EReal :=
  rowDot (nrm g sc sh (X q)) (fun d (f : Fin 1024) => wi d ⟨1024 + f.val, by omega⟩) f * rowDot (nrm g sc sh (X q)) (fun d (f : Fin 1024) => wi d ⟨2048 + f.val, by omega⟩) f

/-- The short gated convolution on the rows of one batch entry. -/
def mixer (X : Fin 4096 → Fin 1024 → EReal) (g sc sh gt : Fin 1024 → EReal) (wi : Fin 1024 → Fin 3072 → EReal) (cw : Fin 3 → Fin 1024 → EReal)
    (wo : Fin 1024 → Fin 1024 → EReal) (p : Fin 4096) (d : Fin 1024) : EReal :=
  X p d + gt d * rowDot (fun f => rowDot (nrm g sc sh (X p)) (fun d (f : Fin 1024) => wi d ⟨f.val, by omega⟩) f
    * mix3 (cw 0 f) (cw 1 f) (cw 2 f) (before (gates X g sc sh wi) p f) (gates X g sc sh wi p f) (behind (gates X g sc sh wi) p f)) wo d

end RowMath

end
-- ==== Proof.FfnPay.lean ====
module

public import proofs.«01_k».proof.Proof.Gen.FfnIdeal.Skeleton
public import proofs.«01_k».proof.Proof.RowMath

@[expose] public section

set_option maxRecDepth 16384

noncomputable section

/-! The payloads of the feed-forward kernel's body, read at an index. -/

namespace Cert.FfnIdeal.Hand

open Cert.FfnIdeal Cert.FfnIdeal.Gen Idealize.ShloMosaic Idealize.ShloMosaic.TcCoe Idealize.SL.Sem
open RowMath

/-- The tile's rows followed by the eight rows before it and the eight after it. -/
def ext (h : Vec Ideal S1x512x1024 .f32) (hp hn : Vec Ideal S1x8x1024 .f32) (e : Fin 528) (d : Fin 1024) : EReal :=
  if g : e.val < 512 then h (ix3 0 ⟨e.val, g⟩ d) else if g' : e.val - 512 < 8 then hp (ix3 0 ⟨e.val - 512, g'⟩ d) else hn (ix3 0 ⟨e.val - 512 - 8, by omega⟩ d)

/-- Every one of these rows is normalised and modulated. -/
theorem pay3_apply (h : Vec Ideal S1x512x1024 .f32) (hp hn : Vec Ideal S1x8x1024 .f32) (sh sc : Vec Ideal S1x1x1024 .f32) (g : Vec Ideal S1x1024 .f32) (e : Fin 528) (d : Fin 1024) :
    k0_pay3 (F := Ideal) h hp hn sh sc g (ix2 e d)
      = nrm (fun d => g (ix2 0 d)) (fun d => sc (ix3 0 0 d)) (fun d => sh (ix3 0 0 d)) (ext h hp hn e) d := by
  unfold nrm ext
  pointwise [k0_pay3, k0_pay1]

/-- The first half of the projection, of the tile's rows. -/
theorem pay5_apply (x : FVec Ideal S528x1024 .bf16) (w : Vec Ideal S1024x2816 .bf16) (r : Fin 512) (f : Fin 2816) :
    k0_pay5 (F := Ideal) x w (ix2 r f) = rowDot (fun d => x (ix2 ⟨r.val, by omega⟩ d)) (fun d f => w (ix2 d f)) f := by
  unfold rowDot
  pointwise [k0_pay5]

/-- The second half of the projection, of all rows. -/
theorem pay6_apply (x : FVec Ideal S528x1024 .bf16) (w : Vec Ideal S1024x2816 .bf16) (e : Fin 528) (f : Fin 2816) :
    k0_pay6 (F := Ideal) x w (ix2 e f) = rowDot (fun d => x (ix2 e d)) (fun d f => w (ix2 d f)) f := by
  unfold rowDot
  pointwise [k0_pay6]

/-- The tile's own rows of it. -/
theorem pay8_apply (x : FVec Ideal S528x1024 .bf16) (w : Vec Ideal S1024x2816 .bf16) (r : Fin 512) (f : Fin 2816) :
    k0_pay8 (F := Ideal) x w (ix2 r f) = k0_pay6 (F := Ideal) x w (ix2 ⟨r.val, by omega⟩ f) := by
  pointwise [k0_pay8]

/-- The tile's own rows of it, as stored. -/
theorem pay10_apply (x : FVec Ideal S528x1024 .bf16) (w : Vec Ideal S1024x2816 .bf16) (r : Fin 512) (f : Fin 2816) :
    k0_pay10 (F := Ideal) x w (ix2 r f) = k0_pay6 (F := Ideal) x w (ix2 ⟨r.val, by omega⟩ f) := by
  pointwise [k0_pay10, k0_pay8]

/-- The rows before the tile, zero at the first tile. -/
theorem pay9_apply (t : Fin 8) (x : FVec Ideal S528x1024 .bf16) (w : Vec Ideal S1024x2816 .bf16) (r : Fin 8) (f : Fin 2816) :
    k0_pay9 (F := Ideal) (BitVec.ofNat 32 t.val) x w (ix2 r f) = if 0 < t.val then k0_pay6 (F := Ideal) x w (ix2 ⟨512 + r.val, by omega⟩ f) else (0 : EReal) := by
  have h : Scalar.cmpi .sgt (BitVec.ofNat 32 t.val) 0#32 = BitVec.ofBool (decide (0 < t.val)) := by revert t; decide
  pointwise [k0_pay9]
  simp only [h]
  by_cases g : 0 < t.val <;> simp [g, Scalar.select]

/-- The rows after the tile, zero at the last tile. -/
theorem pay7_apply (t : Fin 8) (x : FVec Ideal S528x1024 .bf16) (w : Vec Ideal S1024x2816 .bf16) (r : Fin 8) (f : Fin 2816) :
    k0_pay11 (F := Ideal) (k0_pay7 (F := Ideal) (BitVec.ofNat 32 t.val) x w) (ix2 r f) = if t.val < 7 then k0_pay6 (F := Ideal) x w (ix2 ⟨520 + r.val, by omega⟩ f) else (0 : EReal) := by
  have h : Scalar.cmpi .slt (BitVec.ofNat 32 t.val) 7#32 = BitVec.ofBool (decide (t.val < 7)) := by revert t; decide
  pointwise [k0_pay11, k0_pay7]
  simp only [h]
  by_cases g : t.val < 7 <;> simp [g, Scalar.select]

/-- The block stored: the tile's rows plus the gate times the second projection of the gated units. -/
theorem pay12_apply (h : Vec Ideal S1x512x1024 .f32) (gt : Vec Ideal S1x1x1024 .f32) (a c : FVec Ideal S512x2816 .f32) (w0 w1 w2 : Vec Ideal S1x2816 .f32)
    (p n : Vec Ideal S512x2816 .f32) (b : Vec Ideal S1x2816 .f32) (dn : Vec Ideal S2816x1024 .bf16) (z : Fin 1) (r : Fin 512) (d : Fin 1024) :
    k0_pay12 (F := Ideal) (k0_pay1 (F := Ideal) h) (k0_pay2 (F := Ideal) gt) (k0_pay4 (F := Ideal)) a c w0 w1 w2 p n b dn (ix3 z r d)
      = h (ix3 0 r d) + gt (ix3 0 0 d) * rowDot (fun f => glu (mix3 (w0 (ix2 0 f)) (w1 (ix2 0 f)) (w2 (ix2 0 f)) (p (ix2 r f)) (c (ix2 r f)) (n (ix2 r f)) + b (ix2 0 f)) (a (ix2 r f)))
          (fun f d => dn (ix2 f d)) d := by
  unfold rowDot glu mix3
  pointwise [k0_pay12, k0_pay1, k0_pay2, k0_pay4]

end Cert.FfnIdeal.Hand

end
-- ==== Proof.Rows.lean ====
module

public import proofs.«01_k».proof.Proof.RowMath
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe

/-! What a scratch of 528 rows holds once its first 8, its next 512 and its last 8 rows are stored. -/

namespace Rows

variable {k : ℕ}

/-- The rows of three stacked blocks. -/
def stack (w0 : (⟨2, ![8, k]⟩ : Shape).Idx → EReal) (w1 : (⟨2, ![512, k]⟩ : Shape).Idx → EReal) (w2 : (⟨2, ![8, k]⟩ : Shape).Idx → EReal) (e : ℕ) (f : Fin k) : EReal :=
  if g : e < 8 then w0 (ix2 ⟨e, g⟩ f) else if g' : e - 8 < 512 then w1 (ix2 ⟨e - 8, g'⟩ f) else if g'' : e - 520 < 8 then w2 (ix2 ⟨e - 520, g''⟩ f) else 0

/-- The block of a last store is read at its own indices. -/
theorem canon_at {S : Shape} (r : Rect S) (w : r.shape.Idx → Elt Ideal .f32) (L : List (View.Piece (Elt Ideal) S .f32)) (y : S.Idx) (x : r.shape.Idx) (h : ∀ a, (r.emb x a).val = (y a).val) :
    View.canon ((⟨r, w⟩ : View.Piece (Elt Ideal) S .f32) :: L) y = w x := by
  have e : y = r.emb x := funext fun a => Fin.ext (h a).symm
  rw [e, View.canon_cons_emb]

/-- An index below a store's rows, or past them, is read from the earlier stores. -/
theorem canon_off {S : Shape} (r : Rect S) (w : r.shape.Idx → Elt Ideal .f32) (L : List (View.Piece (Elt Ideal) S .f32)) (y : S.Idx) (a : Fin S.rank) (hs : r.stride a = 1)
    (h : (y a).val < r.off a ∨ r.off a + r.size a ≤ (y a).val) :
    View.canon ((⟨r, w⟩ : View.Piece (Elt Ideal) S .f32) :: L) y = View.canon L y := by
  refine View.canon_cons_of_not_mem _ L fun hm => ?_
  obtain ⟨j, hj, e⟩ := r.mem_set.mp hm a
  rw [hs] at e
  omega

/-- The scratch's rows after the three stores, made through a view of the whole of it. -/
theorem canon_within (i i2 i1 i0 s2 s1 s0) (w0 : (⟨2, ![8, k]⟩ : Shape).Idx → EReal) (w1 : (⟨2, ![512, k]⟩ : Shape).Idx → EReal) (w2 : (⟨2, ![8, k]⟩ : Shape).Idx → EReal) (e : Fin 528) (f : Fin k) :
    View.canon (Val := Elt Ideal) (e := .f32)
      [⟨(Rect.unit (s := ⟨2, ![528, k]⟩) ![0, 0] ![528, k] i).within (Rect.unit ![520, 0] ![8, k] i2) s2, w2⟩,
       ⟨(Rect.unit (s := ⟨2, ![528, k]⟩) ![0, 0] ![528, k] i).within (Rect.unit ![8, 0] ![512, k] i1) s1, w1⟩,
       ⟨(Rect.unit (s := ⟨2, ![528, k]⟩) ![0, 0] ![528, k] i).within (Rect.unit ![0, 0] ![8, k] i0) s0, w0⟩] (ix2 e f) = stack w0 w1 w2 e.val f := by
  unfold stack
  by_cases h0 : e.val < 8
  · rw [dif_pos h0]
    refine (canon_off _ _ _ _ 0 rfl ?_).trans ((canon_off _ _ _ _ 0 rfl ?_).trans ?_)
    · exact (.inl (show e.val < 0 + 520 by omega))
    · exact (.inl (show e.val < 0 + 8 by omega))
    refine canon_at _ _ _ _ _ fun a => ?_
    match a with
    | ⟨0, _⟩ => show 0 + 0 + 1 * e.val = e.val; omega
    | ⟨1, _⟩ => show 0 + 0 + 1 * f.val = f.val; omega
  · rw [dif_neg h0]
    by_cases h1 : e.val - 8 < 512
    · rw [dif_pos h1]
      refine (canon_off _ _ _ _ 0 rfl ?_).trans ?_
      · exact (.inl (show e.val < 0 + 520 by omega))
      refine canon_at _ _ _ _ _ fun a => ?_
      match a with
      | ⟨0, _⟩ => show 0 + 8 + 1 * (e.val - 8) = e.val; omega
      | ⟨1, _⟩ => show 0 + 0 + 1 * f.val = f.val; omega
    · rw [dif_neg h1, dif_pos (show e.val - 520 < 8 by omega)]
      refine canon_at _ _ _ _ _ fun a => ?_
      match a with
      | ⟨0, _⟩ => show 0 + 520 + 1 * (e.val - 520) = e.val; omega
      | ⟨1, _⟩ => show 0 + 0 + 1 * f.val = f.val; omega

/-- The same of stores made to the scratch itself. -/
theorem canon_direct (i2 i1 i0) (w0 : (⟨2, ![8, k]⟩ : Shape).Idx → EReal) (w1 : (⟨2, ![512, k]⟩ : Shape).Idx → EReal) (w2 : (⟨2, ![8, k]⟩ : Shape).Idx → EReal) (e : Fin 528) (f : Fin k) :
    View.canon (Val := Elt Ideal) (e := .f32)
      [⟨Rect.unit (s := ⟨2, ![528, k]⟩) ![520, 0] ![8, k] i2, w2⟩, ⟨Rect.unit (s := ⟨2, ![528, k]⟩) ![8, 0] ![512, k] i1, w1⟩, ⟨Rect.unit (s := ⟨2, ![528, k]⟩) ![0, 0] ![8, k] i0, w0⟩] (ix2 e f)
      = stack w0 w1 w2 e.val f := by
  unfold stack
  by_cases h0 : e.val < 8
  · rw [dif_pos h0]
    refine (canon_off _ _ _ _ 0 rfl ?_).trans ((canon_off _ _ _ _ 0 rfl ?_).trans ?_)
    · exact (.inl (show e.val < 520 by omega))
    · exact (.inl (show e.val < 8 by omega))
    refine canon_at _ _ _ _ _ fun a => ?_
    match a with
    | ⟨0, _⟩ => show 0 + 1 * e.val = e.val; omega
    | ⟨1, _⟩ => show 0 + 1 * f.val = f.val; omega
  · rw [dif_neg h0]
    by_cases h1 : e.val - 8 < 512
    · rw [dif_pos h1]
      refine (canon_off _ _ _ _ 0 rfl ?_).trans ?_
      · exact (.inl (show e.val < 520 by omega))
      refine canon_at _ _ _ _ _ fun a => ?_
      match a with
      | ⟨0, _⟩ => show 8 + 1 * (e.val - 8) = e.val; omega
      | ⟨1, _⟩ => show 0 + 1 * f.val = f.val; omega
    · rw [dif_neg h1, dif_pos (show e.val - 520 < 8 by omega)]
      refine canon_at _ _ _ _ _ fun a => ?_
      match a with
      | ⟨0, _⟩ => show 520 + 1 * (e.val - 520) = e.val; omega
      | ⟨1, _⟩ => show 0 + 1 * f.val = f.val; omega

/-- Seven rows down the stack is the row before, if the last row of the first block is. -/
theorem stack_before (G : Fin 4096 → Fin k → EReal) (t : Fin 8) (w0 : (⟨2, ![8, k]⟩ : Shape).Idx → EReal) (w1 : (⟨2, ![512, k]⟩ : Shape).Idx → EReal) (w2 : (⟨2, ![8, k]⟩ : Shape).Idx → EReal)
    (h1 : ∀ (r : Fin 512) (f : Fin k), w1 (ix2 r f) = G ⟨t.val * 512 + r.val, by omega⟩ f) (h0 : ∀ f : Fin k, w0 (ix2 7 f) = RowMath.before G ⟨t.val * 512, by omega⟩ f) (r : Fin 512) (f : Fin k) :
    stack w0 w1 w2 (7 + r.val) f = RowMath.before G ⟨t.val * 512 + r.val, by omega⟩ f := by
  obtain ⟨r, hr⟩ := r
  rcases r with _ | r
  · exact (dif_pos (show 7 + 0 < 8 by omega)).trans (h0 f)
  · unfold stack RowMath.before
    rw [dif_neg (show ¬ 7 + (r + 1) < 8 by omega), dif_pos (show 7 + (r + 1) - 8 < 512 by omega), dif_pos (show 0 < t.val * 512 + (r + 1) by omega), h1]
    exact congrArg (fun q => G q f) (Fin.ext (by show t.val * 512 + (7 + (r + 1) - 8) = t.val * 512 + (r + 1) - 1; omega))

/-- Nine rows down the stack is the row after, if the first row of the last block is. -/
theorem stack_behind (G : Fin 4096 → Fin k → EReal) (t : Fin 8) (w0 : (⟨2, ![8, k]⟩ : Shape).Idx → EReal) (w1 : (⟨2, ![512, k]⟩ : Shape).Idx → EReal) (w2 : (⟨2, ![8, k]⟩ : Shape).Idx → EReal)
    (h1 : ∀ (r : Fin 512) (f : Fin k), w1 (ix2 r f) = G ⟨t.val * 512 + r.val, by omega⟩ f) (h2 : ∀ f : Fin k, w2 (ix2 0 f) = RowMath.behind G ⟨t.val * 512 + 511, by omega⟩ f) (r : Fin 512) (f : Fin k) :
    stack w0 w1 w2 (9 + r.val) f = RowMath.behind G ⟨t.val * 512 + r.val, by omega⟩ f := by
  unfold stack
  rw [dif_neg (show ¬ 9 + r.val < 8 by omega)]
  by_cases h : r.val < 511
  · unfold RowMath.behind
    rw [dif_pos (show 9 + r.val - 8 < 512 by omega), dif_pos (show t.val * 512 + r.val + 1 < 4096 by omega), h1]
    exact congrArg (fun q => G q f) (Fin.ext (by show t.val * 512 + (9 + r.val - 8) = t.val * 512 + r.val + 1; omega))
  · rw [dif_neg (show ¬ 9 + r.val - 8 < 512 by omega), dif_pos (show 9 + r.val - 520 < 8 by omega)]
    have e : (⟨9 + r.val - 520, by omega⟩ : Fin 8) = 0 := Fin.ext (by show 9 + r.val - 520 = 0; omega)
    have e' : (⟨t.val * 512 + r.val, by omega⟩ : Fin 4096) = ⟨t.val * 512 + 511, by omega⟩ := Fin.ext (by show t.val * 512 + r.val = t.val * 512 + 511; omega)
    rw [e, e', h2]

end Rows

end
-- ==== Proof.FfnAcc.lean ====
module

public import proofs.«01_k».proof.Proof.FfnPay
public import proofs.«01_k».proof.Proof.Rows
public import proofs.«01_k».proof.Proof.Gen.FfnIdeal.Value

@[expose] public section

set_option maxRecDepth 16384

noncomputable section

/-! The block a grid point of the feed-forward kernel writes, read at an index, from its input blocks. -/

namespace Cert.FfnIdeal.Hand

open Cert.FfnIdeal Cert.FfnIdeal.Gen Idealize.ShloMosaic Idealize.ShloMosaic.TcCoe Idealize.SL.Sem
open Idealize.ShloMosaic.Pipeline (Dat)
open RowMath Rows

variable (m : (ℓ : Loc nD τ sig) → Buf (Elt Ideal) ℓ)

/-- A load of 512 rows of the scratch after the three stores. -/
theorem scr_read (o : ℕ) (ho : o + 512 ≤ 528) (i i2 i1 i0 io s2 s1 s0 so) (w0 : (⟨2, ![8, 2816]⟩ : Shape).Idx → EReal) (w1 : (⟨2, ![512, 2816]⟩ : Shape).Idx → EReal) (w2 : (⟨2, ![8, 2816]⟩ : Shape).Idx → EReal)
    (r : Fin 512) (f : Fin 2816) :
    (View.whole cc0_scratch0).readCov (Val := Elt Ideal)
      [⟨(Rect.unit (s := S528x2816) ![0, 0] ![528, 2816] i).within (Rect.unit ![520, 0] ![8, 2816] i2) s2, w2⟩,
       ⟨(Rect.unit (s := S528x2816) ![0, 0] ![528, 2816] i).within (Rect.unit ![8, 0] ![512, 2816] i1) s1, w1⟩,
       ⟨(Rect.unit (s := S528x2816) ![0, 0] ![528, 2816] i).within (Rect.unit ![0, 0] ![8, 2816] i0) s0, w0⟩]
      ((Rect.unit (s := S528x2816) ![0, 0] ![528, 2816] i).withinL (Rect.unit (s := S528x2816) ![o, 0] ![512, 2816] io).toLoadRect so) (ix2 r f) = stack w0 w1 w2 (o + r.val) f := by
  rw [View.readCov_eq_canon']
  have e : ((Rect.unit (s := S528x2816) ![0, 0] ![528, 2816] i).withinL (Rect.unit (s := S528x2816) ![o, 0] ![512, 2816] io).toLoadRect so).idx (ix2 r f) = ix2 ⟨o + r.val, by omega⟩ f := by
    funext a
    apply Fin.ext
    match a with
    | ⟨0, _⟩ => show 0 + o + 1 * r.val = o + r.val; omega
    | ⟨1, _⟩ => show 0 + 0 + 1 * f.val = f.val; omega
  show View.canon _ _ = _
  rw [e]
  exact canon_within i i2 i1 i0 s2 s1 s0 w0 w1 w2 _ f

/-- The point's own rows. -/
def hC (c : Dev nD) (t : Fin cfg0.N) (r : Fin 512) (d : Fin 1024) : EReal := iblk m c 0 t (ix3 0 r d)
/-- The six modulations of the point's batch entry. -/
def mo (c : Dev nD) (t : Fin cfg0.N) (j : Fin 6) (d : Fin 1024) : EReal := iblk m c 3 t (ix3 0 j d)
/-- The convolution's weights. -/
def cwt (c : Dev nD) (t : Fin cfg0.N) (j : Fin 3) (f : Fin 2816) : EReal := iblk m c 6 t (ix2 j f)
/-- The convolution's bias. -/
def cbt (c : Dev nD) (t : Fin cfg0.N) (f : Fin 2816) : EReal := iblk m c 7 t (ix2 0 f)

/-- The normalised rows at a grid point. -/
def xn (c : Dev nD) (t : Fin cfg0.N) : FVec Ideal S528x1024 .bf16 :=
  k0_pay3 (F := Ideal) (iblk m c 0 t) (iblk m c 1 t) (iblk m c 2 t) (View.ld (iblk m c 3 t) (Rect.unit ![0, 3, 0] ![1, 1, 1024] inb_S1x6x1024_S1x1x1024_0_3_0))
    (View.ld (iblk m c 3 t) (Rect.unit ![0, 4, 0] ![1, 1, 1024] inb_S1x6x1024_S1x1x1024_0_4_0)) (iblk m c 4 t)

/-- The second half of the up-projection's weights. -/
def w1 (c : Dev nD) (t : Fin cfg0.N) : Vec Ideal S1024x2816 .bf16 :=
  View.ld (iblk m c 5 t) (Rect.unit ![0, 2816] ![1024, 2816] inb_S1024x5632_S1024x2816_0_2816)

/-- A load of one row of the modulations. -/
theorem ld_mod (c : Dev nD) (t : Fin cfg0.N) (o : ℕ) (h : o < 6) (inb) (d : Fin 1024) :
    View.ld (iblk m c 3 t) (Rect.unit (s := S1x6x1024) ![0, o, 0] ![1, 1, 1024] inb) (ix3 0 0 d) = mo m c t ⟨o, h⟩ d := by
  refine congrArg (iblk m c 3 t) (funext fun a => Fin.ext ?_)
  match a with
  | ⟨0, _⟩ => rfl
  | ⟨1, _⟩ => show o + 1 * 0 = o; omega
  | ⟨2, _⟩ => show 0 + 1 * d.val = d.val; omega

/-- A load of one row of the convolution's weights. -/
theorem ld_cw (c : Dev nD) (t : Fin cfg0.N) (o : ℕ) (h : o < 3) (inb) (f : Fin 2816) :
    View.ld (iblk m c 6 t) (Rect.unit (s := S3x2816) ![o, 0] ![1, 2816] inb) (ix2 0 f) = cwt m c t ⟨o, h⟩ f := by
  refine congrArg (iblk m c 6 t) (funext fun a => Fin.ext ?_)
  match a with
  | ⟨0, _⟩ => show o + 1 * 0 = o; omega
  | ⟨1, _⟩ => show 0 + 1 * f.val = f.val; omega

/-- The block written at a point, at an index. -/
theorem after_apply (c : Dev nD) (t : Fin cfg0.N) (z : Fin 1) (r : Fin 512) (d : Fin 1024) :
    (dats m 0 c).after 9 t (ix3 z r d)
      = hC m c t r d + mo m c t 5 d
        * rowDot (fun f => glu (mix3 (cwt m c t 0 f)
              (cwt m c t 1 f)
              (cwt m c t 2 f)
              (stack (k0_pay9 (F := Ideal) (BitVec.ofNat 32 ↑(grid0.coords t 1)) (xn m c t) (w1 m c t)) (k0_pay10 (F := Ideal) (xn m c t) (w1 m c t))
                (k0_pay11 (F := Ideal) (k0_pay7 (F := Ideal) (BitVec.ofNat 32 ↑(grid0.coords t 1)) (xn m c t) (w1 m c t))) (7 + r.val) f)
              (k0_pay8 (F := Ideal) (xn m c t) (w1 m c t) (ix2 r f))
              (stack (k0_pay9 (F := Ideal) (BitVec.ofNat 32 ↑(grid0.coords t 1)) (xn m c t) (w1 m c t)) (k0_pay10 (F := Ideal) (xn m c t) (w1 m c t))
                (k0_pay11 (F := Ideal) (k0_pay7 (F := Ideal) (BitVec.ofNat 32 ↑(grid0.coords t 1)) (xn m c t) (w1 m c t))) (9 + r.val) f)
              + cbt m c t f)
            (k0_pay5 (F := Ideal) (xn m c t) (View.ld (iblk m c 5 t) (Rect.unit ![0, 0] ![1024, 2816] inb_S1024x5632_S1024x2816_0_0)) (ix2 r f)))
          (fun f d => iblk m c 8 t (ix2 f d)) d := by
  rw [after0_9]; simp only [outsAt0]
  frame_open
  simp (disch := decide) only [↓ View.readCov_skip, ↓ View.readCov_cons_toLoadRect, ↓ View.readCov_fill]
  frame_out
  refine (pay12_apply _ _ _ _ _ _ _ _ _ _ _ z r d).trans ?_
  simp only [xn, w1]
  rw [ld_mod m c t 5 (by decide)]
  refine congrArg (fun u => hC m c t r d + mo m c t 5 d * rowDot u (fun f d => iblk m c 8 t (ix2 f d)) d) (funext fun f => ?_)
  rw [ld_cw m c t 0 (by decide), ld_cw m c t 1 (by decide), ld_cw m c t 2 (by decide)]
  refine congrArg (fun u : EReal => glu u _) (congrArg (fun u : EReal => u + cbt m c t f) ?_)
  exact congrArg₂ (fun u v : EReal => mix3 _ _ _ u _ v) (scr_read 7 (by decide) _ _ _ _ _ _ _ _ _ _ _ _ r f) (scr_read 9 (by decide) _ _ _ _ _ _ _ _ _ _ _ _ r f)

end Cert.FfnIdeal.Hand

end
-- ==== Proof.FfnWin.lean ====
module

public import proofs.«01_k».proof.Proof.FfnAcc
public import Idealize.ShloMosaic.Lib.Pipeline.Covers
public import Idealize.ShloMosaic.Lib.StableHlo.ReadAt
public import Idealize.ShloMosaic.Lib.Routing.OpsSet
public import Idealize.ShloMosaic.Lib.Routing.OpsPair

@[expose] public section

set_option maxRecDepth 16384

noncomputable section

/-! The feed-forward kernel's input blocks, read at an index, in terms of the program's arguments. -/

namespace Cert.FfnIdeal.Hand

open Cert.FfnIdeal Cert.FfnIdeal.Gen Idealize.ShloMosaic Idealize.ShloMosaic.TcCoe Idealize.SL.Sem
open Idealize.ShloMosaic.Pipeline (Dat)
open RowMath Rows

variable (m : (ℓ : Loc nD τ sig) → Buf (Elt Ideal) ℓ)

/-- The program's arguments as functions of an index: the stream, the modulations, the gain, the up-projection, the convolution's weights and bias, the down-projection. -/
abbrev in0 (c : Dev nD) : S16x4096x1024.Idx → EReal := m ((c : Thread nD τ).loc main_arg0)
abbrev in1 (c : Dev nD) : S16x6144.Idx → EReal := m ((c : Thread nD τ).loc main_arg1)
abbrev in2 (c : Dev nD) : S1024.Idx → EReal := m ((c : Thread nD τ).loc main_arg2)
abbrev in3 (c : Dev nD) : S1024x5632.Idx → EReal := m ((c : Thread nD τ).loc main_arg3)
abbrev in4 (c : Dev nD) : S3x2816.Idx → EReal := m ((c : Thread nD τ).loc main_arg4)
abbrev in5 (c : Dev nD) : S2816.Idx → EReal := m ((c : Thread nD τ).loc main_arg5)
abbrev in6 (c : Dev nD) : S2816x1024.Idx → EReal := m ((c : Thread nD τ).loc main_arg6)

/-- The stream is handed over as it is. -/
theorem V_h (c : Dev nD) (i : S16x4096x1024.Idx) : V m c main_arg0 i = in0 m c i := by
  unfold V
  after_reads_at

/-- The modulations, six rows of 1024. -/
theorem V_mod (c : Dev nD) (b : Fin 16) (j : Fin 6) (d : Fin 1024) : V m c main_v0 (ix3 b j d) = in1 m c (ix2 b ⟨j.val * 1024 + d.val, by omega⟩) := by
  unfold V
  after_reads_at

/-- The gain. -/
theorem V_g (c : Dev nD) (d : Fin 1024) : V m c main_v3 (ix2 0 d) = in2 m c (ix1 d) := by
  unfold V
  after_reads_at

/-- The up-projection. -/
theorem V_up (c : Dev nD) (d : Fin 1024) (f : Fin 5632) : V m c main_v1 (ix2 d f) = in3 m c (ix2 d f) := by
  unfold V
  after_reads_at

/-- The convolution's weights. -/
theorem V_cw (c : Dev nD) (i : S3x2816.Idx) : V m c main_arg4 i = in4 m c i := by
  unfold V
  after_reads_at

/-- The convolution's bias. -/
theorem V_cb (c : Dev nD) (f : Fin 2816) : V m c main_v4 (ix2 0 f) = in5 m c (ix1 f) := by
  unfold V
  after_reads_at

/-- The down-projection. -/
theorem V_dn (c : Dev nD) (f : Fin 2816) (d : Fin 1024) : V m c main_v2 (ix2 f d) = in6 m c (ix2 f d) := by
  unfold V
  after_reads_at

/-- The grid's coordinates at a point: the batch entry. -/
def bb (t : Fin cfg0.N) : Fin 16 := cfg0.grid.coords t 0
/-- The tile of rows. -/
def tt (t : Fin cfg0.N) : Fin 8 := cfg0.grid.coords t 1

/-- A small coordinate survives as a word. -/
theorem w16 (i : Fin 16) : (BitVec.ofNat 32 i.val).toNat = i.val := by
  rw [BitVec.toNat_ofNat]; omega

/-- A small coordinate survives as a word. -/
theorem w8 (i : Fin 8) : (BitVec.ofNat 32 i.val).toNat = i.val := by
  rw [BitVec.toNat_ofNat]; omega

/-- The block before a tile's first, clamped at the first. -/
theorem wprev (i : Fin 8) : (Scalar.maxsi (Scalar.subi (Scalar.muli (BitVec.ofNat 32 i.val) 64#32) 1#32) 0#32).toNat = i.val * 64 - 1 := by revert i; decide

/-- The block after a tile's last, clamped at the last. -/
theorem wnext (i : Fin 8) : (Scalar.minsi (Scalar.muli (Scalar.addi (BitVec.ofNat 32 i.val) 1#32) 64#32) 511#32).toNat = min ((i.val + 1) * 64) 511 := by revert i; decide

/-- The tile's own rows. -/
theorem iblk0 (c : Dev nD) (t : Fin cfg0.N) (r : Fin 512) (d : Fin 1024) :
    iblk m c 0 t (ix3 0 r d) = V m c main_arg0 (ix3 (bb t) ⟨(tt t).val * 512 + r.val, by have := (tt t).isLt; omega⟩ d) := by
  unfold iblk
  show V m c main_arg0 (((cfg0.win 0).blk t).view.emb (ix3 0 r d)) = _
  refine congrArg (V m c main_arg0) (funext fun a => Fin.ext ?_)
  match a with
  | ⟨0, _⟩ => blk_simp; exact (add_zero _).trans (w16 _)
  | ⟨1, _⟩ => blk_simp; exact congrArg (· * 512 + r.val) (w8 (tt t))
  | ⟨2, _⟩ => blk_simp; exact zero_add _

/-- The eight rows before the tile. -/
theorem iblk1 (c : Dev nD) (t : Fin cfg0.N) (r : Fin 8) (d : Fin 1024) :
    iblk m c 1 t (ix3 0 r d) = V m c main_arg0 (ix3 (bb t) ⟨((tt t).val * 64 - 1) * 8 + r.val, by have := (tt t).isLt; omega⟩ d) := by
  unfold iblk
  show V m c main_arg0 (((cfg0.win 1).blk t).view.emb (ix3 0 r d)) = _
  refine congrArg (V m c main_arg0) (funext fun a => Fin.ext ?_)
  match a with
  | ⟨0, _⟩ => blk_simp; exact (add_zero _).trans (w16 _)
  | ⟨1, _⟩ => blk_simp; exact congrArg (· * 8 + r.val) (wprev (tt t))
  | ⟨2, _⟩ => blk_simp; exact zero_add _

/-- The eight rows after it. -/
theorem iblk2 (c : Dev nD) (t : Fin cfg0.N) (r : Fin 8) (d : Fin 1024) :
    iblk m c 2 t (ix3 0 r d) = V m c main_arg0 (ix3 (bb t) ⟨min (((tt t).val + 1) * 64) 511 * 8 + r.val, by have := (tt t).isLt; omega⟩ d) := by
  unfold iblk
  show V m c main_arg0 (((cfg0.win 2).blk t).view.emb (ix3 0 r d)) = _
  refine congrArg (V m c main_arg0) (funext fun a => Fin.ext ?_)
  match a with
  | ⟨0, _⟩ => blk_simp; exact (add_zero _).trans (w16 _)
  | ⟨1, _⟩ => blk_simp; exact congrArg (· * 8 + r.val) (wnext (tt t))
  | ⟨2, _⟩ => blk_simp; exact zero_add _

/-- The modulations of the point's batch entry. -/
theorem iblk3 (c : Dev nD) (t : Fin cfg0.N) (j : Fin 6) (d : Fin 1024) :
    iblk m c 3 t (ix3 0 j d) = V m c main_v0 (ix3 (bb t) j d) := by
  unfold iblk
  show V m c main_v0 (((cfg0.win 3).blk t).view.emb (ix3 0 j d)) = _
  refine congrArg (V m c main_v0) (funext fun a => Fin.ext ?_)
  match a with
  | ⟨0, _⟩ => blk_simp; exact (add_zero _).trans (w16 _)
  | ⟨1, _⟩ => blk_simp; exact zero_add _
  | ⟨2, _⟩ => blk_simp; exact zero_add _

/-- The gain. -/
theorem iblk4 (c : Dev nD) (t : Fin cfg0.N) (d : Fin 1024) :
    iblk m c 4 t (ix2 0 d) = V m c main_v3 (ix2 0 d) := by
  unfold iblk
  show V m c main_v3 (((cfg0.win 4).blk t).view.emb (ix2 0 d)) = _
  refine congrArg (V m c main_v3) (funext fun a => Fin.ext ?_)
  match a with
  | ⟨0, _⟩ => blk_simp; rfl
  | ⟨1, _⟩ => blk_simp; exact zero_add _

/-- The up-projection. -/
theorem iblk5 (c : Dev nD) (t : Fin cfg0.N) (d : Fin 1024) (f : Fin 5632) :
    iblk m c 5 t (ix2 d f) = V m c main_v1 (ix2 d f) := by
  unfold iblk
  show V m c main_v1 (((cfg0.win 5).blk t).view.emb (ix2 d f)) = _
  refine congrArg (V m c main_v1) (funext fun a => Fin.ext ?_)
  match a with
  | ⟨0, _⟩ => blk_simp; exact zero_add _
  | ⟨1, _⟩ => blk_simp; exact zero_add _

/-- The convolution's weights. -/
theorem iblk6 (c : Dev nD) (t : Fin cfg0.N) (j : Fin 3) (f : Fin 2816) :
    iblk m c 6 t (ix2 j f) = V m c main_arg4 (ix2 j f) := by
  unfold iblk
  show V m c main_arg4 (((cfg0.win 6).blk t).view.emb (ix2 j f)) = _
  refine congrArg (V m c main_arg4) (funext fun a => Fin.ext ?_)
  match a with
  | ⟨0, _⟩ => blk_simp; exact zero_add _
  | ⟨1, _⟩ => blk_simp; exact zero_add _

/-- The convolution's bias. -/
theorem iblk7 (c : Dev nD) (t : Fin cfg0.N) (f : Fin 2816) :
    iblk m c 7 t (ix2 0 f) = V m c main_v4 (ix2 0 f) := by
  unfold iblk
  show V m c main_v4 (((cfg0.win 7).blk t).view.emb (ix2 0 f)) = _
  refine congrArg (V m c main_v4) (funext fun a => Fin.ext ?_)
  match a with
  | ⟨0, _⟩ => blk_simp; rfl
  | ⟨1, _⟩ => blk_simp; exact zero_add _

/-- The down-projection. -/
theorem iblk8 (c : Dev nD) (t : Fin cfg0.N) (f : Fin 2816) (d : Fin 1024) :
    iblk m c 8 t (ix2 f d) = V m c main_v2 (ix2 f d) := by
  unfold iblk
  show V m c main_v2 (((cfg0.win 8).blk t).view.emb (ix2 f d)) = _
  refine congrArg (V m c main_v2) (funext fun a => Fin.ext ?_)
  match a with
  | ⟨0, _⟩ => blk_simp; exact zero_add _
  | ⟨1, _⟩ => blk_simp; exact zero_add _

/-- Where the output block's entry lies. -/
theorem emb9 (t : Fin cfg0.N) (z : Fin 1) (r : Fin 512) (d : Fin 1024) :
    ((cfg0.win 9).blk t).view.emb (ix3 z r d) = ix3 (bb t) ⟨(tt t).val * 512 + r.val, by have := (tt t).isLt; omega⟩ d := by
  funext a
  apply Fin.ext
  match a with
  | ⟨0, _⟩ => blk_simp; exact w16 (bb t)
  | ⟨1, _⟩ => blk_simp; exact congrArg (· * 512 + r.val) (w8 (tt t))
  | ⟨2, _⟩ => blk_simp; exact zero_add _

/-- The output blocks fill the array. -/
theorem covers9 : (cfg0.win 9).Covers := by
  refine (cfg0.win 9).covers_of_indexMap_surj rfl (by decide) fun β =>
    ⟨fun a => match a with | ⟨0, _⟩ => β 0 | ⟨1, _⟩ => β 1, fun a => ?_⟩
  match a with
  | ⟨0, _⟩ => exact w16 (β 0)
  | ⟨1, _⟩ => exact w8 (β 1)
  | ⟨2, _⟩ => exact (Fin.fin_one_eq_zero (β 2)) ▸ rfl

/-- A load of half the columns of the up-projection. -/
theorem ld_up (c : Dev nD) (t : Fin cfg0.N) (o : ℕ) (h : o + 2816 ≤ 5632) (inb) (d : Fin 1024) (f : Fin 2816) :
    View.ld (iblk m c 5 t) (Rect.unit (s := S1024x5632) ![0, o] ![1024, 2816] inb) (ix2 d f) = iblk m c 5 t (ix2 d ⟨o + f.val, by omega⟩) := by
  refine congrArg (iblk m c 5 t) (funext fun a => Fin.ext ?_)
  match a with
  | ⟨0, _⟩ => show 0 + 1 * d.val = d.val; omega
  | ⟨1, _⟩ => show o + 1 * f.val = o + f.val; omega

end Cert.FfnIdeal.Hand

end
-- ==== Proof.FfnRef.lean ====
module

public import proofs.«01_k».proof.Proof.Gen.FfnRefIdeal.Read
public import proofs.«01_k».proof.Proof.RowMath
public import Idealize.ShloMosaic.Lib.KernelVsHost

@[expose] public section

set_option maxRecDepth 16384

noncomputable section

/-! The feed-forward's reference, read at an index: each row is `RowMath.ffn`. -/

namespace Cert.FfnRefIdeal.Hand

open Cert.FfnRefIdeal Cert.FfnRefIdeal.Read Idealize.ShloMosaic Idealize.ShloMosaic.TcCoe Idealize.SL.Sem
open RowMath

variable (x0 : S16x4096x1024.Idx → EReal) (x1 : S16x6144.Idx → EReal) (x2 : S1024.Idx → EReal) (x3 : S1024x5632.Idx → EReal)
  (x4 : S3x2816.Idx → EReal) (x5 : S2816.Idx → EReal) (x6 : S2816x1024.Idx → EReal)

/-- The normalised and modulated rows. -/
theorem nrm_apply (b : Fin 16) (p : Fin 4096) (d : Fin 1024) : val_main_v30 (F := Ideal) x0 x1 x2 (ix3 b p d)
    = nrm (fun d => x2 (ix1 d)) (fun d => x1 (ix2 b ⟨4096 + d.val, by omega⟩)) (fun d => x1 (ix2 b ⟨3072 + d.val, by omega⟩)) (fun d => x0 (ix3 b p d)) d := by
  unfold nrm val_main_v30 val_main_v29 val_main_v28 val_main_v27 val_main_v26 val_main_v25 val_main_v24 val_main_v23 val_main_v22 val_main_v21 val_main_v20 val_main_v19
    val_main_v18 val_main_v17 val_main_v16 val_main_v15 val_main_v14 val_main_v13 val_main_v12 val_main_v10 val_main_v9 val_main_v4 val_main_v3 val_main_cst val_main_cst_0 val_main_cst_1 val_main_cst_2
  pointwise

/-- The up-projection. -/
theorem up_apply (b : Fin 16) (p : Fin 4096) (f : Fin 5632) : val_main_v31 (F := Ideal) x0 x1 x2 x3 (ix3 b p f)
    = rowDot (fun d => val_main_v30 (F := Ideal) x0 x1 x2 (ix3 b p d)) (fun d f => x3 (ix2 d f)) f := by
  unfold rowDot val_main_v31
  generalize val_main_v30 (F := Ideal) x0 x1 x2 = y
  pointwise

/-- The padded gate rows. -/
theorem pad_apply (b : Fin 16) (p : Fin 4098) (f : Fin 2816) : val_main_v34 (F := Ideal) x0 x1 x2 x3 (ix3 b p f)
    = if h : 1 ≤ p.val ∧ p.val - 1 < 4096 then val_main_v31 (F := Ideal) x0 x1 x2 x3 (ix3 b ⟨p.val - 1, by omega⟩ ⟨2816 + f.val, by omega⟩) else (0 : EReal) := by
  unfold val_main_v34 val_main_v33 val_main_call0_v0 val_main_c
  generalize val_main_v31 (F := Ideal) x0 x1 x2 x3 = y
  pointwise
  have hz : (FloatOps.sitofp (F := Ideal) FTy.f32 (0#32 : BitVec 32) : EReal) = 0 := by
    show ((((0#32 : BitVec 32).toInt : ℤ) : ℝ) : EReal) = 0
    simp
  rw [hz]

/-- The convolution's rows. -/
theorem conv_apply (b : Fin 16) (p : Fin 4096) (f : Fin 2816) : val_main_v57 (F := Ideal) x0 x1 x2 x3 x4 x5 (ix3 b p f)
    = mix3 (x4 (ix2 0 f)) (x4 (ix2 1 f)) (x4 (ix2 2 f)) (val_main_v34 (F := Ideal) x0 x1 x2 x3 (ix3 b ⟨p.val, by omega⟩ f))
        (val_main_v34 (F := Ideal) x0 x1 x2 x3 (ix3 b ⟨1 + p.val, by omega⟩ f)) (val_main_v34 (F := Ideal) x0 x1 x2 x3 (ix3 b ⟨2 + p.val, by omega⟩ f)) + x5 (ix1 f) := by
  unfold mix3 val_main_v57 val_main_v56 val_main_v55 val_main_v54 val_main_v53 val_main_v52 val_main_v51 val_main_v50 val_main_v49 val_main_v48 val_main_v47 val_main_v46 val_main_v45 val_main_v44 val_main_v43
    val_main_v42 val_main_v41 val_main_v40 val_main_v39 val_main_v38 val_main_v37 val_main_v36 val_main_v35
  generalize val_main_v34 (F := Ideal) x0 x1 x2 x3 = y
  pointwise

/-- The gated units. -/
theorem glu_apply (b : Fin 16) (p : Fin 4096) (f : Fin 2816) : val_main_v59 (F := Ideal) x0 x1 x2 x3 x4 x5 (ix3 b p f)
    = glu (val_main_v57 (F := Ideal) x0 x1 x2 x3 x4 x5 (ix3 b p f)) (val_main_v31 (F := Ideal) x0 x1 x2 x3 (ix3 b p ⟨f.val, by omega⟩)) := by
  unfold glu val_main_v59 val_main_v58 val_main_call1_v5 val_main_call1_v4 val_main_call1_cst_0 val_main_call1_v3 val_main_call1_v2 val_main_call1_cst val_main_call1_v1 val_main_call1_v0 val_main_v32
  generalize val_main_v57 (F := Ideal) x0 x1 x2 x3 x4 x5 = y
  generalize val_main_v31 (F := Ideal) x0 x1 x2 x3 = z
  rw [zero_sub]
  pointwise

/-- The result. -/
theorem out_apply (b : Fin 16) (p : Fin 4096) (d : Fin 1024) : val_main_v63 (F := Ideal) x0 x1 x2 x3 x4 x5 x6 (ix3 b p d)
    = x0 (ix3 b p d) + x1 (ix2 b ⟨5120 + d.val, by omega⟩) * rowDot (fun f => val_main_v59 (F := Ideal) x0 x1 x2 x3 x4 x5 (ix3 b p f)) (fun f d => x6 (ix2 f d)) d := by
  unfold rowDot val_main_v63 val_main_v62 val_main_v61 val_main_v60 val_main_v11 val_main_v5
  generalize val_main_v59 (F := Ideal) x0 x1 x2 x3 x4 x5 = y
  pointwise

/-- The result is the feed-forward of the rows. -/
theorem res_apply (b : Fin 16) (p : Fin 4096) (d : Fin 1024) : val_main_v63 (F := Ideal) x0 x1 x2 x3 x4 x5 x6 (ix3 b p d)
    = ffn (fun p d => x0 (ix3 b p d)) (fun d => x2 (ix1 d)) (fun d => x1 (ix2 b ⟨4096 + d.val, by omega⟩)) (fun d => x1 (ix2 b ⟨3072 + d.val, by omega⟩))
        (fun d => x1 (ix2 b ⟨5120 + d.val, by omega⟩)) (fun d f => x3 (ix2 d f)) (fun j f => x4 (ix2 j f)) (fun f => x5 (ix1 f)) (fun f d => x6 (ix2 f d)) p d := by
  rw [out_apply]
  unfold ffn
  refine congrArg (fun a : EReal => x0 (ix3 b p d) + x1 (ix2 b ⟨5120 + d.val, by omega⟩) * a) ?_
  refine congrArg (fun u => rowDot u (fun f d => x6 (ix2 f d)) d) (funext fun f => ?_)
  have up : ∀ (q : Fin 4096) (f : Fin 5632), val_main_v31 (F := Ideal) x0 x1 x2 x3 (ix3 b q f) = rowDot (nrm (fun d => x2 (ix1 d)) (fun d => x1 (ix2 b ⟨4096 + d.val, by omega⟩)) (fun d => x1 (ix2 b ⟨3072 + d.val, by omega⟩))
      (fun d => x0 (ix3 b q d))) (fun d f => x3 (ix2 d f)) f := fun q f => by
    rw [up_apply]
    exact congrArg (fun u => rowDot u (fun d f => x3 (ix2 d f)) f) (funext fun d => nrm_apply x0 x1 x2 b q d)
  rw [glu_apply, conv_apply, pad_apply, pad_apply, pad_apply]
  simp only [up]
  have e1 : (1 ≤ 1 + p.val ∧ 1 + p.val - 1 < 4096) := by omega
  rw [dif_pos e1]
  unfold before behind
  have c0 : ∀ h : 1 ≤ 1 + p.val ∧ 1 + p.val - 1 < 4096, (⟨1 + p.val - 1, by omega⟩ : Fin 4096) = p := fun h => Fin.ext (by show 1 + p.val - 1 = p.val; omega)
  refine congrArg₂ glu (congrArg (fun a : EReal => a + x5 (ix1 f)) ?_) rfl
  have a1 : ∀ u u' v v' w w' : EReal, u = u' → v = v' → w = w' → mix3 (x4 (ix2 0 f)) (x4 (ix2 1 f)) (x4 (ix2 2 f)) u v w = mix3 (x4 (ix2 0 f)) (x4 (ix2 1 f)) (x4 (ix2 2 f)) u' v' w' := by
    rintro u _ v _ w _ rfl rfl rfl; rfl
  refine a1 _ _ _ _ _ _ ?_ ?_ ?_
  · by_cases h : 0 < p.val
    · rw [dif_pos h, dif_pos (show 1 ≤ p.val ∧ p.val - 1 < 4096 by omega)]; rfl
    · rw [dif_neg h, dif_neg (show ¬ (1 ≤ p.val ∧ p.val - 1 < 4096) by omega)]
  · rw [c0 e1]; rfl
  · by_cases h : p.val + 1 < 4096
    · rw [dif_pos h, dif_pos (show 1 ≤ 2 + p.val ∧ 2 + p.val - 1 < 4096 by omega)]
      have c2 : (⟨2 + p.val - 1, by omega⟩ : Fin 4096) = ⟨p.val + 1, h⟩ := Fin.ext (by show 2 + p.val - 1 = p.val + 1; omega)
      rw [c2]; rfl
    · rw [dif_neg h, dif_neg (show ¬ (1 ≤ 2 + p.val ∧ 2 + p.val - 1 < 4096) by omega)]

end Cert.FfnRefIdeal.Hand

end
-- ==== Proof.FfnFin.lean ====
module

public import proofs.«01_k».proof.Proof.FfnWin
public import proofs.«01_k».proof.Proof.FfnRef

@[expose] public section

set_option maxRecDepth 16384

noncomputable section

/-! The feed-forward kernel's result array is the reference's. -/

namespace Cert.FfnIdeal.Hand

open Cert.FfnIdeal Cert.FfnIdeal.Gen Idealize.ShloMosaic Idealize.ShloMosaic.TcCoe Idealize.SL.Sem
open Idealize.ShloMosaic.Pipeline (Dat)
open RowMath Rows

variable (m : (ℓ : Loc nD τ sig) → Buf (Elt Ideal) ℓ)

/-- The gate's projection of the normalised rows of a batch entry. -/
def G (c : Dev nD) (b : Fin 16) (p : Fin 4096) (f : Fin 2816) : EReal :=
  rowDot (nrm (fun d => in2 m c (ix1 d)) (fun d => in1 m c (ix2 b ⟨4096 + d.val, by omega⟩)) (fun d => in1 m c (ix2 b ⟨3072 + d.val, by omega⟩)) (fun d => in0 m c (ix3 b p d)))
    (fun d (f : Fin 2816) => in3 m c (ix2 d ⟨2816 + f.val, by omega⟩)) f

/-- A modulation at a point. -/
theorem mo_eq (c : Dev nD) (t : Fin cfg0.N) (j : Fin 6) (d : Fin 1024) : mo m c t j d = in1 m c (ix2 (bb t) ⟨j.val * 1024 + d.val, by omega⟩) :=
  (iblk3 m c t j d).trans (V_mod m c _ _ _)

/-- A normalised row at a point, given which row of the batch entry it is. -/
theorem xn_eq (c : Dev nD) (t : Fin cfg0.N) (e : Fin 528) (p : Fin 4096) (h : ∀ d, ext (iblk m c 0 t) (iblk m c 1 t) (iblk m c 2 t) e d = in0 m c (ix3 (bb t) p d)) (d : Fin 1024) :
    xn m c t (ix2 e d) = nrm (fun d => in2 m c (ix1 d)) (fun d => in1 m c (ix2 (bb t) ⟨4096 + d.val, by omega⟩)) (fun d => in1 m c (ix2 (bb t) ⟨3072 + d.val, by omega⟩)) (fun d => in0 m c (ix3 (bb t) p d)) d := by
  unfold xn
  refine (pay3_apply _ _ _ _ _ _ e d).trans ?_
  have e0 : (fun d => iblk m c 4 t (ix2 0 d)) = fun d => in2 m c (ix1 d) := funext fun d => (iblk4 m c t d).trans (V_g m c d)
  have e1 : (fun d => View.ld (iblk m c 3 t) (Rect.unit ![0, 4, 0] ![1, 1, 1024] inb_S1x6x1024_S1x1x1024_0_4_0) (ix3 0 0 d)) = fun d => in1 m c (ix2 (bb t) ⟨4096 + d.val, by omega⟩) :=
    funext fun d => (ld_mod m c t 4 (by decide) _ d).trans (mo_eq m c t 4 d)
  have e2 : (fun d => View.ld (iblk m c 3 t) (Rect.unit ![0, 3, 0] ![1, 1, 1024] inb_S1x6x1024_S1x1x1024_0_3_0) (ix3 0 0 d)) = fun d => in1 m c (ix2 (bb t) ⟨3072 + d.val, by omega⟩) :=
    funext fun d => (ld_mod m c t 3 (by decide) _ d).trans (mo_eq m c t 3 d)
  have e3 : ext (iblk m c 0 t) (iblk m c 1 t) (iblk m c 2 t) e = fun d => in0 m c (ix3 (bb t) p d) := funext h
  exact congr (congr (congr (congr (congrArg nrm e0) e1) e2) e3) rfl

/-- The projected row at a point, given which row of the batch entry it is. -/
theorem g_eq (c : Dev nD) (t : Fin cfg0.N) (e : Fin 528) (p : Fin 4096) (h : ∀ d, ext (iblk m c 0 t) (iblk m c 1 t) (iblk m c 2 t) e d = in0 m c (ix3 (bb t) p d)) (f : Fin 2816) :
    k0_pay6 (F := Ideal) (xn m c t) (w1 m c t) (ix2 e f) = G m c (bb t) p f := by
  rw [pay6_apply]
  have e0 : (fun d => xn m c t (ix2 e d)) = _ := funext fun d => xn_eq m c t e p h d
  have e1 : (fun (d : Fin 1024) (f : Fin 2816) => w1 m c t (ix2 d f)) = fun d (f : Fin 2816) => in3 m c (ix2 d ⟨2816 + f.val, by omega⟩) :=
    funext fun d => funext fun f => (ld_up m c t 2816 (by decide) _ d f).trans ((iblk5 m c t _ _).trans (V_up m c _ _))
  rw [e0, e1]
  rfl

/-- The tile's own rows of the extended block. -/
theorem ext_cur (c : Dev nD) (t : Fin cfg0.N) (r : Fin 512) (d : Fin 1024) :
    ext (iblk m c 0 t) (iblk m c 1 t) (iblk m c 2 t) ⟨r.val, by omega⟩ d = in0 m c (ix3 (bb t) ⟨(tt t).val * 512 + r.val, by have := (tt t).isLt; omega⟩ d) := by
  unfold ext
  rw [dif_pos (show r.val < 512 by omega)]
  exact (iblk0 m c t r d).trans (V_h m c _)

/-- The row before the tile. -/
theorem ext_prev (c : Dev nD) (t : Fin cfg0.N) (ht : 0 < (tt t).val) (d : Fin 1024) :
    ext (iblk m c 0 t) (iblk m c 1 t) (iblk m c 2 t) ⟨519, by omega⟩ d = in0 m c (ix3 (bb t) ⟨(tt t).val * 512 - 1, by have := (tt t).isLt; omega⟩ d) := by
  unfold ext
  rw [dif_neg (show ¬ 519 < 512 by omega), dif_pos (show 519 - 512 < 8 by omega)]
  refine (iblk1 m c t 7 d).trans ((V_h m c _).trans ?_)
  exact congrArg (fun q => in0 m c (ix3 (bb t) q d)) (Fin.ext (by show ((tt t).val * 64 - 1) * 8 + 7 = (tt t).val * 512 - 1; omega))

/-- The row after the tile. -/
theorem ext_next (c : Dev nD) (t : Fin cfg0.N) (ht : (tt t).val < 7) (d : Fin 1024) :
    ext (iblk m c 0 t) (iblk m c 1 t) (iblk m c 2 t) ⟨520, by omega⟩ d = in0 m c (ix3 (bb t) ⟨(tt t).val * 512 + 511 + 1, by omega⟩ d) := by
  unfold ext
  rw [dif_neg (show ¬ 520 < 512 by omega), dif_neg (show ¬ 520 - 512 < 8 by omega)]
  refine (iblk2 m c t 0 d).trans ((V_h m c _).trans ?_)
  exact congrArg (fun q => in0 m c (ix3 (bb t) q d)) (Fin.ext (by show min (((tt t).val + 1) * 64) 511 * 8 + 0 = (tt t).val * 512 + 511 + 1; omega))

/-- The stored rows of the tile. -/
theorem cur_eq (c : Dev nD) (t : Fin cfg0.N) (r : Fin 512) (f : Fin 2816) :
    k0_pay10 (F := Ideal) (xn m c t) (w1 m c t) (ix2 r f) = G m c (bb t) ⟨(tt t).val * 512 + r.val, by have := (tt t).isLt; omega⟩ f := by
  rw [pay10_apply]
  exact g_eq m c t _ _ (fun d => ext_cur m c t r d) f

/-- The last stored row before the tile. -/
theorem prev_eq (c : Dev nD) (t : Fin cfg0.N) (f : Fin 2816) :
    k0_pay9 (F := Ideal) (BitVec.ofNat 32 (tt t).val) (xn m c t) (w1 m c t) (ix2 7 f) = before (G m c (bb t)) ⟨(tt t).val * 512, by have := (tt t).isLt; omega⟩ f := by
  rw [pay9_apply]
  unfold before
  by_cases h : 0 < (tt t).val
  · rw [if_pos h, dif_pos (show 0 < (tt t).val * 512 by omega)]
    exact g_eq m c t _ _ (fun d => ext_prev m c t h d) f
  · rw [if_neg h, dif_neg (show ¬ 0 < (tt t).val * 512 by omega)]

/-- The first stored row after the tile. -/
theorem next_eq (c : Dev nD) (t : Fin cfg0.N) (f : Fin 2816) :
    k0_pay11 (F := Ideal) (k0_pay7 (F := Ideal) (BitVec.ofNat 32 (tt t).val) (xn m c t) (w1 m c t)) (ix2 0 f) = behind (G m c (bb t)) ⟨(tt t).val * 512 + 511, by have := (tt t).isLt; omega⟩ f := by
  rw [pay7_apply]
  unfold behind
  by_cases h : (tt t).val < 7
  · rw [if_pos h, dif_pos (show (tt t).val * 512 + 511 + 1 < 4096 by omega)]
    exact g_eq m c t _ _ (fun d => ext_next m c t h d) f
  · rw [if_neg h, dif_neg (show ¬ (tt t).val * 512 + 511 + 1 < 4096 by omega)]

/-- The reference's result, of the kernel's arguments. -/
def refOut (c : Dev nD) : S16x4096x1024.Idx → EReal :=
  Cert.FfnRefIdeal.Read.val_main_v63 (F := Ideal) (in0 m c) (in1 m c) (in2 m c) (in3 m c) (in4 m c) (in5 m c) (in6 m c)

/-- The block written at a point is the reference's there. -/
theorem point (c : Dev nD) (t : Fin cfg0.N) (z : Fin 1) (r : Fin 512) (d : Fin 1024) :
    (dats m 0 c).after 9 t (ix3 z r d) = refOut m c (ix3 (bb t) ⟨(tt t).val * 512 + r.val, by have := (tt t).isLt; omega⟩ d) := by
  refine (after_apply m c t z r d).trans ?_
  unfold refOut
  rw [Cert.FfnRefIdeal.Hand.res_apply]
  unfold ffn
  have eh : hC m c t r d = in0 m c (ix3 (bb t) ⟨(tt t).val * 512 + r.val, by have := (tt t).isLt; omega⟩ d) := (iblk0 m c t r d).trans (V_h m c _)
  have em : mo m c t 5 d = in1 m c (ix2 (bb t) ⟨5120 + d.val, by omega⟩) := mo_eq m c t 5 d
  have ed : (fun f d => iblk m c 8 t (ix2 f d)) = fun f d => in6 m c (ix2 f d) := funext fun f => funext fun d => (iblk8 m c t f d).trans (V_dn m c f d)
  rw [eh, em, ed]
  refine congrArg (fun u => _ + _ * rowDot u (fun f d => in6 m c (ix2 f d)) d) (funext fun f => ?_)
  have ec : ∀ j, cwt m c t j f = in4 m c (ix2 j f) := fun j => (iblk6 m c t j f).trans (V_cw m c _)
  have eb : cbt m c t f = in5 m c (ix1 f) := (iblk7 m c t f).trans (V_cb m c f)
  rw [ec, ec, ec, eb]
  have e1 := stack_before (G m c (bb t)) (tt t) (k0_pay9 (F := Ideal) (BitVec.ofNat 32 (tt t).val) (xn m c t) (w1 m c t)) _ (k0_pay11 (F := Ideal) (k0_pay7 (F := Ideal) (BitVec.ofNat 32 (tt t).val) (xn m c t) (w1 m c t)))
    (cur_eq m c t) (prev_eq m c t) r f
  have e2 := stack_behind (G m c (bb t)) (tt t) (k0_pay9 (F := Ideal) (BitVec.ofNat 32 (tt t).val) (xn m c t) (w1 m c t)) _ (k0_pay11 (F := Ideal) (k0_pay7 (F := Ideal) (BitVec.ofNat 32 (tt t).val) (xn m c t) (w1 m c t)))
    (cur_eq m c t) (next_eq m c t) r f
  have e3 : k0_pay8 (F := Ideal) (xn m c t) (w1 m c t) (ix2 r f) = G m c (bb t) ⟨(tt t).val * 512 + r.val, by have := (tt t).isLt; omega⟩ f := by
    rw [pay8_apply]
    exact g_eq m c t _ _ (fun d => ext_cur m c t r d) f
  have e4 : k0_pay5 (F := Ideal) (xn m c t) (View.ld (iblk m c 5 t) (Rect.unit ![0, 0] ![1024, 2816] inb_S1024x5632_S1024x2816_0_0)) (ix2 r f)
      = rowDot (nrm (fun d => in2 m c (ix1 d)) (fun d => in1 m c (ix2 (bb t) ⟨4096 + d.val, by omega⟩)) (fun d => in1 m c (ix2 (bb t) ⟨3072 + d.val, by omega⟩))
          (fun d => in0 m c (ix3 (bb t) ⟨(tt t).val * 512 + r.val, by have := (tt t).isLt; omega⟩ d))) (fun d (f : Fin 2816) => in3 m c (ix2 d ⟨f.val, by omega⟩)) f := by
    rw [pay5_apply]
    have e0 : (fun d => xn m c t (ix2 ⟨r.val, by omega⟩ d)) = _ := funext fun d => xn_eq m c t ⟨r.val, by omega⟩ _ (fun d => ext_cur m c t r d) d
    rw [e0]
    refine congrArg (fun w => rowDot _ w f) (funext fun d => funext fun f => ?_)
    refine (ld_up m c t 0 (by decide) _ d f).trans ((iblk5 m c t _ _).trans ((V_up m c _ _).trans ?_))
    exact congrArg (fun q => in3 m c (ix2 d q)) (Fin.ext (by show 0 + f.val = f.val; omega))
  exact congr (congrArg glu (congrArg (fun u : EReal => u + in5 m c (ix1 f)) (congr (congr (congrArg (mix3 _ _ _) e1) e3) e2))) e4

/-- The kernel's result array is the reference's result. -/
theorem whole (c : Dev nD) : (dats m 0 c).arrAt 9 cfg0.N = refOut m c := by
  refine (dats m 0 c).arrAt_eq_of_covers 9 _ covers9 fun t hf y => ?_
  obtain ⟨z, r, e, rfl⟩ : ∃ (z : Fin 1) (r : Fin 512) (e : Fin 1024), y = ix3 z r e := ⟨y 0, y 1, y 2, funext fun a => by
    match a with
    | ⟨0, _⟩ => rfl
    | ⟨1, _⟩ => rfl
    | ⟨2, _⟩ => rfl⟩
  rw [emb9]
  exact point m c t z r e

end Cert.FfnIdeal.Hand

end
-- ==== Proof.OffnPay.lean ====
module

public import proofs.«01_k».proof.Proof.Gen.OffnIdeal.Skeleton
public import proofs.«01_k».proof.Proof.RowMath

@[expose] public section

set_option maxRecDepth 16384

noncomputable section

/-! The payloads of the body of the output projection with its feed-forward, read at an index. -/

namespace Cert.OffnIdeal.Hand

open Cert.OffnIdeal Cert.OffnIdeal.Gen Idealize.ShloMosaic Idealize.ShloMosaic.TcCoe Idealize.SL.Sem
open RowMath

/-- The tile's attention rows followed by the sixteen rows before it and the sixteen after it. -/
def exto (o : Vec Ideal S1x512x1024 .bf16) (op on : Vec Ideal S1x16x1024 .bf16) (e : Fin 544) (d : Fin 1024) : EReal :=
  if g : e.val < 512 then o (ix3 0 ⟨e.val, g⟩ d) else if g' : e.val - 512 < 16 then op (ix3 0 ⟨e.val - 512, g'⟩ d) else on (ix3 0 ⟨e.val - 512 - 16, by omega⟩ d)

/-- Every one of these rows times the output projection. -/
theorem pay2_apply (o : Vec Ideal S1x512x1024 .bf16) (op on : Vec Ideal S1x16x1024 .bf16) (wo : Vec Ideal S1024x1024 .bf16) (e : Fin 544) (d : Fin 1024) :
    k0_pay2 (F := Ideal) o op on wo (ix2 e d) = rowDot (exto o op on e) (fun e d => wo (ix2 e d)) d := by
  unfold rowDot exto
  pointwise [k0_pay2]

/-- The tile's stream rows after the gated projection. -/
theorem pay4_apply (h : Vec Ideal S1x512x1024 .f32) (o : Vec Ideal S1x512x1024 .bf16) (op on : Vec Ideal S1x16x1024 .bf16) (wo : Vec Ideal S1024x1024 .bf16) (gt : Vec Ideal S1x1x1024 .f32) (r : Fin 512) (d : Fin 1024) :
    k0_pay4 (F := Ideal) h o op on wo gt (ix2 r d) = h (ix3 0 r d) + gt (ix3 0 0 d) * k0_pay2 (F := Ideal) o op on wo (ix2 ⟨r.val, by omega⟩ d) := by
  pointwise [k0_pay4, k0_pay3]

/-- The eight rows before the tile after the gated projection. -/
theorem pay5_apply (h : Vec Ideal S1x8x1024 .f32) (o : Vec Ideal S1x512x1024 .bf16) (op on : Vec Ideal S1x16x1024 .bf16) (wo : Vec Ideal S1024x1024 .bf16) (gt : Vec Ideal S1x1x1024 .f32) (r : Fin 8) (d : Fin 1024) :
    k0_pay5 (F := Ideal) h o op on wo gt (ix2 r d) = h (ix3 0 r d) + gt (ix3 0 0 d) * k0_pay2 (F := Ideal) o op on wo (ix2 ⟨520 + r.val, by omega⟩ d) := by
  pointwise [k0_pay5, k0_pay3]

/-- The eight rows after the tile after the gated projection. -/
theorem pay6_apply (h : Vec Ideal S1x8x1024 .f32) (o : Vec Ideal S1x512x1024 .bf16) (op on : Vec Ideal S1x16x1024 .bf16) (wo : Vec Ideal S1024x1024 .bf16) (gt : Vec Ideal S1x1x1024 .f32) (r : Fin 8) (d : Fin 1024) :
    k0_pay6 (F := Ideal) h o op on wo gt (ix2 r d) = h (ix3 0 r d) + gt (ix3 0 0 d) * k0_pay2 (F := Ideal) o op on wo (ix2 ⟨528 + r.val, by omega⟩ d) := by
  pointwise [k0_pay6, k0_pay3]

/-- The tile's rows followed by the eight rows before it and the eight after it. -/
def ext (h : FVec Ideal S512x1024 .f32) (hp hn : FVec Ideal S8x1024 .f32) (e : Fin 528) (d : Fin 1024) : EReal :=
  if g : e.val < 512 then h (ix2 ⟨e.val, g⟩ d) else if g' : e.val - 512 < 8 then hp (ix2 ⟨e.val - 512, g'⟩ d) else hn (ix2 ⟨e.val - 512 - 8, by omega⟩ d)

/-- Every one of these rows is normalised and modulated. -/
theorem pay8_apply (h : FVec Ideal S512x1024 .f32) (hp hn : FVec Ideal S8x1024 .f32) (sh sc : Vec Ideal S1x1x1024 .f32) (g : Vec Ideal S1x1024 .f32) (e : Fin 528) (d : Fin 1024) :
    k0_pay8 (F := Ideal) h hp hn sh sc g (ix2 e d)
      = nrm (fun d => g (ix2 0 d)) (fun d => sc (ix3 0 0 d)) (fun d => sh (ix3 0 0 d)) (ext h hp hn e) d := by
  unfold nrm ext
  pointwise [k0_pay8]

/-- The first half of the up-projection, of the tile's rows. -/
theorem pay10_apply (h : FVec Ideal S512x1024 .f32) (hp hn : FVec Ideal S8x1024 .f32) (sh sc : Vec Ideal S1x1x1024 .f32) (g : Vec Ideal S1x1024 .f32) (w : Vec Ideal S1024x2816 .bf16) (r : Fin 512) (f : Fin 2816) :
    k0_pay10 (F := Ideal) h hp hn sh sc g w (ix2 r f) = rowDot (fun d => k0_pay8 (F := Ideal) h hp hn sh sc g (ix2 ⟨r.val, by omega⟩ d)) (fun d f => w (ix2 d f)) f := by
  unfold rowDot
  pointwise [k0_pay10]

/-- The second half of the up-projection, of all rows. -/
theorem pay11_apply (h : FVec Ideal S512x1024 .f32) (hp hn : FVec Ideal S8x1024 .f32) (sh sc : Vec Ideal S1x1x1024 .f32) (g : Vec Ideal S1x1024 .f32) (w : Vec Ideal S1024x2816 .bf16) (e : Fin 528) (f : Fin 2816) :
    k0_pay11 (F := Ideal) h hp hn sh sc g w (ix2 e f) = rowDot (fun d => k0_pay8 (F := Ideal) h hp hn sh sc g (ix2 e d)) (fun d f => w (ix2 d f)) f := by
  unfold rowDot
  pointwise [k0_pay11]

/-- The tile's own rows of it. -/
theorem pay13_apply (y : FVec Ideal S528x2816 .f32) (r : Fin 512) (f : Fin 2816) : k0_pay13 (F := Ideal) y (ix2 r f) = y (ix2 ⟨r.val, by omega⟩ f) := by
  pointwise [k0_pay13]

/-- The tile's own rows of it, as stored. -/
theorem pay15_apply (y : FVec Ideal S528x2816 .f32) (r : Fin 512) (f : Fin 2816) : k0_pay15 (F := Ideal) y (ix2 r f) = y (ix2 ⟨r.val, by omega⟩ f) := by
  pointwise [k0_pay15, k0_pay13]

/-- The rows before the tile, zero at the first tile. -/
theorem pay12_apply (t : Fin 8) (h : FVec Ideal S512x1024 .f32) (hp hn : FVec Ideal S8x1024 .f32) (sh sc : Vec Ideal S1x1x1024 .f32) (g : Vec Ideal S1x1024 .f32) (w : Vec Ideal S1024x2816 .bf16) (r : Fin 8) (f : Fin 2816) :
    k0_pay14 (F := Ideal) (k0_pay12 (F := Ideal) (BitVec.ofNat 32 t.val) h hp hn sh sc g w) (ix2 r f)
      = if 0 < t.val then k0_pay11 (F := Ideal) h hp hn sh sc g w (ix2 ⟨512 + r.val, by omega⟩ f) else (0 : EReal) := by
  have e : Scalar.cmpi .sgt (BitVec.ofNat 32 t.val) 0#32 = BitVec.ofBool (decide (0 < t.val)) := by revert t; decide
  pointwise [k0_pay14, k0_pay12]
  simp only [e]
  by_cases k : 0 < t.val <;> simp [k, Scalar.select]

/-- The rows after the tile, zero at the last tile. -/
theorem pay16_apply (t : Fin 8) (y : FVec Ideal S528x2816 .f32) (r : Fin 8) (f : Fin 2816) :
    k0_pay16 (F := Ideal) (BitVec.ofNat 32 t.val) y (ix2 r f) = if t.val < 7 then y (ix2 ⟨520 + r.val, by omega⟩ f) else (0 : EReal) := by
  have e : Scalar.cmpi .slt (BitVec.ofNat 32 t.val) 7#32 = BitVec.ofBool (decide (t.val < 7)) := by revert t; decide
  pointwise [k0_pay16]
  simp only [e]
  by_cases k : t.val < 7 <;> simp [k, Scalar.select]

/-- The block stored: the tile's rows plus the gate times the second projection of the gated units. -/
theorem pay1_apply (h : FVec Ideal S512x1024 .f32) (gt : Vec Ideal S1x1x1024 .f32) (a : FVec Ideal S512x2816 .f32) (y : FVec Ideal S528x2816 .f32) (w0 w1 w2 : Vec Ideal S1x2816 .f32)
    (p n : Vec Ideal S512x2816 .f32) (b : Vec Ideal S1x2816 .f32) (dn : Vec Ideal S2816x1024 .bf16) (z : Fin 1) (r : Fin 512) (d : Fin 1024) :
    k0_pay1 (F := Ideal) h (k0_pay7 (F := Ideal) gt) (k0_pay9 (F := Ideal)) a w2 (k0_pay17 (F := Ideal) y w0 w1 p) n b dn (ix3 z r d)
      = h (ix2 r d) + gt (ix3 0 0 d) * rowDot (fun f => glu (mix3 (w0 (ix2 0 f)) (w1 (ix2 0 f)) (w2 (ix2 0 f)) (p (ix2 r f)) (k0_pay13 (F := Ideal) y (ix2 r f)) (n (ix2 r f)) + b (ix2 0 f)) (a (ix2 r f)))
          (fun f d => dn (ix2 f d)) d := by
  unfold rowDot glu mix3
  pointwise [k0_pay1, k0_pay7, k0_pay9, k0_pay17]

end Cert.OffnIdeal.Hand

end
-- ==== Proof.OffnAcc.lean ====
module

public import proofs.«01_k».proof.Proof.OffnPay
public import proofs.«01_k».proof.Proof.Rows
public import proofs.«01_k».proof.Proof.Gen.OffnIdeal.Value

@[expose] public section

set_option maxRecDepth 16384

noncomputable section

/-! The block a grid point of the output projection with its feed-forward writes, read at an index, from its input blocks. -/

namespace Cert.OffnIdeal.Hand

open Cert.OffnIdeal Cert.OffnIdeal.Gen Idealize.ShloMosaic Idealize.ShloMosaic.TcCoe Idealize.SL.Sem
open Idealize.ShloMosaic.Pipeline (Dat)
open RowMath Rows

variable (m : (ℓ : Loc nD τ sig) → Buf (Elt Ideal) ℓ)

/-- A load of 512 rows of the scratch after the three stores. -/
theorem scr_read (o : ℕ) (ho : o + 512 ≤ 528) (i i2 i1 i0 io s2 s1 s0 so) (w0 : (⟨2, ![8, 2816]⟩ : Shape).Idx → EReal) (w1 : (⟨2, ![512, 2816]⟩ : Shape).Idx → EReal) (w2 : (⟨2, ![8, 2816]⟩ : Shape).Idx → EReal)
    (r : Fin 512) (f : Fin 2816) :
    (View.whole cc0_scratch0).readCov (Val := Elt Ideal)
      [⟨(Rect.unit (s := S528x2816) ![0, 0] ![528, 2816] i).within (Rect.unit ![520, 0] ![8, 2816] i2) s2, w2⟩,
       ⟨(Rect.unit (s := S528x2816) ![0, 0] ![528, 2816] i).within (Rect.unit ![8, 0] ![512, 2816] i1) s1, w1⟩,
       ⟨(Rect.unit (s := S528x2816) ![0, 0] ![528, 2816] i).within (Rect.unit ![0, 0] ![8, 2816] i0) s0, w0⟩]
      ((Rect.unit (s := S528x2816) ![0, 0] ![528, 2816] i).withinL (Rect.unit (s := S528x2816) ![o, 0] ![512, 2816] io).toLoadRect so) (ix2 r f) = stack w0 w1 w2 (o + r.val) f := by
  rw [View.readCov_eq_canon']
  have e : ((Rect.unit (s := S528x2816) ![0, 0] ![528, 2816] i).withinL (Rect.unit (s := S528x2816) ![o, 0] ![512, 2816] io).toLoadRect so).idx (ix2 r f) = ix2 ⟨o + r.val, by omega⟩ f := by
    funext a
    apply Fin.ext
    match a with
    | ⟨0, _⟩ => show 0 + o + 1 * r.val = o + r.val; omega
    | ⟨1, _⟩ => show 0 + 0 + 1 * f.val = f.val; omega
  show View.canon _ _ = _
  rw [e]
  exact canon_within i i2 i1 i0 s2 s1 s0 w0 w1 w2 _ f

/-- The six modulations of the point's batch entry. -/
def mo (c : Dev nD) (t : Fin cfg0.N) (j : Fin 6) (d : Fin 1024) : EReal := iblk m c 7 t (ix3 0 j d)
/-- The convolution's weights. -/
def cwt (c : Dev nD) (t : Fin cfg0.N) (j : Fin 3) (f : Fin 2816) : EReal := iblk m c 10 t (ix2 j f)
/-- The convolution's bias. -/
def cbt (c : Dev nD) (t : Fin cfg0.N) (f : Fin 2816) : EReal := iblk m c 11 t (ix2 0 f)

/-- The tile's stream rows after the gated output projection. -/
def hcur (c : Dev nD) (t : Fin cfg0.N) : FVec Ideal S512x1024 .f32 :=
  k0_pay4 (F := Ideal) (iblk m c 0 t) (iblk m c 3 t) (iblk m c 4 t) (iblk m c 5 t) (iblk m c 6 t) (View.ld (iblk m c 7 t) (Rect.unit ![0, 2, 0] ![1, 1, 1024] inb_S1x6x1024_S1x1x1024_0_2_0))

/-- The eight rows before the tile after it. -/
def hprev (c : Dev nD) (t : Fin cfg0.N) : FVec Ideal S8x1024 .f32 :=
  k0_pay5 (F := Ideal) (iblk m c 1 t) (iblk m c 3 t) (iblk m c 4 t) (iblk m c 5 t) (iblk m c 6 t) (View.ld (iblk m c 7 t) (Rect.unit ![0, 2, 0] ![1, 1, 1024] inb_S1x6x1024_S1x1x1024_0_2_0))

/-- The eight rows after the tile after it. -/
def hnext (c : Dev nD) (t : Fin cfg0.N) : FVec Ideal S8x1024 .f32 :=
  k0_pay6 (F := Ideal) (iblk m c 2 t) (iblk m c 3 t) (iblk m c 4 t) (iblk m c 5 t) (iblk m c 6 t) (View.ld (iblk m c 7 t) (Rect.unit ![0, 2, 0] ![1, 1, 1024] inb_S1x6x1024_S1x1x1024_0_2_0))

/-- The shift's row. -/
def shf (c : Dev nD) (t : Fin cfg0.N) : Vec Ideal S1x1x1024 .f32 := View.ld (iblk m c 7 t) (Rect.unit ![0, 3, 0] ![1, 1, 1024] inb_S1x6x1024_S1x1x1024_0_3_0)
/-- The scale's row. -/
def scl (c : Dev nD) (t : Fin cfg0.N) : Vec Ideal S1x1x1024 .f32 := View.ld (iblk m c 7 t) (Rect.unit ![0, 4, 0] ![1, 1, 1024] inb_S1x6x1024_S1x1x1024_0_4_0)
/-- The first half of the up-projection's weights. -/
def w0 (c : Dev nD) (t : Fin cfg0.N) : Vec Ideal S1024x2816 .bf16 := View.ld (iblk m c 9 t) (Rect.unit ![0, 0] ![1024, 2816] inb_S1024x5632_S1024x2816_0_0)
/-- The second half. -/
def w1 (c : Dev nD) (t : Fin cfg0.N) : Vec Ideal S1024x2816 .bf16 := View.ld (iblk m c 9 t) (Rect.unit ![0, 2816] ![1024, 2816] inb_S1024x5632_S1024x2816_0_2816)

/-- The gate's projection of all rows. -/
def gg (c : Dev nD) (t : Fin cfg0.N) : FVec Ideal S528x2816 .f32 :=
  k0_pay11 (F := Ideal) (hcur m c t) (hprev m c t) (hnext m c t) (shf m c t) (scl m c t) (iblk m c 8 t) (w1 m c t)
/-- The stored rows before the tile. -/
def gprev (c : Dev nD) (t : Fin cfg0.N) : FVec Ideal S8x2816 .f32 :=
  k0_pay14 (F := Ideal) (k0_pay12 (F := Ideal) (BitVec.ofNat 32 ↑(grid0.coords t 1)) (hcur m c t) (hprev m c t) (hnext m c t) (shf m c t) (scl m c t) (iblk m c 8 t) (w1 m c t))
/-- The stored rows after the tile. -/
def gnext (c : Dev nD) (t : Fin cfg0.N) : FVec Ideal S8x2816 .f32 := k0_pay16 (F := Ideal) (BitVec.ofNat 32 ↑(grid0.coords t 1)) (gg m c t)

/-- A load of one row of the modulations. -/
theorem ld_mod (c : Dev nD) (t : Fin cfg0.N) (o : ℕ) (h : o < 6) (inb) (d : Fin 1024) :
    View.ld (iblk m c 7 t) (Rect.unit (s := S1x6x1024) ![0, o, 0] ![1, 1, 1024] inb) (ix3 0 0 d) = mo m c t ⟨o, h⟩ d := by
  refine congrArg (iblk m c 7 t) (funext fun a => Fin.ext ?_)
  match a with
  | ⟨0, _⟩ => rfl
  | ⟨1, _⟩ => show o + 1 * 0 = o; omega
  | ⟨2, _⟩ => show 0 + 1 * d.val = d.val; omega

/-- A load of one row of the convolution's weights. -/
theorem ld_cw (c : Dev nD) (t : Fin cfg0.N) (o : ℕ) (h : o < 3) (inb) (f : Fin 2816) :
    View.ld (iblk m c 10 t) (Rect.unit (s := S3x2816) ![o, 0] ![1, 2816] inb) (ix2 0 f) = cwt m c t ⟨o, h⟩ f := by
  refine congrArg (iblk m c 10 t) (funext fun a => Fin.ext ?_)
  match a with
  | ⟨0, _⟩ => show o + 1 * 0 = o; omega
  | ⟨1, _⟩ => show 0 + 1 * f.val = f.val; omega

/-- The block written at a point, at an index. -/
theorem after_apply (c : Dev nD) (t : Fin cfg0.N) (z : Fin 1) (r : Fin 512) (d : Fin 1024) :
    (dats m 0 c).after 13 t (ix3 z r d)
      = hcur m c t (ix2 r d) + mo m c t 5 d
        * rowDot (fun f => glu (mix3 (cwt m c t 0 f) (cwt m c t 1 f) (cwt m c t 2 f)
              (stack (gprev m c t) (k0_pay15 (F := Ideal) (gg m c t)) (gnext m c t) (7 + r.val) f)
              (k0_pay13 (F := Ideal) (gg m c t) (ix2 r f))
              (stack (gprev m c t) (k0_pay15 (F := Ideal) (gg m c t)) (gnext m c t) (9 + r.val) f)
              + cbt m c t f)
            (k0_pay10 (F := Ideal) (hcur m c t) (hprev m c t) (hnext m c t) (shf m c t) (scl m c t) (iblk m c 8 t) (w0 m c t) (ix2 r f)))
          (fun f d => iblk m c 12 t (ix2 f d)) d := by
  rw [after0_13]; simp only [outsAt0]
  frame_open
  simp (disch := decide) only [↓ View.readCov_skip, ↓ View.readCov_cons_toLoadRect, ↓ View.readCov_fill]
  frame_out
  refine (pay1_apply _ _ _ _ _ _ _ _ _ _ _ z r d).trans ?_
  rw [ld_mod m c t 5 (by decide)]
  refine congrArg (fun u => hcur m c t (ix2 r d) + mo m c t 5 d * rowDot u (fun f d => iblk m c 12 t (ix2 f d)) d) (funext fun f => ?_)
  rw [ld_cw m c t 0 (by decide), ld_cw m c t 1 (by decide), ld_cw m c t 2 (by decide)]
  refine congrArg (fun u : EReal => glu u _) (congrArg (fun u : EReal => u + cbt m c t f) ?_)
  exact congrArg₂ (fun u v : EReal => mix3 _ _ _ u _ v) (scr_read 7 (by decide) _ _ _ _ _ _ _ _ _ _ _ _ r f) (scr_read 9 (by decide) _ _ _ _ _ _ _ _ _ _ _ _ r f)

end Cert.OffnIdeal.Hand

end
-- ==== Proof.OffnWin.lean ====
module

public import proofs.«01_k».proof.Proof.OffnAcc
public import Idealize.ShloMosaic.Lib.Pipeline.Covers
public import Idealize.ShloMosaic.Lib.StableHlo.ReadAt
public import Idealize.ShloMosaic.Lib.Routing.OpsSet
public import Idealize.ShloMosaic.Lib.Routing.OpsPair

@[expose] public section

set_option maxRecDepth 16384

noncomputable section

/-! The input blocks of the output projection with its feed-forward, read at an index, in terms of the program's arguments. -/

namespace Cert.OffnIdeal.Hand

open Cert.OffnIdeal Cert.OffnIdeal.Gen Idealize.ShloMosaic Idealize.ShloMosaic.TcCoe Idealize.SL.Sem
open Idealize.ShloMosaic.Pipeline (Dat)
open RowMath Rows

variable (m : (ℓ : Loc nD τ sig) → Buf (Elt Ideal) ℓ)

/-- The program's arguments as functions of an index: the stream, the attention's rows, the output projection, the modulations, the gain, the up-projection, the convolution's weights and bias, the down-projection. -/
abbrev in0 (c : Dev nD) : S16x4096x1024.Idx → EReal := m ((c : Thread nD τ).loc main_arg0)
abbrev in1 (c : Dev nD) : S16x4096x1024.Idx → EReal := m ((c : Thread nD τ).loc main_arg1)
abbrev in2 (c : Dev nD) : S1024x1024.Idx → EReal := m ((c : Thread nD τ).loc main_arg2)
abbrev in3 (c : Dev nD) : S16x6144.Idx → EReal := m ((c : Thread nD τ).loc main_arg3)
abbrev in4 (c : Dev nD) : S1024.Idx → EReal := m ((c : Thread nD τ).loc main_arg4)
abbrev in5 (c : Dev nD) : S1024x5632.Idx → EReal := m ((c : Thread nD τ).loc main_arg5)
abbrev in6 (c : Dev nD) : S3x2816.Idx → EReal := m ((c : Thread nD τ).loc main_arg6)
abbrev in7 (c : Dev nD) : S2816.Idx → EReal := m ((c : Thread nD τ).loc main_arg7)
abbrev in8 (c : Dev nD) : S2816x1024.Idx → EReal := m ((c : Thread nD τ).loc main_arg8)

/-- The stream is handed over as it is. -/
theorem V_h (c : Dev nD) (i : S16x4096x1024.Idx) : V m c main_arg0 i = in0 m c i := by
  unfold V
  after_reads_at

/-- The attention's rows are handed over as they are. -/
theorem V_o (c : Dev nD) (i : S16x4096x1024.Idx) : V m c main_arg1 i = in1 m c i := by
  unfold V
  after_reads_at

/-- The output projection. -/
theorem V_wo (c : Dev nD) (e d : Fin 1024) : V m c main_v5 (ix2 e d) = in2 m c (ix2 e d) := by
  unfold V
  after_reads_at

/-- The modulations, six rows of 1024. -/
theorem V_mod (c : Dev nD) (b : Fin 16) (j : Fin 6) (d : Fin 1024) : V m c main_v0 (ix3 b j d) = in3 m c (ix2 b ⟨j.val * 1024 + d.val, by omega⟩) := by
  unfold V
  after_reads_at

/-- The gain. -/
theorem V_g (c : Dev nD) (d : Fin 1024) : V m c main_v3 (ix2 0 d) = in4 m c (ix1 d) := by
  unfold V
  after_reads_at

/-- The up-projection. -/
theorem V_up (c : Dev nD) (d : Fin 1024) (f : Fin 5632) : V m c main_v1 (ix2 d f) = in5 m c (ix2 d f) := by
  unfold V
  after_reads_at

/-- The convolution's weights. -/
theorem V_cw (c : Dev nD) (i : S3x2816.Idx) : V m c main_arg6 i = in6 m c i := by
  unfold V
  after_reads_at

/-- The convolution's bias. -/
theorem V_cb (c : Dev nD) (f : Fin 2816) : V m c main_v4 (ix2 0 f) = in7 m c (ix1 f) := by
  unfold V
  after_reads_at

/-- The down-projection. -/
theorem V_dn (c : Dev nD) (f : Fin 2816) (d : Fin 1024) : V m c main_v2 (ix2 f d) = in8 m c (ix2 f d) := by
  unfold V
  after_reads_at

/-- The grid's coordinates at a point: the batch entry. -/
def bb (t : Fin cfg0.N) : Fin 16 := cfg0.grid.coords t 0
/-- The tile of rows. -/
def tt (t : Fin cfg0.N) : Fin 8 := cfg0.grid.coords t 1

/-- A small coordinate survives as a word. -/
theorem w16 (i : Fin 16) : (BitVec.ofNat 32 i.val).toNat = i.val := by
  rw [BitVec.toNat_ofNat]; omega

/-- A small coordinate survives as a word. -/
theorem w8 (i : Fin 8) : (BitVec.ofNat 32 i.val).toNat = i.val := by
  rw [BitVec.toNat_ofNat]; omega

/-- The block of eight rows before a tile's first, clamped at the first. -/
theorem wprev (i : Fin 8) : (Scalar.maxsi (Scalar.subi (Scalar.muli (BitVec.ofNat 32 i.val) 64#32) 1#32) 0#32).toNat = i.val * 64 - 1 := by revert i; decide

/-- The block of eight rows after a tile's last, clamped at the last. -/
theorem wnext (i : Fin 8) : (Scalar.minsi (Scalar.muli (Scalar.addi (BitVec.ofNat 32 i.val) 1#32) 64#32) 511#32).toNat = min ((i.val + 1) * 64) 511 := by revert i; decide

/-- The block of sixteen rows before a tile's first, clamped at the first. -/
theorem wprev16 (i : Fin 8) : (Scalar.maxsi (Scalar.subi (Scalar.muli (BitVec.ofNat 32 i.val) 32#32) 1#32) 0#32).toNat = i.val * 32 - 1 := by revert i; decide

/-- The block of sixteen rows after a tile's last, clamped at the last. -/
theorem wnext16 (i : Fin 8) : (Scalar.minsi (Scalar.muli (Scalar.addi (BitVec.ofNat 32 i.val) 1#32) 32#32) 255#32).toNat = min ((i.val + 1) * 32) 255 := by revert i; decide

/-- The tile's own rows. -/
theorem iblk0 (c : Dev nD) (t : Fin cfg0.N) (r : Fin 512) (d : Fin 1024) :
    iblk m c 0 t (ix3 0 r d) = V m c main_arg0 (ix3 (bb t) ⟨(tt t).val * 512 + r.val, by have := (tt t).isLt; omega⟩ d) := by
  unfold iblk
  show V m c main_arg0 (((cfg0.win 0).blk t).view.emb (ix3 0 r d)) = _
  refine congrArg (V m c main_arg0) (funext fun a => Fin.ext ?_)
  match a with
  | ⟨0, _⟩ => blk_simp; exact (add_zero _).trans (w16 _)
  | ⟨1, _⟩ => blk_simp; exact congrArg (· * 512 + r.val) (w8 (tt t))
  | ⟨2, _⟩ => blk_simp; exact zero_add _

/-- The eight rows before the tile. -/
theorem iblk1 (c : Dev nD) (t : Fin cfg0.N) (r : Fin 8) (d : Fin 1024) :
    iblk m c 1 t (ix3 0 r d) = V m c main_arg0 (ix3 (bb t) ⟨((tt t).val * 64 - 1) * 8 + r.val, by have := (tt t).isLt; omega⟩ d) := by
  unfold iblk
  show V m c main_arg0 (((cfg0.win 1).blk t).view.emb (ix3 0 r d)) = _
  refine congrArg (V m c main_arg0) (funext fun a => Fin.ext ?_)
  match a with
  | ⟨0, _⟩ => blk_simp; exact (add_zero _).trans (w16 _)
  | ⟨1, _⟩ => blk_simp; exact congrArg (· * 8 + r.val) (wprev (tt t))
  | ⟨2, _⟩ => blk_simp; exact zero_add _

/-- The eight rows after it. -/
theorem iblk2 (c : Dev nD) (t : Fin cfg0.N) (r : Fin 8) (d : Fin 1024) :
    iblk m c 2 t (ix3 0 r d) = V m c main_arg0 (ix3 (bb t) ⟨min (((tt t).val + 1) * 64) 511 * 8 + r.val, by have := (tt t).isLt; omega⟩ d) := by
  unfold iblk
  show V m c main_arg0 (((cfg0.win 2).blk t).view.emb (ix3 0 r d)) = _
  refine congrArg (V m c main_arg0) (funext fun a => Fin.ext ?_)
  match a with
  | ⟨0, _⟩ => blk_simp; exact (add_zero _).trans (w16 _)
  | ⟨1, _⟩ => blk_simp; exact congrArg (· * 8 + r.val) (wnext (tt t))
  | ⟨2, _⟩ => blk_simp; exact zero_add _

/-- The tile's own rows of the attention. -/
theorem iblk3 (c : Dev nD) (t : Fin cfg0.N) (r : Fin 512) (d : Fin 1024) :
    iblk m c 3 t (ix3 0 r d) = V m c main_arg1 (ix3 (bb t) ⟨(tt t).val * 512 + r.val, by have := (tt t).isLt; omega⟩ d) := by
  unfold iblk
  show V m c main_arg1 (((cfg0.win 3).blk t).view.emb (ix3 0 r d)) = _
  refine congrArg (V m c main_arg1) (funext fun a => Fin.ext ?_)
  match a with
  | ⟨0, _⟩ => blk_simp; exact (add_zero _).trans (w16 _)
  | ⟨1, _⟩ => blk_simp; exact congrArg (· * 512 + r.val) (w8 (tt t))
  | ⟨2, _⟩ => blk_simp; exact zero_add _

/-- The sixteen rows of it before the tile. -/
theorem iblk4 (c : Dev nD) (t : Fin cfg0.N) (r : Fin 16) (d : Fin 1024) :
    iblk m c 4 t (ix3 0 r d) = V m c main_arg1 (ix3 (bb t) ⟨((tt t).val * 32 - 1) * 16 + r.val, by have := (tt t).isLt; omega⟩ d) := by
  unfold iblk
  show V m c main_arg1 (((cfg0.win 4).blk t).view.emb (ix3 0 r d)) = _
  refine congrArg (V m c main_arg1) (funext fun a => Fin.ext ?_)
  match a with
  | ⟨0, _⟩ => blk_simp; exact (add_zero _).trans (w16 _)
  | ⟨1, _⟩ => blk_simp; exact congrArg (· * 16 + r.val) (wprev16 (tt t))
  | ⟨2, _⟩ => blk_simp; exact zero_add _

/-- The sixteen rows of it after the tile. -/
theorem iblk5 (c : Dev nD) (t : Fin cfg0.N) (r : Fin 16) (d : Fin 1024) :
    iblk m c 5 t (ix3 0 r d) = V m c main_arg1 (ix3 (bb t) ⟨min (((tt t).val + 1) * 32) 255 * 16 + r.val, by have := (tt t).isLt; omega⟩ d) := by
  unfold iblk
  show V m c main_arg1 (((cfg0.win 5).blk t).view.emb (ix3 0 r d)) = _
  refine congrArg (V m c main_arg1) (funext fun a => Fin.ext ?_)
  match a with
  | ⟨0, _⟩ => blk_simp; exact (add_zero _).trans (w16 _)
  | ⟨1, _⟩ => blk_simp; exact congrArg (· * 16 + r.val) (wnext16 (tt t))
  | ⟨2, _⟩ => blk_simp; exact zero_add _

/-- The modulations of the point's batch entry. -/
theorem iblk7 (c : Dev nD) (t : Fin cfg0.N) (j : Fin 6) (d : Fin 1024) :
    iblk m c 7 t (ix3 0 j d) = V m c main_v0 (ix3 (bb t) j d) := by
  unfold iblk
  show V m c main_v0 (((cfg0.win 7).blk t).view.emb (ix3 0 j d)) = _
  refine congrArg (V m c main_v0) (funext fun a => Fin.ext ?_)
  match a with
  | ⟨0, _⟩ => blk_simp; exact (add_zero _).trans (w16 _)
  | ⟨1, _⟩ => blk_simp; exact zero_add _
  | ⟨2, _⟩ => blk_simp; exact zero_add _

/-- The output projection. -/
theorem iblk6 (c : Dev nD) (t : Fin cfg0.N) (e : Fin 1024) (d : Fin 1024) :
    iblk m c 6 t (ix2 e d) = V m c main_v5 (ix2 e d) := by
  unfold iblk
  show V m c main_v5 (((cfg0.win 6).blk t).view.emb (ix2 e d)) = _
  refine congrArg (V m c main_v5) (funext fun a => Fin.ext ?_)
  match a with
  | ⟨0, _⟩ => blk_simp; exact zero_add _
  | ⟨1, _⟩ => blk_simp; exact zero_add _

/-- The gain. -/
theorem iblk8 (c : Dev nD) (t : Fin cfg0.N) (d : Fin 1024) :
    iblk m c 8 t (ix2 0 d) = V m c main_v3 (ix2 0 d) := by
  unfold iblk
  show V m c main_v3 (((cfg0.win 8).blk t).view.emb (ix2 0 d)) = _
  refine congrArg (V m c main_v3) (funext fun a => Fin.ext ?_)
  match a with
  | ⟨0, _⟩ => blk_simp; rfl
  | ⟨1, _⟩ => blk_simp; exact zero_add _

/-- The up-projection. -/
theorem iblk9 (c : Dev nD) (t : Fin cfg0.N) (d : Fin 1024) (f : Fin 5632) :
    iblk m c 9 t (ix2 d f) = V m c main_v1 (ix2 d f) := by
  unfold iblk
  show V m c main_v1 (((cfg0.win 9).blk t).view.emb (ix2 d f)) = _
  refine congrArg (V m c main_v1) (funext fun a => Fin.ext ?_)
  match a with
  | ⟨0, _⟩ => blk_simp; exact zero_add _
  | ⟨1, _⟩ => blk_simp; exact zero_add _

/-- The convolution's weights. -/
theorem iblk10 (c : Dev nD) (t : Fin cfg0.N) (j : Fin 3) (f : Fin 2816) :
    iblk m c 10 t (ix2 j f) = V m c main_arg6 (ix2 j f) := by
  unfold iblk
  show V m c main_arg6 (((cfg0.win 10).blk t).view.emb (ix2 j f)) = _
  refine congrArg (V m c main_arg6) (funext fun a => Fin.ext ?_)
  match a with
  | ⟨0, _⟩ => blk_simp; exact zero_add _
  | ⟨1, _⟩ => blk_simp; exact zero_add _

/-- The convolution's bias. -/
theorem iblk11 (c : Dev nD) (t : Fin cfg0.N) (f : Fin 2816) :
    iblk m c 11 t (ix2 0 f) = V m c main_v4 (ix2 0 f) := by
  unfold iblk
  show V m c main_v4 (((cfg0.win 11).blk t).view.emb (ix2 0 f)) = _
  refine congrArg (V m c main_v4) (funext fun a => Fin.ext ?_)
  match a with
  | ⟨0, _⟩ => blk_simp; rfl
  | ⟨1, _⟩ => blk_simp; exact zero_add _

/-- The down-projection. -/
theorem iblk12 (c : Dev nD) (t : Fin cfg0.N) (f : Fin 2816) (d : Fin 1024) :
    iblk m c 12 t (ix2 f d) = V m c main_v2 (ix2 f d) := by
  unfold iblk
  show V m c main_v2 (((cfg0.win 12).blk t).view.emb (ix2 f d)) = _
  refine congrArg (V m c main_v2) (funext fun a => Fin.ext ?_)
  match a with
  | ⟨0, _⟩ => blk_simp; exact zero_add _
  | ⟨1, _⟩ => blk_simp; exact zero_add _

/-- Where the output block's entry lies. -/
theorem emb13 (t : Fin cfg0.N) (z : Fin 1) (r : Fin 512) (d : Fin 1024) :
    ((cfg0.win 13).blk t).view.emb (ix3 z r d) = ix3 (bb t) ⟨(tt t).val * 512 + r.val, by have := (tt t).isLt; omega⟩ d := by
  funext a
  apply Fin.ext
  match a with
  | ⟨0, _⟩ => blk_simp; exact w16 (bb t)
  | ⟨1, _⟩ => blk_simp; exact congrArg (· * 512 + r.val) (w8 (tt t))
  | ⟨2, _⟩ => blk_simp; exact zero_add _

/-- The output blocks fill the array. -/
theorem covers13 : (cfg0.win 13).Covers := by
  refine (cfg0.win 13).covers_of_indexMap_surj rfl (by decide) fun β =>
    ⟨fun a => match a with | ⟨0, _⟩ => β 0 | ⟨1, _⟩ => β 1, fun a => ?_⟩
  match a with
  | ⟨0, _⟩ => exact w16 (β 0)
  | ⟨1, _⟩ => exact w8 (β 1)
  | ⟨2, _⟩ => exact (Fin.fin_one_eq_zero (β 2)) ▸ rfl

/-- A load of half the columns of the up-projection. -/
theorem ld_up (c : Dev nD) (t : Fin cfg0.N) (o : ℕ) (h : o + 2816 ≤ 5632) (inb) (d : Fin 1024) (f : Fin 2816) :
    View.ld (iblk m c 9 t) (Rect.unit (s := S1024x5632) ![0, o] ![1024, 2816] inb) (ix2 d f) = iblk m c 9 t (ix2 d ⟨o + f.val, by omega⟩) := by
  refine congrArg (iblk m c 9 t) (funext fun a => Fin.ext ?_)
  match a with
  | ⟨0, _⟩ => show 0 + 1 * d.val = d.val; omega
  | ⟨1, _⟩ => show o + 1 * f.val = o + f.val; omega

end Cert.OffnIdeal.Hand

end
-- ==== Proof.OffnRef.lean ====
module

public import proofs.«01_k».proof.Proof.Gen.OffnRefIdeal.Read
public import proofs.«01_k».proof.Proof.RowMath
public import Idealize.ShloMosaic.Lib.KernelVsHost

@[expose] public section

set_option maxRecDepth 16384

noncomputable section

/-! The reference of the output projection with its feed-forward, read at an index: each row is `RowMath.ffn` of the stream after the projection. -/

namespace Cert.OffnRefIdeal.Hand

open Cert.OffnRefIdeal Cert.OffnRefIdeal.Read Idealize.ShloMosaic Idealize.ShloMosaic.TcCoe Idealize.SL.Sem
open RowMath

variable (x0 x1 : S16x4096x1024.Idx → EReal) (x2 : S1024x1024.Idx → EReal) (x3 : S16x6144.Idx → EReal) (x4 : S1024.Idx → EReal) (x5 : S1024x5632.Idx → EReal)
  (x6 : S3x2816.Idx → EReal) (x7 : S2816.Idx → EReal) (x8 : S2816x1024.Idx → EReal)

/-- The stream after the gated output projection. -/
theorem row_apply (b : Fin 16) (p : Fin 4096) (d : Fin 1024) : val_main_v16 (F := Ideal) x0 x1 x2 x3 (ix3 b p d)
    = x0 (ix3 b p d) + x3 (ix2 b ⟨2048 + d.val, by omega⟩) * rowDot (fun e => x1 (ix3 b p e)) (fun e d => x2 (ix2 e d)) d := by
  unfold rowDot val_main_v16 val_main_v15 val_main_v14 val_main_v13 val_main_v12 val_main_v8 val_main_v2
  pointwise

/-- The normalised and modulated rows. -/
theorem nrm_apply (b : Fin 16) (p : Fin 4096) (d : Fin 1024) : val_main_v35 (F := Ideal) x0 x1 x2 x3 x4 (ix3 b p d)
    = nrm (fun d => x4 (ix1 d)) (fun d => x3 (ix2 b ⟨4096 + d.val, by omega⟩)) (fun d => x3 (ix2 b ⟨3072 + d.val, by omega⟩)) (fun d => val_main_v16 (F := Ideal) x0 x1 x2 x3 (ix3 b p d)) d := by
  unfold nrm val_main_v35 val_main_v34 val_main_v33 val_main_v32 val_main_v31 val_main_v30 val_main_v29 val_main_v28 val_main_v27 val_main_v26 val_main_v25 val_main_v24
    val_main_v23 val_main_v22 val_main_v21 val_main_v20 val_main_v19 val_main_v18 val_main_v17 val_main_v10 val_main_v9 val_main_v4 val_main_v3 val_main_cst val_main_cst_0 val_main_cst_1 val_main_cst_2
  generalize val_main_v16 (F := Ideal) x0 x1 x2 x3 = h
  pointwise

/-- The up-projection. -/
theorem up_apply (b : Fin 16) (p : Fin 4096) (f : Fin 5632) : val_main_v36 (F := Ideal) x0 x1 x2 x3 x4 x5 (ix3 b p f)
    = rowDot (fun d => val_main_v35 (F := Ideal) x0 x1 x2 x3 x4 (ix3 b p d)) (fun d f => x5 (ix2 d f)) f := by
  unfold rowDot val_main_v36
  generalize val_main_v35 (F := Ideal) x0 x1 x2 x3 x4 = y
  pointwise

/-- The padded gate rows. -/
theorem pad_apply (b : Fin 16) (p : Fin 4098) (f : Fin 2816) : val_main_v39 (F := Ideal) x0 x1 x2 x3 x4 x5 (ix3 b p f)
    = if h : 1 ≤ p.val ∧ p.val - 1 < 4096 then val_main_v36 (F := Ideal) x0 x1 x2 x3 x4 x5 (ix3 b ⟨p.val - 1, by omega⟩ ⟨2816 + f.val, by omega⟩) else (0 : EReal) := by
  unfold val_main_v39 val_main_v38 val_main_call0_v0 val_main_c
  generalize val_main_v36 (F := Ideal) x0 x1 x2 x3 x4 x5 = y
  pointwise
  have hz : (FloatOps.sitofp (F := Ideal) FTy.f32 (0#32 : BitVec 32) : EReal) = 0 := by
    show ((((0#32 : BitVec 32).toInt : ℤ) : ℝ) : EReal) = 0
    simp
  rw [hz]

/-- The convolution's rows. -/
theorem conv_apply (b : Fin 16) (p : Fin 4096) (f : Fin 2816) : val_main_v62 (F := Ideal) x0 x1 x2 x3 x4 x5 x6 x7 (ix3 b p f)
    = mix3 (x6 (ix2 0 f)) (x6 (ix2 1 f)) (x6 (ix2 2 f)) (val_main_v39 (F := Ideal) x0 x1 x2 x3 x4 x5 (ix3 b ⟨p.val, by omega⟩ f))
        (val_main_v39 (F := Ideal) x0 x1 x2 x3 x4 x5 (ix3 b ⟨1 + p.val, by omega⟩ f)) (val_main_v39 (F := Ideal) x0 x1 x2 x3 x4 x5 (ix3 b ⟨2 + p.val, by omega⟩ f)) + x7 (ix1 f) := by
  unfold mix3 val_main_v62 val_main_v61 val_main_v60 val_main_v59 val_main_v58 val_main_v57 val_main_v56 val_main_v55 val_main_v54 val_main_v53 val_main_v52 val_main_v51 val_main_v50 val_main_v49 val_main_v48
    val_main_v47 val_main_v46 val_main_v45 val_main_v44 val_main_v43 val_main_v42 val_main_v41 val_main_v40
  generalize val_main_v39 (F := Ideal) x0 x1 x2 x3 x4 x5 = y
  pointwise

/-- The gated units. -/
theorem glu_apply (b : Fin 16) (p : Fin 4096) (f : Fin 2816) : val_main_v64 (F := Ideal) x0 x1 x2 x3 x4 x5 x6 x7 (ix3 b p f)
    = glu (val_main_v62 (F := Ideal) x0 x1 x2 x3 x4 x5 x6 x7 (ix3 b p f)) (val_main_v36 (F := Ideal) x0 x1 x2 x3 x4 x5 (ix3 b p ⟨f.val, by omega⟩)) := by
  unfold glu val_main_v64 val_main_v63 val_main_call1_v5 val_main_call1_v4 val_main_call1_cst_0 val_main_call1_v3 val_main_call1_v2 val_main_call1_cst val_main_call1_v1 val_main_call1_v0 val_main_v37
  generalize val_main_v62 (F := Ideal) x0 x1 x2 x3 x4 x5 x6 x7 = y
  generalize val_main_v36 (F := Ideal) x0 x1 x2 x3 x4 x5 = z
  rw [zero_sub]
  pointwise

/-- The result. -/
theorem out_apply (b : Fin 16) (p : Fin 4096) (d : Fin 1024) : val_main_v68 (F := Ideal) x0 x1 x2 x3 x4 x5 x6 x7 x8 (ix3 b p d)
    = val_main_v16 (F := Ideal) x0 x1 x2 x3 (ix3 b p d) + x3 (ix2 b ⟨5120 + d.val, by omega⟩) * rowDot (fun f => val_main_v64 (F := Ideal) x0 x1 x2 x3 x4 x5 x6 x7 (ix3 b p f)) (fun f d => x8 (ix2 f d)) d := by
  unfold rowDot val_main_v68 val_main_v67 val_main_v66 val_main_v65 val_main_v11 val_main_v5
  generalize val_main_v64 (F := Ideal) x0 x1 x2 x3 x4 x5 x6 x7 = y
  generalize val_main_v16 (F := Ideal) x0 x1 x2 x3 = h
  pointwise

/-- The result is the feed-forward of the rows. -/
theorem res_apply (b : Fin 16) (p : Fin 4096) (d : Fin 1024) : val_main_v68 (F := Ideal) x0 x1 x2 x3 x4 x5 x6 x7 x8 (ix3 b p d)
    = ffn (fun p d => val_main_v16 (F := Ideal) x0 x1 x2 x3 (ix3 b p d)) (fun d => x4 (ix1 d)) (fun d => x3 (ix2 b ⟨4096 + d.val, by omega⟩)) (fun d => x3 (ix2 b ⟨3072 + d.val, by omega⟩))
        (fun d => x3 (ix2 b ⟨5120 + d.val, by omega⟩)) (fun d f => x5 (ix2 d f)) (fun j f => x6 (ix2 j f)) (fun f => x7 (ix1 f)) (fun f d => x8 (ix2 f d)) p d := by
  rw [out_apply]
  unfold ffn
  refine congrArg (fun a : EReal => val_main_v16 (F := Ideal) x0 x1 x2 x3 (ix3 b p d) + x3 (ix2 b ⟨5120 + d.val, by omega⟩) * a) ?_
  refine congrArg (fun u => rowDot u (fun f d => x8 (ix2 f d)) d) (funext fun f => ?_)
  have up : ∀ (q : Fin 4096) (f : Fin 5632), val_main_v36 (F := Ideal) x0 x1 x2 x3 x4 x5 (ix3 b q f) = rowDot (nrm (fun d => x4 (ix1 d)) (fun d => x3 (ix2 b ⟨4096 + d.val, by omega⟩)) (fun d => x3 (ix2 b ⟨3072 + d.val, by omega⟩))
      (fun d => val_main_v16 (F := Ideal) x0 x1 x2 x3 (ix3 b q d))) (fun d f => x5 (ix2 d f)) f := fun q f => by
    rw [up_apply]
    exact congrArg (fun u => rowDot u (fun d f => x5 (ix2 d f)) f) (funext fun d => nrm_apply x0 x1 x2 x3 x4 b q d)
  rw [glu_apply, conv_apply, pad_apply, pad_apply, pad_apply]
  simp only [up]
  have e1 : (1 ≤ 1 + p.val ∧ 1 + p.val - 1 < 4096) := by omega
  rw [dif_pos e1]
  unfold before behind
  have c0 : ∀ h : 1 ≤ 1 + p.val ∧ 1 + p.val - 1 < 4096, (⟨1 + p.val - 1, by omega⟩ : Fin 4096) = p := fun h => Fin.ext (by show 1 + p.val - 1 = p.val; omega)
  refine congrArg₂ glu (congrArg (fun a : EReal => a + x7 (ix1 f)) ?_) rfl
  have a1 : ∀ u u' v v' w w' : EReal, u = u' → v = v' → w = w' → mix3 (x6 (ix2 0 f)) (x6 (ix2 1 f)) (x6 (ix2 2 f)) u v w = mix3 (x6 (ix2 0 f)) (x6 (ix2 1 f)) (x6 (ix2 2 f)) u' v' w' := by
    rintro u _ v _ w _ rfl rfl rfl; rfl
  refine a1 _ _ _ _ _ _ ?_ ?_ ?_
  · by_cases h : 0 < p.val
    · rw [dif_pos h, dif_pos (show 1 ≤ p.val ∧ p.val - 1 < 4096 by omega)]; rfl
    · rw [dif_neg h, dif_neg (show ¬ (1 ≤ p.val ∧ p.val - 1 < 4096) by omega)]
  · rw [c0 e1]; rfl
  · by_cases h : p.val + 1 < 4096
    · rw [dif_pos h, dif_pos (show 1 ≤ 2 + p.val ∧ 2 + p.val - 1 < 4096 by omega)]
      have c2 : (⟨2 + p.val - 1, by omega⟩ : Fin 4096) = ⟨p.val + 1, h⟩ := Fin.ext (by show 2 + p.val - 1 = p.val + 1; omega)
      rw [c2]; rfl
    · rw [dif_neg h, dif_neg (show ¬ (1 ≤ 2 + p.val ∧ 2 + p.val - 1 < 4096) by omega)]

end Cert.OffnRefIdeal.Hand

end
-- ==== Proof.OffnFin.lean ====
module

public import proofs.«01_k».proof.Proof.OffnWin
public import proofs.«01_k».proof.Proof.OffnRef

@[expose] public section

set_option maxRecDepth 16384

noncomputable section

/-! The result array of the output projection with its feed-forward is the reference's. -/

namespace Cert.OffnIdeal.Hand

open Cert.OffnIdeal Cert.OffnIdeal.Gen Idealize.ShloMosaic Idealize.ShloMosaic.TcCoe Idealize.SL.Sem
open Idealize.ShloMosaic.Pipeline (Dat)
open RowMath Rows

variable (m : (ℓ : Loc nD τ sig) → Buf (Elt Ideal) ℓ)

/-- The stream's rows of a batch entry after the gated output projection. -/
def H (c : Dev nD) (b : Fin 16) (p : Fin 4096) (d : Fin 1024) : EReal :=
  in0 m c (ix3 b p d) + in3 m c (ix2 b ⟨2048 + d.val, by omega⟩) * rowDot (fun e => in1 m c (ix3 b p e)) (fun e d => in2 m c (ix2 e d)) d

/-- The gate's projection of the normalised rows of a batch entry. -/
def G (c : Dev nD) (b : Fin 16) (p : Fin 4096) (f : Fin 2816) : EReal :=
  rowDot (nrm (fun d => in4 m c (ix1 d)) (fun d => in3 m c (ix2 b ⟨4096 + d.val, by omega⟩)) (fun d => in3 m c (ix2 b ⟨3072 + d.val, by omega⟩)) (H m c b p))
    (fun d (f : Fin 2816) => in5 m c (ix2 d ⟨2816 + f.val, by omega⟩)) f

/-- A modulation at a point. -/
theorem mo_eq (c : Dev nD) (t : Fin cfg0.N) (j : Fin 6) (d : Fin 1024) : mo m c t j d = in3 m c (ix2 (bb t) ⟨j.val * 1024 + d.val, by omega⟩) :=
  (iblk7 m c t j d).trans (V_mod m c _ _ _)

/-- A row of the attention times the output projection at a point, given which row of the batch entry it is. -/
theorem y_eq (c : Dev nD) (t : Fin cfg0.N) (e : Fin 544) (p : Fin 4096) (h : ∀ d, exto (iblk m c 3 t) (iblk m c 4 t) (iblk m c 5 t) e d = in1 m c (ix3 (bb t) p d)) (d : Fin 1024) :
    k0_pay2 (F := Ideal) (iblk m c 3 t) (iblk m c 4 t) (iblk m c 5 t) (iblk m c 6 t) (ix2 e d) = rowDot (fun e => in1 m c (ix3 (bb t) p e)) (fun e d => in2 m c (ix2 e d)) d := by
  refine (pay2_apply _ _ _ _ e d).trans ?_
  have e0 : exto (iblk m c 3 t) (iblk m c 4 t) (iblk m c 5 t) e = fun d => in1 m c (ix3 (bb t) p d) := funext h
  have e1 : (fun e d => iblk m c 6 t (ix2 e d)) = fun e d => in2 m c (ix2 e d) := funext fun e => funext fun d => (iblk6 m c t e d).trans (V_wo m c e d)
  exact congr (congr (congrArg rowDot e0) e1) rfl

/-- The gate of the output projection at a point. -/
theorem gt_eq (c : Dev nD) (t : Fin cfg0.N) (d : Fin 1024) :
    View.ld (iblk m c 7 t) (Rect.unit (s := S1x6x1024) ![0, 2, 0] ![1, 1, 1024] inb_S1x6x1024_S1x1x1024_0_2_0) (ix3 0 0 d) = in3 m c (ix2 (bb t) ⟨2048 + d.val, by omega⟩) :=
  (ld_mod m c t 2 (by decide) _ d).trans (mo_eq m c t 2 d)

/-- A row of the stream, from its parts. -/
theorem H_of (c : Dev nD) (b : Fin 16) (p : Fin 4096) (d : Fin 1024) (x g y : EReal) (hx : x = in0 m c (ix3 b p d)) (hg : g = in3 m c (ix2 b ⟨2048 + d.val, by omega⟩))
    (hy : y = rowDot (fun e => in1 m c (ix3 b p e)) (fun e d => in2 m c (ix2 e d)) d) : x + g * y = H m c b p d := by
  rw [hx, hg, hy]; rfl

/-- The tile's rows. -/
theorem hcur_eq (c : Dev nD) (t : Fin cfg0.N) (r : Fin 512) (d : Fin 1024) :
    hcur m c t (ix2 r d) = H m c (bb t) ⟨(tt t).val * 512 + r.val, by have := (tt t).isLt; omega⟩ d := by
  unfold hcur
  refine (pay4_apply _ _ _ _ _ _ r d).trans (H_of m c _ _ _ _ _ _ ((iblk0 m c t r d).trans (V_h m c _)) (gt_eq m c t d) (y_eq m c t _ _ (fun e => ?_) d))
  unfold exto
  rw [dif_pos (show r.val < 512 by omega)]
  exact (iblk3 m c t r e).trans (V_o m c _)

/-- The row before the tile. -/
theorem hprev_eq (c : Dev nD) (t : Fin cfg0.N) (ht : 0 < (tt t).val) (d : Fin 1024) :
    hprev m c t (ix2 7 d) = H m c (bb t) ⟨(tt t).val * 512 - 1, by have := (tt t).isLt; omega⟩ d := by
  unfold hprev
  refine (pay5_apply _ _ _ _ _ _ 7 d).trans (H_of m c _ _ _ _ _ _ ((iblk1 m c t 7 d).trans ((V_h m c _).trans ?_)) (gt_eq m c t d) (y_eq m c t ⟨527, by omega⟩ _ (fun e => ?_) d))
  · exact congrArg (fun q => in0 m c (ix3 (bb t) q d)) (Fin.ext (by show ((tt t).val * 64 - 1) * 8 + 7 = (tt t).val * 512 - 1; omega))
  · unfold exto
    rw [dif_neg (show ¬ 527 < 512 by omega), dif_pos (show 527 - 512 < 16 by omega)]
    refine (iblk4 m c t 15 e).trans ((V_o m c _).trans ?_)
    exact congrArg (fun q => in1 m c (ix3 (bb t) q e)) (Fin.ext (by show ((tt t).val * 32 - 1) * 16 + 15 = (tt t).val * 512 - 1; omega))

/-- The row after the tile. -/
theorem hnext_eq (c : Dev nD) (t : Fin cfg0.N) (ht : (tt t).val < 7) (d : Fin 1024) :
    hnext m c t (ix2 0 d) = H m c (bb t) ⟨(tt t).val * 512 + 511 + 1, by omega⟩ d := by
  unfold hnext
  refine (pay6_apply _ _ _ _ _ _ 0 d).trans (H_of m c _ _ _ _ _ _ ((iblk2 m c t 0 d).trans ((V_h m c _).trans ?_)) (gt_eq m c t d) (y_eq m c t ⟨528, by omega⟩ _ (fun e => ?_) d))
  · exact congrArg (fun q => in0 m c (ix3 (bb t) q d)) (Fin.ext (by show min (((tt t).val + 1) * 64) 511 * 8 + 0 = (tt t).val * 512 + 511 + 1; omega))
  · unfold exto
    rw [dif_neg (show ¬ 528 < 512 by omega), dif_neg (show ¬ 528 - 512 < 16 by omega)]
    refine (iblk5 m c t 0 e).trans ((V_o m c _).trans ?_)
    exact congrArg (fun q => in1 m c (ix3 (bb t) q e)) (Fin.ext (by show min (((tt t).val + 1) * 32) 255 * 16 + 0 = (tt t).val * 512 + 511 + 1; omega))

/-- A normalised row at a point, given which row of the batch entry it is. -/
theorem xn_eq (c : Dev nD) (t : Fin cfg0.N) (e : Fin 528) (p : Fin 4096) (h : ∀ d, ext (hcur m c t) (hprev m c t) (hnext m c t) e d = H m c (bb t) p d) (d : Fin 1024) :
    k0_pay8 (F := Ideal) (hcur m c t) (hprev m c t) (hnext m c t) (shf m c t) (scl m c t) (iblk m c 8 t) (ix2 e d)
      = nrm (fun d => in4 m c (ix1 d)) (fun d => in3 m c (ix2 (bb t) ⟨4096 + d.val, by omega⟩)) (fun d => in3 m c (ix2 (bb t) ⟨3072 + d.val, by omega⟩)) (H m c (bb t) p) d := by
  refine (pay8_apply _ _ _ _ _ _ e d).trans ?_
  have e0 : (fun d => iblk m c 8 t (ix2 0 d)) = fun d => in4 m c (ix1 d) := funext fun d => (iblk8 m c t d).trans (V_g m c d)
  have e1 : (fun d => scl m c t (ix3 0 0 d)) = fun d => in3 m c (ix2 (bb t) ⟨4096 + d.val, by omega⟩) :=
    funext fun d => (ld_mod m c t 4 (by decide) _ d).trans (mo_eq m c t 4 d)
  have e2 : (fun d => shf m c t (ix3 0 0 d)) = fun d => in3 m c (ix2 (bb t) ⟨3072 + d.val, by omega⟩) :=
    funext fun d => (ld_mod m c t 3 (by decide) _ d).trans (mo_eq m c t 3 d)
  have e3 : ext (hcur m c t) (hprev m c t) (hnext m c t) e = H m c (bb t) p := funext h
  exact congr (congr (congr (congr (congrArg nrm e0) e1) e2) e3) rfl

/-- The projected row at a point, given which row of the batch entry it is. -/
theorem g_eq (c : Dev nD) (t : Fin cfg0.N) (e : Fin 528) (p : Fin 4096) (h : ∀ d, ext (hcur m c t) (hprev m c t) (hnext m c t) e d = H m c (bb t) p d) (f : Fin 2816) :
    gg m c t (ix2 e f) = G m c (bb t) p f := by
  unfold gg
  refine (pay11_apply _ _ _ _ _ _ _ e f).trans ?_
  have e0 : (fun d => k0_pay8 (F := Ideal) (hcur m c t) (hprev m c t) (hnext m c t) (shf m c t) (scl m c t) (iblk m c 8 t) (ix2 e d)) = _ := funext fun d => xn_eq m c t e p h d
  have e1 : (fun (d : Fin 1024) (f : Fin 2816) => w1 m c t (ix2 d f)) = fun d (f : Fin 2816) => in5 m c (ix2 d ⟨2816 + f.val, by omega⟩) :=
    funext fun d => funext fun f => (ld_up m c t 2816 (by decide) _ d f).trans ((iblk9 m c t _ _).trans (V_up m c _ _))
  exact congr (congr (congrArg rowDot e0) e1) rfl

/-- The tile's own rows of the extended block. -/
theorem ext_cur (c : Dev nD) (t : Fin cfg0.N) (r : Fin 512) (d : Fin 1024) :
    ext (hcur m c t) (hprev m c t) (hnext m c t) ⟨r.val, by omega⟩ d = H m c (bb t) ⟨(tt t).val * 512 + r.val, by have := (tt t).isLt; omega⟩ d := by
  unfold ext
  rw [dif_pos (show r.val < 512 by omega)]
  exact hcur_eq m c t r d

/-- The row before the tile in it. -/
theorem ext_prev (c : Dev nD) (t : Fin cfg0.N) (ht : 0 < (tt t).val) (d : Fin 1024) :
    ext (hcur m c t) (hprev m c t) (hnext m c t) ⟨519, by omega⟩ d = H m c (bb t) ⟨(tt t).val * 512 - 1, by have := (tt t).isLt; omega⟩ d := by
  unfold ext
  rw [dif_neg (show ¬ 519 < 512 by omega), dif_pos (show 519 - 512 < 8 by omega)]
  exact hprev_eq m c t ht d

/-- The row after the tile in it. -/
theorem ext_next (c : Dev nD) (t : Fin cfg0.N) (ht : (tt t).val < 7) (d : Fin 1024) :
    ext (hcur m c t) (hprev m c t) (hnext m c t) ⟨520, by omega⟩ d = H m c (bb t) ⟨(tt t).val * 512 + 511 + 1, by omega⟩ d := by
  unfold ext
  rw [dif_neg (show ¬ 520 < 512 by omega), dif_neg (show ¬ 520 - 512 < 8 by omega)]
  exact hnext_eq m c t ht d

/-- The stored rows of the tile. -/
theorem cur_eq (c : Dev nD) (t : Fin cfg0.N) (r : Fin 512) (f : Fin 2816) :
    k0_pay15 (F := Ideal) (gg m c t) (ix2 r f) = G m c (bb t) ⟨(tt t).val * 512 + r.val, by have := (tt t).isLt; omega⟩ f := by
  rw [pay15_apply]
  exact g_eq m c t _ _ (fun d => ext_cur m c t r d) f

/-- The last stored row before the tile. -/
theorem prev_eq (c : Dev nD) (t : Fin cfg0.N) (f : Fin 2816) :
    gprev m c t (ix2 7 f) = before (G m c (bb t)) ⟨(tt t).val * 512, by have := (tt t).isLt; omega⟩ f := by
  unfold gprev
  refine (pay12_apply (tt t) _ _ _ _ _ _ _ 7 f).trans ?_
  unfold before
  by_cases h : 0 < (tt t).val
  · rw [if_pos h, dif_pos (show 0 < (tt t).val * 512 by omega)]
    exact g_eq m c t ⟨519, by omega⟩ _ (fun d => ext_prev m c t h d) f
  · rw [if_neg h, dif_neg (show ¬ 0 < (tt t).val * 512 by omega)]

/-- The first stored row after the tile. -/
theorem next_eq (c : Dev nD) (t : Fin cfg0.N) (f : Fin 2816) :
    gnext m c t (ix2 0 f) = behind (G m c (bb t)) ⟨(tt t).val * 512 + 511, by have := (tt t).isLt; omega⟩ f := by
  unfold gnext
  refine (pay16_apply (tt t) _ 0 f).trans ?_
  unfold behind
  by_cases h : (tt t).val < 7
  · rw [if_pos h, dif_pos (show (tt t).val * 512 + 511 + 1 < 4096 by omega)]
    exact g_eq m c t ⟨520, by omega⟩ _ (fun d => ext_next m c t h d) f
  · rw [if_neg h, dif_neg (show ¬ (tt t).val * 512 + 511 + 1 < 4096 by omega)]

/-- The reference's result, of the kernel's arguments. -/
def refOut (c : Dev nD) : S16x4096x1024.Idx → EReal :=
  Cert.OffnRefIdeal.Read.val_main_v68 (F := Ideal) (in0 m c) (in1 m c) (in2 m c) (in3 m c) (in4 m c) (in5 m c) (in6 m c) (in7 m c) (in8 m c)

/-- The block written at a point is the reference's there. -/
theorem point (c : Dev nD) (t : Fin cfg0.N) (z : Fin 1) (r : Fin 512) (d : Fin 1024) :
    (dats m 0 c).after 13 t (ix3 z r d) = refOut m c (ix3 (bb t) ⟨(tt t).val * 512 + r.val, by have := (tt t).isLt; omega⟩ d) := by
  refine (after_apply m c t z r d).trans ?_
  unfold refOut
  rw [Cert.OffnRefIdeal.Hand.res_apply]
  have eH : (fun p d => Cert.OffnRefIdeal.Read.val_main_v16 (F := Ideal) (in0 m c) (in1 m c) (in2 m c) (in3 m c) (ix3 (bb t) p d)) = H m c (bb t) :=
    funext fun p => funext fun d => Cert.OffnRefIdeal.Hand.row_apply (in0 m c) (in1 m c) (in2 m c) (in3 m c) (bb t) p d
  rw [eH]
  unfold ffn
  have em : mo m c t 5 d = in3 m c (ix2 (bb t) ⟨5120 + d.val, by omega⟩) := mo_eq m c t 5 d
  have ed : (fun f d => iblk m c 12 t (ix2 f d)) = fun f d => in8 m c (ix2 f d) := funext fun f => funext fun d => (iblk12 m c t f d).trans (V_dn m c f d)
  rw [hcur_eq, em, ed]
  refine congrArg (fun u => _ + _ * rowDot u (fun f d => in8 m c (ix2 f d)) d) (funext fun f => ?_)
  have ec : ∀ j, cwt m c t j f = in6 m c (ix2 j f) := fun j => (iblk10 m c t j f).trans (V_cw m c _)
  have eb : cbt m c t f = in7 m c (ix1 f) := (iblk11 m c t f).trans (V_cb m c f)
  rw [ec, ec, ec, eb]
  have e1 := stack_before (G m c (bb t)) (tt t) (gprev m c t) _ (gnext m c t) (cur_eq m c t) (prev_eq m c t) r f
  have e2 := stack_behind (G m c (bb t)) (tt t) (gprev m c t) _ (gnext m c t) (cur_eq m c t) (next_eq m c t) r f
  have e3 : k0_pay13 (F := Ideal) (gg m c t) (ix2 r f) = G m c (bb t) ⟨(tt t).val * 512 + r.val, by have := (tt t).isLt; omega⟩ f := by
    rw [pay13_apply]
    exact g_eq m c t _ _ (fun d => ext_cur m c t r d) f
  have e4 : k0_pay10 (F := Ideal) (hcur m c t) (hprev m c t) (hnext m c t) (shf m c t) (scl m c t) (iblk m c 8 t) (w0 m c t) (ix2 r f)
      = rowDot (nrm (fun d => in4 m c (ix1 d)) (fun d => in3 m c (ix2 (bb t) ⟨4096 + d.val, by omega⟩)) (fun d => in3 m c (ix2 (bb t) ⟨3072 + d.val, by omega⟩))
          (H m c (bb t) ⟨(tt t).val * 512 + r.val, by have := (tt t).isLt; omega⟩)) (fun d (f : Fin 2816) => in5 m c (ix2 d ⟨f.val, by omega⟩)) f := by
    refine (pay10_apply _ _ _ _ _ _ _ r f).trans ?_
    have e0 : (fun d => k0_pay8 (F := Ideal) (hcur m c t) (hprev m c t) (hnext m c t) (shf m c t) (scl m c t) (iblk m c 8 t) (ix2 ⟨r.val, by omega⟩ d)) = _ :=
      funext fun d => xn_eq m c t ⟨r.val, by omega⟩ _ (fun d => ext_cur m c t r d) d
    have e1 : (fun (d : Fin 1024) (f : Fin 2816) => w0 m c t (ix2 d f)) = fun d (f : Fin 2816) => in5 m c (ix2 d ⟨f.val, by omega⟩) := funext fun d => funext fun f =>
      (ld_up m c t 0 (by decide) _ d f).trans ((iblk9 m c t _ _).trans ((V_up m c _ _).trans (congrArg (fun q => in5 m c (ix2 d q)) (Fin.ext (by show 0 + f.val = f.val; omega)))))
    exact congr (congr (congrArg rowDot e0) e1) rfl
  exact congr (congrArg glu (congrArg (fun u : EReal => u + in7 m c (ix1 f)) (congr (congr (congrArg (mix3 _ _ _) e1) e3) e2))) e4

/-- The kernel's result array is the reference's result. -/
theorem whole (c : Dev nD) : (dats m 0 c).arrAt 13 cfg0.N = refOut m c := by
  refine (dats m 0 c).arrAt_eq_of_covers 13 _ covers13 fun t hf y => ?_
  obtain ⟨z, r, e, rfl⟩ : ∃ (z : Fin 1) (r : Fin 512) (e : Fin 1024), y = ix3 z r e := ⟨y 0, y 1, y 2, funext fun a => by
    match a with
    | ⟨0, _⟩ => rfl
    | ⟨1, _⟩ => rfl
    | ⟨2, _⟩ => rfl⟩
  rw [emb13]
  exact point m c t z r e

end Cert.OffnIdeal.Hand

end
-- ==== Proof.ConvPay.lean ====
module

public import proofs.«01_k».proof.Proof.Gen.ConvIdeal.Skeleton
public import proofs.«01_k».proof.Proof.RowMath

@[expose] public section

set_option maxRecDepth 16384

noncomputable section

/-! The payloads of the body of the short gated convolution, read at an index. -/

namespace Cert.ConvIdeal.Hand

open Cert.ConvIdeal Cert.ConvIdeal.Gen Idealize.ShloMosaic Idealize.ShloMosaic.TcCoe Idealize.SL.Sem
open RowMath

/-- The tile's rows followed by the eight rows before it and the eight after it. -/
def ext (h : Vec Ideal S1x512x1024 .f32) (hp hn : Vec Ideal S1x8x1024 .f32) (e : Fin 528) (d : Fin 1024) : EReal :=
  if g : e.val < 512 then h (ix3 0 ⟨e.val, g⟩ d) else if g' : e.val - 512 < 8 then hp (ix3 0 ⟨e.val - 512, g'⟩ d) else hn (ix3 0 ⟨e.val - 512 - 8, by omega⟩ d)

/-- Every one of these rows is normalised and modulated. -/
theorem pay4_apply (h : Vec Ideal S1x512x1024 .f32) (sh sc : Vec Ideal S1x1x1024 .f32) (hp hn : Vec Ideal S1x8x1024 .f32) (g : Vec Ideal S1x1024 .f32) (e : Fin 528) (d : Fin 1024) :
    k0_pay4 (F := Ideal) h sh sc hp hn g (ix2 e d)
      = nrm (fun d => g (ix2 0 d)) (fun d => sc (ix3 0 0 d)) (fun d => sh (ix3 0 0 d)) (ext h hp hn e) d := by
  unfold nrm ext
  pointwise [k0_pay4, k0_pay2]

/-- The first third of the projection, of the tile's rows. -/
theorem pay5_apply (x : FVec Ideal S528x1024 .bf16) (w : Vec Ideal S1024x1024 .bf16) (r : Fin 512) (f : Fin 1024) :
    k0_pay5 (F := Ideal) x w (ix2 r f) = rowDot (fun d => x (ix2 ⟨r.val, by omega⟩ d)) (fun d f => w (ix2 d f)) f := by
  unfold rowDot
  pointwise [k0_pay5]

/-- The product of the other two thirds, of all rows. -/
theorem pay6_apply (x : FVec Ideal S528x1024 .bf16) (w w' : Vec Ideal S1024x1024 .bf16) (e : Fin 528) (f : Fin 1024) :
    k0_pay6 (F := Ideal) x w w' (ix2 e f) = rowDot (fun d => x (ix2 e d)) (fun d f => w (ix2 d f)) f * rowDot (fun d => x (ix2 e d)) (fun d f => w' (ix2 d f)) f := by
  unfold rowDot
  pointwise [k0_pay6]

/-- The tile's own rows of it. -/
theorem pay7_apply (x : FVec Ideal S528x1024 .bf16) (w w' : Vec Ideal S1024x1024 .bf16) (r : Fin 512) (f : Fin 1024) :
    k0_pay7 (F := Ideal) x w w' (ix2 r f) = k0_pay6 (F := Ideal) x w w' (ix2 ⟨r.val, by omega⟩ f) := by
  pointwise [k0_pay7]

/-- The tile's own rows of it, as stored. -/
theorem pay9_apply (x : FVec Ideal S528x1024 .bf16) (w w' : Vec Ideal S1024x1024 .bf16) (r : Fin 512) (f : Fin 1024) :
    k0_pay9 (F := Ideal) x w w' (ix2 r f) = k0_pay6 (F := Ideal) x w w' (ix2 ⟨r.val, by omega⟩ f) := by
  pointwise [k0_pay9, k0_pay7]

/-- The rows before the tile, zero at the first tile. -/
theorem pay8_apply (t : Fin 8) (x : FVec Ideal S528x1024 .bf16) (w w' : Vec Ideal S1024x1024 .bf16) (r : Fin 8) (f : Fin 1024) :
    k0_pay8 (F := Ideal) (BitVec.ofNat 32 t.val) x w w' (ix2 r f) = if 0 < t.val then k0_pay6 (F := Ideal) x w w' (ix2 ⟨512 + r.val, by omega⟩ f) else (0 : EReal) := by
  have h : Scalar.cmpi .sgt (BitVec.ofNat 32 t.val) 0#32 = BitVec.ofBool (decide (0 < t.val)) := by revert t; decide
  pointwise [k0_pay8]
  simp only [h]
  by_cases g : 0 < t.val <;> simp [g, Scalar.select]

/-- The rows after the tile, zero at the last tile. -/
theorem pay10_apply (t : Fin 8) (x : FVec Ideal S528x1024 .bf16) (w w' : Vec Ideal S1024x1024 .bf16) (r : Fin 8) (f : Fin 1024) :
    k0_pay10 (F := Ideal) (BitVec.ofNat 32 t.val) x w w' (ix2 r f) = if t.val < 7 then k0_pay6 (F := Ideal) x w w' (ix2 ⟨520 + r.val, by omega⟩ f) else (0 : EReal) := by
  have h : Scalar.cmpi .slt (BitVec.ofNat 32 t.val) 7#32 = BitVec.ofBool (decide (t.val < 7)) := by revert t; decide
  pointwise [k0_pay10]
  simp only [h]
  by_cases g : t.val < 7 <;> simp [g, Scalar.select]

/-- The block stored: the tile's rows plus the gate times the output projection of the gated convolution. -/
theorem pay1_apply (h : Vec Ideal S1x512x1024 .f32) (gt : Vec Ideal S1x1x1024 .f32) (a c : FVec Ideal S512x1024 .f32) (w0 w1 w2 : Vec Ideal S1x1024 .f32)
    (p n : Vec Ideal S512x1024 .f32) (wo : Vec Ideal S1024x1024 .bf16) (z : Fin 1) (r : Fin 512) (d : Fin 1024) :
    k0_pay1 (F := Ideal) (k0_pay2 (F := Ideal) h) (k0_pay3 (F := Ideal) gt) a c w0 w1 w2 p n wo (ix3 z r d)
      = h (ix3 0 r d) + gt (ix3 0 0 d) * rowDot (fun f => a (ix2 r f) * mix3 (w0 (ix2 0 f)) (w1 (ix2 0 f)) (w2 (ix2 0 f)) (p (ix2 r f)) (c (ix2 r f)) (n (ix2 r f)))
          (fun f d => wo (ix2 f d)) d := by
  unfold rowDot mix3
  pointwise [k0_pay1, k0_pay2, k0_pay3]

end Cert.ConvIdeal.Hand

end
-- ==== Proof.ConvAcc.lean ====
module

public import proofs.«01_k».proof.Proof.ConvPay
public import proofs.«01_k».proof.Proof.Rows
public import proofs.«01_k».proof.Proof.Gen.ConvIdeal.Value

@[expose] public section

set_option maxRecDepth 16384

noncomputable section

/-! The block a grid point of the short gated convolution writes, read at an index, from its input blocks. -/

namespace Cert.ConvIdeal.Hand

open Cert.ConvIdeal Cert.ConvIdeal.Gen Idealize.ShloMosaic Idealize.ShloMosaic.TcCoe Idealize.SL.Sem
open Idealize.ShloMosaic.Pipeline (Dat)
open RowMath Rows

variable (m : (ℓ : Loc nD τ sig) → Buf (Elt Ideal) ℓ)

/-- A load of 512 rows of the scratch after the three stores. -/
theorem scr_read (o : ℕ) (ho : o + 512 ≤ 528) (i2 i1 i0 io) (w0 : (⟨2, ![8, 1024]⟩ : Shape).Idx → EReal) (w1 : (⟨2, ![512, 1024]⟩ : Shape).Idx → EReal) (w2 : (⟨2, ![8, 1024]⟩ : Shape).Idx → EReal)
    (r : Fin 512) (f : Fin 1024) :
    (View.whole cc0_scratch0).readCov (Val := Elt Ideal)
      [⟨Rect.unit (s := S528x1024) ![520, 0] ![8, 1024] i2, w2⟩, ⟨Rect.unit (s := S528x1024) ![8, 0] ![512, 1024] i1, w1⟩, ⟨Rect.unit (s := S528x1024) ![0, 0] ![8, 1024] i0, w0⟩]
      (Rect.unit (s := S528x1024) ![o, 0] ![512, 1024] io).toLoadRect (ix2 r f) = stack w0 w1 w2 (o + r.val) f := by
  rw [View.readCov_eq_canon']
  have e : (Rect.unit (s := S528x1024) ![o, 0] ![512, 1024] io).toLoadRect.idx (ix2 r f) = ix2 ⟨o + r.val, by omega⟩ f := by
    funext a
    apply Fin.ext
    match a with
    | ⟨0, _⟩ => show o + 1 * r.val = o + r.val; omega
    | ⟨1, _⟩ => show 0 + 1 * f.val = f.val; omega
  show View.canon _ _ = _
  rw [e]
  exact canon_direct i2 i1 i0 w0 w1 w2 _ f

/-- The load from row seven meets only the first two stores. -/
theorem scr_read7 (i2 : ∀ a, (![520, 0] : Fin 2 → ℕ) a + (![8, 1024] : Fin 2 → ℕ) a ≤ S528x1024.size a) (i1 i0 io) (w0 : (⟨2, ![8, 1024]⟩ : Shape).Idx → EReal) (w1 : (⟨2, ![512, 1024]⟩ : Shape).Idx → EReal) (w2 : (⟨2, ![8, 1024]⟩ : Shape).Idx → EReal)
    (r : Fin 512) (f : Fin 1024) :
    (View.whole cc0_scratch0).readCov (Val := Elt Ideal)
      [⟨Rect.unit (s := S528x1024) ![8, 0] ![512, 1024] i1, w1⟩, ⟨Rect.unit (s := S528x1024) ![0, 0] ![8, 1024] i0, w0⟩]
      (Rect.unit (s := S528x1024) ![7, 0] ![512, 1024] io).toLoadRect (ix2 r f) = stack w0 w1 w2 (7 + r.val) f := by
  rw [View.readCov_eq_canon']
  have e : (Rect.unit (s := S528x1024) ![7, 0] ![512, 1024] io).toLoadRect.idx (ix2 r f) = ix2 ⟨7 + r.val, by omega⟩ f := by
    funext a
    apply Fin.ext
    match a with
    | ⟨0, _⟩ => show 7 + 1 * r.val = 7 + r.val; omega
    | ⟨1, _⟩ => show 0 + 1 * f.val = f.val; omega
  show View.canon _ _ = _
  rw [e]
  refine (canon_off (Rect.unit (s := S528x1024) ![520, 0] ![8, 1024] i2) w2 _ _ 0 rfl ?_).symm.trans (canon_direct i2 i1 i0 w0 w1 w2 ⟨7 + r.val, by omega⟩ f)
  exact .inl (show 7 + r.val < 520 by omega)

/-- The point's own rows. -/
def hC (c : Dev nD) (t : Fin cfg0.N) (r : Fin 512) (d : Fin 1024) : EReal := iblk m c 0 t (ix3 0 r d)
/-- The six modulations of the point's batch entry. -/
def mo (c : Dev nD) (t : Fin cfg0.N) (j : Fin 6) (d : Fin 1024) : EReal := iblk m c 3 t (ix3 0 j d)
/-- The convolution's weights. -/
def cwt (c : Dev nD) (t : Fin cfg0.N) (j : Fin 3) (f : Fin 1024) : EReal := iblk m c 6 t (ix2 j f)

/-- The normalised rows at a grid point. -/
def xn (c : Dev nD) (t : Fin cfg0.N) : FVec Ideal S528x1024 .bf16 :=
  k0_pay4 (F := Ideal) (iblk m c 0 t) (View.ld (iblk m c 3 t) (Rect.unit ![0, 0, 0] ![1, 1, 1024] inb_S1x6x1024_S1x1x1024_0_0_0))
    (View.ld (iblk m c 3 t) (Rect.unit ![0, 1, 0] ![1, 1, 1024] inb_S1x6x1024_S1x1x1024_0_1_0)) (iblk m c 1 t) (iblk m c 2 t) (iblk m c 4 t)

/-- The three thirds of the input projection's weights. -/
def w0 (c : Dev nD) (t : Fin cfg0.N) : Vec Ideal S1024x1024 .bf16 := View.ld (iblk m c 5 t) (Rect.unit ![0, 0] ![1024, 1024] inb_S1024x3072_S1024x1024_0_0)
/-- The second third. -/
def w1 (c : Dev nD) (t : Fin cfg0.N) : Vec Ideal S1024x1024 .bf16 := View.ld (iblk m c 5 t) (Rect.unit ![0, 1024] ![1024, 1024] inb_S1024x3072_S1024x1024_0_1024)
/-- The last third. -/
def w2 (c : Dev nD) (t : Fin cfg0.N) : Vec Ideal S1024x1024 .bf16 := View.ld (iblk m c 5 t) (Rect.unit ![0, 2048] ![1024, 1024] inb_S1024x3072_S1024x1024_0_2048)

/-- The stored rows before the tile. -/
def gprev (c : Dev nD) (t : Fin cfg0.N) : FVec Ideal S8x1024 .f32 := k0_pay8 (F := Ideal) (BitVec.ofNat 32 ↑(grid0.coords t 1)) (xn m c t) (w1 m c t) (w2 m c t)
/-- The stored rows of the tile. -/
def gcur (c : Dev nD) (t : Fin cfg0.N) : FVec Ideal S512x1024 .f32 := k0_pay9 (F := Ideal) (xn m c t) (w1 m c t) (w2 m c t)
/-- The stored rows after the tile. -/
def gnext (c : Dev nD) (t : Fin cfg0.N) : FVec Ideal S8x1024 .f32 := k0_pay10 (F := Ideal) (BitVec.ofNat 32 ↑(grid0.coords t 1)) (xn m c t) (w1 m c t) (w2 m c t)

/-- A load of one row of the modulations. -/
theorem ld_mod (c : Dev nD) (t : Fin cfg0.N) (o : ℕ) (h : o < 6) (inb) (d : Fin 1024) :
    View.ld (iblk m c 3 t) (Rect.unit (s := S1x6x1024) ![0, o, 0] ![1, 1, 1024] inb) (ix3 0 0 d) = mo m c t ⟨o, h⟩ d := by
  refine congrArg (iblk m c 3 t) (funext fun a => Fin.ext ?_)
  match a with
  | ⟨0, _⟩ => rfl
  | ⟨1, _⟩ => show o + 1 * 0 = o; omega
  | ⟨2, _⟩ => show 0 + 1 * d.val = d.val; omega

/-- A load of one row of the convolution's weights. -/
theorem ld_cw (c : Dev nD) (t : Fin cfg0.N) (o : ℕ) (h : o < 3) (inb) (f : Fin 1024) :
    View.ld (iblk m c 6 t) (Rect.unit (s := S3x1024) ![o, 0] ![1, 1024] inb) (ix2 0 f) = cwt m c t ⟨o, h⟩ f := by
  refine congrArg (iblk m c 6 t) (funext fun a => Fin.ext ?_)
  match a with
  | ⟨0, _⟩ => show o + 1 * 0 = o; omega
  | ⟨1, _⟩ => show 0 + 1 * f.val = f.val; omega

/-- The block written at a point, at an index. -/
theorem after_apply (c : Dev nD) (t : Fin cfg0.N) (z : Fin 1) (r : Fin 512) (d : Fin 1024) :
    (dats m 0 c).after 8 t (ix3 z r d)
      = hC m c t r d + mo m c t 2 d
        * rowDot (fun f => k0_pay5 (F := Ideal) (xn m c t) (w0 m c t) (ix2 r f) * mix3 (cwt m c t 0 f) (cwt m c t 1 f) (cwt m c t 2 f)
              (stack (gprev m c t) (gcur m c t) (gnext m c t) (7 + r.val) f)
              (k0_pay7 (F := Ideal) (xn m c t) (w1 m c t) (w2 m c t) (ix2 r f))
              (stack (gprev m c t) (gcur m c t) (gnext m c t) (9 + r.val) f))
          (fun f d => iblk m c 7 t (ix2 f d)) d := by
  rw [after0_8]; simp only [outsAt0]
  frame_open
  simp (disch := decide) only [↓ View.readCov_skip, ↓ View.readCov_cons_toLoadRect, ↓ View.readCov_fill]
  frame_out
  refine (pay1_apply _ _ _ _ _ _ _ _ _ _ z r d).trans ?_
  rw [ld_mod m c t 2 (by decide)]
  refine congrArg (fun u => hC m c t r d + mo m c t 2 d * rowDot u (fun f d => iblk m c 7 t (ix2 f d)) d) (funext fun f => ?_)
  rw [ld_cw m c t 0 (by decide), ld_cw m c t 1 (by decide), ld_cw m c t 2 (by decide)]
  exact congrArg₂ (fun u v : EReal => _ * mix3 _ _ _ u _ v) (scr_read7 inb_S528x1024_S8x1024_520_0 _ _ _ _ _ (gnext m c t) r f) (scr_read 9 (by decide) _ _ _ _ _ _ _ r f)

end Cert.ConvIdeal.Hand

end
-- ==== Proof.ConvWin.lean ====
module

public import proofs.«01_k».proof.Proof.ConvAcc
public import Idealize.ShloMosaic.Lib.Pipeline.Covers
public import Idealize.ShloMosaic.Lib.StableHlo.ReadAt
public import Idealize.ShloMosaic.Lib.Routing.OpsSet
public import Idealize.ShloMosaic.Lib.Routing.OpsPair

@[expose] public section

set_option maxRecDepth 16384

noncomputable section

/-! The input blocks of the short gated convolution, read at an index, in terms of the program's arguments. -/

namespace Cert.ConvIdeal.Hand

open Cert.ConvIdeal Cert.ConvIdeal.Gen Idealize.ShloMosaic Idealize.ShloMosaic.TcCoe Idealize.SL.Sem
open Idealize.ShloMosaic.Pipeline (Dat)
open RowMath Rows

variable (m : (ℓ : Loc nD τ sig) → Buf (Elt Ideal) ℓ)

/-- The program's arguments as functions of an index: the stream, the modulations, the gain, the input projection, the convolution's weights, the output projection. -/
abbrev in0 (c : Dev nD) : S16x4096x1024.Idx → EReal := m ((c : Thread nD τ).loc main_arg0)
abbrev in1 (c : Dev nD) : S16x6144.Idx → EReal := m ((c : Thread nD τ).loc main_arg1)
abbrev in2 (c : Dev nD) : S1024.Idx → EReal := m ((c : Thread nD τ).loc main_arg2)
abbrev in3 (c : Dev nD) : S1024x3072.Idx → EReal := m ((c : Thread nD τ).loc main_arg3)
abbrev in4 (c : Dev nD) : S3x1024.Idx → EReal := m ((c : Thread nD τ).loc main_arg4)
abbrev in5 (c : Dev nD) : S1024x1024.Idx → EReal := m ((c : Thread nD τ).loc main_arg5)

/-- The stream is handed over as it is. -/
theorem V_h (c : Dev nD) (i : S16x4096x1024.Idx) : V m c main_arg0 i = in0 m c i := by
  unfold V
  after_reads_at

/-- The modulations, six rows of 1024. -/
theorem V_mod (c : Dev nD) (b : Fin 16) (j : Fin 6) (d : Fin 1024) : V m c main_v0 (ix3 b j d) = in1 m c (ix2 b ⟨j.val * 1024 + d.val, by omega⟩) := by
  unfold V
  after_reads_at

/-- The gain. -/
theorem V_g (c : Dev nD) (d : Fin 1024) : V m c main_v1 (ix2 0 d) = in2 m c (ix1 d) := by
  unfold V
  after_reads_at

/-- The input projection. -/
theorem V_in (c : Dev nD) (d : Fin 1024) (f : Fin 3072) : V m c main_v2 (ix2 d f) = in3 m c (ix2 d f) := by
  unfold V
  after_reads_at

/-- The convolution's weights. -/
theorem V_cw (c : Dev nD) (i : S3x1024.Idx) : V m c main_arg4 i = in4 m c i := by
  unfold V
  after_reads_at

/-- The output projection. -/
theorem V_wo (c : Dev nD) (f d : Fin 1024) : V m c main_v3 (ix2 f d) = in5 m c (ix2 f d) := by
  unfold V
  after_reads_at

/-- The grid's coordinates at a point: the batch entry. -/
def bb (t : Fin cfg0.N) : Fin 16 := cfg0.grid.coords t 0
/-- The tile of rows. -/
def tt (t : Fin cfg0.N) : Fin 8 := cfg0.grid.coords t 1

/-- A small coordinate survives as a word. -/
theorem w16 (i : Fin 16) : (BitVec.ofNat 32 i.val).toNat = i.val := by
  rw [BitVec.toNat_ofNat]; omega

/-- A small coordinate survives as a word. -/
theorem w8 (i : Fin 8) : (BitVec.ofNat 32 i.val).toNat = i.val := by
  rw [BitVec.toNat_ofNat]; omega

/-- The block before a tile's first, clamped at the first. -/
theorem wprev (i : Fin 8) : (Scalar.maxsi (Scalar.subi (Scalar.muli (BitVec.ofNat 32 i.val) 64#32) 1#32) 0#32).toNat = i.val * 64 - 1 := by revert i; decide

/-- The block after a tile's last, clamped at the last. -/
theorem wnext (i : Fin 8) : (Scalar.minsi (Scalar.muli (Scalar.addi (BitVec.ofNat 32 i.val) 1#32) 64#32) 511#32).toNat = min ((i.val + 1) * 64) 511 := by revert i; decide

/-- The tile's own rows. -/
theorem iblk0 (c : Dev nD) (t : Fin cfg0.N) (r : Fin 512) (d : Fin 1024) :
    iblk m c 0 t (ix3 0 r d) = V m c main_arg0 (ix3 (bb t) ⟨(tt t).val * 512 + r.val, by have := (tt t).isLt; omega⟩ d) := by
  unfold iblk
  show V m c main_arg0 (((cfg0.win 0).blk t).view.emb (ix3 0 r d)) = _
  refine congrArg (V m c main_arg0) (funext fun a => Fin.ext ?_)
  match a with
  | ⟨0, _⟩ => blk_simp; exact (add_zero _).trans (w16 _)
  | ⟨1, _⟩ => blk_simp; exact congrArg (· * 512 + r.val) (w8 (tt t))
  | ⟨2, _⟩ => blk_simp; exact zero_add _

/-- The eight rows before the tile. -/
theorem iblk1 (c : Dev nD) (t : Fin cfg0.N) (r : Fin 8) (d : Fin 1024) :
    iblk m c 1 t (ix3 0 r d) = V m c main_arg0 (ix3 (bb t) ⟨((tt t).val * 64 - 1) * 8 + r.val, by have := (tt t).isLt; omega⟩ d) := by
  unfold iblk
  show V m c main_arg0 (((cfg0.win 1).blk t).view.emb (ix3 0 r d)) = _
  refine congrArg (V m c main_arg0) (funext fun a => Fin.ext ?_)
  match a with
  | ⟨0, _⟩ => blk_simp; exact (add_zero _).trans (w16 _)
  | ⟨1, _⟩ => blk_simp; exact congrArg (· * 8 + r.val) (wprev (tt t))
  | ⟨2, _⟩ => blk_simp; exact zero_add _

/-- The eight rows after it. -/
theorem iblk2 (c : Dev nD) (t : Fin cfg0.N) (r : Fin 8) (d : Fin 1024) :
    iblk m c 2 t (ix3 0 r d) = V m c main_arg0 (ix3 (bb t) ⟨min (((tt t).val + 1) * 64) 511 * 8 + r.val, by have := (tt t).isLt; omega⟩ d) := by
  unfold iblk
  show V m c main_arg0 (((cfg0.win 2).blk t).view.emb (ix3 0 r d)) = _
  refine congrArg (V m c main_arg0) (funext fun a => Fin.ext ?_)
  match a with
  | ⟨0, _⟩ => blk_simp; exact (add_zero _).trans (w16 _)
  | ⟨1, _⟩ => blk_simp; exact congrArg (· * 8 + r.val) (wnext (tt t))
  | ⟨2, _⟩ => blk_simp; exact zero_add _

/-- The modulations of the point's batch entry. -/
theorem iblk3 (c : Dev nD) (t : Fin cfg0.N) (j : Fin 6) (d : Fin 1024) :
    iblk m c 3 t (ix3 0 j d) = V m c main_v0 (ix3 (bb t) j d) := by
  unfold iblk
  show V m c main_v0 (((cfg0.win 3).blk t).view.emb (ix3 0 j d)) = _
  refine congrArg (V m c main_v0) (funext fun a => Fin.ext ?_)
  match a with
  | ⟨0, _⟩ => blk_simp; exact (add_zero _).trans (w16 _)
  | ⟨1, _⟩ => blk_simp; exact zero_add _
  | ⟨2, _⟩ => blk_simp; exact zero_add _

/-- The gain. -/
theorem iblk4 (c : Dev nD) (t : Fin cfg0.N) (d : Fin 1024) :
    iblk m c 4 t (ix2 0 d) = V m c main_v1 (ix2 0 d) := by
  unfold iblk
  show V m c main_v1 (((cfg0.win 4).blk t).view.emb (ix2 0 d)) = _
  refine congrArg (V m c main_v1) (funext fun a => Fin.ext ?_)
  match a with
  | ⟨0, _⟩ => blk_simp; rfl
  | ⟨1, _⟩ => blk_simp; exact zero_add _

/-- The input projection. -/
theorem iblk5 (c : Dev nD) (t : Fin cfg0.N) (d : Fin 1024) (f : Fin 3072) :
    iblk m c 5 t (ix2 d f) = V m c main_v2 (ix2 d f) := by
  unfold iblk
  show V m c main_v2 (((cfg0.win 5).blk t).view.emb (ix2 d f)) = _
  refine congrArg (V m c main_v2) (funext fun a => Fin.ext ?_)
  match a with
  | ⟨0, _⟩ => blk_simp; exact zero_add _
  | ⟨1, _⟩ => blk_simp; exact zero_add _

/-- The convolution's weights. -/
theorem iblk6 (c : Dev nD) (t : Fin cfg0.N) (j : Fin 3) (f : Fin 1024) :
    iblk m c 6 t (ix2 j f) = V m c main_arg4 (ix2 j f) := by
  unfold iblk
  show V m c main_arg4 (((cfg0.win 6).blk t).view.emb (ix2 j f)) = _
  refine congrArg (V m c main_arg4) (funext fun a => Fin.ext ?_)
  match a with
  | ⟨0, _⟩ => blk_simp; exact zero_add _
  | ⟨1, _⟩ => blk_simp; exact zero_add _

/-- The output projection. -/
theorem iblk7 (c : Dev nD) (t : Fin cfg0.N) (f : Fin 1024) (d : Fin 1024) :
    iblk m c 7 t (ix2 f d) = V m c main_v3 (ix2 f d) := by
  unfold iblk
  show V m c main_v3 (((cfg0.win 7).blk t).view.emb (ix2 f d)) = _
  refine congrArg (V m c main_v3) (funext fun a => Fin.ext ?_)
  match a with
  | ⟨0, _⟩ => blk_simp; exact zero_add _
  | ⟨1, _⟩ => blk_simp; exact zero_add _

/-- Where the output block's entry lies. -/
theorem emb8 (t : Fin cfg0.N) (z : Fin 1) (r : Fin 512) (d : Fin 1024) :
    ((cfg0.win 8).blk t).view.emb (ix3 z r d) = ix3 (bb t) ⟨(tt t).val * 512 + r.val, by have := (tt t).isLt; omega⟩ d := by
  funext a
  apply Fin.ext
  match a with
  | ⟨0, _⟩ => blk_simp; exact w16 (bb t)
  | ⟨1, _⟩ => blk_simp; exact congrArg (· * 512 + r.val) (w8 (tt t))
  | ⟨2, _⟩ => blk_simp; exact zero_add _

/-- The output blocks fill the array. -/
theorem covers8 : (cfg0.win 8).Covers := by
  refine (cfg0.win 8).covers_of_indexMap_surj rfl (by decide) fun β =>
    ⟨fun a => match a with | ⟨0, _⟩ => β 0 | ⟨1, _⟩ => β 1, fun a => ?_⟩
  match a with
  | ⟨0, _⟩ => exact w16 (β 0)
  | ⟨1, _⟩ => exact w8 (β 1)
  | ⟨2, _⟩ => exact (Fin.fin_one_eq_zero (β 2)) ▸ rfl

/-- A load of a third of the columns of the input projection. -/
theorem ld_in (c : Dev nD) (t : Fin cfg0.N) (o : ℕ) (h : o + 1024 ≤ 3072) (inb) (d f : Fin 1024) :
    View.ld (iblk m c 5 t) (Rect.unit (s := S1024x3072) ![0, o] ![1024, 1024] inb) (ix2 d f) = iblk m c 5 t (ix2 d ⟨o + f.val, by omega⟩) := by
  refine congrArg (iblk m c 5 t) (funext fun a => Fin.ext ?_)
  match a with
  | ⟨0, _⟩ => show 0 + 1 * d.val = d.val; omega
  | ⟨1, _⟩ => show o + 1 * f.val = o + f.val; omega

end Cert.ConvIdeal.Hand

end
-- ==== Proof.ConvRef.lean ====
module

public import proofs.«01_k».proof.Proof.Gen.ConvRefIdeal.Read
public import proofs.«01_k».proof.Proof.RowMath
public import Idealize.ShloMosaic.Lib.KernelVsHost

@[expose] public section

set_option maxRecDepth 16384

noncomputable section

/-! The reference of the short gated convolution, read at an index: each row is `RowMath.mixer`. -/

namespace Cert.ConvRefIdeal.Hand

open Cert.ConvRefIdeal Cert.ConvRefIdeal.Read Idealize.ShloMosaic Idealize.ShloMosaic.TcCoe Idealize.SL.Sem
open RowMath

variable (x0 : S16x4096x1024.Idx → EReal) (x1 : S16x6144.Idx → EReal) (x2 : S1024.Idx → EReal) (x3 : S1024x3072.Idx → EReal)
  (x4 : S3x1024.Idx → EReal) (x5 : S1024x1024.Idx → EReal)

/-- The normalised and modulated rows. -/
theorem nrm_apply (b : Fin 16) (p : Fin 4096) (d : Fin 1024) : val_main_v30 (F := Ideal) x0 x1 x2 (ix3 b p d)
    = nrm (fun d => x2 (ix1 d)) (fun d => x1 (ix2 b ⟨1024 + d.val, by omega⟩)) (fun d => x1 (ix2 b ⟨d.val, by omega⟩)) (fun d => x0 (ix3 b p d)) d := by
  unfold nrm val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v7 val_main_v6 val_main_v1 val_main_v0 val_main_cst val_main_cst_0 val_main_cst_1 val_main_cst_2
  pointwise

/-- The input projection. -/
theorem up_apply (b : Fin 16) (p : Fin 4096) (f : Fin 3072) : val_main_v31 (F := Ideal) x0 x1 x2 x3 (ix3 b p f)
    = rowDot (nrm (fun d => x2 (ix1 d)) (fun d => x1 (ix2 b ⟨1024 + d.val, by omega⟩)) (fun d => x1 (ix2 b ⟨d.val, by omega⟩)) (fun d => x0 (ix3 b p d))) (fun d f => x3 (ix2 d f)) f := by
  have e : val_main_v31 (F := Ideal) x0 x1 x2 x3 (ix3 b p f) = rowDot (fun d => val_main_v30 (F := Ideal) x0 x1 x2 (ix3 b p d)) (fun d f => x3 (ix2 d f)) f := by
    unfold rowDot val_main_v31
    generalize val_main_v30 (F := Ideal) x0 x1 x2 = y
    pointwise
  rw [e]
  exact congrArg (fun u => rowDot u (fun d f => x3 (ix2 d f)) f) (funext fun d => nrm_apply x0 x1 x2 b p d)

/-- The padded rows the convolution runs over. -/
theorem pad_apply (b : Fin 16) (p : Fin 4098) (f : Fin 1024) : val_main_v36 (F := Ideal) x0 x1 x2 x3 (ix3 b p f)
    = if h : 1 ≤ p.val ∧ p.val - 1 < 4096 then val_main_v35 (F := Ideal) x0 x1 x2 x3 (ix3 b ⟨p.val - 1, by omega⟩ f) else (0 : EReal) := by
  unfold val_main_v36 val_main_call0_v0 val_main_c
  generalize val_main_v35 (F := Ideal) x0 x1 x2 x3 = y
  pointwise
  have hz : (FloatOps.sitofp (F := Ideal) FTy.f32 (0#32 : BitVec 32) : EReal) = 0 := by
    show ((((0#32 : BitVec 32).toInt : ℤ) : ℝ) : EReal) = 0
    simp
  rw [hz]

/-- The rows the convolution runs over. -/
theorem gate_apply (b : Fin 16) (p : Fin 4096) (f : Fin 1024) : val_main_v35 (F := Ideal) x0 x1 x2 x3 (ix3 b p f)
    = gates (fun p d => x0 (ix3 b p d)) (fun d => x2 (ix1 d)) (fun d => x1 (ix2 b ⟨1024 + d.val, by omega⟩)) (fun d => x1 (ix2 b ⟨d.val, by omega⟩)) (fun d f => x3 (ix2 d f)) p f := by
  have e : val_main_v35 (F := Ideal) x0 x1 x2 x3 (ix3 b p f)
      = val_main_v31 (F := Ideal) x0 x1 x2 x3 (ix3 b p ⟨1024 + f.val, by omega⟩) * val_main_v31 (F := Ideal) x0 x1 x2 x3 (ix3 b p ⟨2048 + f.val, by omega⟩) := by
    unfold val_main_v35 val_main_v34 val_main_v33
    generalize val_main_v31 (F := Ideal) x0 x1 x2 x3 = y
    pointwise
  rw [e, up_apply, up_apply]
  rfl

/-- The convolution's rows, gated. -/
theorem conv_apply (b : Fin 16) (p : Fin 4096) (f : Fin 1024) : val_main_v57 (F := Ideal) x0 x1 x2 x3 x4 (ix3 b p f)
    = val_main_v31 (F := Ideal) x0 x1 x2 x3 (ix3 b p ⟨f.val, by omega⟩) * mix3 (x4 (ix2 0 f)) (x4 (ix2 1 f)) (x4 (ix2 2 f)) (val_main_v36 (F := Ideal) x0 x1 x2 x3 (ix3 b ⟨p.val, by omega⟩ f))
        (val_main_v36 (F := Ideal) x0 x1 x2 x3 (ix3 b ⟨1 + p.val, by omega⟩ f)) (val_main_v36 (F := Ideal) x0 x1 x2 x3 (ix3 b ⟨2 + p.val, by omega⟩ f)) := by
  unfold mix3 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v32
  generalize val_main_v36 (F := Ideal) x0 x1 x2 x3 = y
  generalize val_main_v31 (F := Ideal) x0 x1 x2 x3 = z
  pointwise

/-- The result. -/
theorem out_apply (b : Fin 16) (p : Fin 4096) (d : Fin 1024) : val_main_v61 (F := Ideal) x0 x1 x2 x3 x4 x5 (ix3 b p d)
    = x0 (ix3 b p d) + x1 (ix2 b ⟨2048 + d.val, by omega⟩) * rowDot (fun f => val_main_v57 (F := Ideal) x0 x1 x2 x3 x4 (ix3 b p f)) (fun f d => x5 (ix2 f d)) d := by
  unfold rowDot val_main_v61 val_main_v60 val_main_v59 val_main_v58 val_main_v8 val_main_v2
  generalize val_main_v57 (F := Ideal) x0 x1 x2 x3 x4 = y
  pointwise

/-- The result is the short gated convolution of the rows. -/
theorem res_apply (b : Fin 16) (p : Fin 4096) (d : Fin 1024) : val_main_v61 (F := Ideal) x0 x1 x2 x3 x4 x5 (ix3 b p d)
    = mixer (fun p d => x0 (ix3 b p d)) (fun d => x2 (ix1 d)) (fun d => x1 (ix2 b ⟨1024 + d.val, by omega⟩)) (fun d => x1 (ix2 b ⟨d.val, by omega⟩))
        (fun d => x1 (ix2 b ⟨2048 + d.val, by omega⟩)) (fun d f => x3 (ix2 d f)) (fun j f => x4 (ix2 j f)) (fun f d => x5 (ix2 f d)) p d := by
  rw [out_apply]
  unfold mixer
  refine congrArg (fun a : EReal => x0 (ix3 b p d) + x1 (ix2 b ⟨2048 + d.val, by omega⟩) * a) ?_
  refine congrArg (fun u => rowDot u (fun f d => x5 (ix2 f d)) d) (funext fun f => ?_)
  rw [conv_apply, pad_apply, pad_apply, pad_apply, up_apply]
  simp only [gate_apply]
  have e1 : (1 ≤ 1 + p.val ∧ 1 + p.val - 1 < 4096) := by omega
  rw [dif_pos e1]
  unfold before behind
  have c0 : ∀ h : 1 ≤ 1 + p.val ∧ 1 + p.val - 1 < 4096, (⟨1 + p.val - 1, by omega⟩ : Fin 4096) = p := fun h => Fin.ext (by show 1 + p.val - 1 = p.val; omega)
  have a1 : ∀ k k' u u' v v' w w' : EReal, k = k' → u = u' → v = v' → w = w' → k * mix3 (x4 (ix2 0 f)) (x4 (ix2 1 f)) (x4 (ix2 2 f)) u v w = k' * mix3 (x4 (ix2 0 f)) (x4 (ix2 1 f)) (x4 (ix2 2 f)) u' v' w' := by
    rintro k _ u _ v _ w _ rfl rfl rfl rfl; rfl
  refine a1 _ _ _ _ _ _ _ _ rfl ?_ ?_ ?_
  · by_cases h : 0 < p.val
    · rw [dif_pos h, dif_pos (show 1 ≤ p.val ∧ p.val - 1 < 4096 by omega)]
    · rw [dif_neg h, dif_neg (show ¬ (1 ≤ p.val ∧ p.val - 1 < 4096) by omega)]
  · rw [c0 e1]
  · by_cases h : p.val + 1 < 4096
    · rw [dif_pos h, dif_pos (show 1 ≤ 2 + p.val ∧ 2 + p.val - 1 < 4096 by omega)]
      have c2 : (⟨2 + p.val - 1, by omega⟩ : Fin 4096) = ⟨p.val + 1, h⟩ := Fin.ext (by show 2 + p.val - 1 = p.val + 1; omega)
      rw [c2]
    · rw [dif_neg h, dif_neg (show ¬ (1 ≤ 2 + p.val ∧ 2 + p.val - 1 < 4096) by omega)]

end Cert.ConvRefIdeal.Hand

end
-- ==== Proof.ConvFin.lean ====
module

public import proofs.«01_k».proof.Proof.ConvWin
public import proofs.«01_k».proof.Proof.ConvRef

@[expose] public section

set_option maxRecDepth 16384

noncomputable section

/-! The short gated convolution's result array is the reference's. -/

namespace Cert.ConvIdeal.Hand

open Cert.ConvIdeal Cert.ConvIdeal.Gen Idealize.ShloMosaic Idealize.ShloMosaic.TcCoe Idealize.SL.Sem
open Idealize.ShloMosaic.Pipeline (Dat)
open RowMath Rows

variable (m : (ℓ : Loc nD τ sig) → Buf (Elt Ideal) ℓ)

/-- The gated rows of a batch entry. -/
def G (c : Dev nD) (b : Fin 16) : Fin 4096 → Fin 1024 → EReal :=
  gates (fun p d => in0 m c (ix3 b p d)) (fun d => in2 m c (ix1 d)) (fun d => in1 m c (ix2 b ⟨1024 + d.val, by omega⟩)) (fun d => in1 m c (ix2 b ⟨d.val, by omega⟩)) (fun d f => in3 m c (ix2 d f))

/-- A modulation at a point. -/
theorem mo_eq (c : Dev nD) (t : Fin cfg0.N) (j : Fin 6) (d : Fin 1024) : mo m c t j d = in1 m c (ix2 (bb t) ⟨j.val * 1024 + d.val, by omega⟩) :=
  (iblk3 m c t j d).trans (V_mod m c _ _ _)

/-- A normalised row at a point, given which row of the batch entry it is. -/
theorem xn_eq (c : Dev nD) (t : Fin cfg0.N) (e : Fin 528) (p : Fin 4096) (h : ∀ d, ext (iblk m c 0 t) (iblk m c 1 t) (iblk m c 2 t) e d = in0 m c (ix3 (bb t) p d)) (d : Fin 1024) :
    xn m c t (ix2 e d) = nrm (fun d => in2 m c (ix1 d)) (fun d => in1 m c (ix2 (bb t) ⟨1024 + d.val, by omega⟩)) (fun d => in1 m c (ix2 (bb t) ⟨d.val, by omega⟩)) (fun d => in0 m c (ix3 (bb t) p d)) d := by
  unfold xn
  refine (pay4_apply _ _ _ _ _ _ e d).trans ?_
  have e0 : (fun d => iblk m c 4 t (ix2 0 d)) = fun d => in2 m c (ix1 d) := funext fun d => (iblk4 m c t d).trans (V_g m c d)
  have e1 : (fun d => View.ld (iblk m c 3 t) (Rect.unit ![0, 1, 0] ![1, 1, 1024] inb_S1x6x1024_S1x1x1024_0_1_0) (ix3 0 0 d)) = fun d => in1 m c (ix2 (bb t) ⟨1024 + d.val, by omega⟩) :=
    funext fun d => (ld_mod m c t 1 (by decide) _ d).trans (mo_eq m c t 1 d)
  have e2 : (fun d => View.ld (iblk m c 3 t) (Rect.unit ![0, 0, 0] ![1, 1, 1024] inb_S1x6x1024_S1x1x1024_0_0_0) (ix3 0 0 d)) = fun d => in1 m c (ix2 (bb t) ⟨d.val, by omega⟩) :=
    funext fun d => (ld_mod m c t 0 (by decide) _ d).trans ((mo_eq m c t 0 d).trans (congrArg (fun q => in1 m c (ix2 (bb t) q)) (Fin.ext (by show 0 * 1024 + d.val = d.val; omega))))
  have e3 : ext (iblk m c 0 t) (iblk m c 1 t) (iblk m c 2 t) e = fun d => in0 m c (ix3 (bb t) p d) := funext h
  exact congr (congr (congr (congr (congrArg nrm e0) e1) e2) e3) rfl

/-- A third of the input projection's weights at a point. -/
theorem w_eq (c : Dev nD) (t : Fin cfg0.N) (o : ℕ) (h : o + 1024 ≤ 3072) (inb) :
    (fun (d f : Fin 1024) => View.ld (iblk m c 5 t) (Rect.unit (s := S1024x3072) ![0, o] ![1024, 1024] inb) (ix2 d f)) = fun d (f : Fin 1024) => in3 m c (ix2 d ⟨o + f.val, by omega⟩) :=
  funext fun d => funext fun f => (ld_in m c t o h _ d f).trans ((iblk5 m c t _ _).trans (V_in m c _ _))

/-- The gated row at a point, given which row of the batch entry it is. -/
theorem g_eq (c : Dev nD) (t : Fin cfg0.N) (e : Fin 528) (p : Fin 4096) (h : ∀ d, ext (iblk m c 0 t) (iblk m c 1 t) (iblk m c 2 t) e d = in0 m c (ix3 (bb t) p d)) (f : Fin 1024) :
    k0_pay6 (F := Ideal) (xn m c t) (w1 m c t) (w2 m c t) (ix2 e f) = G m c (bb t) p f := by
  rw [pay6_apply]
  have e0 : (fun d => xn m c t (ix2 e d)) = _ := funext fun d => xn_eq m c t e p h d
  have e1 : (fun (d f : Fin 1024) => w1 m c t (ix2 d f)) = fun d (f : Fin 1024) => in3 m c (ix2 d ⟨1024 + f.val, by omega⟩) := w_eq m c t 1024 (by decide) _
  have e2 : (fun (d f : Fin 1024) => w2 m c t (ix2 d f)) = fun d (f : Fin 1024) => in3 m c (ix2 d ⟨2048 + f.val, by omega⟩) := w_eq m c t 2048 (by decide) _
  rw [e0, e1, e2]
  rfl

/-- The tile's own rows of the extended block. -/
theorem ext_cur (c : Dev nD) (t : Fin cfg0.N) (r : Fin 512) (d : Fin 1024) :
    ext (iblk m c 0 t) (iblk m c 1 t) (iblk m c 2 t) ⟨r.val, by omega⟩ d = in0 m c (ix3 (bb t) ⟨(tt t).val * 512 + r.val, by have := (tt t).isLt; omega⟩ d) := by
  unfold ext
  rw [dif_pos (show r.val < 512 by omega)]
  exact (iblk0 m c t r d).trans (V_h m c _)

/-- The row before the tile. -/
theorem ext_prev (c : Dev nD) (t : Fin cfg0.N) (ht : 0 < (tt t).val) (d : Fin 1024) :
    ext (iblk m c 0 t) (iblk m c 1 t) (iblk m c 2 t) ⟨519, by omega⟩ d = in0 m c (ix3 (bb t) ⟨(tt t).val * 512 - 1, by have := (tt t).isLt; omega⟩ d) := by
  unfold ext
  rw [dif_neg (show ¬ 519 < 512 by omega), dif_pos (show 519 - 512 < 8 by omega)]
  refine (iblk1 m c t 7 d).trans ((V_h m c _).trans ?_)
  exact congrArg (fun q => in0 m c (ix3 (bb t) q d)) (Fin.ext (by show ((tt t).val * 64 - 1) * 8 + 7 = (tt t).val * 512 - 1; omega))

/-- The row after the tile. -/
theorem ext_next (c : Dev nD) (t : Fin cfg0.N) (ht : (tt t).val < 7) (d : Fin 1024) :
    ext (iblk m c 0 t) (iblk m c 1 t) (iblk m c 2 t) ⟨520, by omega⟩ d = in0 m c (ix3 (bb t) ⟨(tt t).val * 512 + 511 + 1, by omega⟩ d) := by
  unfold ext
  rw [dif_neg (show ¬ 520 < 512 by omega), dif_neg (show ¬ 520 - 512 < 8 by omega)]
  refine (iblk2 m c t 0 d).trans ((V_h m c _).trans ?_)
  exact congrArg (fun q => in0 m c (ix3 (bb t) q d)) (Fin.ext (by show min (((tt t).val + 1) * 64) 511 * 8 + 0 = (tt t).val * 512 + 511 + 1; omega))

/-- The stored rows of the tile. -/
theorem cur_eq (c : Dev nD) (t : Fin cfg0.N) (r : Fin 512) (f : Fin 1024) :
    gcur m c t (ix2 r f) = G m c (bb t) ⟨(tt t).val * 512 + r.val, by have := (tt t).isLt; omega⟩ f := by
  unfold gcur
  rw [pay9_apply]
  exact g_eq m c t _ _ (fun d => ext_cur m c t r d) f

/-- The last stored row before the tile. -/
theorem prev_eq (c : Dev nD) (t : Fin cfg0.N) (f : Fin 1024) :
    gprev m c t (ix2 7 f) = before (G m c (bb t)) ⟨(tt t).val * 512, by have := (tt t).isLt; omega⟩ f := by
  unfold gprev
  refine (pay8_apply (tt t) _ _ _ 7 f).trans ?_
  unfold before
  by_cases h : 0 < (tt t).val
  · rw [if_pos h, dif_pos (show 0 < (tt t).val * 512 by omega)]
    exact g_eq m c t ⟨519, by omega⟩ _ (fun d => ext_prev m c t h d) f
  · rw [if_neg h, dif_neg (show ¬ 0 < (tt t).val * 512 by omega)]

/-- The first stored row after the tile. -/
theorem next_eq (c : Dev nD) (t : Fin cfg0.N) (f : Fin 1024) :
    gnext m c t (ix2 0 f) = behind (G m c (bb t)) ⟨(tt t).val * 512 + 511, by have := (tt t).isLt; omega⟩ f := by
  unfold gnext
  refine (pay10_apply (tt t) _ _ _ 0 f).trans ?_
  unfold behind
  by_cases h : (tt t).val < 7
  · rw [if_pos h, dif_pos (show (tt t).val * 512 + 511 + 1 < 4096 by omega)]
    exact g_eq m c t ⟨520, by omega⟩ _ (fun d => ext_next m c t h d) f
  · rw [if_neg h, dif_neg (show ¬ (tt t).val * 512 + 511 + 1 < 4096 by omega)]

/-- The reference's result, of the kernel's arguments. -/
def refOut (c : Dev nD) : S16x4096x1024.Idx → EReal :=
  Cert.ConvRefIdeal.Read.val_main_v61 (F := Ideal) (in0 m c) (in1 m c) (in2 m c) (in3 m c) (in4 m c) (in5 m c)

/-- The block written at a point is the reference's there. -/
theorem point (c : Dev nD) (t : Fin cfg0.N) (z : Fin 1) (r : Fin 512) (d : Fin 1024) :
    (dats m 0 c).after 8 t (ix3 z r d) = refOut m c (ix3 (bb t) ⟨(tt t).val * 512 + r.val, by have := (tt t).isLt; omega⟩ d) := by
  refine (after_apply m c t z r d).trans ?_
  unfold refOut
  rw [Cert.ConvRefIdeal.Hand.res_apply]
  unfold mixer
  have eh : hC m c t r d = in0 m c (ix3 (bb t) ⟨(tt t).val * 512 + r.val, by have := (tt t).isLt; omega⟩ d) := (iblk0 m c t r d).trans (V_h m c _)
  have em : mo m c t 2 d = in1 m c (ix2 (bb t) ⟨2048 + d.val, by omega⟩) := mo_eq m c t 2 d
  have ed : (fun f d => iblk m c 7 t (ix2 f d)) = fun f d => in5 m c (ix2 f d) := funext fun f => funext fun d => (iblk7 m c t f d).trans (V_wo m c f d)
  rw [eh, em, ed]
  refine congrArg (fun u => _ + _ * rowDot u (fun f d => in5 m c (ix2 f d)) d) (funext fun f => ?_)
  have ec : ∀ j, cwt m c t j f = in4 m c (ix2 j f) := fun j => (iblk6 m c t j f).trans (V_cw m c _)
  rw [ec, ec, ec]
  have e1 := stack_before (G m c (bb t)) (tt t) (gprev m c t) (gcur m c t) (gnext m c t) (cur_eq m c t) (prev_eq m c t) r f
  have e2 := stack_behind (G m c (bb t)) (tt t) (gprev m c t) (gcur m c t) (gnext m c t) (cur_eq m c t) (next_eq m c t) r f
  have e3 : k0_pay7 (F := Ideal) (xn m c t) (w1 m c t) (w2 m c t) (ix2 r f) = G m c (bb t) ⟨(tt t).val * 512 + r.val, by have := (tt t).isLt; omega⟩ f := by
    rw [pay7_apply]
    exact g_eq m c t _ _ (fun d => ext_cur m c t r d) f
  have e4 : k0_pay5 (F := Ideal) (xn m c t) (w0 m c t) (ix2 r f)
      = rowDot (nrm (fun d => in2 m c (ix1 d)) (fun d => in1 m c (ix2 (bb t) ⟨1024 + d.val, by omega⟩)) (fun d => in1 m c (ix2 (bb t) ⟨d.val, by omega⟩)) (fun d => in0 m c (ix3 (bb t) ⟨(tt t).val * 512 + r.val, by have := (tt t).isLt; omega⟩ d))) (fun d (f : Fin 1024) => in3 m c (ix2 d ⟨f.val, by omega⟩)) f := by
    rw [pay5_apply]
    have e0 : (fun d => xn m c t (ix2 ⟨r.val, by omega⟩ d)) = _ := funext fun d => xn_eq m c t ⟨r.val, by omega⟩ _ (fun d => ext_cur m c t r d) d
    have e1 : (fun (d f : Fin 1024) => w0 m c t (ix2 d f)) = fun d (f : Fin 1024) => in3 m c (ix2 d ⟨f.val, by omega⟩) :=
      (w_eq m c t 0 (by decide) _).trans (funext fun d => funext fun f => congrArg (fun q => in3 m c (ix2 d q)) (Fin.ext (by show 0 + f.val = f.val; omega)))
    rw [e0, e1]
  exact congrArg₂ (fun u v : EReal => u * v) e4 (congr (congr (congrArg (mix3 _ _ _) e1) e3) e2)

/-- The kernel's result array is the reference's result. -/
theorem whole (c : Dev nD) : (dats m 0 c).arrAt 8 cfg0.N = refOut m c := by
  refine (dats m 0 c).arrAt_eq_of_covers 8 _ covers8 fun t hf y => ?_
  obtain ⟨z, r, e, rfl⟩ : ∃ (z : Fin 1) (r : Fin 512) (e : Fin 1024), y = ix3 z r e := ⟨y 0, y 1, y 2, funext fun a => by
    match a with
    | ⟨0, _⟩ => rfl
    | ⟨1, _⟩ => rfl
    | ⟨2, _⟩ => rfl⟩
  rw [emb8]
  exact point m c t z r e

end Cert.ConvIdeal.Hand

end
-- ==== Proof.AdaRef.lean ====
module

public import proofs.«01_k».proof.Proof.Gen.AdaRefIdeal.Read
public import proofs.«01_k».proof.Proof.RowMath

@[expose] public section

set_option maxRecDepth 16384

noncomputable section

/-! The reference of the modulation, read at an index. -/

namespace Cert.AdaRefIdeal.Hand

open Cert.AdaRefIdeal Cert.AdaRefIdeal.Read Idealize.ShloMosaic Idealize.ShloMosaic.TcCoe Idealize.SL.Sem
open RowMath

variable (x0 : S16x1024.Idx → EReal) (x1 : S1024.Idx → EReal) (x2 : S1024x6144.Idx → EReal) (x3 : S6144.Idx → EReal)

/-- The rows: the batch entries' vectors, the context's, then zeros. -/
def rows (i : Fin 24) (d : Fin 1024) : EReal :=
  if h : i.val < 16 then x0 (ix2 ⟨i.val, h⟩ d) else if i.val = 16 then x1 (ix1 d) else 0

/-- The vectors laid under one another. -/
theorem rows_apply (i : Fin 24) (d : Fin 1024) : val_main_v2 (F := Ideal) x0 x1 (ix2 i d) = rows x0 x1 i d := by
  unfold rows val_main_v2 val_main_v1 val_main_v0 val_main_cst
  pointwise
  by_cases h : i.val < 16
  · rw [dif_pos h]
    simp only [h, dif_pos]
  · rw [dif_neg h]
    simp only [h, dif_neg, not_false_iff]
    by_cases g : i.val = 16
    · simp only [g, if_true]
      rfl
    · have g' : ¬ i.val - 16 < 1 := by omega
      simp only [g, g', dif_neg, if_neg, not_false_iff]

/-- A row after its gate. -/
theorem act_apply (i : Fin 24) (d : Fin 1024) : val_main_v3 (F := Ideal) x0 x1 (ix2 i d) = glu (rows x0 x1 i d) 1 := by
  unfold glu val_main_v3 val_main_call0_v5 val_main_call0_v4 val_main_call0_cst_0 val_main_call0_v3 val_main_call0_v2 val_main_call0_cst val_main_call0_v1 val_main_call0_v0
  rw [← rows_apply]
  generalize val_main_v2 (F := Ideal) x0 x1 = y
  rw [zero_sub, mul_one]
  pointwise

/-- The result: a gated row times the weights, plus the bias. -/
theorem res_apply (i : Fin 24) (f : Fin 6144) : val_main_v7 (F := Ideal) x0 x1 x2 x3 (ix2 i f)
    = rowDot (fun d => glu (rows x0 x1 i d) 1) (fun d f => x2 (ix2 d f)) f + x3 (ix1 f) := by
  simp only [← act_apply]
  unfold rowDot val_main_v7 val_main_v6 val_main_v5 val_main_v4
  generalize val_main_v3 (F := Ideal) x0 x1 = y
  pointwise

end Cert.AdaRefIdeal.Hand

end
-- ==== Proof.AdaFin.lean ====
module

public import proofs.«01_k».proof.Proof.Gen.AdaIdeal.Value
public import proofs.«01_k».proof.Proof.AdaRef
public import Idealize.ShloMosaic.Lib.Pipeline.ValueKit
public import Idealize.ShloMosaic.Lib.Pipeline.Covers
public import Idealize.ShloMosaic.Lib.StableHlo.ReadAt
public import Idealize.ShloMosaic.Lib.Routing.OpsSet
public import Idealize.ShloMosaic.Lib.Routing.OpsPair

@[expose] public section

set_option maxRecDepth 16384

noncomputable section

/-! The modulation's kernel: what a grid point computes, the rows it is handed, and the array it leaves. -/

namespace Cert.AdaIdeal.Hand

open Cert.AdaIdeal Cert.AdaIdeal.Gen Idealize.ShloMosaic Idealize.ShloMosaic.TcCoe Idealize.SL.Sem
open Idealize.ShloMosaic.Pipeline (Dat)
open Cert.AdaRefIdeal.Hand (rows)
open RowMath

/-- A block of columns: the gated rows times the block of the weights, plus its bias. -/
theorem pay1_apply (x : Vec Ideal S24x1024 .f32) (w : Vec Ideal S1024x1536 .f32) (b : Vec Ideal S1x1536 .f32) (i : Fin 24) (f : Fin 1536) :
    k0_pay1 (F := Ideal) x w b (ix2 i f) = rowDot (fun d => glu (x (ix2 i d)) 1) (fun d f => w (ix2 d f)) f + b (ix2 0 f) := by
  unfold rowDot glu
  simp only [mul_one]
  pointwise [k0_pay1]

variable (m : (ℓ : Loc nD τ sig) → Buf (Elt Ideal) ℓ)

/-- The program's arguments as functions of an index: the batch entries' vectors, the context's, the weights, the bias. -/
abbrev in0 (c : Dev nD) : S16x1024.Idx → EReal := m ((c : Thread nD τ).loc main_arg0)
abbrev in1 (c : Dev nD) : S1024.Idx → EReal := m ((c : Thread nD τ).loc main_arg1)
abbrev in2 (c : Dev nD) : S1024x6144.Idx → EReal := m ((c : Thread nD τ).loc main_arg2)
abbrev in3 (c : Dev nD) : S6144.Idx → EReal := m ((c : Thread nD τ).loc main_arg3)

/-- Writing sixteen rows from the first on, read at an index. -/
theorem first_rows (x : S24x1024.Idx → EReal) (idx : IVec S1 32) (h : ∀ i, idx i = 0#32) (u : S16x1024.Idx → EReal) (z : Fin 24) (d : Fin 1024) :
    Host.scatter scatter_S24x1024_S1_S16x1024_01_n_0_0 (fun _ b => b) x idx u (ix2 z d)
      = if g : z.val < 16 then u (ix2 ⟨z.val, g⟩ d) else x (ix2 z d) := by
  have st : ∀ (k : S16x1024.Idx) (a : Fin 2), scatter_S24x1024_S1_S16x1024_01_n_0_0.start k idx a = 0 := fun k a => by
    unfold ScatterDims.start
    simp [h]
  have wn : ∀ (k : S16x1024.Idx) (a : Fin 2), scatter_S24x1024_S1_S16x1024_01_n_0_0.window k a = (k a).val := fun k a => by
    match a with
    | ⟨0, _⟩ => rfl
    | ⟨1, _⟩ => rfl
  have key : ∀ k : S16x1024.Idx, scatter_S24x1024_S1_S16x1024_01_n_0_0.resultIdx? k idx = some (ix2 z d) ↔ (k 0).val = z.val ∧ (k 1).val = d.val := by
    intro k
    rw [Routing.resultIdx?_eq_some]
    constructor
    · intro q
      have q0 := q 0; have q1 := q 1
      rw [st, wn, zero_add] at q0 q1
      exact ⟨by exact_mod_cast q0, by exact_mod_cast q1⟩
    · rintro ⟨q0, q1⟩ a
      rw [st, wn, zero_add]
      match a with
      | ⟨0, _⟩ => exact_mod_cast q0
      | ⟨1, _⟩ => exact_mod_cast q1
  by_cases g : z.val < 16
  · rw [dif_pos g]
    refine Routing.scatter_set_hit _ x idx u _ _ (fun k hk => ?_) (ix2 ⟨z.val, g⟩ d) ((key _).2 ⟨rfl, rfl⟩)
    obtain ⟨e0, e1⟩ := (key k).1 hk
    refine congrArg u (funext fun a => ?_)
    match a with
    | ⟨0, _⟩ => exact Fin.ext e0
    | ⟨1, _⟩ => exact Fin.ext e1
  · rw [dif_neg g]
    refine Routing.scatter_set_miss _ x idx u _ fun k hk => g ?_
    obtain ⟨e0, e1⟩ := (key k).1 hk
    have h0 := (k 0).isLt
    change _ < 16 at h0
    omega

/-- Writing row sixteen, read at an index. -/
theorem one_row (x : S24x1024.Idx → EReal) (idx : IVec S1 32) (h : ∀ i, idx i = 16#32) (u : S1024.Idx → EReal) (z : Fin 24) (d : Fin 1024) :
    Host.scatter scatter_S24x1024_S1_S1024_0_0_0_0 (fun _ b => b) x idx u (ix2 z d)
      = if z.val = 16 then u (ix1 d) else x (ix2 z d) := by
  have st0 : ∀ k : S1024.Idx, scatter_S24x1024_S1_S1024_0_0_0_0.start k idx 0 = 16 := fun k => by
    unfold ScatterDims.start
    simp [h, scatter_S24x1024_S1_S1024_0_0_0_0]
  have st1 : ∀ k : S1024.Idx, scatter_S24x1024_S1_S1024_0_0_0_0.start k idx 1 = 0 := fun k => by
    unfold ScatterDims.start
    simp [scatter_S24x1024_S1_S1024_0_0_0_0]
  have wn0 : ∀ k : S1024.Idx, scatter_S24x1024_S1_S1024_0_0_0_0.window k 0 = 0 := fun k => rfl
  have wn1 : ∀ k : S1024.Idx, scatter_S24x1024_S1_S1024_0_0_0_0.window k 1 = (k 0).val := fun k => rfl
  have key : ∀ k : S1024.Idx, scatter_S24x1024_S1_S1024_0_0_0_0.resultIdx? k idx = some (ix2 z d) ↔ 16 = z.val ∧ (k 0).val = d.val := by
    intro k
    rw [Routing.resultIdx?_eq_some]
    constructor
    · intro q
      have q0 := q 0; have q1 := q 1
      rw [st0, wn0] at q0
      rw [st1, wn1, zero_add] at q1
      exact ⟨by exact_mod_cast q0, by exact_mod_cast q1⟩
    · rintro ⟨q0, q1⟩ a
      match a with
      | ⟨0, _⟩ =>
        show scatter_S24x1024_S1_S1024_0_0_0_0.start k idx 0 + _ = _
        rw [st0]; show (16 : ℤ) + ((scatter_S24x1024_S1_S1024_0_0_0_0.window k 0 : ℕ) : ℤ) = _
        rw [wn0]; exact_mod_cast q0
      | ⟨1, _⟩ =>
        show scatter_S24x1024_S1_S1024_0_0_0_0.start k idx 1 + _ = _
        rw [st1]; show (0 : ℤ) + ((scatter_S24x1024_S1_S1024_0_0_0_0.window k 1 : ℕ) : ℤ) = _
        rw [wn1, zero_add]; exact_mod_cast q1
  by_cases g : z.val = 16
  · rw [if_pos g]
    refine Routing.scatter_set_hit _ x idx u _ _ (fun k hk => ?_) (ix1 d) ((key _).2 ⟨g.symm, rfl⟩)
    obtain ⟨e0, e1⟩ := (key k).1 hk
    refine congrArg u (funext fun a => ?_)
    match a with
    | ⟨0, _⟩ => exact Fin.ext e1
  · rw [if_neg g]
    exact Routing.scatter_set_miss _ x idx u _ fun k hk => g ((key k).1 hk).1.symm

/-- The rows handed over. -/
theorem V_rows (c : Dev nD) (i : Fin 24) (d : Fin 1024) : V m c main_v4 (ix2 i d) = rows (in0 m c) (in1 m c) i d := by
  unfold V
  after_reads_at
  rw [one_row, first_rows]
  · unfold rows
    by_cases g : i.val = 16
    · rw [if_pos g, dif_neg (by omega), if_pos g]
    · rw [if_neg g, if_neg g]
      by_cases g' : i.val < 16
      · rw [dif_pos g', dif_pos g']
      · rw [dif_neg g', dif_neg g']
        pointwise
  · intro i
    pointwise
  · intro i
    pointwise

/-- The weights are handed over as they are. -/
theorem V_w (c : Dev nD) (i : S1024x6144.Idx) : V m c main_arg2 i = in2 m c i := by
  unfold V
  after_reads_at

/-- The bias. -/
theorem V_b (c : Dev nD) (f : Fin 6144) : V m c main_v5 (ix2 0 f) = in3 m c (ix1 f) := by
  unfold V
  after_reads_at

/-- The grid's coordinate at a point: the block of columns. -/
def tt (t : Fin cfg0.N) : Fin 4 := cfg0.grid.coords t 0

/-- A small coordinate survives as a word. -/
theorem w4 (i : Fin 4) : (BitVec.ofNat 32 i.val).toNat = i.val := by
  rw [BitVec.toNat_ofNat]; omega

/-- The rows. -/
theorem iblk0 (c : Dev nD) (t : Fin cfg0.N) (i : Fin 24) (d : Fin 1024) : iblk m c 0 t (ix2 i d) = V m c main_v4 (ix2 i d) := by
  unfold iblk
  show V m c main_v4 (((cfg0.win 0).blk t).view.emb (ix2 i d)) = _
  refine congrArg (V m c main_v4) (funext fun a => Fin.ext ?_)
  match a with
  | ⟨0, _⟩ => blk_simp; exact zero_add _
  | ⟨1, _⟩ => blk_simp; exact zero_add _

/-- The block's columns of the weights. -/
theorem iblk1 (c : Dev nD) (t : Fin cfg0.N) (d : Fin 1024) (f : Fin 1536) :
    iblk m c 1 t (ix2 d f) = V m c main_arg2 (ix2 d ⟨(tt t).val * 1536 + f.val, by have := (tt t).isLt; omega⟩) := by
  unfold iblk
  show V m c main_arg2 (((cfg0.win 1).blk t).view.emb (ix2 d f)) = _
  refine congrArg (V m c main_arg2) (funext fun a => Fin.ext ?_)
  match a with
  | ⟨0, _⟩ => blk_simp; exact zero_add _
  | ⟨1, _⟩ => blk_simp; exact congrArg (· * 1536 + f.val) (w4 (tt t))

/-- The block's bias. -/
theorem iblk2 (c : Dev nD) (t : Fin cfg0.N) (f : Fin 1536) :
    iblk m c 2 t (ix2 0 f) = V m c main_v5 (ix2 0 ⟨(tt t).val * 1536 + f.val, by have := (tt t).isLt; omega⟩) := by
  unfold iblk
  show V m c main_v5 (((cfg0.win 2).blk t).view.emb (ix2 0 f)) = _
  refine congrArg (V m c main_v5) (funext fun a => Fin.ext ?_)
  match a with
  | ⟨0, _⟩ => blk_simp; rfl
  | ⟨1, _⟩ => blk_simp; exact congrArg (· * 1536 + f.val) (w4 (tt t))

/-- Where the output block's entry lies. -/
theorem emb3 (t : Fin cfg0.N) (i : Fin 24) (f : Fin 1536) :
    ((cfg0.win 3).blk t).view.emb (ix2 i f) = ix2 i ⟨(tt t).val * 1536 + f.val, by have := (tt t).isLt; omega⟩ := by
  funext a
  apply Fin.ext
  match a with
  | ⟨0, _⟩ => blk_simp; exact zero_add _
  | ⟨1, _⟩ => blk_simp; exact congrArg (· * 1536 + f.val) (w4 (tt t))

/-- The output blocks fill the array. -/
theorem covers3 : (cfg0.win 3).Covers := by
  refine (cfg0.win 3).covers_of_indexMap_surj rfl (by decide) fun β =>
    ⟨fun a => match a with | ⟨0, _⟩ => β 1, fun a => ?_⟩
  match a with
  | ⟨0, _⟩ => exact (Fin.fin_one_eq_zero (β 0)) ▸ rfl
  | ⟨1, _⟩ => exact w4 (β 1)

/-- What grid point `t` leaves in the output window. -/
theorem after_eq (c : Dev nD) (t : Fin cfg0.N) : (dats m 0 c).after 3 t = k0_pay1 (F := Ideal) (iblk m c 0 t) (iblk m c 1 t) (iblk m c 2 t) := by
  rw [after0_3]
  unfold out0_3
  frame_out

/-- The reference's result, of the kernel's arguments. -/
def refOut (c : Dev nD) : S24x6144.Idx → EReal :=
  Cert.AdaRefIdeal.Read.val_main_v7 (F := Ideal) (in0 m c) (in1 m c) (in2 m c) (in3 m c)

/-- The block written at a point is the reference's there. -/
theorem point (c : Dev nD) (t : Fin cfg0.N) (i : Fin 24) (f : Fin 1536) :
    (dats m 0 c).after 3 t (ix2 i f) = refOut m c (ix2 i ⟨(tt t).val * 1536 + f.val, by have := (tt t).isLt; omega⟩) := by
  rw [after_eq, pay1_apply]
  unfold refOut
  rw [Cert.AdaRefIdeal.Hand.res_apply]
  have e0 : (fun d => glu (iblk m c 0 t (ix2 i d)) 1) = fun d => glu (rows (in0 m c) (in1 m c) i d) 1 := funext fun d => by rw [iblk0, V_rows]
  rw [e0, iblk2, V_b]
  refine congrArg (fun a : EReal => a + _) ?_
  unfold rowDot
  exact Finset.sum_congr rfl fun d _ => congrArg (fun a : EReal => glu (rows (in0 m c) (in1 m c) i d) 1 * a) ((iblk1 m c t d f).trans (V_w m c _))

/-- The kernel's result array is the reference's result. -/
theorem whole (c : Dev nD) : (dats m 0 c).arrAt 3 cfg0.N = refOut m c := by
  refine (dats m 0 c).arrAt_eq_of_covers 3 _ covers3 fun t hf y => ?_
  obtain ⟨i, f, rfl⟩ : ∃ (i : Fin 24) (f : Fin 1536), y = ix2 i f := ⟨y 0, y 1, funext fun a => by
    match a with
    | ⟨0, _⟩ => rfl
    | ⟨1, _⟩ => rfl⟩
  rw [emb3]
  exact point m c t i f

end Cert.AdaIdeal.Hand

end
-- ==== Proof.QkvPay.lean ====
module

public import proofs.«01_k».proof.Proof.Gen.QkvIdeal.Skeleton
public import proofs.«01_k».proof.Proof.RowMath
public import Idealize.ShloMosaic.Lib.KernelVsHost

@[expose] public section

set_option maxRecDepth 16384

noncomputable section

/-! What the projections' body stores, stated once for any group of columns of any subtile and read at an index. -/

namespace Cert.QkvIdeal.Hand

open Cert.QkvIdeal Cert.QkvIdeal.Gen Idealize.ShloMosaic Idealize.ShloMosaic.TcCoe Idealize.SL.Sem
open RowMath

/-- A column over the root mean square of its head, times the gain. `bm` sums within heads of a group of 256 columns. -/
def normed (u : ℕ → ℕ → EReal) (gn : ℕ → EReal) (bm : Fin 256 → Fin 256 → EReal) (p f : ℕ) : EReal :=
  u p f * Ideal.rsqrt ((∑ k : Fin 256, u p (f / 256 * 256 + k.val) * u p (f / 256 * 256 + k.val) * bm k ⟨f % 256, Nat.mod_lt _ (by decide)⟩)
    * Ideal.ofBits .f32 0x3C800000#32 + Ideal.ofBits .f32 0x358637BD#32) * gn f

/-- The rotary embedding of a column, with the other half of its axis sixteen columns away and the sine's sign in the table. -/
def turned (y : ℕ → ℕ → EReal) (co si : ℕ → ℕ → EReal) (p f : ℕ) : EReal :=
  y p f * co p (f % 128) + (if f / 16 % 2 = 1 then y p (f - 16) else y p (f + 16)) * si p (f % 128)

/-- The rows of a subtile, normalised, modulated and projected. -/
theorem rows_apply (sh sc : Vec Ideal S1x1x1024 .f32) (x : Vec Ideal S1x128x1024 .f32) (g : Vec Ideal S1x1024 .f32) (w : Vec Ideal S1024x3072 .bf16) (r : Fin 128) (f : Fin 3072) :
    k0_pay6 (F := Ideal) sh sc x g w (ix2 r f)
      = rowDot (nrm (fun d => g (ix2 0 d)) (fun d => sc (ix3 0 0 d)) (fun d => sh (ix3 0 0 d)) (fun d => x (ix3 0 r d))) (fun d f => w (ix2 d f)) f := by
  unfold rowDot nrm
  pointwise [k0_pay6, k0_pay3, k0_pay4]

/-- A group of 256 projected columns, normalised head by head. -/
def group (U : FVec Ideal S128x3072 .f32) (bm : Vec Ideal S256x256 .bf16) (gn : Vec Ideal S1x256 .f32) (o : Fin 2 → ℕ) (hs : S128x3072.Slices o S128x256) : FVec Ideal S128x256 .f32 :=
  mulf (mulf (extractStridedSlice S128x256 o U hs)
    (rsqrt (addf (mulf (matmul (φ₂ := .bf16) dot_S128x256_S256x256_S128x256_1_0_0_1_n_n none (truncf .bf16 (mulf (extractStridedSlice S128x256 o U hs) (extractStridedSlice S128x256 o U hs)) bitsLt_bf16_f32)
      (shapeCast S256x256 bm shapeCasts_S256x256_S256x256) (constant S128x256 .f32 0x00000000#32)) (broadcast S128x256 (Scalar.ofBits .f32 0x3C800000#32)))
      (broadcast S128x256 (Scalar.ofBits .f32 0x358637BD#32)))))
    (broadcastTo S128x256 (shapeCast S1x256 gn shapeCasts_S1x256_S1x256) broadcasts_S1x256_S128x256)

/-- Half of such a group, turned by the rotary embedding. -/
def turn (x : FVec Ideal S128x256 .f32) (co si : Vec Ideal S128x128 .f32) (o : Fin 2 → ℕ) (hs : S128x256.Slices o S128x128) : FVec Ideal S128x128 .f32 :=
  addf (mulf (extractStridedSlice S128x128 o x hs) (shapeCast S128x128 co shapeCasts_S128x128_S128x128))
    (mulf (select (broadcastTo S128x128 (shapeCast S1x128 k0_pay5 shapeCasts_S1x128_S1x128) broadcasts_S1x128_S128x128)
      (dynamicRotate 1 16#32 none (extractStridedSlice S128x128 o x hs) rotates_S128x128_d1) (dynamicRotate 1 112#32 none (extractStridedSlice S128x128 o x hs) rotates_S128x128_d1))
      (shapeCast S128x128 si shapeCasts_S128x128_S128x128))

/-- A block of queries as stored. -/
def storeQ (y : FVec Ideal S128x128 .f32) : FVec Ideal S1x128x128 .bf16 :=
  shapeCast S1x128x128 (truncf .bf16 y bitsLt_bf16_f32) shapeCasts_S128x128_S1x128x128

/-- A block of keys as stored, transposed. -/
def storeK (y : FVec Ideal S128x128 .f32) : FVec Ideal S1x128x128 .bf16 :=
  shapeCast S1x128x128 (truncf .bf16 (transpose S128x128 [1, 0] y transposes_S128x128_p1_0_S128x128) bitsLt_bf16_f32) shapeCasts_S128x128_S1x128x128

theorem cut256 (U : FVec Ideal S128x3072 .f32) (C : ℕ) (hs : S128x3072.Slices ![0, C] S128x256) (r : Fin 128) (j : Fin 256) (h : C + j.val < 3072) :
    extractStridedSlice S128x256 ![0, C] U hs (ix2 r j) = U (ix2 r ⟨C + j.val, h⟩) :=
  extractStridedSlice_apply ![0, C] U hs (ix2 r j) _ (by intro a; fin_cases a <;> simp)

theorem cut128 (x : FVec Ideal S128x256 .f32) (c : ℕ) (hs : S128x256.Slices ![0, c] S128x128) (r j : Fin 128) (h : c + j.val < 256) :
    extractStridedSlice S128x128 ![0, c] x hs (ix2 r j) = x (ix2 r ⟨c + j.val, h⟩) :=
  extractStridedSlice_apply ![0, c] x hs (ix2 r j) _ (by intro a; fin_cases a <;> simp)

theorem cutV (U : FVec Ideal S128x3072 .f32) (c : ℕ) (hs : S128x3072.Slices ![0, c] S128x128) (r j : Fin 128) (h : c + j.val < 3072) :
    extractStridedSlice S128x128 ![0, c] U hs (ix2 r j) = U (ix2 r ⟨c + j.val, h⟩) :=
  extractStridedSlice_apply ![0, c] U hs (ix2 r j) _ (by intro a; fin_cases a <;> simp)

/-- The group at an index, for any first column `C`, a multiple of 256, and any first row `R`. -/
theorem group_apply (u : ℕ → ℕ → EReal) (gf : ℕ → EReal) (bmf : Fin 256 → Fin 256 → EReal) (R C : ℕ) (hC : C + 256 ≤ 3072) (hm : C % 256 = 0)
    (U : FVec Ideal S128x3072 .f32) (bm : Vec Ideal S256x256 .bf16) (gn : Vec Ideal S1x256 .f32) (hs : S128x3072.Slices ![0, C] S128x256)
    (hU : ∀ (r : Fin 128) (n : Fin 3072), U (ix2 r n) = u (R + r.val) n.val) (hb : ∀ k j, bm (ix2 k j) = bmf k j) (hg : ∀ j : Fin 256, gn (ix2 0 j) = gf (C + j.val))
    (r : Fin 128) (j : Fin 256) : group U bm gn ![0, C] hs (ix2 r j) = normed u gf bmf (R + r.val) (C + j.val) := by
  have e (j : Fin 256) : extractStridedSlice S128x256 ![0, C] U hs (ix2 r j) = u (R + r.val) (C + j.val) := by
    rw [cut256 U C hs r j (by omega), hU]
  have e1 : (C + j.val) / 256 * 256 = C := by omega
  have e2 : (⟨(C + j.val) % 256, Nat.mod_lt _ (by decide)⟩ : Fin 256) = j := Fin.ext (by show (C + j.val) % 256 = j.val; omega)
  unfold group normed
  rw [e1, e2]
  generalize extractStridedSlice S128x256 ![0, C] U hs = X at e
  pointwise
  simp only [e, hb, hg]

theorem bit4 (l : Fin 128) : Scalar.cmpi .ne (Scalar.andi (BitVec.ofNat 32 l.val) 16#32) 0#32 = BitVec.ofBool (decide (l.val / 16 % 2 = 1)) := by revert l; decide

/-- The turned half of a group, for its first column `c`, zero or 128. -/
theorem turn_apply (y : ℕ → ℕ → EReal) (cf sf : ℕ → ℕ → EReal) (R C c : ℕ) (hm : (C + c) % 128 = 0) (hc : c + 128 ≤ 256)
    (x : FVec Ideal S128x256 .f32) (co si : Vec Ideal S128x128 .f32) (hs : S128x256.Slices ![0, c] S128x128)
    (hx : ∀ (r : Fin 128) (j : Fin 256), x (ix2 r j) = y (R + r.val) (C + j.val)) (hco : ∀ r l : Fin 128, co (ix2 r l) = cf (R + r.val) l.val)
    (hsi : ∀ r l : Fin 128, si (ix2 r l) = sf (R + r.val) l.val) (r l : Fin 128) :
    turn x co si ![0, c] hs (ix2 r l) = turned y cf sf (R + r.val) (C + c + l.val) := by
  have e (l : Fin 128) : extractStridedSlice S128x128 ![0, c] x hs (ix2 r l) = y (R + r.val) (C + c + l.val) := by
    rw [cut128 x c hs r l (by omega), hx, Nat.add_assoc]
  have e1 : (C + c + l.val) % 128 = l.val := by omega
  have e2 : (C + c + l.val) / 16 % 2 = l.val / 16 % 2 := by omega
  have hr (s : BitVec 32) (k : Fin 128) (hk : k.val = (l.val + 128 - s.toNat % 128) % 128) :
      dynamicRotate 1 s none (extractStridedSlice S128x128 ![0, c] x hs) rotates_S128x128_d1 (ix2 r l) = y (R + r.val) (C + c + k.val) := by
    rw [dynamicRotate_apply 1 s _ _ (ix2 r l) (ix2 r k) (by intro b; fin_cases b <;> simp [hk]), e k]
  have m : k0_pay5 (ix2 0 l) = BitVec.ofBool (decide (l.val / 16 % 2 = 1)) := by
    rw [← bit4 l]; pointwise [k0_pay5]; rfl
  unfold turned
  rw [e1, e2, ← e l, ← hco, ← hsi]
  have hsel : select (broadcastTo S128x128 (shapeCast S1x128 k0_pay5 shapeCasts_S1x128_S1x128) broadcasts_S1x128_S128x128)
      (dynamicRotate 1 16#32 none (extractStridedSlice S128x128 ![0, c] x hs) rotates_S128x128_d1) (dynamicRotate 1 112#32 none (extractStridedSlice S128x128 ![0, c] x hs) rotates_S128x128_d1) (ix2 r l)
      = if l.val / 16 % 2 = 1 then y (R + r.val) (C + c + l.val - 16) else y (R + r.val) (C + c + l.val + 16) := by
    have b : broadcastTo S128x128 (shapeCast S1x128 k0_pay5 shapeCasts_S1x128_S1x128) broadcasts_S1x128_S128x128 (ix2 r l) = k0_pay5 (ix2 0 l) := by pointwise
    show Scalar.select _ _ _ = _
    rw [b, m]
    by_cases g : l.val / 16 % 2 = 1
    · rw [hr 16#32 ⟨l.val - 16, by omega⟩ (by show l.val - 16 = (l.val + 128 - 16 % 128) % 128; omega), if_pos g]
      simp only [g, Scalar.select, decide_true, BitVec.ofBool_true, if_true]
      congr 1
      show C + c + (l.val - 16) = _
      omega
    · rw [hr 112#32 ⟨(l.val + 16) % 128, by omega⟩ (by show (l.val + 16) % 128 = (l.val + 128 - 112 % 128) % 128; omega), if_neg g]
      simp only [g, Scalar.select, decide_false, BitVec.ofBool_false]
      rw [if_neg (by decide)]
      congr 1
      show C + c + (l.val + 16) % 128 = _
      omega
  rw [← hsel]
  unfold turn
  generalize select _ _ _ = S
  generalize extractStridedSlice S128x128 ![0, c] x hs = X
  pointwise

theorem storeQ_apply (y : FVec Ideal S128x128 .f32) (z : Fin 1) (r l : Fin 128) : storeQ y (ix3 z r l) = y (ix2 r l) := by
  pointwise [storeQ]

theorem storeK_apply (y : FVec Ideal S128x128 .f32) (z : Fin 1) (l r : Fin 128) : storeK y (ix3 z l r) = y (ix2 r l) := by
  pointwise [storeK]

end Cert.QkvIdeal.Hand
-- ==== Proof.QkvBlk.lean ====
module

public import proofs.«01_k».proof.Proof.Gen.QkvIdeal.Frame
public import proofs.«01_k».proof.Proof.QkvPay
public import Idealize.ShloMosaic.Lib.Pipeline.ReadBack
public import Idealize.ShloMosaic.Lib.Pipeline.ValueKit.Tiles

@[expose] public section

set_option maxRecDepth 16384

noncomputable section

/-! The three blocks that one grid point of the projections leaves: every store of it is a block of one function of the buffer's index. -/

namespace Cert.QkvIdeal.Hand

open Cert.QkvIdeal Cert.QkvIdeal.Gen Idealize.ShloMosaic Idealize.ShloMosaic.TcCoe Idealize.SL.Sem
open RowMath

variable (x0 : Vec Ideal S1x512x1024 .f32) (x1 : Vec Ideal S1x6x1024 .f32) (x2 : Vec Ideal S1x1024 .f32) (x3 : Vec Ideal S1024x3072 .bf16)
  (x4 : Vec Ideal S256x256 .bf16) (x5 : Vec Ideal S1x2048 .f32) (x6 x7 : Vec Ideal S512x128 .f32)

/-- The projected columns of the point's rows (zero outside the block). -/
def cols (p f : ℕ) : EReal :=
  if h : p < 512 ∧ f < 3072 then
    rowDot (nrm (fun d => x2 (ix2 0 d)) (fun d => x1 (ix3 0 1 d)) (fun d => x1 (ix3 0 0 d)) (fun d => x0 (ix3 0 ⟨p, h.1⟩ d))) (fun d f => x3 (ix2 d f)) ⟨f, h.2⟩
  else 0

/-- The gains of the columns of the queries and the keys. -/
def gains (f : ℕ) : EReal := if h : f < 2048 then x5 (ix2 0 ⟨f, h⟩) else 0

/-- A table of the rotary embedding. -/
def table (x : Vec Ideal S512x128 .f32) (p l : ℕ) : EReal := if h : p < 512 ∧ l < 128 then x (ix2 ⟨p, h.1⟩ ⟨l, h.2⟩) else 0

/-- The rotated columns of the queries and the keys. -/
def roped (p f : ℕ) : EReal := turned (normed (cols x0 x1 x2 x3) (gains x5) (fun k j => x4 (ix2 k j))) (table x6) (table x7) p f

/-- The block of queries. -/
def blkQ (i : S1x512x1024.Idx) : EReal := roped x0 x1 x2 x3 x4 x5 x6 x7 (i 1).val (i 2).val

/-- The block of keys. -/
def blkK (i : S1x1024x512.Idx) : EReal := roped x0 x1 x2 x3 x4 x5 x6 x7 (i 2).val (1024 + (i 1).val)

/-- The block of values. -/
def blkV (i : S1x512x1024.Idx) : EReal := cols x0 x1 x2 x3 (i 1).val (2048 + (i 2).val)

theorem inbX (R : ℕ) (h : R + 128 ≤ 512) : ∀ a, (![0, R, 0] : Fin 3 → ℕ) a + S1x128x1024.size a ≤ S1x512x1024.size a := fun a => match a with | ⟨0, _⟩ => Nat.le_refl 1 | ⟨1, _⟩ => h | ⟨2, _⟩ => Nat.le_refl 1024
theorem inbQ (R C : ℕ) (h : R + 128 ≤ 512) (h' : C + 128 ≤ 1024) : ∀ a, (![0, R, C] : Fin 3 → ℕ) a + S1x128x128.size a ≤ S1x512x1024.size a := fun a => match a with | ⟨0, _⟩ => Nat.le_refl 1 | ⟨1, _⟩ => h | ⟨2, _⟩ => h'
theorem inbK (R C : ℕ) (h : R + 128 ≤ 512) (h' : C + 128 ≤ 1024) : ∀ a, (![0, C, R] : Fin 3 → ℕ) a + S1x128x128.size a ≤ S1x1024x512.size a := fun a => match a with | ⟨0, _⟩ => Nat.le_refl 1 | ⟨1, _⟩ => h' | ⟨2, _⟩ => h
theorem inbT (R : ℕ) (h : R + 128 ≤ 512) : ∀ a, (![R, 0] : Fin 2 → ℕ) a + S128x128.size a ≤ S512x128.size a := fun a => match a with | ⟨0, _⟩ => h | ⟨1, _⟩ => Nat.le_refl 128
theorem inbG (C : ℕ) (h : C + 256 ≤ 2048) : ∀ a, (![0, C] : Fin 2 → ℕ) a + S1x256.size a ≤ S1x2048.size a := fun a => match a with | ⟨0, _⟩ => Nat.le_refl 1 | ⟨1, _⟩ => h
theorem sliceG (C : ℕ) (h : C + 256 ≤ 3072) : S128x3072.Slices ![0, C] S128x256 := ⟨rfl, Fin.forall_fin_two.mpr ⟨by show 0 + 128 ≤ 128; decide, h⟩⟩
theorem sliceV (C : ℕ) (h : C + 128 ≤ 3072) : S128x3072.Slices ![0, C] S128x128 := ⟨rfl, Fin.forall_fin_two.mpr ⟨by show 0 + 128 ≤ 128; decide, h⟩⟩
theorem sliceH (c : ℕ) (h : c + 128 ≤ 256) : S128x256.Slices ![0, c] S128x128 := ⟨rfl, Fin.forall_fin_two.mpr ⟨by show 0 + 128 ≤ 128; decide, h⟩⟩

/-- The subtile's projection, from the windows' blocks. -/
def sub (R : ℕ) (h : R + 128 ≤ 512) : FVec Ideal S128x3072 .f32 :=
  k0_pay6 (F := Ideal) (View.ld x1 r0_0) (View.ld x1 r0_1) (View.ld x0 (Rect.unit (s := S1x512x1024) ![0, R, 0] S1x128x1024.size (inbX R h))) (View.ld x2 r0_3) (View.ld x3 r0_4)

theorem sub_apply (R : ℕ) (h : R + 128 ≤ 512) (r : Fin 128) (n : Fin 3072) : sub x0 x1 x2 x3 R h (ix2 r n) = cols x0 x1 x2 x3 (R + r.val) n.val := by
  unfold sub cols
  rw [rows_apply, dif_pos ⟨by omega, n.isLt⟩]
  have e0 (d : Fin 1024) : View.ld x1 r0_0 (ix3 0 0 d) = x1 (ix3 0 0 d) := congrArg x1 (funext fun a => Fin.ext (by
    match a with
    | ⟨0, _⟩ => rfl
    | ⟨1, _⟩ => rfl
    | ⟨2, _⟩ => show 0 + 1 * d.val = d.val; omega))
  have e1 (d : Fin 1024) : View.ld x1 r0_1 (ix3 0 0 d) = x1 (ix3 0 1 d) := congrArg x1 (funext fun a => Fin.ext (by
    match a with
    | ⟨0, _⟩ => rfl
    | ⟨1, _⟩ => rfl
    | ⟨2, _⟩ => show 0 + 1 * d.val = d.val; omega))
  have e2 (d : Fin 1024) : View.ld x0 (Rect.unit (s := S1x512x1024) ![0, R, 0] S1x128x1024.size (inbX R h)) (ix3 0 r d) = x0 (ix3 0 ⟨R + r.val, by omega⟩ d) :=
    congrArg x0 (funext fun a => Fin.ext (by
      match a with
      | ⟨0, _⟩ => rfl
      | ⟨1, _⟩ => show R + 1 * r.val = R + r.val; omega
      | ⟨2, _⟩ => show 0 + 1 * d.val = d.val; omega))
  have e3 (d : Fin 1024) : View.ld x2 r0_3 (ix2 0 d) = x2 (ix2 0 d) := congrArg x2 (funext fun a => Fin.ext (by
    match a with
    | ⟨0, _⟩ => rfl
    | ⟨1, _⟩ => show 0 + 1 * d.val = d.val; omega))
  have e4 (d : Fin 1024) (f : Fin 3072) : View.ld x3 r0_4 (ix2 d f) = x3 (ix2 d f) := congrArg x3 (funext fun a => Fin.ext (by
    match a with
    | ⟨0, _⟩ => show 0 + 1 * d.val = d.val; omega
    | ⟨1, _⟩ => show 0 + 1 * f.val = f.val; omega))
  simp only [e0, e1, e2, e3, e4]

/-- Half of a group of the subtile's columns, rotated. -/
def half (R C c : ℕ) (h : R + 128 ≤ 512) (hC : C + 256 ≤ 2048) (hc : c + 128 ≤ 256) : FVec Ideal S128x128 .f32 :=
  turn (group (sub x0 x1 x2 x3 R h) (View.ld x4 r0_6) (View.ld x5 (Rect.unit (s := S1x2048) ![0, C] S1x256.size (inbG C hC))) ![0, C] (sliceG C (by omega)))
    (View.ld x6 (Rect.unit (s := S512x128) ![R, 0] S128x128.size (inbT R h))) (View.ld x7 (Rect.unit (s := S512x128) ![R, 0] S128x128.size (inbT R h))) ![0, c] (sliceH c hc)

theorem ld_table (x : Vec Ideal S512x128 .f32) (R : ℕ) (h : R + 128 ≤ 512) (r l : Fin 128) :
    View.ld x (Rect.unit (s := S512x128) ![R, 0] S128x128.size (inbT R h)) (ix2 r l) = table x (R + r.val) l.val := by
  unfold table
  rw [dif_pos ⟨by omega, l.isLt⟩]
  refine congrArg x (funext fun a => Fin.ext ?_)
  match a with
  | ⟨0, _⟩ => show R + 1 * r.val = R + r.val; omega
  | ⟨1, _⟩ => show 0 + 1 * l.val = l.val; omega

theorem half_apply (R C c : ℕ) (h : R + 128 ≤ 512) (hC : C + 256 ≤ 2048) (hc : c + 128 ≤ 256) (hm : C % 256 = 0) (hm' : c % 128 = 0) (r l : Fin 128) :
    half x0 x1 x2 x3 x4 x5 x6 x7 R C c h hC hc (ix2 r l) = roped x0 x1 x2 x3 x4 x5 x6 x7 (R + r.val) (C + c + l.val) := by
  refine turn_apply _ _ _ R C c (by omega) hc _ _ _ _ (group_apply (cols x0 x1 x2 x3) (gains x5) (fun k j => x4 (ix2 k j)) R C (by omega) hm _ _ _ _
    (sub_apply x0 x1 x2 x3 R h) (fun k j => ?_) (fun j => ?_)) (ld_table x6 R h) (ld_table x7 R h) r l
  · refine congrArg x4 (funext fun a => Fin.ext ?_)
    match a with
    | ⟨0, _⟩ => show 0 + 1 * k.val = k.val; omega
    | ⟨1, _⟩ => show 0 + 1 * j.val = j.val; omega
  · unfold gains
    rw [dif_pos (by omega)]
    refine congrArg x5 (funext fun a => Fin.ext ?_)
    match a with
    | ⟨0, _⟩ => rfl
    | ⟨1, _⟩ => show C + 1 * j.val = C + j.val; omega

/-- A store of queries. -/
abbrev pcQ (R C c : ℕ) (h : R + 128 ≤ 512) (hC : C + 256 ≤ 1024) (hc : c + 128 ≤ 256) : View.Piece (Elt Ideal) S1x512x1024 .bf16 :=
  ⟨Rect.unit (s := S1x512x1024) ![0, R, C + c] S1x128x128.size (inbQ R (C + c) h (by omega)), storeQ (half x0 x1 x2 x3 x4 x5 x6 x7 R C c h (by omega) hc)⟩

/-- A store of keys. -/
abbrev pcK (R C c : ℕ) (h : R + 128 ≤ 512) (hC : C + 256 ≤ 1024) (hc : c + 128 ≤ 256) : View.Piece (Elt Ideal) S1x1024x512 .bf16 :=
  ⟨Rect.unit (s := S1x1024x512) ![0, C + c, R] S1x128x128.size (inbK R (C + c) h (by omega)), storeK (half x0 x1 x2 x3 x4 x5 x6 x7 R (1024 + C) c h (by omega) hc)⟩

/-- A store of values. -/
abbrev pcV (R C : ℕ) (h : R + 128 ≤ 512) (hC : C + 128 ≤ 1024) : View.Piece (Elt Ideal) S1x512x1024 .bf16 :=
  ⟨Rect.unit (s := S1x512x1024) ![0, R, C] S1x128x128.size (inbQ R C h hC),
    storeQ (extractStridedSlice S128x128 ![0, 2048 + C] (sub x0 x1 x2 x3 R h) (sliceV (2048 + C) (by omega)))⟩

theorem pcQ_ok (R C c : ℕ) (h : R + 128 ≤ 512) (hC : C + 256 ≤ 1024) (hc : c + 128 ≤ 256) (hm : C % 256 = 0) (hm' : c % 128 = 0)
    (x : (pcQ x0 x1 x2 x3 x4 x5 x6 x7 R C c h hC hc).1.shape.Idx) :
    (pcQ x0 x1 x2 x3 x4 x5 x6 x7 R C c h hC hc).2 x = blkQ x0 x1 x2 x3 x4 x5 x6 x7 ((pcQ x0 x1 x2 x3 x4 x5 x6 x7 R C c h hC hc).1.emb x) := by
  have hx : x = ix3 (n0 := 1) (n1 := 128) (n2 := 128) (x 0) (x 1) (x 2) := (ix3_eta x).symm
  rw [hx]
  refine (storeQ_apply _ _ _ _).trans ((half_apply x0 x1 x2 x3 x4 x5 x6 x7 R C c h (by omega) hc hm hm' _ _).trans ?_)
  unfold blkQ
  congr 1
  · show R + _ = R + 1 * _; rw [Nat.one_mul]; rfl
  · show C + c + _ = C + c + 1 * _; rw [Nat.one_mul]; rfl

theorem pcK_ok (R C c : ℕ) (h : R + 128 ≤ 512) (hC : C + 256 ≤ 1024) (hc : c + 128 ≤ 256) (hm : C % 256 = 0) (hm' : c % 128 = 0)
    (x : (pcK x0 x1 x2 x3 x4 x5 x6 x7 R C c h hC hc).1.shape.Idx) :
    (pcK x0 x1 x2 x3 x4 x5 x6 x7 R C c h hC hc).2 x = blkK x0 x1 x2 x3 x4 x5 x6 x7 ((pcK x0 x1 x2 x3 x4 x5 x6 x7 R C c h hC hc).1.emb x) := by
  have hx : x = ix3 (n0 := 1) (n1 := 128) (n2 := 128) (x 0) (x 1) (x 2) := (ix3_eta x).symm
  rw [hx]
  refine (storeK_apply _ _ _ _).trans ((half_apply x0 x1 x2 x3 x4 x5 x6 x7 R (1024 + C) c h (by omega) hc (by omega) hm' _ _).trans ?_)
  unfold blkK
  congr 1
  · show R + _ = R + 1 * _; rw [Nat.one_mul]; rfl
  · show 1024 + C + c + _ = 1024 + (C + c + 1 * _); rw [Nat.one_mul, Nat.add_assoc 1024, Nat.add_assoc 1024]; rfl

theorem pcV_ok (R C : ℕ) (h : R + 128 ≤ 512) (hC : C + 128 ≤ 1024) (x : (pcV x0 x1 x2 x3 R C h hC).1.shape.Idx) :
    (pcV x0 x1 x2 x3 R C h hC).2 x = blkV x0 x1 x2 x3 ((pcV x0 x1 x2 x3 R C h hC).1.emb x) := by
  have hx : x = ix3 (n0 := 1) (n1 := 128) (n2 := 128) (x 0) (x 1) (x 2) := (ix3_eta x).symm
  rw [hx]
  refine (storeQ_apply _ _ _ _).trans ((cutV _ _ _ _ _ (by have : (x 2).val < 128 := (x 2).isLt; omega)).trans ((sub_apply x0 x1 x2 x3 R h _ _).trans ?_))
  unfold blkV
  congr 1
  · show R + _ = R + 1 * _; rw [Nat.one_mul]; rfl
  · show 2048 + C + _ = 2048 + (C + 1 * _); rw [Nat.one_mul, Nat.add_assoc 2048]; rfl

open View in
/-- The eight stores of queries of a subtile, over others. -/
theorem rowsQ (R : ℕ) (h : R + 128 ≤ 512) {L : List (View.Piece (Elt Ideal) S1x512x1024 .bf16)} (hL : PiecesOf (blkQ x0 x1 x2 x3 x4 x5 x6 x7) L) :
    PiecesOf (blkQ x0 x1 x2 x3 x4 x5 x6 x7) (pcQ x0 x1 x2 x3 x4 x5 x6 x7 R 768 128 h (by decide) (by decide) :: pcQ x0 x1 x2 x3 x4 x5 x6 x7 R 768 0 h (by decide) (by decide)
      :: pcQ x0 x1 x2 x3 x4 x5 x6 x7 R 512 128 h (by decide) (by decide) :: pcQ x0 x1 x2 x3 x4 x5 x6 x7 R 512 0 h (by decide) (by decide)
      :: pcQ x0 x1 x2 x3 x4 x5 x6 x7 R 256 128 h (by decide) (by decide) :: pcQ x0 x1 x2 x3 x4 x5 x6 x7 R 256 0 h (by decide) (by decide)
      :: pcQ x0 x1 x2 x3 x4 x5 x6 x7 R 0 128 h (by decide) (by decide) :: pcQ x0 x1 x2 x3 x4 x5 x6 x7 R 0 0 h (by decide) (by decide) :: L) := by
  refine ⟨?_, ?_, ?_, ?_, ?_, ?_, ?_, ?_, hL⟩ <;> exact pcQ_ok x0 x1 x2 x3 x4 x5 x6 x7 R _ _ h _ _ (by decide) (by decide)

open View in
/-- The eight stores of keys of a subtile, over others. -/
theorem rowsK (R : ℕ) (h : R + 128 ≤ 512) {L : List (View.Piece (Elt Ideal) S1x1024x512 .bf16)} (hL : PiecesOf (blkK x0 x1 x2 x3 x4 x5 x6 x7) L) :
    PiecesOf (blkK x0 x1 x2 x3 x4 x5 x6 x7) (pcK x0 x1 x2 x3 x4 x5 x6 x7 R 768 128 h (by decide) (by decide) :: pcK x0 x1 x2 x3 x4 x5 x6 x7 R 768 0 h (by decide) (by decide)
      :: pcK x0 x1 x2 x3 x4 x5 x6 x7 R 512 128 h (by decide) (by decide) :: pcK x0 x1 x2 x3 x4 x5 x6 x7 R 512 0 h (by decide) (by decide)
      :: pcK x0 x1 x2 x3 x4 x5 x6 x7 R 256 128 h (by decide) (by decide) :: pcK x0 x1 x2 x3 x4 x5 x6 x7 R 256 0 h (by decide) (by decide)
      :: pcK x0 x1 x2 x3 x4 x5 x6 x7 R 0 128 h (by decide) (by decide) :: pcK x0 x1 x2 x3 x4 x5 x6 x7 R 0 0 h (by decide) (by decide) :: L) := by
  refine ⟨?_, ?_, ?_, ?_, ?_, ?_, ?_, ?_, hL⟩ <;> exact pcK_ok x0 x1 x2 x3 x4 x5 x6 x7 R _ _ h _ _ (by decide) (by decide)

open View in
/-- The eight stores of values of a subtile, over others. -/
theorem rowsV (R : ℕ) (h : R + 128 ≤ 512) {L : List (View.Piece (Elt Ideal) S1x512x1024 .bf16)} (hL : PiecesOf (blkV x0 x1 x2 x3) L) :
    PiecesOf (blkV x0 x1 x2 x3) (pcV x0 x1 x2 x3 R 896 h (by decide) :: pcV x0 x1 x2 x3 R 768 h (by decide) :: pcV x0 x1 x2 x3 R 640 h (by decide) :: pcV x0 x1 x2 x3 R 512 h (by decide)
      :: pcV x0 x1 x2 x3 R 384 h (by decide) :: pcV x0 x1 x2 x3 R 256 h (by decide) :: pcV x0 x1 x2 x3 R 128 h (by decide) :: pcV x0 x1 x2 x3 R 0 h (by decide) :: L) := by
  refine ⟨?_, ?_, ?_, ?_, ?_, ?_, ?_, ?_, hL⟩ <;> exact pcV_ok x0 x1 x2 x3 R _ h _

/-- What the point leaves of the values. -/
theorem out10_eq : out0_10 x0 x1 x2 x3 x4 x5 x6 x7 = blkV x0 x1 x2 x3 := by
  have h := rowsV x0 x1 x2 x3 384 (by decide) (rowsV x0 x1 x2 x3 256 (by decide) (rowsV x0 x1 x2 x3 128 (by decide) (rowsV x0 x1 x2 x3 0 (by decide) (L := []) trivial)))
  funext y
  exact View.canon_append_of_piecesOf _ [] _ h y (View.cover_of_tiled_head _ _ _ rfl y)

/-- What the point leaves of the queries. -/
theorem out8_eq : out0_8 x0 x1 x2 x3 x4 x5 x6 x7 = blkQ x0 x1 x2 x3 x4 x5 x6 x7 := by
  have h := rowsQ x0 x1 x2 x3 x4 x5 x6 x7 384 (by decide) (rowsQ x0 x1 x2 x3 x4 x5 x6 x7 256 (by decide)
    (rowsQ x0 x1 x2 x3 x4 x5 x6 x7 128 (by decide) (rowsQ x0 x1 x2 x3 x4 x5 x6 x7 0 (by decide) (L := []) trivial)))
  funext y
  exact View.canon_append_of_piecesOf _ [] _ h y (View.cover_of_tiled_head _ _ _ rfl y)

/-- What the point leaves of the keys. -/
theorem out9_eq : out0_9 x0 x1 x2 x3 x4 x5 x6 x7 = blkK x0 x1 x2 x3 x4 x5 x6 x7 := by
  have h := rowsK x0 x1 x2 x3 x4 x5 x6 x7 384 (by decide) (rowsK x0 x1 x2 x3 x4 x5 x6 x7 256 (by decide)
    (rowsK x0 x1 x2 x3 x4 x5 x6 x7 128 (by decide) (rowsK x0 x1 x2 x3 x4 x5 x6 x7 0 (by decide) (L := []) trivial)))
  funext y
  exact View.canon_append_of_piecesOf _ [] _ h y (View.cover_of_tiled_head _ _ _ rfl y)

end Cert.QkvIdeal.Hand
-- ==== Proof.QkvMath.lean ====
module

public import proofs.«01_k».proof.Proof.RowMath

@[expose] public section

noncomputable section

open Idealize.ShloMosaic

/-! The norm of each head's columns and the rotary embedding, as functions of a column's number; the sum over a group of 256 columns that keeps one head's. -/

namespace RowMath

/-- A column over the root mean square of its head's 64 columns, times the gain. -/
def headed (u g : ℕ → EReal) (f : ℕ) : EReal :=
  u f * Ideal.rsqrt (Ideal.div (∑ k : Fin 64, u (f / 64 * 64 + k.val) * u (f / 64 * 64 + k.val)) (Ideal.ofBits .f32 0x42800000#32) + Ideal.ofBits .f32 0x358637BD#32) * g f

/-- The rotary embedding of a column: its axis' two halves of sixteen columns are turned by the angle. -/
def ropeAt (y : ℕ → EReal) (co si : ℕ → ℕ → EReal) (f : ℕ) : EReal :=
  if f / 16 % 2 = 1 then y f * co (f % 64 / 32) (f % 16) + y (f - 16) * si (f % 64 / 32) (f % 16)
  else y f * co (f % 64 / 32) (f % 16) - y (f + 16) * si (f % 64 / 32) (f % 16)

/-- One where two columns of a group belong to one head. -/
def same (k j : Fin 256) : EReal := if k.val / 64 = j.val / 64 then 1 else 0

/-- The group's sum against it is the head's sum. -/
theorem sum_head (v : ℕ → EReal) (f : ℕ) :
    ∑ k : Fin 256, v (f / 256 * 256 + k.val) * same k ⟨f % 256, Nat.mod_lt _ (by decide)⟩ = ∑ k : Fin 64, v (f / 64 * 64 + k.val) := by
  unfold same
  rw [Fin.sum_univ_eq_sum_range (fun k => v (f / 256 * 256 + k) * if k / 64 = f % 256 / 64 then (1 : EReal) else 0) 256,
    Fin.sum_univ_eq_sum_range (fun k => v (f / 64 * 64 + k)) 64]
  simp only [mul_ite, mul_one, mul_zero]
  rw [← Finset.sum_filter]
  refine Finset.sum_nbij' (fun k => k % 64) (fun k => f % 256 / 64 * 64 + k) ?_ ?_ ?_ ?_ ?_
  · intro k hk
    simp only [Finset.mem_filter, Finset.mem_range] at hk ⊢
    omega
  · intro k hk
    simp only [Finset.mem_filter, Finset.mem_range] at hk ⊢
    omega
  · intro k hk
    simp only [Finset.mem_filter, Finset.mem_range] at hk
    show f % 256 / 64 * 64 + k % 64 = k
    omega
  · intro k hk
    simp only [Finset.mem_range] at hk
    show (f % 256 / 64 * 64 + k) % 64 = k
    omega
  · intro k hk
    simp only [Finset.mem_filter, Finset.mem_range] at hk
    congr 1
    omega

/-- A sixty-fourth of a sum is the sum over sixty-four. -/
theorem div_head (s : EReal) : s * Ideal.ofBits .f32 0x3C800000#32 = Ideal.div s (Ideal.ofBits .f32 0x42800000#32) := by
  have h1 : Ideal.ofBits .f32 0x3C800000#32 = ((1 / 64 : ℝ) : EReal) := by
    simp [Ideal.ofBits, Ideal.ieee, -EReal.coe_mul]; norm_num
  have h2 : Ideal.ofBits .f32 0x42800000#32 = ((64 : ℝ) : EReal) := by
    simp [Ideal.ofBits, Ideal.ieee, -EReal.coe_mul]; norm_num
  rw [h1, h2]
  unfold Ideal.div
  rw [if_neg (by exact_mod_cast (by norm_num : (64 : ℝ) ≠ 0)), ← EReal.coe_inv]
  norm_num

/-- A head's column normalised, of the head's 64 columns. -/
theorem headed_of (u g : ℕ → EReal) (o h : ℕ) (d : Fin 64) (v : Fin 64 → EReal) (w : EReal) (ho : o % 64 = 0)
    (hv : ∀ k, v k = u (o + (h * 64 + k.val))) (hw : w = g (o + (h * 64 + d.val))) :
    v d * Ideal.rsqrt (Ideal.div (∑ k : Fin 64, v k * v k) (Ideal.ofBits .f32 0x42800000#32) + Ideal.ofBits .f32 0x358637BD#32) * w
      = headed u g (o + (h * 64 + d.val)) := by
  unfold headed
  have e : ∀ k : Fin 64, (o + (h * 64 + d.val)) / 64 * 64 + k.val = o + (h * 64 + k.val) := fun k => by omega
  simp only [e, hv, hw]

/-- The rotary embedding of a column of a head, of the column's axis, half and number. -/
theorem ropeAt_of (y : ℕ → EReal) (co si : ℕ → ℕ → EReal) (o h d : ℕ) (ho : o % 64 = 0) (hd : d < 64) :
    (if d / 16 % 2 = 0 then y (o + (h * 64 + (d / 32 * 32 + d % 16))) * co (d / 32) (d % 16) - y (o + (h * 64 + (d / 32 * 32 + 16 + d % 16))) * si (d / 32) (d % 16)
      else y (o + (h * 64 + (d / 32 * 32 + 16 + d % 16))) * co (d / 32) (d % 16) + y (o + (h * 64 + (d / 32 * 32 + d % 16))) * si (d / 32) (d % 16))
      = ropeAt y co si (o + (h * 64 + d)) := by
  unfold ropeAt
  have e1 : (o + (h * 64 + d)) % 64 / 32 = d / 32 := by omega
  have e2 : (o + (h * 64 + d)) % 16 = d % 16 := by omega
  rw [e1, e2]
  by_cases c : d / 16 % 2 = 0
  · rw [if_pos c, if_neg (by omega)]
    have e3 : o + (h * 64 + (d / 32 * 32 + d % 16)) = o + (h * 64 + d) := by omega
    have e4 : o + (h * 64 + (d / 32 * 32 + 16 + d % 16)) = o + (h * 64 + d) + 16 := by omega
    rw [e3, e4]
  · rw [if_neg c, if_pos (by omega)]
    have e3 : o + (h * 64 + (d / 32 * 32 + d % 16)) = o + (h * 64 + d) - 16 := by omega
    have e4 : o + (h * 64 + (d / 32 * 32 + 16 + d % 16)) = o + (h * 64 + d) := by omega
    rw [e3, e4]

end RowMath
-- ==== Proof.QkvWin.lean ====
module

public import proofs.«01_k».proof.Proof.QkvBlk
public import proofs.«01_k».proof.Proof.QkvMath
public import Idealize.ShloMosaic.Lib.Pipeline.Covers
public import Idealize.ShloMosaic.Lib.StableHlo.ReadAt

@[expose] public section

set_option maxRecDepth 16384

noncomputable section

/-! The input blocks of the projections, read at an index, in terms of the program's arguments. -/

namespace Cert.QkvIdeal.Hand

open Cert.QkvIdeal Cert.QkvIdeal.Gen Idealize.ShloMosaic Idealize.ShloMosaic.TcCoe Idealize.SL.Sem
open Idealize.ShloMosaic.Pipeline (Dat)
open RowMath

variable (m : (ℓ : Loc nD τ sig) → Buf (Elt Ideal) ℓ)

/-- The program's arguments as functions of an index: the stream, the modulations, the gain, the projection, the gains of the queries and of the keys, the cosines, the sines. -/
abbrev in0 (c : Dev nD) : S16x4096x1024.Idx → EReal := m ((c : Thread nD τ).loc main_arg0)
abbrev in1 (c : Dev nD) : S16x6144.Idx → EReal := m ((c : Thread nD τ).loc main_arg1)
abbrev in2 (c : Dev nD) : S1024.Idx → EReal := m ((c : Thread nD τ).loc main_arg2)
abbrev in3 (c : Dev nD) : S1024x3072.Idx → EReal := m ((c : Thread nD τ).loc main_arg3)
abbrev in4 (c : Dev nD) : S64.Idx → EReal := m ((c : Thread nD τ).loc main_arg4)
abbrev in5 (c : Dev nD) : S64.Idx → EReal := m ((c : Thread nD τ).loc main_arg5)
abbrev in6 (c : Dev nD) : S4096x2x16.Idx → EReal := m ((c : Thread nD τ).loc main_arg6)
abbrev in7 (c : Dev nD) : S4096x2x16.Idx → EReal := m ((c : Thread nD τ).loc main_arg7)

/-- The stream is handed over as it is. -/
theorem V_h (c : Dev nD) (i : S16x4096x1024.Idx) : V m c main_arg0 i = in0 m c i := by
  unfold V
  after_reads_at

/-- The modulations, six rows of 1024. -/
theorem V_mod (c : Dev nD) (b : Fin 16) (j : Fin 6) (d : Fin 1024) : V m c main_v0 (ix3 b j d) = in1 m c (ix2 b ⟨j.val * 1024 + d.val, by omega⟩) := by
  unfold V
  after_reads_at

/-- The gain. -/
theorem V_g (c : Dev nD) (d : Fin 1024) : V m c main_v9 (ix2 0 d) = in2 m c (ix1 d) := by
  unfold V
  after_reads_at

/-- The projection. -/
theorem V_w (c : Dev nD) (d : Fin 1024) (f : Fin 3072) : V m c main_v10 (ix2 d f) = in3 m c (ix2 d f) := by
  unfold V
  after_reads_at

/-- The gains of the columns: the queries' 16 heads, then the keys'. -/
theorem V_gains (c : Dev nD) (f : Fin 2048) : V m c main_v8 (ix2 0 f)
    = if f.val < 1024 then in4 m c (ix1 ⟨f.val % 64, by omega⟩) else in5 m c (ix1 ⟨f.val % 64, by omega⟩) := by
  unfold V
  after_reads_at
  by_cases h : f.val < 1024
  · rw [dif_pos h, if_pos h]
    after_reads_at
  · rw [dif_neg h, if_neg h]
    after_reads_at
    exact congrArg (in5 m c) (congrArg ix1 (Fin.ext (show (f.val - 1024) % 64 = f.val % 64 by omega)))

/-- Four groups of sixteen lanes side by side, twice, read at a lane. `Z` has the groups' entries. -/
theorem four_lanes (A B C D : S4096x16.Idx → EReal) (p : Fin 4096) (l : Fin 128) (Z : ℕ → ℕ → EReal)
    (hA : ∀ k : Fin 16, A (ix2 p k) = Z 0 k.val) (hB : ∀ k : Fin 16, B (ix2 p k) = Z 1 k.val)
    (hC : ∀ k : Fin 16, C (ix2 p k) = Z 2 k.val) (hD : ∀ k : Fin 16, D (ix2 p k) = Z 3 k.val) :
    (if h : l.val % 64 < 16 then A (ix2 p ⟨l.val % 64, h⟩)
      else if h : l.val % 64 - 16 < 16 then B (ix2 p ⟨l.val % 64 - 16, h⟩)
      else if h : l.val % 64 - 16 - 16 < 16 then C (ix2 p ⟨l.val % 64 - 16 - 16, h⟩)
      else D (ix2 p ⟨l.val % 64 - 16 - 16 - 16, by omega⟩)) = Z (l.val % 64 / 16) (l.val % 16) := by
  simp only [hA, hB, hC, hD, dite_eq_ite]
  split_ifs with h1 h2 h3
  · congr 1 <;> omega
  · congr 1 <;> omega
  · congr 1 <;> omega
  · congr 1 <;> omega

/-- The cosines of a position by groups of sixteen lanes. -/
def cosOf (x : S4096x2x16.Idx → EReal) (p : Fin 4096) (q k : ℕ) : EReal :=
  if h : k < 16 then x (ix3 p ⟨q / 2 % 2, Nat.mod_lt _ (by decide)⟩ ⟨k, h⟩) else 0

theorem cosOf_eq (x : S4096x2x16.Idx → EReal) (p : Fin 4096) (a : Fin 2) (q : ℕ) (hq : q / 2 % 2 = a.val) (k : Fin 16) : x (ix3 p a k) = cosOf x p q k.val := by
  unfold cosOf
  rw [dif_pos k.isLt]
  exact congrArg (fun a => x (ix3 p a k)) (Fin.ext hq.symm)

/-- The cosines' lanes. -/
theorem V_cos (c : Dev nD) (p : Fin 4096) (l : Fin 128) : V m c main_v33 (ix2 p l) = cosOf (in6 m c) p (l.val % 64 / 16) (l.val % 16) := by
  have hA : ∀ k : Fin 16, StableHlo.upto [hostOps0, hostOps0_1, hostOps0_2].flatten (fun b => m (c, b)) 19 (Proc.tc.devRef main_v12) (ix2 p k) = cosOf (in6 m c) p 0 k.val := fun k => by
    rw [← cosOf_eq (in6 m c) p 0 0 rfl k]
    after_reads_at
  have hB : ∀ k : Fin 16, StableHlo.upto [hostOps0, hostOps0_1, hostOps0_2].flatten (fun b => m (c, b)) 19 (Proc.tc.devRef main_v14) (ix2 p k) = cosOf (in6 m c) p 1 k.val := fun k => by
    rw [← cosOf_eq (in6 m c) p 0 1 rfl k]
    after_reads_at
  have hC : ∀ k : Fin 16, StableHlo.upto [hostOps0, hostOps0_1, hostOps0_2].flatten (fun b => m (c, b)) 19 (Proc.tc.devRef main_v16) (ix2 p k) = cosOf (in6 m c) p 2 k.val := fun k => by
    rw [← cosOf_eq (in6 m c) p 1 2 rfl k]
    after_reads_at
  have hD : ∀ k : Fin 16, StableHlo.upto [hostOps0, hostOps0_1, hostOps0_2].flatten (fun b => m (c, b)) 19 (Proc.tc.devRef main_v18) (ix2 p k) = cosOf (in6 m c) p 3 k.val := fun k => by
    rw [← cosOf_eq (in6 m c) p 1 3 rfl k]
    after_reads_at
  unfold V
  after_reads_at
  exact four_lanes _ _ _ _ p l (cosOf (in6 m c) p) hA hB hC hD

/-- The sines' groups: negated in the first half of each axis. -/
def sinOf (x : S4096x2x16.Idx → EReal) (p : Fin 4096) (q k : ℕ) : EReal := if q % 2 = 1 then cosOf x p q k else -cosOf x p q k

/-- The sines' lanes. -/
theorem V_sin (c : Dev nD) (p : Fin 4096) (l : Fin 128) : V m c main_v36 (ix2 p l) = sinOf (in7 m c) p (l.val % 64 / 16) (l.val % 16) := by
  have hA : ∀ k : Fin 16, StableHlo.upto [hostOps0, hostOps0_1, hostOps0_2].flatten (fun b => m (c, b)) 30 (Proc.tc.devRef main_v22) (ix2 p k) = sinOf (in7 m c) p 0 k.val := fun k => by
    unfold sinOf
    rw [if_neg (by decide), ← cosOf_eq (in7 m c) p 0 0 rfl k]
    after_reads_at
  have hB : ∀ k : Fin 16, StableHlo.upto [hostOps0, hostOps0_1, hostOps0_2].flatten (fun b => m (c, b)) 30 (Proc.tc.devRef main_v24) (ix2 p k) = sinOf (in7 m c) p 1 k.val := fun k => by
    unfold sinOf
    rw [if_pos rfl, ← cosOf_eq (in7 m c) p 0 1 rfl k]
    after_reads_at
  have hC : ∀ k : Fin 16, StableHlo.upto [hostOps0, hostOps0_1, hostOps0_2].flatten (fun b => m (c, b)) 30 (Proc.tc.devRef main_v27) (ix2 p k) = sinOf (in7 m c) p 2 k.val := fun k => by
    unfold sinOf
    rw [if_neg (by decide), ← cosOf_eq (in7 m c) p 1 2 rfl k]
    after_reads_at
  have hD : ∀ k : Fin 16, StableHlo.upto [hostOps0, hostOps0_1, hostOps0_2].flatten (fun b => m (c, b)) 30 (Proc.tc.devRef main_v29) (ix2 p k) = sinOf (in7 m c) p 3 k.val := fun k => by
    unfold sinOf
    rw [if_pos rfl, ← cosOf_eq (in7 m c) p 1 3 rfl k]
    after_reads_at
  unfold V
  after_reads_at
  exact four_lanes _ _ _ _ p l (sinOf (in7 m c) p) hA hB hC hD

/-- The quotient of a column by 64, rounded down, as the integer operations compute it. -/
def quot (k : Fin 256) : BitVec 32 :=
  Scalar.select
    (IntOp.andi
      (IntOp.cmpi CmpIPredicate.ne (if BitVec.ofNat 32 k.val = 0 then (0 : BitVec 32) else if (BitVec.ofNat 32 k.val).msb = true then -1 else 1)
        (if (64#32 : BitVec 32) = 0 then (0 : BitVec 32) else if BitVec.msb (64#32) = true then -1 else 1))
      (IntOp.cmpi CmpIPredicate.ne (IntOp.remsi ArithUnit.host (BitVec.ofNat 32 k.val) (64#32)) 0#32))
    (IntOp.subi (IntOp.divsi ArithUnit.host (BitVec.ofNat 32 k.val) (64#32)) 1#32)
    (IntOp.divsi ArithUnit.host (BitVec.ofNat 32 k.val) (64#32))

theorem quot_eq (k : Fin 256) : quot k = BitVec.ofNat 32 (k.val / 64) := by
  revert k
  decide +kernel

/-- The matrix that sums within heads. -/
theorem V_same (c : Dev nD) (k j : Fin 256) : V m c main_v44 (ix2 k j) = same k j := by
  unfold V
  after_reads_at
  show FloatOps.uitofp (F := Ideal) FTy.bf16 (IntOp.cmpi CmpIPredicate.eq (quot k) (quot j)) = same k j
  rw [quot_eq, quot_eq]
  unfold same
  by_cases h : k.val / 64 = j.val / 64
  · rw [if_pos h, h]
    have e : IntOp.cmpi CmpIPredicate.eq (BitVec.ofNat 32 (j.val / 64)) (BitVec.ofNat 32 (j.val / 64)) = 1#1 := by simp [IntOp.cmpi]
    rw [e]
    show ((((1#1 : BitVec 1).toNat : ℕ) : ℝ) : EReal) = 1
    simp
  · rw [if_neg h]
    have h' : BitVec.ofNat 32 (k.val / 64) ≠ BitVec.ofNat 32 (j.val / 64) := fun e => h (by
      have e' := congrArg BitVec.toNat e
      rw [BitVec.toNat_ofNat, BitVec.toNat_ofNat] at e'
      omega)
    have e : IntOp.cmpi CmpIPredicate.eq (BitVec.ofNat 32 (k.val / 64)) (BitVec.ofNat 32 (j.val / 64)) = 0#1 := by
      show BitVec.ofBool (_ == _) = 0#1
      rw [beq_eq_false_iff_ne.2 h']
      rfl
    rw [e]
    show ((((0#1 : BitVec 1).toNat : ℕ) : ℝ) : EReal) = 0
    simp

/-- The grid's coordinates at a point: the batch entry. -/
def bb (t : Fin cfg0.N) : Fin 16 := cfg0.grid.coords t 0
/-- The tile of rows. -/
def tt (t : Fin cfg0.N) : Fin 8 := cfg0.grid.coords t 1

/-- A small coordinate survives as a word. -/
theorem w16 (i : Fin 16) : (BitVec.ofNat 32 i.val).toNat = i.val := by
  rw [BitVec.toNat_ofNat]; omega

/-- A small coordinate survives as a word. -/
theorem w8 (i : Fin 8) : (BitVec.ofNat 32 i.val).toNat = i.val := by
  rw [BitVec.toNat_ofNat]; omega

/-- The tile's rows. -/
theorem iblk0 (c : Dev nD) (t : Fin cfg0.N) (r : Fin 512) (d : Fin 1024) :
    iblk m c 0 t (ix3 0 r d) = V m c main_arg0 (ix3 (bb t) ⟨(tt t).val * 512 + r.val, by have := (tt t).isLt; omega⟩ d) := by
  unfold iblk
  show V m c main_arg0 (((cfg0.win 0).blk t).view.emb (ix3 0 r d)) = _
  refine congrArg (V m c main_arg0) (funext fun a => Fin.ext ?_)
  match a with
  | ⟨0, _⟩ => blk_simp; exact (add_zero _).trans (w16 _)
  | ⟨1, _⟩ => blk_simp; exact congrArg (· * 512 + r.val) (w8 (tt t))
  | ⟨2, _⟩ => blk_simp; exact zero_add _

/-- The modulations of the point's batch entry. -/
theorem iblk1 (c : Dev nD) (t : Fin cfg0.N) (j : Fin 6) (d : Fin 1024) :
    iblk m c 1 t (ix3 0 j d) = V m c main_v0 (ix3 (bb t) j d) := by
  unfold iblk
  show V m c main_v0 (((cfg0.win 1).blk t).view.emb (ix3 0 j d)) = _
  refine congrArg (V m c main_v0) (funext fun a => Fin.ext ?_)
  match a with
  | ⟨0, _⟩ => blk_simp; exact (add_zero _).trans (w16 _)
  | ⟨1, _⟩ => blk_simp; exact zero_add _
  | ⟨2, _⟩ => blk_simp; exact zero_add _

/-- The gain. -/
theorem iblk2 (c : Dev nD) (t : Fin cfg0.N) (d : Fin 1024) :
    iblk m c 2 t (ix2 0 d) = V m c main_v9 (ix2 0 d) := by
  unfold iblk
  show V m c main_v9 (((cfg0.win 2).blk t).view.emb (ix2 0 d)) = _
  refine congrArg (V m c main_v9) (funext fun a => Fin.ext ?_)
  match a with
  | ⟨0, _⟩ => blk_simp; rfl
  | ⟨1, _⟩ => blk_simp; exact zero_add _

/-- The projection. -/
theorem iblk3 (c : Dev nD) (t : Fin cfg0.N) (d : Fin 1024) (f : Fin 3072) :
    iblk m c 3 t (ix2 d f) = V m c main_v10 (ix2 d f) := by
  unfold iblk
  show V m c main_v10 (((cfg0.win 3).blk t).view.emb (ix2 d f)) = _
  refine congrArg (V m c main_v10) (funext fun a => Fin.ext ?_)
  match a with
  | ⟨0, _⟩ => blk_simp; exact zero_add _
  | ⟨1, _⟩ => blk_simp; exact zero_add _

/-- The matrix that sums within heads. -/
theorem iblk4 (c : Dev nD) (t : Fin cfg0.N) (k j : Fin 256) :
    iblk m c 4 t (ix2 k j) = V m c main_v44 (ix2 k j) := by
  unfold iblk
  show V m c main_v44 (((cfg0.win 4).blk t).view.emb (ix2 k j)) = _
  refine congrArg (V m c main_v44) (funext fun a => Fin.ext ?_)
  match a with
  | ⟨0, _⟩ => blk_simp; exact zero_add _
  | ⟨1, _⟩ => blk_simp; exact zero_add _

/-- The gains of the columns. -/
theorem iblk5 (c : Dev nD) (t : Fin cfg0.N) (f : Fin 2048) :
    iblk m c 5 t (ix2 0 f) = V m c main_v8 (ix2 0 f) := by
  unfold iblk
  show V m c main_v8 (((cfg0.win 5).blk t).view.emb (ix2 0 f)) = _
  refine congrArg (V m c main_v8) (funext fun a => Fin.ext ?_)
  match a with
  | ⟨0, _⟩ => blk_simp; rfl
  | ⟨1, _⟩ => blk_simp; exact zero_add _

/-- The tile's cosines. -/
theorem iblk6 (c : Dev nD) (t : Fin cfg0.N) (r : Fin 512) (l : Fin 128) :
    iblk m c 6 t (ix2 r l) = V m c main_v33 (ix2 ⟨(tt t).val * 512 + r.val, by have := (tt t).isLt; omega⟩ l) := by
  unfold iblk
  show V m c main_v33 (((cfg0.win 6).blk t).view.emb (ix2 r l)) = _
  refine congrArg (V m c main_v33) (funext fun a => Fin.ext ?_)
  match a with
  | ⟨0, _⟩ => blk_simp; exact congrArg (· * 512 + r.val) (w8 (tt t))
  | ⟨1, _⟩ => blk_simp; exact zero_add _

/-- The tile's sines. -/
theorem iblk7 (c : Dev nD) (t : Fin cfg0.N) (r : Fin 512) (l : Fin 128) :
    iblk m c 7 t (ix2 r l) = V m c main_v36 (ix2 ⟨(tt t).val * 512 + r.val, by have := (tt t).isLt; omega⟩ l) := by
  unfold iblk
  show V m c main_v36 (((cfg0.win 7).blk t).view.emb (ix2 r l)) = _
  refine congrArg (V m c main_v36) (funext fun a => Fin.ext ?_)
  match a with
  | ⟨0, _⟩ => blk_simp; exact congrArg (· * 512 + r.val) (w8 (tt t))
  | ⟨1, _⟩ => blk_simp; exact zero_add _

/-- Where the queries' entry lies. -/
theorem emb8 (t : Fin cfg0.N) (z : Fin 1) (r : Fin 512) (d : Fin 1024) :
    ((cfg0.win 8).blk t).view.emb (ix3 z r d) = ix3 (bb t) ⟨(tt t).val * 512 + r.val, by have := (tt t).isLt; omega⟩ d := by
  funext a
  apply Fin.ext
  match a with
  | ⟨0, _⟩ => blk_simp; exact w16 (bb t)
  | ⟨1, _⟩ => blk_simp; exact congrArg (· * 512 + r.val) (w8 (tt t))
  | ⟨2, _⟩ => blk_simp; exact zero_add _

/-- The queries' blocks fill the array. -/
theorem covers8 : (cfg0.win 8).Covers := by
  refine (cfg0.win 8).covers_of_indexMap_surj rfl (by decide) fun β =>
    ⟨fun a => match a with | ⟨0, _⟩ => β 0 | ⟨1, _⟩ => β 1, fun a => ?_⟩
  match a with
  | ⟨0, _⟩ => exact w16 (β 0)
  | ⟨1, _⟩ => exact w8 (β 1)
  | ⟨2, _⟩ => exact (Fin.fin_one_eq_zero (β 2)) ▸ rfl

/-- Where the values' entry lies. -/
theorem emb10 (t : Fin cfg0.N) (z : Fin 1) (r : Fin 512) (d : Fin 1024) :
    ((cfg0.win 10).blk t).view.emb (ix3 z r d) = ix3 (bb t) ⟨(tt t).val * 512 + r.val, by have := (tt t).isLt; omega⟩ d := by
  funext a
  apply Fin.ext
  match a with
  | ⟨0, _⟩ => blk_simp; exact w16 (bb t)
  | ⟨1, _⟩ => blk_simp; exact congrArg (· * 512 + r.val) (w8 (tt t))
  | ⟨2, _⟩ => blk_simp; exact zero_add _

/-- The values' blocks fill the array. -/
theorem covers10 : (cfg0.win 10).Covers := by
  refine (cfg0.win 10).covers_of_indexMap_surj rfl (by decide) fun β =>
    ⟨fun a => match a with | ⟨0, _⟩ => β 0 | ⟨1, _⟩ => β 1, fun a => ?_⟩
  match a with
  | ⟨0, _⟩ => exact w16 (β 0)
  | ⟨1, _⟩ => exact w8 (β 1)
  | ⟨2, _⟩ => exact (Fin.fin_one_eq_zero (β 2)) ▸ rfl

/-- Where the keys' entry lies. -/
theorem emb9 (t : Fin cfg0.N) (z : Fin 1) (d : Fin 1024) (r : Fin 512) :
    ((cfg0.win 9).blk t).view.emb (ix3 z d r) = ix3 (bb t) d ⟨(tt t).val * 512 + r.val, by have := (tt t).isLt; omega⟩ := by
  funext a
  apply Fin.ext
  match a with
  | ⟨0, _⟩ => blk_simp; exact w16 (bb t)
  | ⟨1, _⟩ => blk_simp; exact zero_add _
  | ⟨2, _⟩ => blk_simp; exact congrArg (· * 512 + r.val) (w8 (tt t))

/-- The keys' blocks fill the array. -/
theorem covers9 : (cfg0.win 9).Covers := by
  refine (cfg0.win 9).covers_of_indexMap_surj rfl (by decide) fun β =>
    ⟨fun a => match a with | ⟨0, _⟩ => β 0 | ⟨1, _⟩ => β 2, fun a => ?_⟩
  match a with
  | ⟨0, _⟩ => exact w16 (β 0)
  | ⟨1, _⟩ => exact (Fin.fin_one_eq_zero (β 1)) ▸ rfl
  | ⟨2, _⟩ => exact w8 (β 2)

end Cert.QkvIdeal.Hand

end
-- ==== Proof.QkvRef.lean ====
module

public import proofs.«01_k».proof.Proof.Gen.QkvRefIdeal.Read
public import proofs.«01_k».proof.Proof.QkvMath
public import Idealize.ShloMosaic.Lib.KernelVsHost

@[expose] public section

set_option maxRecDepth 16384

noncomputable section

/-! The reference of the query, key and value projections, read at an index. -/

namespace Cert.QkvRefIdeal.Hand

open Cert.QkvRefIdeal Cert.QkvRefIdeal.Read Idealize.ShloMosaic Idealize.ShloMosaic.TcCoe Idealize.SL.Sem
open RowMath

variable (x0 : S16x4096x1024.Idx → EReal) (x1 : S16x6144.Idx → EReal) (x2 : S1024.Idx → EReal) (x3 : S1024x3072.Idx → EReal)
  (x4 x5 : S64.Idx → EReal) (x6 x7 : S4096x2x16.Idx → EReal)

/-- The normalised and modulated rows. -/
theorem nrm_apply (b : Fin 16) (p : Fin 4096) (d : Fin 1024) : val_main_v30 (F := Ideal) x0 x1 x2 (ix3 b p d)
    = nrm (fun d => x2 (ix1 d)) (fun d => x1 (ix2 b ⟨1024 + d.val, by omega⟩)) (fun d => x1 (ix2 b ⟨d.val, by omega⟩)) (fun d => x0 (ix3 b p d)) d := by
  unfold nrm val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v7 val_main_v6 val_main_v1 val_main_v0 val_main_cst val_main_cst_0 val_main_cst_1 val_main_cst_2
  pointwise

/-- The projection. -/
theorem up_apply (b : Fin 16) (p : Fin 4096) (f : Fin 3072) : val_main_v31 (F := Ideal) x0 x1 x2 x3 (ix3 b p f)
    = rowDot (nrm (fun d => x2 (ix1 d)) (fun d => x1 (ix2 b ⟨1024 + d.val, by omega⟩)) (fun d => x1 (ix2 b ⟨d.val, by omega⟩)) (fun d => x0 (ix3 b p d))) (fun d f => x3 (ix2 d f)) f := by
  have e : val_main_v31 (F := Ideal) x0 x1 x2 x3 (ix3 b p f) = rowDot (fun d => val_main_v30 (F := Ideal) x0 x1 x2 (ix3 b p d)) (fun d f => x3 (ix2 d f)) f := by
    unfold rowDot val_main_v31
    generalize val_main_v30 (F := Ideal) x0 x1 x2 = y
    pointwise
  rw [e]
  exact congrArg (fun u => rowDot u (fun d f => x3 (ix2 d f)) f) (funext fun d => nrm_apply x0 x1 x2 b p d)

/-- The angles of a position, their axis and number counted by natural numbers. -/
def angle (x : S4096x2x16.Idx → EReal) (p : Fin 4096) (a k : ℕ) : EReal :=
  if h : a < 2 ∧ k < 16 then x (ix3 p ⟨a, h.1⟩ ⟨k, h.2⟩) else 0

/-- A row of the projection, its columns counted by a natural number. -/
def projected (b : Fin 16) (p : Fin 4096) (n : ℕ) : EReal :=
  if h : n < 3072 then val_main_v31 (F := Ideal) x0 x1 x2 x3 (ix3 b p ⟨n, h⟩) else 0

/-- A column of the projection's row. -/
theorem projected_of (b : Fin 16) (p : Fin 4096) (n : ℕ) (h : n < 3072) :
    val_main_v31 (F := Ideal) x0 x1 x2 x3 (ix3 b p ⟨n, h⟩) = projected x0 x1 x2 x3 b p n := by
  unfold projected
  rw [dif_pos h]

/-- An angle of a position. -/
theorem angle_of (x : S4096x2x16.Idx → EReal) (p : Fin 4096) (a k : ℕ) (h : a < 2 ∧ k < 16) :
    x (ix3 p ⟨a, h.1⟩ ⟨k, h.2⟩) = angle x p a k := by
  unfold angle
  rw [dif_pos h]

/-- The gain of a column: the queries' 16 heads, then the keys'. -/
def gain (n : ℕ) : EReal := if n < 1024 then x4 (ix1 ⟨n % 64, Nat.mod_lt _ (by decide)⟩) else x5 (ix1 ⟨n % 64, Nat.mod_lt _ (by decide)⟩)

/-- The normalised queries. -/
theorem q_apply (b : Fin 16) (p : Fin 4096) (h : Fin 16) (d : Fin 64) : val_main_v48 (F := Ideal) x0 x1 x2 x3 x4 (ix4 b p h d)
    = headed (projected x0 x1 x2 x3 b p) (gain x4 x5) (0 + (h.val * 64 + d.val)) := by
  have e : val_main_v48 (F := Ideal) x0 x1 x2 x3 x4 (ix4 b p h d)
      = (fun k : Fin 64 => val_main_v31 (F := Ideal) x0 x1 x2 x3 (ix3 b p ⟨0 + (h.val * 64 + k.val), by omega⟩)) d
        * Ideal.rsqrt (Ideal.div (∑ k : Fin 64, (fun k : Fin 64 => val_main_v31 (F := Ideal) x0 x1 x2 x3 (ix3 b p ⟨0 + (h.val * 64 + k.val), by omega⟩)) k
          * (fun k : Fin 64 => val_main_v31 (F := Ideal) x0 x1 x2 x3 (ix3 b p ⟨0 + (h.val * 64 + k.val), by omega⟩)) k) (Ideal.ofBits .f32 0x42800000#32) + Ideal.ofBits .f32 0x358637BD#32) * x4 (ix1 d) := by
    unfold val_main_v48 val_main_v47 val_main_v46 val_main_v45 val_main_v44 val_main_v43 val_main_v42 val_main_v41 val_main_v40 val_main_v39 val_main_v38 val_main_v37 val_main_v36 val_main_v35 val_main_v32 val_main_cst_3 val_main_cst_4 val_main_cst_5
    generalize val_main_v31 (F := Ideal) x0 x1 x2 x3 = y
    pointwise <;> simp only [zero_add]
  have hg : gain x4 x5 (0 + (h.val * 64 + d.val)) = x4 (ix1 d) := by
    unfold gain
    rw [if_pos (show 0 + (h.val * 64 + d.val) < 1024 by omega)]
    exact congrArg x4 (congrArg ix1 (Fin.ext (by show (0 + (h.val * 64 + d.val)) % 64 = d.val; omega)))
  rw [e]
  exact headed_of (projected x0 x1 x2 x3 b p) (gain x4 x5) 0 h.val d
    (fun k : Fin 64 => val_main_v31 (F := Ideal) x0 x1 x2 x3 (ix3 b p ⟨0 + (h.val * 64 + k.val), by omega⟩)) _ (by decide)
    (fun k => projected_of x0 x1 x2 x3 b p (0 + (h.val * 64 + k.val)) (by omega)) hg.symm

/-- The normalised keys. -/
theorem k_apply (b : Fin 16) (p : Fin 4096) (h : Fin 16) (d : Fin 64) : val_main_v62 (F := Ideal) x0 x1 x2 x3 x5 (ix4 b p h d)
    = headed (projected x0 x1 x2 x3 b p) (gain x4 x5) (1024 + (h.val * 64 + d.val)) := by
  have e : val_main_v62 (F := Ideal) x0 x1 x2 x3 x5 (ix4 b p h d)
      = (fun k : Fin 64 => val_main_v31 (F := Ideal) x0 x1 x2 x3 (ix3 b p ⟨1024 + (h.val * 64 + k.val), by omega⟩)) d
        * Ideal.rsqrt (Ideal.div (∑ k : Fin 64, (fun k : Fin 64 => val_main_v31 (F := Ideal) x0 x1 x2 x3 (ix3 b p ⟨1024 + (h.val * 64 + k.val), by omega⟩)) k
          * (fun k : Fin 64 => val_main_v31 (F := Ideal) x0 x1 x2 x3 (ix3 b p ⟨1024 + (h.val * 64 + k.val), by omega⟩)) k) (Ideal.ofBits .f32 0x42800000#32) + Ideal.ofBits .f32 0x358637BD#32) * x5 (ix1 d) := by
    unfold val_main_v62 val_main_v61 val_main_v60 val_main_v59 val_main_v58 val_main_v57 val_main_v56 val_main_v55 val_main_v54 val_main_v53 val_main_v52 val_main_v51 val_main_v50 val_main_v49 val_main_v33 val_main_cst_6 val_main_cst_7 val_main_cst_8
    generalize val_main_v31 (F := Ideal) x0 x1 x2 x3 = y
    pointwise
  have hg : gain x4 x5 (1024 + (h.val * 64 + d.val)) = x5 (ix1 d) := by
    unfold gain
    rw [if_neg (show ¬ 1024 + (h.val * 64 + d.val) < 1024 by omega)]
    exact congrArg x5 (congrArg ix1 (Fin.ext (by show (1024 + (h.val * 64 + d.val)) % 64 = d.val; omega)))
  rw [e]
  exact headed_of (projected x0 x1 x2 x3 b p) (gain x4 x5) 1024 h.val d
    (fun k : Fin 64 => val_main_v31 (F := Ideal) x0 x1 x2 x3 (ix3 b p ⟨1024 + (h.val * 64 + k.val), by omega⟩)) _ (by decide)
    (fun k => projected_of x0 x1 x2 x3 b p (1024 + (h.val * 64 + k.val)) (by omega)) hg.symm

/-- The halves side by side, of the queries. -/
theorem q_halves (b : Fin 16) (p : Fin 4096) (h : Fin 16) (d : Fin 64) : val_main_v87 (F := Ideal) x0 x1 x2 x3 x4 x6 x7 (ix4 b p h d)
    = if d.val / 16 % 2 = 0 then val_main_v76 (F := Ideal) x0 x1 x2 x3 x4 x6 x7 (ix5 b p h ⟨d.val / 32, by omega⟩ ⟨d.val % 16, by omega⟩)
      else val_main_v83 (F := Ideal) x0 x1 x2 x3 x4 x6 x7 (ix5 b p h ⟨d.val / 32, by omega⟩ ⟨d.val % 16, by omega⟩) := by
  unfold val_main_v87 val_main_v86 val_main_v85 val_main_v84
  generalize val_main_v76 (F := Ideal) x0 x1 x2 x3 x4 x6 x7 = y
  generalize val_main_v83 (F := Ideal) x0 x1 x2 x3 x4 x6 x7 = z
  pointwise
  by_cases c : d.val / 16 % 2 = 0
  · rw [dif_pos (by omega), if_pos c]
  · rw [dif_neg (by omega), if_neg c]

/-- The turned first half. -/
theorem q_lo (b : Fin 16) (p : Fin 4096) (h : Fin 16) (a : Fin 2) (k : Fin 16) : val_main_v76 (F := Ideal) x0 x1 x2 x3 x4 x6 x7 (ix5 b p h a k)
    = val_main_v48 (F := Ideal) x0 x1 x2 x3 x4 (ix4 b p h ⟨a.val * 32 + k.val, by omega⟩) * x6 (ix3 p a k)
      - val_main_v48 (F := Ideal) x0 x1 x2 x3 x4 (ix4 b p h ⟨a.val * 32 + 16 + k.val, by omega⟩) * x7 (ix3 p a k) := by
  unfold val_main_v76 val_main_v75 val_main_v74 val_main_v73 val_main_v72 val_main_v71 val_main_v70 val_main_v69 val_main_v68 val_main_v67 val_main_v66 val_main_v65 val_main_v64 val_main_v63
  generalize val_main_v48 (F := Ideal) x0 x1 x2 x3 x4 = y
  pointwise

/-- The turned second half. -/
theorem q_hi (b : Fin 16) (p : Fin 4096) (h : Fin 16) (a : Fin 2) (k : Fin 16) : val_main_v83 (F := Ideal) x0 x1 x2 x3 x4 x6 x7 (ix5 b p h a k)
    = val_main_v48 (F := Ideal) x0 x1 x2 x3 x4 (ix4 b p h ⟨a.val * 32 + 16 + k.val, by omega⟩) * x6 (ix3 p a k)
      + val_main_v48 (F := Ideal) x0 x1 x2 x3 x4 (ix4 b p h ⟨a.val * 32 + k.val, by omega⟩) * x7 (ix3 p a k) := by
  unfold val_main_v83 val_main_v82 val_main_v81 val_main_v80 val_main_v79 val_main_v78 val_main_v77 val_main_v69 val_main_v68 val_main_v67 val_main_v66 val_main_v65 val_main_v64 val_main_v63
  generalize val_main_v48 (F := Ideal) x0 x1 x2 x3 x4 = y
  pointwise

/-- The queries with their rotary embedding. -/
theorem q_rope (b : Fin 16) (p : Fin 4096) (h : Fin 16) (d : Fin 64) : val_main_v87 (F := Ideal) x0 x1 x2 x3 x4 x6 x7 (ix4 b p h d)
    = ropeAt (headed (projected x0 x1 x2 x3 b p) (gain x4 x5)) (angle x6 p) (angle x7 p) (0 + (h.val * 64 + d.val)) := by
  have a6 := angle_of x6 p (d.val / 32) (d.val % 16) ⟨by omega, by omega⟩
  have a7 := angle_of x7 p (d.val / 32) (d.val % 16) ⟨by omega, by omega⟩
  rw [q_halves, q_lo, q_hi, q_apply x0 x1 x2 x3 x4 x5, q_apply x0 x1 x2 x3 x4 x5, a6, a7]
  exact ropeAt_of _ _ _ 0 h.val d.val (by decide) d.isLt

/-- The halves side by side, of the keys. -/
theorem k_halves (b : Fin 16) (p : Fin 4096) (h : Fin 16) (d : Fin 64) : val_main_v112 (F := Ideal) x0 x1 x2 x3 x5 x6 x7 (ix4 b p h d)
    = if d.val / 16 % 2 = 0 then val_main_v101 (F := Ideal) x0 x1 x2 x3 x5 x6 x7 (ix5 b p h ⟨d.val / 32, by omega⟩ ⟨d.val % 16, by omega⟩)
      else val_main_v108 (F := Ideal) x0 x1 x2 x3 x5 x6 x7 (ix5 b p h ⟨d.val / 32, by omega⟩ ⟨d.val % 16, by omega⟩) := by
  unfold val_main_v112 val_main_v111 val_main_v110 val_main_v109
  generalize val_main_v101 (F := Ideal) x0 x1 x2 x3 x5 x6 x7 = y
  generalize val_main_v108 (F := Ideal) x0 x1 x2 x3 x5 x6 x7 = z
  pointwise
  by_cases c : d.val / 16 % 2 = 0
  · rw [dif_pos (by omega), if_pos c]
  · rw [dif_neg (by omega), if_neg c]

/-- The turned first half. -/
theorem k_lo (b : Fin 16) (p : Fin 4096) (h : Fin 16) (a : Fin 2) (k : Fin 16) : val_main_v101 (F := Ideal) x0 x1 x2 x3 x5 x6 x7 (ix5 b p h a k)
    = val_main_v62 (F := Ideal) x0 x1 x2 x3 x5 (ix4 b p h ⟨a.val * 32 + k.val, by omega⟩) * x6 (ix3 p a k)
      - val_main_v62 (F := Ideal) x0 x1 x2 x3 x5 (ix4 b p h ⟨a.val * 32 + 16 + k.val, by omega⟩) * x7 (ix3 p a k) := by
  unfold val_main_v101 val_main_v100 val_main_v99 val_main_v98 val_main_v97 val_main_v96 val_main_v95 val_main_v94 val_main_v93 val_main_v92 val_main_v91 val_main_v90 val_main_v89 val_main_v88
  generalize val_main_v62 (F := Ideal) x0 x1 x2 x3 x5 = y
  pointwise

/-- The turned second half. -/
theorem k_hi (b : Fin 16) (p : Fin 4096) (h : Fin 16) (a : Fin 2) (k : Fin 16) : val_main_v108 (F := Ideal) x0 x1 x2 x3 x5 x6 x7 (ix5 b p h a k)
    = val_main_v62 (F := Ideal) x0 x1 x2 x3 x5 (ix4 b p h ⟨a.val * 32 + 16 + k.val, by omega⟩) * x6 (ix3 p a k)
      + val_main_v62 (F := Ideal) x0 x1 x2 x3 x5 (ix4 b p h ⟨a.val * 32 + k.val, by omega⟩) * x7 (ix3 p a k) := by
  unfold val_main_v108 val_main_v107 val_main_v106 val_main_v105 val_main_v104 val_main_v103 val_main_v102 val_main_v94 val_main_v93 val_main_v92 val_main_v91 val_main_v90 val_main_v89 val_main_v88
  generalize val_main_v62 (F := Ideal) x0 x1 x2 x3 x5 = y
  pointwise

/-- The keys with their rotary embedding. -/
theorem k_rope (b : Fin 16) (p : Fin 4096) (h : Fin 16) (d : Fin 64) : val_main_v112 (F := Ideal) x0 x1 x2 x3 x5 x6 x7 (ix4 b p h d)
    = ropeAt (headed (projected x0 x1 x2 x3 b p) (gain x4 x5)) (angle x6 p) (angle x7 p) (1024 + (h.val * 64 + d.val)) := by
  have a6 := angle_of x6 p (d.val / 32) (d.val % 16) ⟨by omega, by omega⟩
  have a7 := angle_of x7 p (d.val / 32) (d.val % 16) ⟨by omega, by omega⟩
  rw [k_halves, k_lo, k_hi, k_apply x0 x1 x2 x3 x4 x5, k_apply x0 x1 x2 x3 x4 x5, a6, a7]
  exact ropeAt_of _ _ _ 1024 h.val d.val (by decide) d.isLt

end Cert.QkvRefIdeal.Hand

end
-- ==== Proof.QkvRes.lean ====
module

public import proofs.«01_k».proof.Proof.QkvRef
public import Idealize.ShloMosaic.Lib.KernelVsHost

@[expose] public section

set_option maxRecDepth 16384

noncomputable section

/-! The reference's three results, read at an index. -/

namespace Cert.QkvRefIdeal.Hand

open Cert.QkvRefIdeal Cert.QkvRefIdeal.Read Idealize.ShloMosaic Idealize.ShloMosaic.TcCoe Idealize.SL.Sem
open RowMath

variable (x0 : S16x4096x1024.Idx → EReal) (x1 : S16x6144.Idx → EReal) (x2 : S1024.Idx → EReal) (x3 : S1024x3072.Idx → EReal)
  (x4 x5 : S64.Idx → EReal) (x6 x7 : S4096x2x16.Idx → EReal)

/-- A column's head and place in it, of its place among the array's entries. -/
theorem place (b p f : ℕ) (hb : b < 16) (hp : p < 4096) (hf : f < 1024) :
    ((b * 4096 + p) * 1024 + f) / 4194304 = b ∧ ((b * 4096 + p) * 1024 + f) / 1024 % 4096 = p
      ∧ ((b * 4096 + p) * 1024 + f) / 64 % 16 = f / 64 ∧ ((b * 4096 + p) * 1024 + f) % 64 = f % 64 := by
  refine ⟨?_, ?_, ?_, ?_⟩ <;> omega

/-- The query of a column is the query of its head and place. -/
theorem q_at (b : Fin 16) (p : Fin 4096) (f : Fin 1024) : val_main_v114 (F := Ideal) x0 x1 x2 x3 x4 x6 x7 (ix3 b p f) = val_main_v87 (F := Ideal) x0 x1 x2 x3 x4 x6 x7 (ix4 b p ⟨f.val / 64, by omega⟩ ⟨f.val % 64, by omega⟩) := by
  have e1 : val_main_v114 (F := Ideal) x0 x1 x2 x3 x4 x6 x7 (ix3 b p f) = val_main_v113 (F := Ideal) x0 x1 x2 x3 x4 x6 x7 (ix3 b p f) := by
    rw [val_main_v114_apply]
    generalize val_main_v113 (F := Ideal) x0 x1 x2 x3 x4 x6 x7 (ix3 b p f) = z
    rfl
  rw [e1, val_main_v113_apply]
  generalize val_main_v87 (F := Ideal) x0 x1 x2 x3 x4 x6 x7 = y
  have h := place b.val p.val f.val b.isLt p.isLt f.isLt
  refine congrArg y (funext fun a => Fin.ext ?_)
  match a with
  | ⟨0, _⟩ => exact h.1
  | ⟨1, _⟩ => exact h.2.1
  | ⟨2, _⟩ => exact h.2.2.1
  | ⟨3, _⟩ => exact h.2.2.2

/-- The key of a column is the key of its head and place. -/
theorem k_at (b : Fin 16) (p : Fin 4096) (f : Fin 1024) : val_main_v117 (F := Ideal) x0 x1 x2 x3 x5 x6 x7 (ix3 b f p) = val_main_v112 (F := Ideal) x0 x1 x2 x3 x5 x6 x7 (ix4 b p ⟨f.val / 64, by omega⟩ ⟨f.val % 64, by omega⟩) := by
  have e1 : val_main_v117 (F := Ideal) x0 x1 x2 x3 x5 x6 x7 (ix3 b f p) = val_main_v116 (F := Ideal) x0 x1 x2 x3 x5 x6 x7 (ix3 b f p) := by
    rw [val_main_v117_apply]
    generalize val_main_v116 (F := Ideal) x0 x1 x2 x3 x5 x6 x7 (ix3 b f p) = z
    rfl
  rw [e1, val_main_v116_apply, val_main_v115_apply]
  generalize val_main_v112 (F := Ideal) x0 x1 x2 x3 x5 x6 x7 = y
  have h := place b.val p.val f.val b.isLt p.isLt f.isLt
  refine congrArg y (funext fun a => Fin.ext ?_)
  match a with
  | ⟨0, _⟩ => exact h.1
  | ⟨1, _⟩ => exact h.2.1
  | ⟨2, _⟩ => exact h.2.2.1
  | ⟨3, _⟩ => exact h.2.2.2

/-- The queries. -/
theorem q_res (b : Fin 16) (p : Fin 4096) (f : Fin 1024) : val_main_v114 (F := Ideal) x0 x1 x2 x3 x4 x6 x7 (ix3 b p f)
    = ropeAt (headed (projected x0 x1 x2 x3 b p) (gain x4 x5)) (angle x6 p) (angle x7 p) (0 + f.val) := by
  have e2 : 0 + (f.val / 64 * 64 + f.val % 64) = 0 + f.val := by omega
  rw [q_at, q_rope x0 x1 x2 x3 x4 x5, e2]

/-- The keys, a column for each position. -/
theorem k_res (b : Fin 16) (p : Fin 4096) (f : Fin 1024) : val_main_v117 (F := Ideal) x0 x1 x2 x3 x5 x6 x7 (ix3 b f p)
    = ropeAt (headed (projected x0 x1 x2 x3 b p) (gain x4 x5)) (angle x6 p) (angle x7 p) (1024 + f.val) := by
  have e2 : 1024 + (f.val / 64 * 64 + f.val % 64) = 1024 + f.val := by omega
  rw [k_at, k_rope x0 x1 x2 x3 x4 x5, e2]

/-- The values. -/
theorem v_res (b : Fin 16) (p : Fin 4096) (f : Fin 1024) : val_main_v118 (F := Ideal) x0 x1 x2 x3 (ix3 b p f) = projected x0 x1 x2 x3 b p (2048 + f.val) := by
  refine Eq.trans ?_ (projected_of x0 x1 x2 x3 b p (2048 + f.val) (by omega))
  unfold val_main_v118 val_main_v34
  generalize val_main_v31 (F := Ideal) x0 x1 x2 x3 = y
  pointwise

end Cert.QkvRefIdeal.Hand

end
-- ==== Proof.QkvFin.lean ====
module

public import proofs.«01_k».proof.Proof.QkvWin
public import proofs.«01_k».proof.Proof.QkvRes
public import proofs.«01_k».proof.Proof.Gen.QkvIdeal.Value
public import Idealize.ShloMosaic.Lib.Pipeline.ValueKit

@[expose] public section

set_option maxRecDepth 16384

noncomputable section

/-! The projections' kernel: what a grid point leaves is the reference's there, and so are the three arrays. -/

namespace Cert.QkvIdeal.Hand

open Cert.QkvIdeal Cert.QkvIdeal.Gen Idealize.ShloMosaic Idealize.ShloMosaic.TcCoe Idealize.SL.Sem
open Idealize.ShloMosaic.Pipeline (Dat)
open Cert.QkvRefIdeal.Hand (projected gain angle)
open RowMath

/-- Rows, weights and modulations that agree project alike. -/
theorem proj_congr {g g' s s' h h' x x' : Fin 1024 → EReal} {w w' : Fin 1024 → Fin 3072 → EReal} (f : Fin 3072)
    (eg : g = g') (es : s = s') (eh : h = h') (ex : x = x') (ew : w = w') : rowDot (nrm g s h x) w f = rowDot (nrm g' s' h' x') w' f := by
  subst eg es eh ex ew
  rfl

/-- The lanes' cosine is the column's. -/
theorem cosOf_angle (x : S4096x2x16.Idx → EReal) (p : Fin 4096) (f : ℕ) : cosOf x p (f % 128 % 64 / 16) (f % 128 % 16) = angle x p (f % 64 / 32) (f % 16) := by
  unfold cosOf angle
  have e : f % 128 % 16 = f % 16 := by omega
  have e' : f % 128 % 64 / 16 / 2 % 2 = f % 64 / 32 := by omega
  rw [dif_pos (by omega), dif_pos ⟨by omega, by omega⟩]
  simp only [e, e']

/-- The lanes' sine is the column's, negated in the first half of its axis. -/
theorem sinOf_angle (x : S4096x2x16.Idx → EReal) (p : Fin 4096) (f : ℕ) :
    sinOf x p (f % 128 % 64 / 16) (f % 128 % 16) = if f / 16 % 2 = 1 then angle x p (f % 64 / 32) (f % 16) else -angle x p (f % 64 / 32) (f % 16) := by
  unfold sinOf
  rw [cosOf_angle]
  have e : f % 128 % 64 / 16 % 2 = f / 16 % 2 := by omega
  rw [e]

variable (m : (ℓ : Loc nD τ sig) → Buf (Elt Ideal) ℓ)

/-- A tile's row among the stream's. -/
def rowOf (t : Fin cfg0.N) (r : Fin 512) : Fin 4096 := ⟨(tt t).val * 512 + r.val, by have := (tt t).isLt; omega⟩

/-- The projected columns are the reference's. -/
theorem cols_eq (c : Dev nD) (t : Fin cfg0.N) (r : Fin 512) (f : ℕ) : cols (iblk m c 0 t) (iblk m c 1 t) (iblk m c 2 t) (iblk m c 3 t) r.val f
    = projected (in0 m c) (in1 m c) (in2 m c) (in3 m c) (bb t) (rowOf t r) f := by
  unfold cols
  by_cases h : f < 3072
  · rw [dif_pos ⟨r.isLt, h⟩, ← Cert.QkvRefIdeal.Hand.projected_of _ _ _ _ _ _ _ h, Cert.QkvRefIdeal.Hand.up_apply]
    refine proj_congr _ (funext fun d => (iblk2 m c t d).trans (V_g m c d)) (funext fun d => (iblk1 m c t 1 d).trans ((V_mod m c (bb t) 1 d).trans ?_))
      (funext fun d => (iblk1 m c t 0 d).trans ((V_mod m c (bb t) 0 d).trans ?_)) (funext fun d => (iblk0 m c t r d).trans (V_h m c _))
      (funext fun d => funext fun f => (iblk3 m c t d f).trans (V_w m c d f))
    · exact congrArg (fun k => in1 m c (ix2 (bb t) k)) (Fin.ext (show 1 * 1024 + d.val = 1024 + d.val by omega))
    · exact congrArg (fun k => in1 m c (ix2 (bb t) k)) (Fin.ext (show 0 * 1024 + d.val = d.val by omega))
  · unfold projected
    rw [dif_neg h, dif_neg (fun q => h q.2)]

/-- The gains are the reference's. -/
theorem gains_eq (c : Dev nD) (t : Fin cfg0.N) (f : ℕ) (h : f < 2048) : gains (iblk m c 5 t) f = gain (in4 m c) (in5 m c) f := by
  unfold gains gain
  rw [dif_pos h]
  exact (iblk5 m c t ⟨f, h⟩).trans (V_gains m c ⟨f, h⟩)

/-- The cosines' table. -/
theorem cos_eq (c : Dev nD) (t : Fin cfg0.N) (r : Fin 512) (f : ℕ) : table (iblk m c 6 t) r.val (f % 128) = angle (in6 m c) (rowOf t r) (f % 64 / 32) (f % 16) := by
  unfold table
  rw [dif_pos ⟨r.isLt, Nat.mod_lt _ (by decide)⟩, ← cosOf_angle]
  exact (iblk6 m c t r ⟨f % 128, Nat.mod_lt _ (by decide)⟩).trans (V_cos m c _ _)

/-- The sines' table. -/
theorem sin_eq (c : Dev nD) (t : Fin cfg0.N) (r : Fin 512) (f : ℕ) : table (iblk m c 7 t) r.val (f % 128)
    = if f / 16 % 2 = 1 then angle (in7 m c) (rowOf t r) (f % 64 / 32) (f % 16) else -angle (in7 m c) (rowOf t r) (f % 64 / 32) (f % 16) := by
  unfold table
  rw [dif_pos ⟨r.isLt, Nat.mod_lt _ (by decide)⟩, ← sinOf_angle]
  exact (iblk7 m c t r ⟨f % 128, Nat.mod_lt _ (by decide)⟩).trans (V_sin m c _ _)

/-- The normalised columns are the reference's. -/
theorem normed_eq (c : Dev nD) (t : Fin cfg0.N) (r : Fin 512) (f : ℕ) (h : f < 2048) :
    normed (cols (iblk m c 0 t) (iblk m c 1 t) (iblk m c 2 t) (iblk m c 3 t)) (gains (iblk m c 5 t)) (fun k j => iblk m c 4 t (ix2 k j)) r.val f
      = headed (projected (in0 m c) (in1 m c) (in2 m c) (in3 m c) (bb t) (rowOf t r)) (gain (in4 m c) (in5 m c)) f := by
  have e4 : ∀ k j : Fin 256, iblk m c 4 t (ix2 k j) = same k j := fun k j => (iblk4 m c t k j).trans (V_same m c k j)
  unfold normed headed
  simp only [e4, cols_eq]
  rw [gains_eq m c t f h]
  generalize projected (in0 m c) (in1 m c) (in2 m c) (in3 m c) (bb t) (rowOf t r) = u
  rw [sum_head (fun n => u n * u n) f, div_head]

/-- The rotated columns are the reference's. -/
theorem roped_eq (c : Dev nD) (t : Fin cfg0.N) (r : Fin 512) (f : ℕ) (h : f < 2048) :
    roped (iblk m c 0 t) (iblk m c 1 t) (iblk m c 2 t) (iblk m c 3 t) (iblk m c 4 t) (iblk m c 5 t) (iblk m c 6 t) (iblk m c 7 t) r.val f
      = ropeAt (headed (projected (in0 m c) (in1 m c) (in2 m c) (in3 m c) (bb t) (rowOf t r)) (gain (in4 m c) (in5 m c)))
          (angle (in6 m c) (rowOf t r)) (angle (in7 m c) (rowOf t r)) f := by
  unfold roped turned ropeAt
  rw [cos_eq, sin_eq, normed_eq m c t r f h]
  by_cases g : f / 16 % 2 = 1
  · rw [if_pos g, if_pos g, if_pos g, normed_eq m c t r (f - 16) (by omega)]
  · rw [if_neg g, if_neg g, if_neg g, normed_eq m c t r (f + 16) (by omega), mul_neg, ← sub_eq_add_neg]

/-- The reference's queries, of the kernel's arguments. -/
def refQ (c : Dev nD) : S16x4096x1024.Idx → EReal :=
  Cert.QkvRefIdeal.Read.val_main_v114 (F := Ideal) (in0 m c) (in1 m c) (in2 m c) (in3 m c) (in4 m c) (in6 m c) (in7 m c)

/-- Its keys. -/
def refK (c : Dev nD) : S16x1024x4096.Idx → EReal :=
  Cert.QkvRefIdeal.Read.val_main_v117 (F := Ideal) (in0 m c) (in1 m c) (in2 m c) (in3 m c) (in5 m c) (in6 m c) (in7 m c)

/-- Its values. -/
def refV (c : Dev nD) : S16x4096x1024.Idx → EReal :=
  Cert.QkvRefIdeal.Read.val_main_v118 (F := Ideal) (in0 m c) (in1 m c) (in2 m c) (in3 m c)

/-- The queries written at a point are the reference's there. -/
theorem pointQ (c : Dev nD) (t : Fin cfg0.N) (z : Fin 1) (r : Fin 512) (d : Fin 1024) :
    (dats m 0 c).after 8 t (ix3 z r d) = refQ m c (ix3 (bb t) (rowOf t r) d) := by
  rw [after0_8, out8_eq]
  unfold refQ
  rw [Cert.QkvRefIdeal.Hand.q_res (in0 m c) (in1 m c) (in2 m c) (in3 m c) (in4 m c) (in5 m c), zero_add]
  exact roped_eq m c t r d.val (by omega)

/-- The keys written at a point are the reference's there. -/
theorem pointK (c : Dev nD) (t : Fin cfg0.N) (z : Fin 1) (d : Fin 1024) (r : Fin 512) :
    (dats m 0 c).after 9 t (ix3 z d r) = refK m c (ix3 (bb t) d (rowOf t r)) := by
  rw [after0_9, out9_eq]
  unfold refK
  rw [Cert.QkvRefIdeal.Hand.k_res (in0 m c) (in1 m c) (in2 m c) (in3 m c) (in4 m c) (in5 m c)]
  exact roped_eq m c t r (1024 + d.val) (by omega)

/-- The values written at a point are the reference's there. -/
theorem pointV (c : Dev nD) (t : Fin cfg0.N) (z : Fin 1) (r : Fin 512) (d : Fin 1024) :
    (dats m 0 c).after 10 t (ix3 z r d) = refV m c (ix3 (bb t) (rowOf t r) d) := by
  rw [after0_10, out10_eq]
  unfold refV
  rw [Cert.QkvRefIdeal.Hand.v_res]
  exact cols_eq m c t r (2048 + d.val)

/-- The queries' array is the reference's. -/
theorem wholeQ (c : Dev nD) : (dats m 0 c).arrAt 8 cfg0.N = refQ m c := by
  refine (dats m 0 c).arrAt_eq_of_covers 8 _ covers8 fun t hf y => ?_
  obtain ⟨z, r, d, rfl⟩ : ∃ (z : Fin 1) (r : Fin 512) (d : Fin 1024), y = ix3 z r d := ⟨y 0, y 1, y 2, (ix3_eta y).symm⟩
  rw [emb8]
  exact pointQ m c t z r d

/-- The keys' array is the reference's. -/
theorem wholeK (c : Dev nD) : (dats m 0 c).arrAt 9 cfg0.N = refK m c := by
  refine (dats m 0 c).arrAt_eq_of_covers 9 _ covers9 fun t hf y => ?_
  obtain ⟨z, d, r, rfl⟩ : ∃ (z : Fin 1) (d : Fin 1024) (r : Fin 512), y = ix3 z d r := ⟨y 0, y 1, y 2, (ix3_eta y).symm⟩
  rw [emb9]
  exact pointK m c t z d r

/-- The values' array is the reference's. -/
theorem wholeV (c : Dev nD) : (dats m 0 c).arrAt 10 cfg0.N = refV m c := by
  refine (dats m 0 c).arrAt_eq_of_covers 10 _ covers10 fun t hf y => ?_
  obtain ⟨z, r, d, rfl⟩ : ∃ (z : Fin 1) (r : Fin 512) (d : Fin 1024), y = ix3 z r d := ⟨y 0, y 1, y 2, (ix3_eta y).symm⟩
  rw [emb10]
  exact pointV m c t z r d

end Cert.QkvIdeal.Hand

end
-- ==== Proof.lean ====
module

public import proofs.«01_k».proof.Defs
public import proofs.«01_k».proof.Proof.Gen.DA
public import proofs.«01_k».proof.Proof.Gen.DA.Skeleton
public import proofs.«01_k».proof.Proof.Gen.DA.Launch
public import proofs.«01_k».proof.Proof.Gen.DA.Points
public import proofs.«01_k».proof.Proof.Gen.DA.Frame
public import proofs.«01_k».proof.Proof.Gen.DAIdeal
public import proofs.«01_k».proof.Proof.Gen.DAIdeal.Skeleton
public import proofs.«01_k».proof.Proof.Gen.DAIdeal.Launch
public import proofs.«01_k».proof.Proof.Gen.DAIdeal.Points
public import proofs.«01_k».proof.Proof.Gen.DAIdeal.Frame
public import proofs.«01_k».proof.Proof.Gen.DARefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Offn
public import proofs.«01_k».proof.Proof.Gen.Offn.Skeleton
public import proofs.«01_k».proof.Proof.Gen.Offn.Launch
public import proofs.«01_k».proof.Proof.Gen.Offn.Points
public import proofs.«01_k».proof.Proof.Gen.Offn.Frame
public import proofs.«01_k».proof.Proof.Gen.OffnIdeal
public import proofs.«01_k».proof.Proof.Gen.OffnIdeal.Skeleton
public import proofs.«01_k».proof.Proof.Gen.OffnIdeal.Launch
public import proofs.«01_k».proof.Proof.Gen.OffnIdeal.Points
public import proofs.«01_k».proof.Proof.Gen.OffnIdeal.Frame
public import proofs.«01_k».proof.Proof.Gen.OffnRefIdeal
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.Pre_finite
public import proofs.«01_k».proof.Proof.Gen.DAIdeal.Value
public import proofs.«01_k».proof.Proof.Gen.DARefIdeal.Run
public import proofs.«01_k».proof.Proof.Gen.DARefIdeal.Read
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.OffnIdeal.Value
public import proofs.«01_k».proof.Proof.Gen.OffnRefIdeal.Run
public import proofs.«01_k».proof.Proof.Gen.OffnRefIdeal.Read
public import proofs.«01_k».proof.Proof.Gen.ConvIdeal.Value
public import proofs.«01_k».proof.Proof.Gen.ConvRefIdeal.Run
public import proofs.«01_k».proof.Proof.Gen.ConvRefIdeal.Read
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaRefIdeal
public import proofs.«01_k».proof.Proof.Gen.AdaIdeal.Value
public import proofs.«01_k».proof.Proof.Gen.AdaRefIdeal.Run
public import proofs.«01_k».proof.Proof.Gen.AdaRefIdeal.Read
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvIdeal.Value
public import proofs.«01_k».proof.Proof.Gen.QkvRefIdeal.Run
public import proofs.«01_k».proof.Proof.Gen.QkvRefIdeal.Read
public import Idealize.ShloMosaic.Adequacy
public import Idealize.ShloMosaic.Init
public import proofs.«01_k».proof.Proof.DAFin
public import proofs.«01_k».proof.Proof.FfnFin
public import proofs.«01_k».proof.Proof.OffnFin
public import proofs.«01_k».proof.Proof.ConvFin
public import proofs.«01_k».proof.Proof.AdaFin
public import proofs.«01_k».proof.Proof.QkvFin

@[expose] public section

set_option maxRecDepth 16384

noncomputable section

namespace Cert.Proof

open Idealize.ShloMosaic Idealize.ShloMosaic.TcCoe Idealize.SL.Sem

/-- The reference of the differential attention leaves its arguments as they were, and every semaphore at zero. -/
theorem ref_DA : Cert.quiescent_DARefIdeal := fun m ρ _ =>
  (θ_run Cert.DARefIdeal.defs _ _).mono (fun r h => ⟨fun c => (h c).2, sem_eq_zero_of_no_sems (by decide) r.2⟩)
    (Cert.DARefIdeal.Value.run (F := Ideal) m ρ)

/-- The reference of the feed-forward block leaves its arguments as they were, and every semaphore at zero. -/
theorem ref_Ffn : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The reference of the output projection with its feed-forward block leaves its arguments as they were, and every semaphore at zero. -/
theorem ref_Offn : Cert.quiescent_OffnRefIdeal := fun m ρ _ =>
  (θ_run Cert.OffnRefIdeal.defs _ _).mono (fun r h => ⟨fun c => (h c).2, sem_eq_zero_of_no_sems (by decide) r.2⟩)
    (Cert.OffnRefIdeal.Value.run (F := Ideal) m ρ)

/-- The reference of the convolution mixer leaves its arguments as they were, and every semaphore at zero. -/
theorem ref_Conv : Cert.quiescent_ConvRefIdeal := fun m ρ _ =>
  (θ_run Cert.ConvRefIdeal.defs _ _).mono (fun r h => ⟨fun c => (h c).2, sem_eq_zero_of_no_sems (by decide) r.2⟩)
    (Cert.ConvRefIdeal.Value.run (F := Ideal) m ρ)

/-- The reference of the modulation leaves its arguments as they were, and every semaphore at zero. -/
theorem ref_Ada : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

/-- The reference of the projections leaves its arguments as they were, and every semaphore at zero. -/
theorem ref_Qkv : Cert.quiescent_QkvRefIdeal := fun m ρ _ =>
  (θ_run Cert.QkvRefIdeal.defs _ _).mono (fun r h => ⟨fun c => (h c).2.2.2, sem_eq_zero_of_no_sems (by decide) r.2⟩)
    (Cert.QkvRefIdeal.Value.run (F := Ideal) m ρ)

/-- On finite arguments the differential attention's kernel and its reference leave the same array. -/
theorem algebraic_DA : Cert.algebraic_DAIdeal_DARefIdeal_pre_finite := by
  intro m g m' g' hpre hag
  refine ⟨fun c => Cert.DAIdeal.Hand.refOut m c,
    (θ_run Cert.DAIdeal.defs _ _).mono (fun r h c => ⟨(h c).1.trans (Cert.DAIdeal.Hand.whole_of_pre m c (hpre c)), (h c).2⟩)
      (Cert.DAIdeal.Value.run_blocks (F := Ideal) m g),
    (θ_run Cert.DARefIdeal.defs _ _).mono (fun r h c => ⟨(h c).1.trans ((Cert.DARefIdeal.Read.val_main_v49_eq m' c).trans ?_), (h c).2⟩)
      (Cert.DARefIdeal.Value.run (F := Ideal) m' g')⟩
  obtain ⟨a0, a1, a2, a3, a4, a5, a6, a7, a8, a9⟩ := hag c
  rw [a0, a1, a2, a3, a4, a5, a6, a7, a8, a9]

/-- The feed-forward's kernel and its reference leave the same array. -/
theorem algebraic_Ffn : Cert.algebraic_FfnIdeal_FfnRefIdeal := by
  intro m g m' g' _ hag
  refine ⟨fun c => Cert.FfnIdeal.Hand.refOut m c,
    (θ_run Cert.FfnIdeal.defs _ _).mono (fun r h c => ⟨(h c).1.trans (Cert.FfnIdeal.Hand.whole m c), (h c).2⟩)
      (Cert.FfnIdeal.Value.run_blocks (F := Ideal) m g),
    (θ_run Cert.FfnRefIdeal.defs _ _).mono (fun r h c => ⟨(h c).1.trans ((Cert.FfnRefIdeal.Read.val_main_v63_eq m' c).trans ?_), (h c).2⟩)
      (Cert.FfnRefIdeal.Value.run (F := Ideal) m' g')⟩
  obtain ⟨a0, a1, a2, a3, a4, a5, a6⟩ := hag c
  rw [a0, a1, a2, a3, a4, a5, a6]
  rfl

/-- The kernel of the output projection with its feed-forward and its reference leave the same array. -/
theorem algebraic_Offn : Cert.algebraic_OffnIdeal_OffnRefIdeal := by
  intro m g m' g' _ hag
  refine ⟨fun c => Cert.OffnIdeal.Hand.refOut m c,
    (θ_run Cert.OffnIdeal.defs _ _).mono (fun r h c => ⟨(h c).1.trans (Cert.OffnIdeal.Hand.whole m c), (h c).2⟩)
      (Cert.OffnIdeal.Value.run_blocks (F := Ideal) m g),
    (θ_run Cert.OffnRefIdeal.defs _ _).mono (fun r h c => ⟨(h c).1.trans ((Cert.OffnRefIdeal.Read.val_main_v68_eq m' c).trans ?_), (h c).2⟩)
      (Cert.OffnRefIdeal.Value.run (F := Ideal) m' g')⟩
  obtain ⟨a0, a1, a2, a3, a4, a5, a6, a7, a8⟩ := hag c
  rw [a0, a1, a2, a3, a4, a5, a6, a7, a8]
  rfl

/-- The short gated convolution's kernel and its reference leave the same array. -/
theorem algebraic_Conv : Cert.algebraic_ConvIdeal_ConvRefIdeal := by
  intro m g m' g' _ hag
  refine ⟨fun c => Cert.ConvIdeal.Hand.refOut m c,
    (θ_run Cert.ConvIdeal.defs _ _).mono (fun r h c => ⟨(h c).1.trans (Cert.ConvIdeal.Hand.whole m c), (h c).2⟩)
      (Cert.ConvIdeal.Value.run_blocks (F := Ideal) m g),
    (θ_run Cert.ConvRefIdeal.defs _ _).mono (fun r h c => ⟨(h c).1.trans ((Cert.ConvRefIdeal.Read.val_main_v61_eq m' c).trans ?_), (h c).2⟩)
      (Cert.ConvRefIdeal.Value.run (F := Ideal) m' g')⟩
  obtain ⟨a0, a1, a2, a3, a4, a5⟩ := hag c
  rw [a0, a1, a2, a3, a4, a5]
  rfl

/-- The modulation's kernel and its reference leave the same array. -/
theorem algebraic_Ada : Cert.algebraic_AdaIdeal_AdaRefIdeal := by
  intro m g m' g' _ hag
  refine ⟨fun c => Cert.AdaIdeal.Hand.refOut m c,
    (θ_run Cert.AdaIdeal.defs _ _).mono (fun r h c => ⟨(h c).1.trans (Cert.AdaIdeal.Hand.whole m c), (h c).2⟩)
      (Cert.AdaIdeal.Value.run_blocks (F := Ideal) m g),
    (θ_run Cert.AdaRefIdeal.defs _ _).mono (fun r h c => ⟨(h c).1.trans ((Cert.AdaRefIdeal.Read.val_main_v7_eq _ _ _ _).trans ?_), (h c).2⟩)
      (Cert.AdaRefIdeal.Value.run (F := Ideal) m' g')⟩
  obtain ⟨a0, a1, a2, a3⟩ := hag c
  rw [a0, a1, a2, a3]
  rfl

/-- The projections' kernel and its reference leave the same queries, keys and values. -/
theorem algebraic_Qkv : Cert.algebraic_QkvIdeal_QkvRefIdeal := by
  intro m g m' g' _ hag
  refine ⟨fun c => Cert.QkvIdeal.Hand.refQ m c, fun c => Cert.QkvIdeal.Hand.refK m c, fun c => Cert.QkvIdeal.Hand.refV m c,
    (θ_run Cert.QkvIdeal.defs _ _).mono (fun r h c => ⟨(h c).1.trans (Cert.QkvIdeal.Hand.wholeQ m c), (h c).2.1.trans (Cert.QkvIdeal.Hand.wholeK m c),
        (h c).2.2.1.trans (Cert.QkvIdeal.Hand.wholeV m c), (h c).2.2.2⟩)
      (Cert.QkvIdeal.Value.run_blocks (F := Ideal) m g),
    (θ_run Cert.QkvRefIdeal.defs _ _).mono (fun r h c => ⟨(h c).1.trans ((Cert.QkvRefIdeal.Read.val_main_v114_eq m' c).trans ?_),
        (h c).2.1.trans ((Cert.QkvRefIdeal.Read.val_main_v117_eq m' c).trans ?_), (h c).2.2.1.trans ((Cert.QkvRefIdeal.Read.val_main_v118_eq _ _ _ _).trans ?_), (h c).2.2.2⟩)
      (Cert.QkvRefIdeal.Value.run (F := Ideal) m' g')⟩
  · obtain ⟨a0, a1, a2, a3, a4, a5, a6, a7⟩ := hag c
    rw [a0, a1, a2, a3, a4, a6, a7]
    rfl
  · obtain ⟨a0, a1, a2, a3, a4, a5, a6, a7⟩ := hag c
    rw [a0, a1, a2, a3, a5, a6, a7]
    rfl
  · obtain ⟨a0, a1, a2, a3, a4, a5, a6, a7⟩ := hag c
    rw [a0, a1, a2, a3]
    rfl

/-- Every claim of this certificate. -/
theorem claim : Cert.Claim := ⟨Cert.DA.Gen.facts, Cert.DAIdeal.Gen.facts, Cert.DARefIdeal.Gen.facts, Cert.Ffn.Gen.facts, Cert.FfnIdeal.Gen.facts, Cert.FfnRefIdeal.Gen.facts, Cert.Offn.Gen.facts, Cert.OffnIdeal.Gen.facts, Cert.OffnRefIdeal.Gen.facts, Cert.Conv.Gen.facts, Cert.ConvIdeal.Gen.facts, Cert.ConvRefIdeal.Gen.facts, Cert.Ada.Gen.facts, Cert.AdaIdeal.Gen.facts, Cert.AdaRefIdeal.Gen.facts, Cert.Qkv.Gen.facts, Cert.QkvIdeal.Gen.facts, Cert.QkvRefIdeal.Gen.facts, Cert.Pre_finite.Gen.facts,
  fun m ρ _ => Cert.DA.Gen.frame m ρ, fun m ρ _ => Cert.DAIdeal.Gen.frame m ρ, fun m ρ _ => Cert.DAIdeal.Gen.frame m ρ, ref_DA, fun m ρ _ => ref_DA m ρ trivial,
  fun m ρ _ => Cert.Ffn.Gen.frame m ρ, fun m ρ _ => Cert.FfnIdeal.Gen.frame m ρ, ref_Ffn,
  fun m ρ _ => Cert.Offn.Gen.frame m ρ, fun m ρ _ => Cert.OffnIdeal.Gen.frame m ρ, ref_Offn,
  fun m ρ _ => Cert.Conv.Gen.frame m ρ, fun m ρ _ => Cert.ConvIdeal.Gen.frame m ρ, ref_Conv,
  fun m ρ _ => Cert.Ada.Gen.frame m ρ, fun m ρ _ => Cert.AdaIdeal.Gen.frame m ρ, ref_Ada,
  fun m ρ _ => Cert.Qkv.Gen.frame m ρ, fun m ρ _ => Cert.QkvIdeal.Gen.frame m ρ, ref_Qkv,
  trivial, algebraic_DA, trivial, algebraic_Ffn, trivial, algebraic_Offn, trivial, algebraic_Conv, trivial, algebraic_Ada, trivial, algebraic_Qkv⟩

end Cert.Proof

end
